-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def preserves_Kernel_KernelIdeal : Prop :=
  IdealRules.named_const.Statement Cert.KernelIdeal.κ "inv_scale" .f32 0x411CC471#32 ((Real.sqrt 96 : ℝ) : EReal)
  ∧ IdealRules.named_const.Statement Cert.KernelIdeal.κ "scale_log2e" .f32 0x3E16C740#32 (((Real.sqrt 96)⁻¹ * (Real.log 2)⁻¹ : ℝ) : EReal)
  ∧ IdealRules.named_const.Statement Cert.KernelIdeal.κ "scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "inv_scale" .f32 0x411CC471#32 ((Real.sqrt 96 : ℝ) : EReal)
  ∧ IdealRules.named_const.Statement Cert.Kernel2Ideal.κ "scale_log2e" .f32 0x3E16C740#32 (((Real.sqrt 96)⁻¹ * (Real.log 2)⁻¹ : ℝ) : EReal)
  ∧ IdealRules.named_const.Statement Cert.Kernel2Ideal.κ "scale" .f32 0x3DD105EC#32 (((Real.sqrt 96)⁻¹ : ℝ) : EReal)

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v44_0)) (v1 : (c : Dev Cert.Kernel2Ideal.nD) → Buf (Elt Ideal) ((c.tc : Thread Cert.Kernel2Ideal.nD Cert.Kernel2Ideal.τ).loc Cert.Kernel2Ideal.main_v44_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44_0) = v0 c
          ∧ r.2.mem ((c.tc : Thread Cert.Kernel2Ideal.nD Cert.Kernel2Ideal.τ).loc Cert.Kernel2Ideal.main_v44_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_v79) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v24)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v23)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v23) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S4096x8x64 : Shape := ⟨3, ![4096, 8, 64]⟩
abbrev S4096x8x32 : Shape := ⟨3, ![4096, 8, 32]⟩
abbrev S4096x32 : Shape := ⟨2, ![4096, 32]⟩
abbrev S_ : Shape := ⟨0, ![]⟩

class Facts : Prop where
  bcast_S_S4096x8x64 : S_.BroadcastsInDim S4096x8x64 (![] : Fin 0 → Fin S4096x8x64.rank)
  reducesTo_S4096x8x64_S_d0_1_2 : S4096x8x64.ReducesTo [0, 1, 2] S_
  h_S_ : 0 < S_.numel
  bcast_S_S4096x8x32 : S_.BroadcastsInDim S4096x8x32 (![] : Fin 0 → Fin S4096x8x32.rank)
  reducesTo_S4096x8x32_S_d0_1_2 : S4096x8x32.ReducesTo [0, 1, 2] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S4096x8x64 .f32) (main_arg5 : FVec F S4096x8x64 .f32) (main_v3 : IVec S_ 1) (main_v7 : IVec S_ 1) (main_v11 : IVec S_ 1) (main_v15 : IVec S_ 1) : IVec S_ 1 :=
  let main_v16 : FVec F S4096x8x64 .f32 := Host.absf main_arg4
  let main_cst_6 : FVec F S_ .f32 := constant S_ .f32 0x7F800000#32
  let main_v17 : FVec F S4096x8x64 .f32 := broadcastInDim S4096x8x64 ![] bcast_S_S4096x8x64 main_cst_6
  let main_v18 : IVec S4096x8x64 1 := cmpf .olt main_v16 main_v17
  let main_c_7 : IVec S_ 1 := constantI S_ 1 1#1
  let main_v19 : IVec S_ 1 := (fun x v => Host.reduce IntOp.andi x v reducesTo_S4096x8x64_S_d0_1_2 h_S_) main_v18 main_c_7
  let main_v20 : FVec F S4096x8x64 .f32 := Host.absf main_arg5
  let main_cst_8 : FVec F S_ .f32 := constant S_ .f32 0x7F800000#32
  let main_v21 : FVec F S4096x8x64 .f32 := broadcastInDim S4096x8x64 ![] bcast_S_S4096x8x64 main_cst_8
  let main_v22 : IVec S4096x8x64 1 := cmpf .olt main_v20 main_v21
  let main_c_9 : IVec S_ 1 := constantI S_ 1 1#1
  let main_v23 : IVec S_ 1 := (fun x v => Host.reduce IntOp.andi x v reducesTo_S4096x8x64_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x8x64 .f32) (main_arg1 : FVec F S4096x8x32 .f32) (main_arg2 : FVec F S4096x8x64 .f32) (main_arg3 : FVec F S4096x32 .f32) (main_arg4 : FVec F S4096x8x64 .f32) (main_arg5 : FVec F S4096x8x64 .f32) : IVec S_ 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_c : IVec S_ 1 := constantI S_ 1 1#1
  let main_v3 : IVec S_ 1 := (fun x v => Host.reduce IntOp.andi x v reducesTo_S4096x8x64_S_d0_1_2 h_S_) main_v2 main_c
  let main_v4 : FVec F S4096x8x32 .f32 := Host.absf main_arg1
  let main_cst_0 : FVec F S_ .f32 := constant S_ .f32 0x7F800000#32
  let main_v5 : FVec F S4096x8x32 .f32 := broadcastInDim S4096x8x32 ![] bcast_S_S4096x8x32 main_cst_0
  let main_v6 : IVec S4096x8x32 1 := cmpf .olt main_v4 main_v5
  let main_c_1 : IVec S_ 1 := constantI S_ 1 1#1
  let main_v7 : IVec S_ 1 := (fun x v => Host.reduce IntOp.andi x v reducesTo_S4096x8x32_S_d0_1_2 h_S_) main_v6 main_c_1
  let main_v8 : FVec F S4096x8x64 .f32 := Host.absf main_arg2
  let main_cst_2 : FVec F S_ .f32 := constant S_ .f32 0x7F800000#32
  let main_v9 : FVec F S4096x8x64 .f32 := broadcastInDim S4096x8x64 ![] bcast_S_S4096x8x64 main_cst_2
  let main_v10 : IVec S4096x8x64 1 := cmpf .olt main_v8 main_v9
  let main_c_3 : IVec S_ 1 := constantI S_ 1 1#1
  let main_v11 : IVec S_ 1 := (fun x v => Host.reduce IntOp.andi x v reducesTo_S4096x8x64_S_d0_1_2 h_S_) main_v10 main_c_3
  let main_v12 : FVec F S4096x32 .f32 := Host.absf main_arg3
  let main_cst_4 : FVec F S_ .f32 := constant S_ .f32 0x7F800000#32
  let main_v13 : FVec F S4096x32 .f32 := broadcastInDim S4096x32 ![] bcast_S_S4096x32 main_cst_4
  let main_v14 : IVec S4096x32 1 := cmpf .olt main_v12 main_v13
  let main_c_5 : IVec S_ 1 := constantI S_ 1 1#1
  let main_v15 : IVec S_ 1 := (fun x v => Host.reduce IntOp.andi x v reducesTo_S4096x32_S_d0_1 h_S_) main_v14 main_c_5
  fn_part1 (F := F) main_arg4 main_arg5 main_v3 main_v7 main_v11 main_v15
-- ==== Kernel.lean ====
abbrev S4096x8x64 : Shape := ⟨3, ![4096, 8, 64]⟩
abbrev S4096x8x32 : Shape := ⟨3, ![4096, 8, 32]⟩
abbrev S4096x32 : Shape := ⟨2, ![4096, 32]⟩
abbrev S4096x1x32 : Shape := ⟨3, ![4096, 1, 32]⟩
abbrev S_ : Shape := ⟨0, ![]⟩
abbrev S4096x8x128 : Shape := ⟨3, ![4096, 8, 128]⟩
abbrev S4096x1024 : Shape := ⟨2, ![4096, 1024]⟩
abbrev S4096 : Shape := ⟨1, ![4096]⟩
abbrev S8x4096x4096 : Shape := ⟨3, ![8, 4096, 4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x512 : Shape := ⟨2, ![4096, 512]⟩
abbrev S4096x8 : Shape := ⟨2, ![4096, 8]⟩
abbrev S4096x8x1 : Shape := ⟨3, ![4096, 8, 1]⟩
abbrev S512x1024 : Shape := ⟨2, ![512, 1024]⟩
abbrev S512x512 : Shape := ⟨2, ![512, 512]⟩
abbrev S8x512x128 : Shape := ⟨3, ![8, 512, 128]⟩
abbrev S512x128 : Shape := ⟨2, ![512, 128]⟩
abbrev S512x1 : Shape := ⟨2, ![512, 1]⟩
abbrev S512 : Shape := ⟨1, ![512]⟩
abbrev S1x512x128 : Shape := ⟨3, ![1, 512, 128]⟩

abbrev nBuf : Space → Nat
  | .hbm => 60
  | .vmem => 15
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x8x64, .f32⟩
  | .hbm, ⟨6, _⟩ => ⟨S4096x1x32, .f32⟩
  | .hbm, ⟨7, _⟩ => ⟨S4096x8x32, .f32⟩
  | .hbm, ⟨8, _⟩ => ⟨S_, .f32⟩
  | .hbm, ⟨9, _⟩ => ⟨S4096x8x32, .f32⟩
  | .hbm, ⟨10, _⟩ => ⟨S4096x8x128, .f32⟩
  | .hbm, ⟨11, _⟩ => ⟨S4096x1024, .f32⟩
  | .hbm, ⟨12, _⟩ => ⟨S4096x1024, .bf16⟩
  | .hbm, ⟨13, _⟩ => ⟨S4096x8x128, .f32⟩
  | .hbm, ⟨14, _⟩ => ⟨S4096x1024, .f32⟩
  | .hbm, ⟨15, _⟩ => ⟨S4096x1024, .bf16⟩
  | .hbm, ⟨16, _⟩ => ⟨S4096, .i32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S8x4096x4096, .f32⟩
  | .hbm, ⟨46, _⟩ => ⟨S8x4096x4096, .f32⟩
  | .hbm, ⟨47, _⟩ => ⟨S8x64x4096, .f32⟩
  | .hbm, ⟨48, _⟩ => ⟨S4096x8x64, .f32⟩
  | .hbm, ⟨49, _⟩ => ⟨S8x4096, .f32⟩
  | .hbm, ⟨50, _⟩ => ⟨S8x4096, .f32⟩
  | .hbm, ⟨51, _⟩ => ⟨S4096x512, .f32⟩
  | .hbm, ⟨52, _⟩ => ⟨S4096x8, .f32⟩
  | .hbm, ⟨53, _⟩ => ⟨S4096x8x1, .f32⟩
  | .hbm, ⟨54, _⟩ => ⟨S4096x8x64, .f32⟩
  | .hbm, ⟨55, _⟩ => ⟨S4096x512, .f32⟩
  | .hbm, ⟨56, _⟩ => ⟨S4096x512, .f32⟩
  | .hbm, ⟨57, _⟩ => ⟨S4096x512, .bf16⟩
  | .hbm, ⟨58, _⟩ => ⟨S4096x512, .f32⟩
  | .hbm, ⟨59, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | .local _ .vmem, ⟨14, _⟩ => ⟨S8x512x128, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "inv_scale" => some ((Real.sqrt 96 : ℝ) : EReal)
  | "scale" => some (((Real.sqrt 96)⁻¹ : ℝ) : EReal)
  | "scale_log2e" => some (((Real.sqrt 96)⁻¹ * (Real.log 2)⁻¹ : ℝ) : EReal)
  | _ => none
-- ==== ReferenceIdeal.lean ====
abbrev S4096x8x64 : Shape := ⟨3, ![4096, 8, 64]⟩
abbrev S4096x8x32 : Shape := ⟨3, ![4096, 8, 32]⟩
abbrev S4096x32 : Shape := ⟨2, ![4096, 32]⟩
abbrev S4096x1x32 : Shape := ⟨3, ![4096, 1, 32]⟩
abbrev S_ : Shape := ⟨0, ![]⟩
abbrev S4096 : Shape := ⟨1, ![4096]⟩
abbrev S8x4096x4096 : Shape := ⟨3, ![8, 4096, 4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x32 : Shape := ⟨3, ![8, 4096, 32]⟩
abbrev S8x4096x64 : Shape := ⟨3, ![8, 4096, 64]⟩
abbrev S4096x8x128 : Shape := ⟨3, ![4096, 8, 128]⟩
abbrev S4096x1024 : Shape := ⟨2, ![4096, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x8x64, .f32⟩
  | .hbm, ⟨6, _⟩ => ⟨S4096x1x32, .f32⟩
  | .hbm, ⟨7, _⟩ => ⟨S4096x8x32, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096, .i32⟩
  | .hbm, ⟨13, _⟩ => ⟨S4096, .i32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .i1⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S8x4096, .i1⟩
  | .hbm, ⟨45, _⟩ => ⟨S_, .f32⟩
  | .hbm, ⟨46, _⟩ => ⟨S8x4096, .f32⟩
  | .hbm, ⟨47, _⟩ => ⟨S8x4096, .i1⟩
  | .hbm, ⟨48, _⟩ => ⟨S_, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S_, .f32⟩
  | .hbm, ⟨53, _⟩ => ⟨S8x4096, .f32⟩
  | .hbm, ⟨54, _⟩ => ⟨S8x4096, .f32⟩
  | .hbm, ⟨55, _⟩ => ⟨S8x4096, .f32⟩
  | .hbm, ⟨56, _⟩ => ⟨S8x4096x1, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S8x4096x4096, .f32⟩
  | .hbm, ⟨64, _⟩ => ⟨S8x4096x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x64x4096, .f32⟩
  | .hbm, ⟨70, _⟩ => ⟨S4096x8x64, .f32⟩
  | .hbm, ⟨71, _⟩ => ⟨S8x64x4096, .f32⟩
  | .hbm, ⟨72, _⟩ => ⟨S8x4096x4096, .f32⟩
  | .hbm, ⟨73, _⟩ => ⟨S8x64x4096, .f32⟩
  | .hbm, ⟨74, _⟩ => ⟨S4096x8x64, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S8x4096x1, .f32⟩
  | .hbm, ⟨82, _⟩ => ⟨S8x4096x4096, .f32⟩
  | .hbm, ⟨83, _⟩ => ⟨S8x4096x4096, .f32⟩
  | .hbm, ⟨84, _⟩ => ⟨S_, .f32⟩
  | .hbm, ⟨85, _⟩ => ⟨S8x4096, .f32⟩
  | .hbm, ⟨86, _⟩ => ⟨S8x4096x4096, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096x4096, .f32⟩
  | .hbm, ⟨91, _⟩ => ⟨S8x4096x4096, .f32⟩
  | .hbm, ⟨92, _⟩ => ⟨S8x4096x4096, .f32⟩
  | .hbm, ⟨93, _⟩ => ⟨S8x4096x4096, .f32⟩
  | .hbm, ⟨94, _⟩ => ⟨S8x4096x32, .f32⟩
  | .hbm, ⟨95, _⟩ => ⟨S4096x8x32, .f32⟩
  | .hbm, ⟨96, _⟩ => ⟨S8x4096x32, .f32⟩
  | .hbm, ⟨97, _⟩ => ⟨S4096x8x32, .f32⟩
  | .hbm, ⟨98, _⟩ => ⟨S8x4096x64, .f32⟩
  | .hbm, ⟨99, _⟩ => ⟨S4096x8x64, .f32⟩
  | .hbm, ⟨100, _⟩ => ⟨S8x4096x64, .f32⟩
  | .hbm, ⟨101, _⟩ => ⟨S4096x8x64, .f32⟩
  | .hbm, ⟨102, _⟩ => ⟨S_, .f32⟩
  | .hbm, ⟨103, _⟩ => ⟨S4096x8x32, .f32⟩
  | .hbm, ⟨104, _⟩ => ⟨S4096x8x128, .f32⟩
  | .hbm, ⟨105, _⟩ => ⟨S4096x1024, .f32⟩
  | .hbm, ⟨106, _⟩ => ⟨S4096x1024, .bf16⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_call0_v0 : Ref sig .tc := ⟨.hbm, 25, rfl⟩
abbrev main_v16_1 : Ref sig .tc := ⟨.hbm, 26, rfl⟩
abbrev main_call0_v2 : Ref sig .tc := ⟨.hbm, 27, rfl⟩
abbrev main_v16_0 : Ref sig .tc := ⟨.hbm, 28, rfl⟩
abbrev main_call0_cst : Ref sig .tc := ⟨.hbm, 29, rfl⟩
abbrev main_v16_2 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call1_cst : Ref sig .tc := ⟨.hbm, 89, rfl⟩
abbrev main_call1_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]
-- ==== Kernel2.lean ====
abbrev S4096x8x64 : Shape := ⟨3, ![4096, 8, 64]⟩
abbrev S4096x8x32 : Shape := ⟨3, ![4096, 8, 32]⟩
abbrev S4096x32 : Shape := ⟨2, ![4096, 32]⟩
abbrev S4096x1x32 : Shape := ⟨3, ![4096, 1, 32]⟩
abbrev S_ : Shape := ⟨0, ![]⟩
abbrev S4096x8x128 : Shape := ⟨3, ![4096, 8, 128]⟩
abbrev S4096x1024 : Shape := ⟨2, ![4096, 1024]⟩
abbrev S4096 : Shape := ⟨1, ![4096]⟩
abbrev S8x4096x4096 : Shape := ⟨3, ![8, 4096, 4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x512 : Shape := ⟨2, ![4096, 512]⟩
abbrev S4096x8 : Shape := ⟨2, ![4096, 8]⟩
abbrev S4096x8x1 : Shape := ⟨3, ![4096, 8, 1]⟩
abbrev S512x1024 : Shape := ⟨2, ![512, 1024]⟩
abbrev S512x512 : Shape := ⟨2, ![512, 512]⟩
abbrev S8x512x128 : Shape := ⟨3, ![8, 512, 128]⟩
abbrev S4x512x128 : Shape := ⟨3, ![4, 512, 128]⟩
abbrev S512x128 : Shape := ⟨2, ![512, 128]⟩
abbrev S128x512 : Shape := ⟨2, ![128, 512]⟩
abbrev S64x512 : Shape := ⟨2, ![64, 512]⟩
abbrev S512 : Shape := ⟨1, ![512]⟩
abbrev S1x512 : Shape := ⟨2, ![1, 512]⟩
abbrev S1x512x128 : Shape := ⟨3, ![1, 512, 128]⟩

abbrev nBuf : Space → Nat
  | .hbm => 61
  | .vmem => 18
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x8x64, .f32⟩
  | .hbm, ⟨6, _⟩ => ⟨S4096x1x32, .f32⟩
  | .hbm, ⟨7, _⟩ => ⟨S4096x8x32, .f32⟩
  | .hbm, ⟨8, _⟩ => ⟨S_, .f32⟩
  | .hbm, ⟨9, _⟩ => ⟨S4096x8x32, .f32⟩
  | .hbm, ⟨10, _⟩ => ⟨S4096x8x128, .f32⟩
  | .hbm, ⟨11, _⟩ => ⟨S4096x1024, .f32⟩
  | .hbm, ⟨12, _⟩ => ⟨S4096x1024, .bf16⟩
  | .hbm, ⟨13, _⟩ => ⟨S4096x8x128, .f32⟩
  | .hbm, ⟨14, _⟩ => ⟨S4096x1024, .f32⟩
  | .hbm, ⟨15, _⟩ => ⟨S4096x1024, .bf16⟩
  | .hbm, ⟨16, _⟩ => ⟨S4096, .i32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S8x4096x4096, .f32⟩
  | .hbm, ⟨46, _⟩ => ⟨S8x4096x4096, .f32⟩
  | .hbm, ⟨47, _⟩ => ⟨S8x64x4096, .f32⟩
  | .hbm, ⟨48, _⟩ => ⟨S4096x8x64, .f32⟩
  | .hbm, ⟨49, _⟩ => ⟨S8x4096, .f32⟩
  | .hbm, ⟨50, _⟩ => ⟨S8x4096, .f32⟩
  | .hbm, ⟨51, _⟩ => ⟨S4096x512, .f32⟩
  | .hbm, ⟨52, _⟩ => ⟨S4096x8, .f32⟩
  | .hbm, ⟨53, _⟩ => ⟨S4096x8x1, .f32⟩
  | .hbm, ⟨54, _⟩ => ⟨S4096x8x64, .f32⟩
  | .hbm, ⟨55, _⟩ => ⟨S4096x512, .f32⟩
  | .hbm, ⟨56, _⟩ => ⟨S4096x512, .f32⟩
  | .hbm, ⟨57, _⟩ => ⟨S4096x512, .bf16⟩
  | .hbm, ⟨58, _⟩ => ⟨S4096x512, .f32⟩
  | .hbm, ⟨59, _⟩ => ⟨S4096x1024, .bf16⟩
  | .hbm, ⟨60, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | .local _ .vmem, ⟨14, _⟩ => ⟨S512x512, .bf16⟩
  | .local _ .vmem, ⟨15, _⟩ => ⟨S512x512, .bf16⟩
  | .local _ .vmem, ⟨16, _⟩ => ⟨S8x512x128, .f32⟩
  | .local _ .vmem, ⟨17, _⟩ => ⟨S4x512x128, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44_0 : Ref sig .tc := ⟨.hbm, 59, rfl⟩
abbrev main_v44_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let v0 : BitVec 32 := Scalar.maxsi arg1 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let v0 : BitVec 32 := Scalar.maxsi arg1 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.maxsi arg1 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.maxsi arg1 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel2Ideal.lean ====
variable {F : FTy → Type} [FloatOps F] [Named F]
def κ : String → Option EReal := fun
  | "inv_scale" => some ((Real.sqrt 96 : ℝ) : EReal)
  | "scale" => some (((Real.sqrt 96)⁻¹ : ℝ) : EReal)
  | "scale_log2e" => some (((Real.sqrt 96)⁻¹ * (Real.log 2)⁻¹ : ℝ) : EReal)
  | _ => none
-- ==== Reference2Ideal.lean ====
abbrev S4096x8x64 : Shape := ⟨3, ![4096, 8, 64]⟩
abbrev S4096x8x32 : Shape := ⟨3, ![4096, 8, 32]⟩
abbrev S4096x32 : Shape := ⟨2, ![4096, 32]⟩
abbrev S4096x1x32 : Shape := ⟨3, ![4096, 1, 32]⟩
abbrev S_ : Shape := ⟨0, ![]⟩
abbrev S4096 : Shape := ⟨1, ![4096]⟩
abbrev S8x4096x4096 : Shape := ⟨3, ![8, 4096, 4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x32 : Shape := ⟨3, ![8, 4096, 32]⟩
abbrev S8x4096x64 : Shape := ⟨3, ![8, 4096, 64]⟩
abbrev S4096x8x128 : Shape := ⟨3, ![4096, 8, 128]⟩
abbrev S4096x1024 : Shape := ⟨2, ![4096, 1024]⟩
abbrev S4096x512 : Shape := ⟨2, ![4096, 512]⟩

abbrev nBuf : Space → Nat
  | .hbm => 109
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x8x64, .f32⟩
  | .hbm, ⟨6, _⟩ => ⟨S4096x1x32, .f32⟩
  | .hbm, ⟨7, _⟩ => ⟨S4096x8x32, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096, .i32⟩
  | .hbm, ⟨13, _⟩ => ⟨S4096, .i32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .i1⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S8x4096, .i1⟩
  | .hbm, ⟨45, _⟩ => ⟨S_, .f32⟩
  | .hbm, ⟨46, _⟩ => ⟨S8x4096, .f32⟩
  | .hbm, ⟨47, _⟩ => ⟨S8x4096, .i1⟩
  | .hbm, ⟨48, _⟩ => ⟨S_, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S_, .f32⟩
  | .hbm, ⟨53, _⟩ => ⟨S8x4096, .f32⟩
  | .hbm, ⟨54, _⟩ => ⟨S8x4096, .f32⟩
  | .hbm, ⟨55, _⟩ => ⟨S8x4096, .f32⟩
  | .hbm, ⟨56, _⟩ => ⟨S8x4096x1, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S8x4096x4096, .f32⟩
  | .hbm, ⟨64, _⟩ => ⟨S8x4096x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x64x4096, .f32⟩
  | .hbm, ⟨70, _⟩ => ⟨S4096x8x64, .f32⟩
  | .hbm, ⟨71, _⟩ => ⟨S8x64x4096, .f32⟩
  | .hbm, ⟨72, _⟩ => ⟨S8x4096x4096, .f32⟩
  | .hbm, ⟨73, _⟩ => ⟨S8x64x4096, .f32⟩
  | .hbm, ⟨74, _⟩ => ⟨S4096x8x64, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S8x4096x1, .f32⟩
  | .hbm, ⟨82, _⟩ => ⟨S8x4096x4096, .f32⟩
  | .hbm, ⟨83, _⟩ => ⟨S8x4096x4096, .f32⟩
  | .hbm, ⟨84, _⟩ => ⟨S_, .f32⟩
  | .hbm, ⟨85, _⟩ => ⟨S8x4096, .f32⟩
  | .hbm, ⟨86, _⟩ => ⟨S8x4096x4096, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096x4096, .f32⟩
  | .hbm, ⟨91, _⟩ => ⟨S8x4096x4096, .f32⟩
  | .hbm, ⟨92, _⟩ => ⟨S8x4096x4096, .f32⟩
  | .hbm, ⟨93, _⟩ => ⟨S8x4096x4096, .f32⟩
  | .hbm, ⟨94, _⟩ => ⟨S8x4096x32, .f32⟩
  | .hbm, ⟨95, _⟩ => ⟨S4096x8x32, .f32⟩
  | .hbm, ⟨96, _⟩ => ⟨S8x4096x32, .f32⟩
  | .hbm, ⟨97, _⟩ => ⟨S4096x8x32, .f32⟩
  | .hbm, ⟨98, _⟩ => ⟨S8x4096x64, .f32⟩
  | .hbm, ⟨99, _⟩ => ⟨S4096x8x64, .f32⟩
  | .hbm, ⟨100, _⟩ => ⟨S8x4096x64, .f32⟩
  | .hbm, ⟨101, _⟩ => ⟨S4096x8x64, .f32⟩
  | .hbm, ⟨102, _⟩ => ⟨S_, .f32⟩
  | .hbm, ⟨103, _⟩ => ⟨S4096x8x32, .f32⟩
  | .hbm, ⟨104, _⟩ => ⟨S4096x8x128, .f32⟩
  | .hbm, ⟨105, _⟩ => ⟨S4096x1024, .f32⟩
  | .hbm, ⟨106, _⟩ => ⟨S4096x1024, .bf16⟩
  | .hbm, ⟨107, _⟩ => ⟨S4096x512, .f32⟩
  | .hbm, ⟨108, _⟩ => ⟨S4096x512, .bf16⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_call0_v0 : Ref sig .tc := ⟨.hbm, 25, rfl⟩
abbrev main_v16_1 : Ref sig .tc := ⟨.hbm, 26, rfl⟩
abbrev main_call0_v2 : Ref sig .tc := ⟨.hbm, 27, rfl⟩
abbrev main_v16_0 : Ref sig .tc := ⟨.hbm, 28, rfl⟩
abbrev main_call0_cst : Ref sig .tc := ⟨.hbm, 29, rfl⟩
abbrev main_v16_2 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call1_cst : Ref sig .tc := ⟨.hbm, 89, rfl⟩
abbrev main_call1_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]
-- ==== Kernel3.lean ====
abbrev S4096x1024 : Shape := ⟨2, ![4096, 1024]⟩
abbrev S1024x10656 : Shape := ⟨2, ![1024, 10656]⟩
abbrev S4096x10656 : Shape := ⟨2, ![4096, 10656]⟩
abbrev S4096x512 : Shape := ⟨2, ![4096, 512]⟩
abbrev S4096x128 : Shape := ⟨2, ![4096, 128]⟩
abbrev S4096x384 : Shape := ⟨2, ![4096, 384]⟩
abbrev S4096x256 : Shape := ⟨2, ![4096, 256]⟩
abbrev S4096x32 : Shape := ⟨2, ![4096, 32]⟩
abbrev S4096x4608 : Shape := ⟨2, ![4096, 4608]⟩
abbrev S4096x4096 : Shape := ⟨2, ![4096, 4096]⟩
abbrev S_ : Shape := ⟨0, ![]⟩
abbrev S4096x96 : Shape := ⟨2, ![4096, 96]⟩
abbrev S4096x10752 : Shape := ⟨2, ![4096, 10752]⟩
abbrev S1024x10752 : Shape := ⟨2, ![1024, 10752]⟩
abbrev S1024x1024 : Shape := ⟨2, ![1024, 1024]⟩
abbrev S1024x1536 : Shape := ⟨2, ![1024, 1536]⟩
abbrev S1024x512 : Shape := ⟨2, ![1024, 512]⟩
abbrev S1024x128 : Shape := ⟨2, ![1024, 128]⟩
abbrev S1024x384 : Shape := ⟨2, ![1024, 384]⟩
abbrev S1024x256 : Shape := ⟨2, ![1024, 256]⟩
abbrev S1024x32 : Shape := ⟨2, ![1024, 32]⟩
abbrev S1024x4608 : Shape := ⟨2, ![1024, 4608]⟩
abbrev S1024x4096 : Shape := ⟨2, ![1024, 4096]⟩

abbrev nBuf : Space → Nat
  | .hbm => 28
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x10656, .f32⟩
  | .hbm, ⟨2, _⟩ => ⟨S4096x10656, .f32⟩
  | .hbm, ⟨3, _⟩ => ⟨S4096x512, .f32⟩
  | .hbm, ⟨4, _⟩ => ⟨S4096x128, .f32⟩
  | .hbm, ⟨5, _⟩ => ⟨S4096x128, .f32⟩
  | .hbm, ⟨6, _⟩ => ⟨S4096x384, .f32⟩
  | .hbm, ⟨7, _⟩ => ⟨S4096x256, .f32⟩
  | .hbm, ⟨8, _⟩ => ⟨S4096x32, .f32⟩
  | .hbm, ⟨9, _⟩ => ⟨S4096x4608, .f32⟩
  | .hbm, ⟨10, _⟩ => ⟨S4096x512, .f32⟩
  | .hbm, ⟨11, _⟩ => ⟨S4096x4096, .f32⟩
  | .hbm, ⟨12, _⟩ => ⟨S_, .f32⟩
  | .hbm, ⟨13, _⟩ => ⟨S4096x96, .f32⟩
  | .hbm, ⟨14, _⟩ => ⟨S4096x10752, .f32⟩
  | .hbm, ⟨15, _⟩ => ⟨S4096x10752, .bf16⟩
  | .hbm, ⟨16, _⟩ => ⟨S4096x1024, .bf16⟩
  | .hbm, ⟨17, _⟩ => ⟨S1024x10752, .f32⟩
  | .hbm, ⟨18, _⟩ => ⟨S1024x512, .f32⟩
  | .hbm, ⟨19, _⟩ => ⟨S1024x128, .f32⟩
  | .hbm, ⟨20, _⟩ => ⟨S1024x128, .f32⟩
  | .hbm, ⟨21, _⟩ => ⟨S1024x384, .f32⟩
  | .hbm, ⟨22, _⟩ => ⟨S1024x256, .f32⟩
  | .hbm, ⟨23, _⟩ => ⟨S1024x32, .f32⟩
  | .hbm, ⟨24, _⟩ => ⟨S1024x4608, .f32⟩
  | .hbm, ⟨25, _⟩ => ⟨S1024x512, .f32⟩
  | .hbm, ⟨26, _⟩ => ⟨S1024x4096, .f32⟩
  | .hbm, ⟨27, _⟩ => ⟨S1024x10656, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S1024x10656 : Shape := ⟨2, ![1024, 10656]⟩
abbrev S4096x10656 : Shape := ⟨2, ![4096, 10656]⟩
abbrev S10656x1024 : Shape := ⟨2, ![10656, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10656, .f32⟩
  | .hbm, ⟨2, _⟩ => ⟨S4096x10656, .f32⟩
  | .hbm, ⟨3, _⟩ => ⟨S4096x10656, .f32⟩
  | .hbm, ⟨4, _⟩ => ⟨S10656x1024, .f32⟩
  | .hbm, ⟨5, _⟩ => ⟨S1024x10656, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S1024x10656 : Shape := ⟨2, ![1024, 10656]⟩
abbrev S4096x10656 : Shape := ⟨2, ![4096, 10656]⟩
abbrev S4096x512 : Shape := ⟨2, ![4096, 512]⟩
abbrev S4096x128 : Shape := ⟨2, ![4096, 128]⟩
abbrev S4096x384 : Shape := ⟨2, ![4096, 384]⟩
abbrev S4096x256 : Shape := ⟨2, ![4096, 256]⟩
abbrev S4096x32 : Shape := ⟨2, ![4096, 32]⟩
abbrev S4096x4608 : Shape := ⟨2, ![4096, 4608]⟩
abbrev S4096x4096 : Shape := ⟨2, ![4096, 4096]⟩
abbrev S_ : Shape := ⟨0, ![]⟩
abbrev S4096x96 : Shape := ⟨2, ![4096, 96]⟩
abbrev S4096x10752 : Shape := ⟨2, ![4096, 10752]⟩
abbrev S1024x512 : Shape := ⟨2, ![1024, 512]⟩
abbrev S1024x128 : Shape := ⟨2, ![1024, 128]⟩
abbrev S1024x384 : Shape := ⟨2, ![1024, 384]⟩
abbrev S1024x256 : Shape := ⟨2, ![1024, 256]⟩
abbrev S1024x32 : Shape := ⟨2, ![1024, 32]⟩
abbrev S1024x4608 : Shape := ⟨2, ![1024, 4608]⟩
abbrev S1024x4096 : Shape := ⟨2, ![1024, 4096]⟩
abbrev S1024x96 : Shape := ⟨2, ![1024, 96]⟩
abbrev S1024x10752 : Shape := ⟨2, ![1024, 10752]⟩
abbrev S1024x1536 : Shape := ⟨2, ![1024, 1536]⟩
abbrev S1024x1024 : Shape := ⟨2, ![1024, 1024]⟩

abbrev nBuf : Space → Nat
  | .hbm => 30
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x10656, .f32⟩
  | .hbm, ⟨2, _⟩ => ⟨S4096x10656, .f32⟩
  | .hbm, ⟨3, _⟩ => ⟨S4096x512, .f32⟩
  | .hbm, ⟨4, _⟩ => ⟨S4096x128, .f32⟩
  | .hbm, ⟨5, _⟩ => ⟨S4096x128, .f32⟩
  | .hbm, ⟨6, _⟩ => ⟨S4096x384, .f32⟩
  | .hbm, ⟨7, _⟩ => ⟨S4096x256, .f32⟩
  | .hbm, ⟨8, _⟩ => ⟨S4096x32, .f32⟩
  | .hbm, ⟨9, _⟩ => ⟨S4096x4608, .f32⟩
  | .hbm, ⟨10, _⟩ => ⟨S4096x512, .f32⟩
  | .hbm, ⟨11, _⟩ => ⟨S4096x4096, .f32⟩
  | .hbm, ⟨12, _⟩ => ⟨S_, .f32⟩
  | .hbm, ⟨13, _⟩ => ⟨S4096x96, .f32⟩
  | .hbm, ⟨14, _⟩ => ⟨S4096x10752, .f32⟩
  | .hbm, ⟨15, _⟩ => ⟨S4096x10752, .bf16⟩
  | .hbm, ⟨16, _⟩ => ⟨S1024x512, .f32⟩
  | .hbm, ⟨17, _⟩ => ⟨S1024x128, .f32⟩
  | .hbm, ⟨18, _⟩ => ⟨S1024x128, .f32⟩
  | .hbm, ⟨19, _⟩ => ⟨S1024x384, .f32⟩
  | .hbm, ⟨20, _⟩ => ⟨S1024x256, .f32⟩
  | .hbm, ⟨21, _⟩ => ⟨S1024x32, .f32⟩
  | .hbm, ⟨22, _⟩ => ⟨S1024x4608, .f32⟩
  | .hbm, ⟨23, _⟩ => ⟨S1024x512, .f32⟩
  | .hbm, ⟨24, _⟩ => ⟨S1024x4096, .f32⟩
  | .hbm, ⟨25, _⟩ => ⟨S_, .f32⟩
  | .hbm, ⟨26, _⟩ => ⟨S1024x96, .f32⟩
  | .hbm, ⟨27, _⟩ => ⟨S1024x10752, .f32⟩
  | .hbm, ⟨28, _⟩ => ⟨S1024x10752, .bf16⟩
  | .hbm, ⟨29, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 7], ![false, false, false]⟩

def k0_cond3 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1024x10656 : Shape := ⟨2, ![1024, 10656]⟩
abbrev S4096x10656 : Shape := ⟨2, ![4096, 10656]⟩
abbrev S10656x1024 : Shape := ⟨2, ![10656, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10656, .f32⟩
  | .hbm, ⟨2, _⟩ => ⟨S4096x10656, .f32⟩
  | .hbm, ⟨3, _⟩ => ⟨S4096x10656, .f32⟩
  | .hbm, ⟨4, _⟩ => ⟨S10656x1024, .f32⟩
  | .hbm, ⟨5, _⟩ => ⟨S1024x10656, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S1024x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel6.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S1024x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel7.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .bf16⟩
  | .hbm, ⟨4, _⟩ => ⟨S1024x4096, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x1024, .bf16⟩
  | .hbm, ⟨4, _⟩ => ⟨S4096x4096, .bf16⟩
  | .hbm, ⟨5, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S1024x10656 : Shape := ⟨2, ![1024, 10656]⟩
abbrev S1024x512 : Shape := ⟨2, ![1024, 512]⟩
abbrev S1024x128 : Shape := ⟨2, ![1024, 128]⟩
abbrev S1024x384 : Shape := ⟨2, ![1024, 384]⟩
abbrev S1024x256 : Shape := ⟨2, ![1024, 256]⟩
abbrev S1024x32 : Shape := ⟨2, ![1024, 32]⟩
abbrev S1024x4608 : Shape := ⟨2, ![1024, 4608]⟩
abbrev S1024x4096 : Shape := ⟨2, ![1024, 4096]⟩
abbrev S_ : Shape := ⟨0, ![]⟩
abbrev S1024x96 : Shape := ⟨2, ![1024, 96]⟩
abbrev S1024x10752 : Shape := ⟨2, ![1024, 10752]⟩
abbrev S4096x10752 : Shape := ⟨2, ![4096, 10752]⟩
abbrev S1024x1024 : Shape := ⟨2, ![1024, 1024]⟩
abbrev S1024x1536 : Shape := ⟨2, ![1024, 1536]⟩
abbrev S4096x512 : Shape := ⟨2, ![4096, 512]⟩
abbrev S4096x128 : Shape := ⟨2, ![4096, 128]⟩
abbrev S4096x384 : Shape := ⟨2, ![4096, 384]⟩
abbrev S4096x256 : Shape := ⟨2, ![4096, 256]⟩
abbrev S4096x32 : Shape := ⟨2, ![4096, 32]⟩
abbrev S4096x4608 : Shape := ⟨2, ![4096, 4608]⟩
abbrev S4096x4096 : Shape := ⟨2, ![4096, 4096]⟩
abbrev S4096x10656 : Shape := ⟨2, ![4096, 10656]⟩

abbrev nBuf : Space → Nat
  | .hbm => 27
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x10656, .f32⟩
  | .hbm, ⟨2, _⟩ => ⟨S4096x1024, .bf16⟩
  | .hbm, ⟨3, _⟩ => ⟨S1024x512, .f32⟩
  | .hbm, ⟨4, _⟩ => ⟨S1024x128, .f32⟩
  | .hbm, ⟨5, _⟩ => ⟨S1024x128, .f32⟩
  | .hbm, ⟨6, _⟩ => ⟨S1024x384, .f32⟩
  | .hbm, ⟨7, _⟩ => ⟨S1024x256, .f32⟩
  | .hbm, ⟨8, _⟩ => ⟨S1024x32, .f32⟩
  | .hbm, ⟨9, _⟩ => ⟨S1024x4608, .f32⟩
  | .hbm, ⟨10, _⟩ => ⟨S1024x512, .f32⟩
  | .hbm, ⟨11, _⟩ => ⟨S1024x4096, .f32⟩
  | .hbm, ⟨12, _⟩ => ⟨S_, .f32⟩
  | .hbm, ⟨13, _⟩ => ⟨S1024x96, .f32⟩
  | .hbm, ⟨14, _⟩ => ⟨S1024x10752, .f32⟩
  | .hbm, ⟨15, _⟩ => ⟨S1024x10752, .bf16⟩
  | .hbm, ⟨16, _⟩ => ⟨S4096x10752, .f32⟩
  | .hbm, ⟨17, _⟩ => ⟨S4096x512, .f32⟩
  | .hbm, ⟨18, _⟩ => ⟨S4096x128, .f32⟩
  | .hbm, ⟨19, _⟩ => ⟨S4096x128, .f32⟩
  | .hbm, ⟨20, _⟩ => ⟨S4096x384, .f32⟩
  | .hbm, ⟨21, _⟩ => ⟨S4096x256, .f32⟩
  | .hbm, ⟨22, _⟩ => ⟨S4096x32, .f32⟩
  | .hbm, ⟨23, _⟩ => ⟨S4096x4608, .f32⟩
  | .hbm, ⟨24, _⟩ => ⟨S4096x512, .f32⟩
  | .hbm, ⟨25, _⟩ => ⟨S4096x4096, .f32⟩
  | .hbm, ⟨26, _⟩ => ⟨S4096x10656, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x10656 : Shape := ⟨2, ![1024, 10656]⟩
abbrev S4096x10656 : Shape := ⟨2, ![4096, 10656]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10656, .f32⟩
  | .hbm, ⟨2, _⟩ => ⟨S4096x10656, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S512x1024, .bf16⟩
  | .hbm, ⟨3, _⟩ => ⟨S4096x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S4096x512 : Shape := ⟨2, ![4096, 512]⟩
abbrev S512x1024 : Shape := ⟨2, ![512, 1024]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .bf16⟩
  | .hbm, ⟨4, _⟩ => ⟨S512x1024, .bf16⟩
  | .hbm, ⟨5, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .bf16⟩
  | .hbm, ⟨4, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x512, .bf16⟩
  | .hbm, ⟨3, _⟩ => ⟨S512x1024, .bf16⟩
  | .hbm, ⟨4, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .bf16⟩
  | .hbm, ⟨4, _⟩ => ⟨S4096x1024, .bf16⟩
  | .hbm, ⟨5, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.DqFrame.lean ====
/-
  The frame of the kernel of the queries' gradient, over any float values: what each case of the body leaves in the
  output block and in the accumulator, the contents point by point (`outsAt0`), the body obligation, the run
  (`run_main`) and the frame (`frame`). It follows the generated frame of this kernel; the one arithmetical fact that
  the generated text leaves open, that a row block's first point not below the diagonal is on it, is
  `first_is_diagonal`.
-/
module

public import proofs.«01_k».proof.Proof.Gen.KernelIdeal.Frame.RunG
public import Idealize.ShloMosaic.Lib.Claim

@[expose] public section

-- membership in a rectangle of production extents (`View.cover_of_tiled`): the elaborator's structural look
-- recurses once per coordinate of the long axes
set_option maxRecDepth 16384

noncomputable section

namespace Cert.KernelIdeal.Dq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A point at which a row block begins (key block 0) and that lies not below the diagonal is on the diagonal. -/
theorem first_is_diagonal : ∀ k, k < 64 → k % 8 = 0 → ¬(k % 8 + 1 ≤ k / 8 % 8) → k % 9 = 0 := by decide

section body

variable (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1024 .bf16) (harg8 : arg8.IsWhole) (arg9 : Memref sig .tc .vmem S8x512x128 .f32) (harg9 : arg9.IsWhole)

/-- A point below the diagonal is not on it. -/
theorem below_is_not_diagonal : ∀ k, k < 64 → k % 8 + 1 ≤ k / 8 % 8 → ¬k % 9 = 0 := by decide
/-- Case A stores nothing into output 6 (the window is idle at its points and not written back there):
    no pieces — a placeholder (junk read back) that nothing consults, since at these points the window is neither
    written back nor read at the next point (Lib/Pipeline.lean "Idle points"). -/
def out0_A_6 (hc0 : cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) : Vec F S512x1024 .bf16 :=
  VO0_6.read (Elt F) (VO0_6.writes (Elt F) VO0_6.junk (kernelRun0_A c i arg2 harg2 arg3 harg3 arg4 harg4 arg5 harg5 arg6 harg6 arg7 harg7 arg8 harg8 arg9 harg9 hc0 hc1 hc2 hc3 x0 x1 x2 x3 x4 x5).1)

/-- Case A's pieces for scratch `arg9`, which the kernel carries between points, cover it: one of them a store of the WHOLE buffer (Lib/Ring.lean `sl_whole_mem`). -/
theorem scover0_A_0 (hc0 : cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (y : S8x512x128.Idx) :
    ∃ pc ∈ (kernelRun0_A c i arg2 harg2 arg3 harg3 arg4 harg4 arg5 harg5 arg6 harg6 arg7 harg7 arg8 harg8 arg9 harg9 hc0 hc1 hc2 hc3 x0 x1 x2 x3 x4 x5).2.1, y ∈ pc.1.set :=
  View.cover_of_wholeMem (kernelRun0_A c i arg2 harg2 arg3 harg3 arg4 harg4 arg5 harg5 arg6 harg6 arg7 harg7 arg8 harg8 arg9 harg9 hc0 hc1 hc2 hc3 x0 x1 x2 x3 x4 x5).2.1 (by sl_whole_mem) y

/-- What case A leaves in scratch `arg9`: its pieces read back over junk. -/
def sout0_A_0 (hc0 : cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) : Vec F S8x512x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 hc2 hc3 x0 x1 x2 x3 x4 x5).2.1)

/-- Case B stores nothing into output 6 (the window is idle at its points and not written back there):
    no pieces — a placeholder (junk read back) that nothing consults, since at these points the window is neither
    written back nor read at the next point (Lib/Pipeline.lean "Idle points"). -/
def out0_B_6 (hc0 : ¬cond0_0 i) (hc1 : ¬cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) : Vec F S512x1024 .bf16 :=
  VO0_6.read (Elt F) (VO0_6.writes (Elt F) VO0_6.junk (kernelRun0_B c i arg2 harg2 arg3 harg3 arg4 harg4 arg5 harg5 arg6 harg6 arg7 harg7 arg8 harg8 arg9 harg9 hc0 hc1 hc2 hc3 x0 x1 x2 x3 x4 x5 xs0).1)

/-- Case B stores nothing into scratch `arg9`: it holds what the point before left. -/
def sout0_B_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1024 .bf16) (harg8 : arg8.IsWhole) (arg9 : Memref sig .tc .vmem S8x512x128 .f32) (harg9 : arg9.IsWhole) (hc0 : ¬cond0_0 i) (hc1 : ¬cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) : Vec F S8x512x128 .f32 := xs0

/-- Case C's pieces for output 6 tile its block (8 stores of `S512x128`, checked by the kernel's evaluation: Lib/Ring.lean `Piece.tiledL`, linear in the pieces, through a loop's `@[irreducible]` trip theorem too), so they cover it. -/
theorem cover0_C_6 (hc0 : ¬cond0_0 i) (hc1 : ¬cond0_1 i) (hc2 : ¬cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (y : S512x1024.Idx) :
    ∃ pc ∈ (kernelRun0_C c i arg2 harg2 arg3 harg3 arg4 harg4 arg5 harg5 arg6 harg6 arg7 harg7 arg8 harg8 arg9 harg9 hc0 hc1 hc2 hc3 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 hc2 hc3 x0 x1 x2 x3 x4 x5 xs0).1 S512x128.size (by sl_kernel_rfl) y

/-- What case C leaves in output 6's staging buffer: its pieces read back over junk. -/
def out0_C_6 (hc0 : ¬cond0_0 i) (hc1 : ¬cond0_1 i) (hc2 : ¬cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) : Vec F S512x1024 .bf16 :=
  VO0_6.read (Elt F) (VO0_6.writes (Elt F) VO0_6.junk (kernelRun0_C c i arg2 harg2 arg3 harg3 arg4 harg4 arg5 harg5 arg6 harg6 arg7 harg7 arg8 harg8 arg9 harg9 hc0 hc1 hc2 hc3 x0 x1 x2 x3 x4 x5 xs0).1)

/-- Case C stores nothing into scratch `arg9`: it holds what the point before left. -/
def sout0_C_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1024 .bf16) (harg8 : arg8.IsWhole) (arg9 : Memref sig .tc .vmem S8x512x128 .f32) (harg9 : arg9.IsWhole) (hc0 : ¬cond0_0 i) (hc1 : ¬cond0_1 i) (hc2 : ¬cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) : Vec F S8x512x128 .f32 := xs0

/-- Case D stores nothing into output 6 (the window is idle at its points and not written back there):
    no pieces — a placeholder (junk read back) that nothing consults, since at these points the window is neither
    written back nor read at the next point (Lib/Pipeline.lean "Idle points"). -/
def out0_D_6 (hc0 : cond0_0 i) (hc1 : cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) : Vec F S512x1024 .bf16 :=
  VO0_6.read (Elt F) (VO0_6.writes (Elt F) VO0_6.junk (kernelRun0_D c i arg2 harg2 arg3 harg3 arg4 harg4 arg5 harg5 arg6 harg6 arg7 harg7 arg8 harg8 arg9 harg9 hc0 hc1 hc2 hc3 x0 x1 x2 x3 x4 x5).1)

/-- Case D's pieces for scratch `arg9`, which the kernel carries between points, cover it: one of them a store of the WHOLE buffer (Lib/Ring.lean `sl_whole_mem`). -/
theorem scover0_D_0 (hc0 : cond0_0 i) (hc1 : cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (y : S8x512x128.Idx) :
    ∃ pc ∈ (kernelRun0_D c i arg2 harg2 arg3 harg3 arg4 harg4 arg5 harg5 arg6 harg6 arg7 harg7 arg8 harg8 arg9 harg9 hc0 hc1 hc2 hc3 x0 x1 x2 x3 x4 x5).2.1, y ∈ pc.1.set :=
  View.cover_of_wholeMem (kernelRun0_D c i arg2 harg2 arg3 harg3 arg4 harg4 arg5 harg5 arg6 harg6 arg7 harg7 arg8 harg8 arg9 harg9 hc0 hc1 hc2 hc3 x0 x1 x2 x3 x4 x5).2.1 (by sl_whole_mem) y

/-- What case D leaves in scratch `arg9`: its pieces read back over junk. -/
def sout0_D_0 (hc0 : cond0_0 i) (hc1 : cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) : Vec F S8x512x128 .f32 :=
  VS0_0.read (Elt F) (VS0_0.writes (Elt F) VS0_0.junk (kernelRun0_D c i arg2 harg2 arg3 harg3 arg4 harg4 arg5 harg5 arg6 harg6 arg7 harg7 arg8 harg8 arg9 harg9 hc0 hc1 hc2 hc3 x0 x1 x2 x3 x4 x5).2.1)

/-- Case E stores nothing into output 6 (the window is idle at its points and not written back there):
    no pieces — a placeholder (junk read back) that nothing consults, since at these points the window is neither
    written back nor read at the next point (Lib/Pipeline.lean "Idle points"). -/
def out0_E_6 (hc0 : ¬cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) : Vec F S512x1024 .bf16 :=
  VO0_6.read (Elt F) (VO0_6.writes (Elt F) VO0_6.junk (kernelRun0_E c i arg2 harg2 arg3 harg3 arg4 harg4 arg5 harg5 arg6 harg6 arg7 harg7 arg8 harg8 arg9 harg9 hc0 hc1 hc2 hc3 x0 x1 x2 x3 x4 x5 xs0).1)

/-- Case E's pieces for scratch `arg9`, which the kernel carries between points, cover it: 8 pieces of `S1x512x128` tiling it (Lib/Ring.lean `Piece.tiledL`). -/
theorem scover0_E_0 (hc0 : ¬cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (y : S8x512x128.Idx) :
    ∃ pc ∈ (kernelRun0_E c i arg2 harg2 arg3 harg3 arg4 harg4 arg5 harg5 arg6 harg6 arg7 harg7 arg8 harg8 arg9 harg9 hc0 hc1 hc2 hc3 x0 x1 x2 x3 x4 x5 xs0).2.1, y ∈ pc.1.set :=
  View.cover_of_tiledL (kernelRun0_E c i arg2 harg2 arg3 harg3 arg4 harg4 arg5 harg5 arg6 harg6 arg7 harg7 arg8 harg8 arg9 harg9 hc0 hc1 hc2 hc3 x0 x1 x2 x3 x4 x5 xs0).2.1 S1x512x128.size (by sl_kernel_rfl) y

/-- What case E leaves in scratch `arg9`: its pieces read back over junk. -/
def sout0_E_0 (hc0 : ¬cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) : Vec F S8x512x128 .f32 :=
  VS0_0.read (Elt F) (VS0_0.writes (Elt F) VS0_0.junk (kernelRun0_E c i arg2 harg2 arg3 harg3 arg4 harg4 arg5 harg5 arg6 harg6 arg7 harg7 arg8 harg8 arg9 harg9 hc0 hc1 hc2 hc3 x0 x1 x2 x3 x4 x5 xs0).2.1)

/-- Case F stores nothing into output 6 (the window is idle at its points and not written back there):
    no pieces — a placeholder (junk read back) that nothing consults, since at these points the window is neither
    written back nor read at the next point (Lib/Pipeline.lean "Idle points"). -/
def out0_F_6 (hc0 : ¬cond0_0 i) (hc1 : cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) : Vec F S512x1024 .bf16 :=
  VO0_6.read (Elt F) (VO0_6.writes (Elt F) VO0_6.junk (kernelRun0_F c i arg2 harg2 arg3 harg3 arg4 harg4 arg5 harg5 arg6 harg6 arg7 harg7 arg8 harg8 arg9 harg9 hc0 hc1 hc2 hc3 x0 x1 x2 x3 x4 x5 xs0).1)

/-- Case F's pieces for scratch `arg9`, which the kernel carries between points, cover it: 8 pieces of `S1x512x128` tiling it (Lib/Ring.lean `Piece.tiledL`). -/
theorem scover0_F_0 (hc0 : ¬cond0_0 i) (hc1 : cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (y : S8x512x128.Idx) :
    ∃ pc ∈ (kernelRun0_F c i arg2 harg2 arg3 harg3 arg4 harg4 arg5 harg5 arg6 harg6 arg7 harg7 arg8 harg8 arg9 harg9 hc0 hc1 hc2 hc3 x0 x1 x2 x3 x4 x5 xs0).2.1, y ∈ pc.1.set :=
  View.cover_of_tiledL (kernelRun0_F c i arg2 harg2 arg3 harg3 arg4 harg4 arg5 harg5 arg6 harg6 arg7 harg7 arg8 harg8 arg9 harg9 hc0 hc1 hc2 hc3 x0 x1 x2 x3 x4 x5 xs0).2.1 S1x512x128.size (by sl_kernel_rfl) y

/-- What case F leaves in scratch `arg9`: its pieces read back over junk. -/
def sout0_F_0 (hc0 : ¬cond0_0 i) (hc1 : cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) : Vec F S8x512x128 .f32 :=
  VS0_0.read (Elt F) (VS0_0.writes (Elt F) VS0_0.junk (kernelRun0_F c i arg2 harg2 arg3 harg3 arg4 harg4 arg5 harg5 arg6 harg6 arg7 harg7 arg8 harg8 arg9 harg9 hc0 hc1 hc2 hc3 x0 x1 x2 x3 x4 x5 xs0).2.1)

/-- Case G's pieces for output 6 tile its block (8 stores of `S512x128`, checked by the kernel's evaluation: Lib/Ring.lean `Piece.tiledL`, linear in the pieces, through a loop's `@[irreducible]` trip theorem too), so they cover it. -/
theorem cover0_G_6 (hc0 : ¬cond0_0 i) (hc1 : ¬cond0_1 i) (hc2 : cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (y : S512x1024.Idx) :
    ∃ pc ∈ (kernelRun0_G c i arg2 harg2 arg3 harg3 arg4 harg4 arg5 harg5 arg6 harg6 arg7 harg7 arg8 harg8 arg9 harg9 hc0 hc1 hc2 hc3 x0 x1 x2 x3 x4 x5 xs0).1, y ∈ pc.1.set :=
  View.cover_of_tiledL (kernelRun0_G c i arg2 harg2 arg3 harg3 arg4 harg4 arg5 harg5 arg6 harg6 arg7 harg7 arg8 harg8 arg9 harg9 hc0 hc1 hc2 hc3 x0 x1 x2 x3 x4 x5 xs0).1 S512x128.size (by sl_kernel_rfl) y

/-- What case G leaves in output 6's staging buffer: its pieces read back over junk. -/
def out0_G_6 (hc0 : ¬cond0_0 i) (hc1 : ¬cond0_1 i) (hc2 : cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) : Vec F S512x1024 .bf16 :=
  VO0_6.read (Elt F) (VO0_6.writes (Elt F) VO0_6.junk (kernelRun0_G c i arg2 harg2 arg3 harg3 arg4 harg4 arg5 harg5 arg6 harg6 arg7 harg7 arg8 harg8 arg9 harg9 hc0 hc1 hc2 hc3 x0 x1 x2 x3 x4 x5 xs0).1)

/-- Case G's pieces for scratch `arg9`, which the kernel carries between points, cover it: 8 pieces of `S1x512x128` tiling it (Lib/Ring.lean `Piece.tiledL`). -/
theorem scover0_G_0 (hc0 : ¬cond0_0 i) (hc1 : ¬cond0_1 i) (hc2 : cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (y : S8x512x128.Idx) :
    ∃ pc ∈ (kernelRun0_G c i arg2 harg2 arg3 harg3 arg4 harg4 arg5 harg5 arg6 harg6 arg7 harg7 arg8 harg8 arg9 harg9 hc0 hc1 hc2 hc3 x0 x1 x2 x3 x4 x5 xs0).2.1, y ∈ pc.1.set :=
  View.cover_of_tiledL (kernelRun0_G c i arg2 harg2 arg3 harg3 arg4 harg4 arg5 harg5 arg6 harg6 arg7 harg7 arg8 harg8 arg9 harg9 hc0 hc1 hc2 hc3 x0 x1 x2 x3 x4 x5 xs0).2.1 S1x512x128.size (by sl_kernel_rfl) y

/-- What case G leaves in scratch `arg9`: its pieces read back over junk. -/
def sout0_G_0 (hc0 : ¬cond0_0 i) (hc1 : ¬cond0_1 i) (hc2 : cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) : Vec F S8x512x128 .f32 :=
  VS0_0.read (Elt F) (VS0_0.writes (Elt F) VS0_0.junk (kernelRun0_G c i arg2 harg2 arg3 harg3 arg4 harg4 arg5 harg5 arg6 harg6 arg7 harg7 arg8 harg8 arg9 harg9 hc0 hc1 hc2 hc3 x0 x1 x2 x3 x4 x5 xs0).2.1)

end body

/-! ## What the outputs hold after each point -/

/-- What case A leaves at a point. -/
abbrev case_A (c : Dev nD) (t : Fin cfg0.N) (h0 : t.val % 8 = 0) (h1 : ¬t.val % 8 + 1 ≤ t.val / 8 % 8) (h2 : t.val % 9 = 0) (h3 : ¬t.val % 8 = 7) :
    Vec F S512x1024 .bf16 × Vec F S8x512x128 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t))

/-- What case B leaves at a point, over what the point before left. -/
abbrev case_B (c : Dev nD) (t : Fin cfg0.N) (h0 : ¬t.val % 8 = 0) (h1 : ¬t.val % 8 + 1 ≤ t.val / 8 % 8) (h2 : ¬t.val % 9 = 0) (h3 : ¬t.val % 8 = 7) (p : Vec F S512x1024 .bf16 × Vec F S8x512x128 .f32) :
    Vec F S512x1024 .bf16 × Vec F S8x512x128 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) p.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) p.2)

/-- What case C leaves at a point, over what the point before left. -/
abbrev case_C (c : Dev nD) (t : Fin cfg0.N) (h0 : ¬t.val % 8 = 0) (h1 : ¬t.val % 8 + 1 ≤ t.val / 8 % 8) (h2 : ¬t.val % 9 = 0) (h3 : t.val % 8 = 7) (p : Vec F S512x1024 .bf16 × Vec F S8x512x128 .f32) :
    Vec F S512x1024 .bf16 × Vec F S8x512x128 .f32 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) p.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) p.2)

/-- What case D leaves at a point. -/
abbrev case_D (c : Dev nD) (t : Fin cfg0.N) (h0 : t.val % 8 = 0) (h1 : t.val % 8 + 1 ≤ t.val / 8 % 8) (h2 : ¬t.val % 9 = 0) (h3 : ¬t.val % 8 = 7) :
    Vec F S512x1024 .bf16 × Vec F S8x512x128 .f32 :=
  (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t), sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t))

/-- What case E leaves at a point, over what the point before left. -/
abbrev case_E (c : Dev nD) (t : Fin cfg0.N) (h0 : ¬t.val % 8 = 0) (h1 : ¬t.val % 8 + 1 ≤ t.val / 8 % 8) (h2 : t.val % 9 = 0) (h3 : ¬t.val % 8 = 7) (p : Vec F S512x1024 .bf16 × Vec F S8x512x128 .f32) :
    Vec F S512x1024 .bf16 × Vec F S8x512x128 .f32 :=
  (out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) p.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) p.2)

/-- What case F leaves at a point, over what the point before left. -/
abbrev case_F (c : Dev nD) (t : Fin cfg0.N) (h0 : ¬t.val % 8 = 0) (h1 : t.val % 8 + 1 ≤ t.val / 8 % 8) (h2 : ¬t.val % 9 = 0) (h3 : ¬t.val % 8 = 7) (p : Vec F S512x1024 .bf16 × Vec F S8x512x128 .f32) :
    Vec F S512x1024 .bf16 × Vec F S8x512x128 .f32 :=
  (out0_F_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) p.2, sout0_F_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) p.2)

/-- What case G leaves at a point, over what the point before left. -/
abbrev case_G (c : Dev nD) (t : Fin cfg0.N) (h0 : ¬t.val % 8 = 0) (h1 : ¬t.val % 8 + 1 ≤ t.val / 8 % 8) (h2 : t.val % 9 = 0) (h3 : t.val % 8 = 7) (p : Vec F S512x1024 .bf16 × Vec F S8x512x128 .f32) :
    Vec F S512x1024 .bf16 × Vec F S8x512x128 .f32 :=
  (out0_G_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) p.2, sout0_G_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) p.2)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .bf16 × Vec F S8x512x128 .f32
  | 0, hn => case_A m c ⟨0, hn⟩ (Nat.zero_mod _) (fun h => by (try dsimp only at h); omega) (Nat.zero_mod _) (fun h => by (try dsimp only at h); omega)
  | n + 1, hn =>
    if h0 : (n + 1) % 8 = 0 then
      if h1 : (n + 1) % 8 + 1 ≤ (n + 1) / 8 % 8 then
        if h2 : (n + 1) % 9 = 0 then
          False.elim (by have hN : n + 1 < 64 := lt_of_lt_of_eq hn (show cfg0.N = 64 from N_0); omega)
        else
          if h3 : (n + 1) % 8 = 7 then
            False.elim (by have hN : n + 1 < 64 := lt_of_lt_of_eq hn (show cfg0.N = 64 from N_0); omega)
          else
            case_D m c ⟨n + 1, hn⟩ h0 h1 h2 h3
      else
        if h2 : (n + 1) % 9 = 0 then
          if h3 : (n + 1) % 8 = 7 then
            False.elim (by have hN : n + 1 < 64 := lt_of_lt_of_eq hn (show cfg0.N = 64 from N_0); omega)
          else
            case_A m c ⟨n + 1, hn⟩ h0 h1 h2 h3
        else
          absurd (first_is_diagonal (n + 1) (lt_of_lt_of_eq hn (show cfg0.N = 64 from N_0)) h0 h1) h2
    else
      if h1 : (n + 1) % 8 + 1 ≤ (n + 1) / 8 % 8 then
        if h2 : (n + 1) % 9 = 0 then
          absurd h2 (below_is_not_diagonal (n + 1) (lt_of_lt_of_eq hn (show cfg0.N = 64 from N_0)) h1)
        else
          if h3 : (n + 1) % 8 = 7 then
            False.elim (by have hN : n + 1 < 64 := lt_of_lt_of_eq hn (show cfg0.N = 64 from N_0); omega)
          else
            case_F m c ⟨n + 1, hn⟩ h0 h1 h2 h3 (outsAt0 c n (Nat.lt_of_succ_lt hn))
      else
        if h2 : (n + 1) % 9 = 0 then
          if h3 : (n + 1) % 8 = 7 then
            case_G m c ⟨n + 1, hn⟩ h0 h1 h2 h3 (outsAt0 c n (Nat.lt_of_succ_lt hn))
          else
            case_E m c ⟨n + 1, hn⟩ h0 h1 h2 h3 (outsAt0 c n (Nat.lt_of_succ_lt hn))
        else
          if h3 : (n + 1) % 8 = 7 then
            case_C m c ⟨n + 1, hn⟩ h0 h1 h2 h3 (outsAt0 c n (Nat.lt_of_succ_lt hn))
          else
            case_B m c ⟨n + 1, hn⟩ h0 h1 h2 h3 (outsAt0 c n (Nat.lt_of_succ_lt hn))

/-- `outsAt0` at a point of case A: that case's contents. -/
theorem outsAt0_A (c : Dev nD) (t : Fin cfg0.N) (h0 : t.val % 8 = 0) (h1 : ¬t.val % 8 + 1 ≤ t.val / 8 % 8) (h2 : t.val % 9 = 0) (h3 : ¬t.val % 8 = 7) :
    outsAt0 m c t.val t.isLt = case_A m c t h0 h1 h2 h3 := by
  obtain ⟨n, hn⟩ := t
  cases n with
  | zero => exact rfl
  | succ n => exact (dif_pos h0).trans ((dif_neg h1).trans ((dif_pos h2).trans ((dif_neg h3).trans rfl)))

/-- `outsAt0` at a point of case B: that case's contents, over what the point before left. -/
theorem outsAt0_B (c : Dev nD) (t : Fin cfg0.N) (h0 : ¬t.val % 8 = 0) (h1 : ¬t.val % 8 + 1 ≤ t.val / 8 % 8) (h2 : ¬t.val % 9 = 0) (h3 : ¬t.val % 8 = 7) :
    outsAt0 m c t.val t.isLt = case_B m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans rfl)))

/-- `outsAt0` at a point of case C: that case's contents, over what the point before left. -/
theorem outsAt0_C (c : Dev nD) (t : Fin cfg0.N) (h0 : ¬t.val % 8 = 0) (h1 : ¬t.val % 8 + 1 ≤ t.val / 8 % 8) (h2 : ¬t.val % 9 = 0) (h3 : t.val % 8 = 7) :
    outsAt0 m c t.val t.isLt = case_C m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- `outsAt0` at a point of case D: that case's contents. -/
theorem outsAt0_D (c : Dev nD) (t : Fin cfg0.N) (h0 : t.val % 8 = 0) (h1 : t.val % 8 + 1 ≤ t.val / 8 % 8) (h2 : ¬t.val % 9 = 0) (h3 : ¬t.val % 8 = 7) :
    outsAt0 m c t.val t.isLt = case_D m c t h0 h1 h2 h3 := by
  obtain ⟨n, hn⟩ := t
  cases n with
  | zero => exact (by exfalso; (try dsimp only at h1); exact by omega)
  | succ n => exact (dif_pos h0).trans ((dif_pos h1).trans ((dif_neg h2).trans ((dif_neg h3).trans rfl)))

/-- `outsAt0` at a point of case E: that case's contents, over what the point before left. -/
theorem outsAt0_E (c : Dev nD) (t : Fin cfg0.N) (h0 : ¬t.val % 8 = 0) (h1 : ¬t.val % 8 + 1 ≤ t.val / 8 % 8) (h2 : t.val % 9 = 0) (h3 : ¬t.val % 8 = 7) :
    outsAt0 m c t.val t.isLt = case_E m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case F: that case's contents, over what the point before left. -/
theorem outsAt0_F (c : Dev nD) (t : Fin cfg0.N) (h0 : ¬t.val % 8 = 0) (h1 : t.val % 8 + 1 ≤ t.val / 8 % 8) (h2 : ¬t.val % 9 = 0) (h3 : ¬t.val % 8 = 7) :
    outsAt0 m c t.val t.isLt = case_F m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case G: that case's contents, over what the point before left. -/
theorem outsAt0_G (c : Dev nD) (t : Fin cfg0.N) (h0 : ¬t.val % 8 = 0) (h1 : ¬t.val % 8 + 1 ≤ t.val / 8 % 8) (h2 : t.val % 9 = 0) (h3 : t.val % 8 = 7) :
    outsAt0 m c t.val t.isLt = case_G m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 22400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 + 1 ≤ t.val / 8 % 8
    · by_cases h2 : t.val % 9 = 0
      · exfalso; omega
      · by_cases h3 : t.val % 8 = 7
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [Dat.leavesExact_idle (dats m 0 c) 6 t (idleAt0_6_D t ((hcond0_0 t).mpr h0) ((hcond0_1 t).mpr h1) (fun h => h2 ((hcond0_2 t).mp h)) (fun h => h3 ((hcond0_3 t).mp h))) (noFlush0_6_D t ((hcond0_0 t).mpr h0) ((hcond0_1 t).mpr h1) (fun h => h2 ((hcond0_2 t).mp h)) (fun h => h3 ((hcond0_3 t).mp h)))]
          by_cases hz : t.val = 0
          · exfalso; have hN : t.val < 64 := lt_of_lt_of_eq t.isLt (show cfg0.N = 64 from N_0); omega
          · rw [PhiS_castSucc m c t, PhiS_pos m c _ _ hz]
            rw [outsAt0_D m c t h0 h1 h2 h3, case_D]
            unfold sout0_D_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_D c (grid0.coords t) _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [HS0]; · iexists _; iexact HS0
            iintro ⟨H0, H1, H2, H3, H4, H5, H6, ⟨%es0, HS0⟩⟩
            isplitl [HS0 Hg]
            · isplitl [HS0]
              · unfold owns; iexists _; isplitr
                swap; · iexact HS0
                ipureintro; exact View.read_writes_of_cover _ _ _ _ _ (scover0_D_0 c _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            iexists _; iexact H6
    · by_cases h2 : t.val % 9 = 0
      · by_cases h3 : t.val % 8 = 7
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [Dat.leavesExact_idle (dats m 0 c) 6 t (idleAt0_6_A t ((hcond0_0 t).mpr h0) (fun h => h1 ((hcond0_1 t).mp h)) ((hcond0_2 t).mpr h2) (fun h => h3 ((hcond0_3 t).mp h))) (noFlush0_6_A t ((hcond0_0 t).mpr h0) (fun h => h1 ((hcond0_1 t).mp h)) ((hcond0_2 t).mpr h2) (fun h => h3 ((hcond0_3 t).mp h)))]
          by_cases hz : t.val = 0
          · rw [PhiS_castSucc m c t, PhiS_zero m c _ _ hz, PhiA0_eq]
            rw [outsAt0_A m c t h0 h1 h2 h3, case_A]
            unfold sout0_A_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_A c (grid0.coords t) _ _ _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t)).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [HS0]; · iexact HS0
            iintro ⟨H0, H1, H2, H3, H4, H5, H6, ⟨%es0, HS0⟩⟩
            isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            iexists _; iexact H6
          · exfalso; have hN : t.val < 64 := lt_of_lt_of_eq t.isLt (show cfg0.N = 64 from N_0); omega
      · exact absurd (first_is_diagonal t.val hN h0 h1) h2
  · by_cases h1 : t.val % 8 + 1 ≤ t.val / 8 % 8
    · by_cases h2 : t.val % 9 = 0
      · exact absurd h2 (below_is_not_diagonal t.val hN h1)
      · by_cases h3 : t.val % 8 = 7
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [Dat.leavesExact_idle (dats m 0 c) 6 t (idleAt0_6_F t (fun h => h0 ((hcond0_0 t).mp h)) ((hcond0_1 t).mpr h1) (fun h => h2 ((hcond0_2 t).mp h)) (fun h => h3 ((hcond0_3 t).mp h))) (noFlush0_6_F t (fun h => h0 ((hcond0_0 t).mp h)) ((hcond0_1 t).mpr h1) (fun h => h2 ((hcond0_2 t).mp h)) (fun h => h3 ((hcond0_3 t).mp h)))]
          by_cases hz : t.val = 0
          · exfalso; have hN : t.val < 64 := lt_of_lt_of_eq t.isLt (show cfg0.N = 64 from N_0); omega
          · rw [PhiS_castSucc m c t, PhiS_pos m c _ _ hz]
            rw [outsAt0_F m c t h0 h1 h2 h3, case_F]
            unfold sout0_F_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_F c (grid0.coords t) _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) _).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [HS0]; · iexact HS0
            iintro ⟨H0, H1, H2, H3, H4, H5, H6, ⟨%es0, HS0⟩⟩
            isplitl [HS0 Hg]
            · isplitl [HS0]
              · unfold owns; iexists _; isplitr
                swap; · iexact HS0
                ipureintro; exact View.read_writes_of_cover _ _ _ _ _ (scover0_F_0 c _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            iexists _; iexact H6
    · by_cases h2 : t.val % 9 = 0
      · by_cases h3 : t.val % 8 = 7
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_G t (fun h => h0 ((hcond0_0 t).mp h)) (fun h => h1 ((hcond0_1 t).mp h)) ((hcond0_2 t).mpr h2) ((hcond0_3 t).mpr h3)], after0_6]
          by_cases hz : t.val = 0
          · exfalso; have hN : t.val < 64 := lt_of_lt_of_eq t.isLt (show cfg0.N = 64 from N_0); omega
          · rw [PhiS_castSucc m c t, PhiS_pos m c _ _ hz]
            rw [outsAt0_G m c t h0 h1 h2 h3, case_G]
            unfold out0_G_6 sout0_G_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_G c (grid0.coords t) _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) _).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            iintro ⟨H0, H1, H2, H3, H4, H5, ⟨%e6, H6⟩, ⟨%es0, HS0⟩⟩
            isplitl [HS0 Hg]
            · isplitl [HS0]
              · unfold owns; iexists _; isplitr
                swap; · iexact HS0
                ipureintro; exact View.read_writes_of_cover _ _ _ _ _ (scover0_G_0 c _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            unfold owns; iexists _; isplitr
            swap; · iexact H6
            ipureintro; exact View.read_writes_of_cover _ _ _ _ _ (cover0_G_6 c _ _ _ _ _ _ _ _ _ _ _ _ _ _ _ _ _ _ _ _ _ _ _ _ _ _ _ _)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [Dat.leavesExact_idle (dats m 0 c) 6 t (idleAt0_6_E t (fun h => h0 ((hcond0_0 t).mp h)) (fun h => h1 ((hcond0_1 t).mp h)) ((hcond0_2 t).mpr h2) (fun h => h3 ((hcond0_3 t).mp h))) (noFlush0_6_E t (fun h => h0 ((hcond0_0 t).mp h)) (fun h => h1 ((hcond0_1 t).mp h)) ((hcond0_2 t).mpr h2) (fun h => h3 ((hcond0_3 t).mp h)))]
          by_cases hz : t.val = 0
          · exfalso; have hN : t.val < 64 := lt_of_lt_of_eq t.isLt (show cfg0.N = 64 from N_0); omega
          · rw [PhiS_castSucc m c t, PhiS_pos m c _ _ hz]
            rw [outsAt0_E m c t h0 h1 h2 h3, case_E]
            unfold sout0_E_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_E c (grid0.coords t) _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) _).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [HS0]; · iexact HS0
            iintro ⟨H0, H1, H2, H3, H4, H5, H6, ⟨%es0, HS0⟩⟩
            isplitl [HS0 Hg]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            iexists _; iexact H6
      · by_cases h3 : t.val % 8 = 7
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) (fun h => h2 ((hcond0_2 t).mp h)) ((hcond0_3 t).mpr h3)], after0_6]
          by_cases hz : t.val = 0
          · exfalso; have hN : t.val < 64 := lt_of_lt_of_eq t.isLt (show cfg0.N = 64 from N_0); omega
          · rw [PhiS_castSucc m c t, PhiS_pos m c _ _ hz]
            rw [outsAt0_C m c t h0 h1 h2 h3, case_C]
            unfold out0_C_6 sout0_C_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_C c (grid0.coords t) _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) _).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            iintro ⟨H0, H1, H2, H3, H4, H5, ⟨%e6, H6⟩, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            unfold owns; iexists _; isplitr
            swap; · iexact H6
            ipureintro; exact View.read_writes_of_cover _ _ _ _ _ (cover0_C_6 c _ _ _ _ _ _ _ _ _ _ _ _ _ _ _ _ _ _ _ _ _ _ _ _ _ _ _ _)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [Dat.leavesExact_idle (dats m 0 c) 6 t (idleAt0_6_B t (fun h => h0 ((hcond0_0 t).mp h)) (fun h => h1 ((hcond0_1 t).mp h)) (fun h => h2 ((hcond0_2 t).mp h)) (fun h => h3 ((hcond0_3 t).mp h))) (noFlush0_6_B t (fun h => h0 ((hcond0_0 t).mp h)) (fun h => h1 ((hcond0_1 t).mp h)) (fun h => h2 ((hcond0_2 t).mp h)) (fun h => h3 ((hcond0_3 t).mp h)))]
          by_cases hz : t.val = 0
          · exfalso; have hN : t.val < 64 := lt_of_lt_of_eq t.isLt (show cfg0.N = 64 from N_0); omega
          · rw [PhiS_castSucc m c t, PhiS_pos m c _ _ hz]
            rw [outsAt0_B m c t h0 h1 h2 h3, case_B]
            unfold sout0_B_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_B c (grid0.coords t) _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) _).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [HS0]; · iexact HS0
            iintro ⟨H0, H1, H2, H3, H4, H5, H6, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Dq

end
-- ==== Proof.DqClaims.lean ====
/-
  The frames of the kernel of the queries' gradient and the values of the three constants that its idealization names.

  The printed kernel and its idealization differ only in that the latter gives names to three constants. With float
  words for floats and each name standing for its own word they are one program, so the kernel's frame is the
  idealization's frame over float words.
-/
module

public import proofs.«01_k».proof.Defs
public import proofs.«01_k».proof.Proof.Gen.Kernel
public import proofs.«01_k».proof.Proof.DqFrame
public import proofs.«01_k».proof.Proof.Gen.ReferenceIdeal
public import proofs.«01_k».proof.Proof.Gen.ReferenceIdeal.Run
public import proofs.«01_k».proof.Proof.Gen.Pre_finite
public import Idealize.ShloMosaic.Lib.Claim

@[expose] public section

noncomputable section

namespace Cert.DqClaims

open Idealize.ShloMosaic Idealize.ShloMosaic.Tactic Idealize.SL.Sem

/-- Float words, each named constant being the word that it is printed with. -/
@[reducible] def namedBits : Named Bits where
  named _ _ {φ} b := FloatOps.ofBits φ b

attribute [local instance] namedBits

set_option maxRecDepth 100000 in
theorem main_eq : Cert.Kernel.main (F := Bits) = Cert.KernelIdeal.main (F := Bits) := by sl_kernel_rfl

set_option maxRecDepth 100000 in
theorem defs_eq : Cert.Kernel.defs (F := Bits) = Cert.KernelIdeal.defs (F := Bits) := by sl_kernel_rfl

/-- The kernel's frame. -/
theorem frame_kernel : Cert.quiescent_Kernel := fun m ρ _ => by
  have h := @Cert.KernelIdeal.Dq.frame Bits _ namedBits m ρ
  rw [← main_eq, ← defs_eq] at h
  exact h

/-- The frame of the kernel over the extended reals. -/
theorem frame_ideal : Cert.quiescent_KernelIdeal := fun m ρ _ => Cert.KernelIdeal.Dq.frame (F := Ideal) m ρ

theorem frame_ideal_finite : Cert.quiescent_KernelIdeal_pre_finite := fun m ρ _ => Cert.KernelIdeal.Dq.frame (F := Ideal) m ρ

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite := fun m ρ _ =>
  frame_reference m ρ trivial

/-- The three named constants. -/
theorem preserves : Cert.preserves_Kernel_KernelIdeal :=
  ⟨IdealRules.named_const.statement Cert.KernelIdeal.κ "inv_scale" .f32 0x411CC471#32 _ rfl,
    IdealRules.named_const.statement Cert.KernelIdeal.κ "scale_log2e" .f32 0x3E16C740#32 _ rfl,
    IdealRules.named_const.statement Cert.KernelIdeal.κ "scale" .f32 0x3DD105EC#32 _ rfl⟩

end Cert.DqClaims

end
-- ==== Proof.DkvOuts.lean ====
/-
  The kernel of the gradients of keys and values, over any float values: what each case of its body leaves in the two
  output blocks and in the two accumulators, and the contents point by point (`outsAt0`). The texts of the cases follow
  the ones generated for this kernel.
-/
module

public import proofs.«01_k».proof.Proof.Gen.Kernel2Ideal.Frame.RunG
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Dkv

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Of the four conditions on a point (first query block, query block after the key block, on the diagonal, last query
    block), these assignments are met by no point of the grid. -/
theorem no_such_point : ∀ k, k < 64 →
    ¬((k % 8 = 0 ∧ k / 8 % 8 + 1 ≤ k % 8) ∨ (k / 8 % 8 + 1 ≤ k % 8 ∧ k % 9 = 0) ∨
      (¬k / 8 % 8 + 1 ≤ k % 8 ∧ ¬k % 9 = 0 ∧ k % 8 = 7) ∨ (k % 8 = 0 ∧ k % 8 = 7)) := by decide

section body

variable (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1024 .bf16) (harg8 : arg8.IsWhole) (arg9 : Memref sig .tc .vmem S512x512 .bf16) (harg9 : arg9.IsWhole) (arg10 : Memref sig .tc .vmem S8x512x128 .f32) (harg10 : arg10.IsWhole) (arg11 : Memref sig .tc .vmem S4x512x128 .f32) (harg11 : arg11.IsWhole)

/-- Case A stores nothing into output 6 (the window is idle at its points and not written back there):
    no pieces — a placeholder (junk read back) that nothing consults, since at these points the window is neither
    written back nor read at the next point (Lib/Pipeline.lean "Idle points"). -/
def out0_A_6 (hc0 : cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) : Vec F S512x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 hc2 hc3 x0 x1 x2 x3 x4 x5).1)

/-- Case A stores nothing into output 7 (the window is idle at its points and not written back there):
    no pieces — a placeholder (junk read back) that nothing consults, since at these points the window is neither
    written back nor read at the next point (Lib/Pipeline.lean "Idle points"). -/
def out0_A_7 (hc0 : cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) : Vec F S512x512 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 hc2 hc3 x0 x1 x2 x3 x4 x5).2.1)

/-- Case A's pieces for scratch `arg10`, which the kernel carries between points, cover it: one of them a store of the WHOLE buffer (Lib/Ring.lean `sl_whole_mem`). -/
theorem scover0_A_0 (hc0 : cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (y : S8x512x128.Idx) :
    ∃ pc ∈ (kernelRun0_A c i arg2 harg2 arg3 harg3 arg4 harg4 arg5 harg5 arg6 harg6 arg7 harg7 arg8 harg8 arg9 harg9 arg10 harg10 arg11 harg11 hc0 hc1 hc2 hc3 x0 x1 x2 x3 x4 x5).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 hc2 hc3 x0 x1 x2 x3 x4 x5).2.2.1 (by sl_whole_mem) y

/-- What case A leaves in scratch `arg10`: its pieces read back over junk. -/
def sout0_A_0 (hc0 : cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) : Vec F S8x512x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 hc2 hc3 x0 x1 x2 x3 x4 x5).2.2.1)

/-- Case A's pieces for scratch `arg11`, which the kernel carries between points, cover it: one of them a store of the WHOLE buffer (Lib/Ring.lean `sl_whole_mem`). -/
theorem scover0_A_1 (hc0 : cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (y : S4x512x128.Idx) :
    ∃ pc ∈ (kernelRun0_A c i arg2 harg2 arg3 harg3 arg4 harg4 arg5 harg5 arg6 harg6 arg7 harg7 arg8 harg8 arg9 harg9 arg10 harg10 arg11 harg11 hc0 hc1 hc2 hc3 x0 x1 x2 x3 x4 x5).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 hc2 hc3 x0 x1 x2 x3 x4 x5).2.2.2.1 (by sl_whole_mem) y

/-- What case A leaves in scratch `arg11`: its pieces read back over junk. -/
def sout0_A_1 (hc0 : cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) : Vec F S4x512x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 hc2 hc3 x0 x1 x2 x3 x4 x5).2.2.2.1)

/-- Case B stores nothing into output 6 (the window is idle at its points and not written back there):
    no pieces — a placeholder (junk read back) that nothing consults, since at these points the window is neither
    written back nor read at the next point (Lib/Pipeline.lean "Idle points"). -/
def out0_B_6 (hc0 : ¬cond0_0 i) (hc1 : cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S512x1024 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 xs0 xs1).1)

/-- Case B stores nothing into output 7 (the window is idle at its points and not written back there):
    no pieces — a placeholder (junk read back) that nothing consults, since at these points the window is neither
    written back nor read at the next point (Lib/Pipeline.lean "Idle points"). -/
def out0_B_7 (hc0 : ¬cond0_0 i) (hc1 : cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S512x512 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.1)

/-- Case B's pieces for scratch `arg10`, which the kernel carries between points, cover it: 8 pieces of `S1x512x128` tiling it (Lib/Ring.lean `Piece.tiledL`). -/
theorem scover0_B_0 (hc0 : ¬cond0_0 i) (hc1 : cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) (y : S8x512x128.Idx) :
    ∃ pc ∈ (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.1 S1x512x128.size (by sl_kernel_rfl) y

/-- What case B leaves in scratch `arg10`: its pieces read back over junk. -/
def sout0_B_0 (hc0 : ¬cond0_0 i) (hc1 : cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S8x512x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.1)

/-- Case B's pieces for scratch `arg11`, which the kernel carries between points, cover it: 4 pieces of `S1x512x128` tiling it (Lib/Ring.lean `Piece.tiledL`). -/
theorem scover0_B_1 (hc0 : ¬cond0_0 i) (hc1 : cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) (y : S4x512x128.Idx) :
    ∃ pc ∈ (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.2.1 S1x512x128.size (by sl_kernel_rfl) y

/-- What case B leaves in scratch `arg11`: its pieces read back over junk. -/
def sout0_B_1 (hc0 : ¬cond0_0 i) (hc1 : cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S4x512x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.2.1)

/-- Case C's pieces for output 6 tile its block (8 stores of `S512x128`, checked by the kernel's evaluation: Lib/Ring.lean `Piece.tiledL`, linear in the pieces, through a loop's `@[irreducible]` trip theorem too), so they cover it. -/
theorem cover0_C_6 (hc0 : ¬cond0_0 i) (hc1 : cond0_1 i) (hc2 : ¬cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) (y : S512x1024.Idx) :
    ∃ pc ∈ (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 xs0 xs1).1 S512x128.size (by sl_kernel_rfl) y

/-- What case C leaves in output 6's staging buffer: its pieces read back over junk. -/
def out0_C_6 (hc0 : ¬cond0_0 i) (hc1 : cond0_1 i) (hc2 : ¬cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S512x1024 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 xs0 xs1).1)

/-- Case C's pieces for output 7 tile its block (4 stores of `S512x128`, checked by the kernel's evaluation: Lib/Ring.lean `Piece.tiledL`, linear in the pieces, through a loop's `@[irreducible]` trip theorem too), so they cover it. -/
theorem cover0_C_7 (hc0 : ¬cond0_0 i) (hc1 : cond0_1 i) (hc2 : ¬cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) (y : S512x512.Idx) :
    ∃ pc ∈ (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.1 S512x128.size (by sl_kernel_rfl) y

/-- What case C leaves in output 7's staging buffer: its pieces read back over junk. -/
def out0_C_7 (hc0 : ¬cond0_0 i) (hc1 : cond0_1 i) (hc2 : ¬cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S512x512 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.1)

/-- Case C's pieces for scratch `arg10`, which the kernel carries between points, cover it: 8 pieces of `S1x512x128` tiling it (Lib/Ring.lean `Piece.tiledL`). -/
theorem scover0_C_0 (hc0 : ¬cond0_0 i) (hc1 : cond0_1 i) (hc2 : ¬cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) (y : S8x512x128.Idx) :
    ∃ pc ∈ (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.1 S1x512x128.size (by sl_kernel_rfl) y

/-- What case C leaves in scratch `arg10`: its pieces read back over junk. -/
def sout0_C_0 (hc0 : ¬cond0_0 i) (hc1 : cond0_1 i) (hc2 : ¬cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S8x512x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.1)

/-- Case C's pieces for scratch `arg11`, which the kernel carries between points, cover it: 4 pieces of `S1x512x128` tiling it (Lib/Ring.lean `Piece.tiledL`). -/
theorem scover0_C_1 (hc0 : ¬cond0_0 i) (hc1 : cond0_1 i) (hc2 : ¬cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) (y : S4x512x128.Idx) :
    ∃ pc ∈ (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.2.1 S1x512x128.size (by sl_kernel_rfl) y

/-- What case C leaves in scratch `arg11`: its pieces read back over junk. -/
def sout0_C_1 (hc0 : ¬cond0_0 i) (hc1 : cond0_1 i) (hc2 : ¬cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S4x512x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.2.1)

/-- Case D stores nothing into output 6 (the window is idle at its points and not written back there):
    no pieces — a placeholder (junk read back) that nothing consults, since at these points the window is neither
    written back nor read at the next point (Lib/Pipeline.lean "Idle points"). -/
def out0_D_6 (hc0 : cond0_0 i) (hc1 : ¬cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) : Vec F S512x1024 .bf16 :=
  VO0_6.read (Elt F) (VO0_6.writes (Elt F) VO0_6.junk (kernelRun0_D c i arg2 harg2 arg3 harg3 arg4 harg4 arg5 harg5 arg6 harg6 arg7 harg7 arg8 harg8 arg9 harg9 arg10 harg10 arg11 harg11 hc0 hc1 hc2 hc3 x0 x1 x2 x3 x4 x5).1)

/-- Case D stores nothing into output 7 (the window is idle at its points and not written back there):
    no pieces — a placeholder (junk read back) that nothing consults, since at these points the window is neither
    written back nor read at the next point (Lib/Pipeline.lean "Idle points"). -/
def out0_D_7 (hc0 : cond0_0 i) (hc1 : ¬cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) : Vec F S512x512 .bf16 :=
  VO0_7.read (Elt F) (VO0_7.writes (Elt F) VO0_7.junk (kernelRun0_D c i arg2 harg2 arg3 harg3 arg4 harg4 arg5 harg5 arg6 harg6 arg7 harg7 arg8 harg8 arg9 harg9 arg10 harg10 arg11 harg11 hc0 hc1 hc2 hc3 x0 x1 x2 x3 x4 x5).2.1)

/-- Case D's pieces for scratch `arg10`, which the kernel carries between points, cover it: 1 piece of `S8x512x128` tiling it (Lib/Ring.lean `Piece.tiledL`). -/
theorem scover0_D_0 (hc0 : cond0_0 i) (hc1 : ¬cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (y : S8x512x128.Idx) :
    ∃ pc ∈ (kernelRun0_D c i arg2 harg2 arg3 harg3 arg4 harg4 arg5 harg5 arg6 harg6 arg7 harg7 arg8 harg8 arg9 harg9 arg10 harg10 arg11 harg11 hc0 hc1 hc2 hc3 x0 x1 x2 x3 x4 x5).2.2.1, y ∈ pc.1.set :=
  View.cover_of_tiledL (kernelRun0_D c i arg2 harg2 arg3 harg3 arg4 harg4 arg5 harg5 arg6 harg6 arg7 harg7 arg8 harg8 arg9 harg9 arg10 harg10 arg11 harg11 hc0 hc1 hc2 hc3 x0 x1 x2 x3 x4 x5).2.2.1 S8x512x128.size (by sl_kernel_rfl) y

/-- What case D leaves in scratch `arg10`: its pieces read back over junk. -/
def sout0_D_0 (hc0 : cond0_0 i) (hc1 : ¬cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) : Vec F S8x512x128 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 hc0 hc1 hc2 hc3 x0 x1 x2 x3 x4 x5).2.2.1)

/-- Case D's pieces for scratch `arg11`, which the kernel carries between points, cover it: 1 piece of `S4x512x128` tiling it (Lib/Ring.lean `Piece.tiledL`). -/
theorem scover0_D_1 (hc0 : cond0_0 i) (hc1 : ¬cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (y : S4x512x128.Idx) :
    ∃ pc ∈ (kernelRun0_D c i arg2 harg2 arg3 harg3 arg4 harg4 arg5 harg5 arg6 harg6 arg7 harg7 arg8 harg8 arg9 harg9 arg10 harg10 arg11 harg11 hc0 hc1 hc2 hc3 x0 x1 x2 x3 x4 x5).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 hc0 hc1 hc2 hc3 x0 x1 x2 x3 x4 x5).2.2.2.1 S4x512x128.size (by sl_kernel_rfl) y

/-- What case D leaves in scratch `arg11`: its pieces read back over junk. -/
def sout0_D_1 (hc0 : cond0_0 i) (hc1 : ¬cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) : Vec F S4x512x128 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 hc0 hc1 hc2 hc3 x0 x1 x2 x3 x4 x5).2.2.2.1)

/-- Case E stores nothing into output 6 (the window is idle at its points and not written back there):
    no pieces — a placeholder (junk read back) that nothing consults, since at these points the window is neither
    written back nor read at the next point (Lib/Pipeline.lean "Idle points"). -/
def out0_E_6 (hc0 : ¬cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S512x1024 .bf16 :=
  VO0_6.read (Elt F) (VO0_6.writes (Elt F) VO0_6.junk (kernelRun0_E c i arg2 harg2 arg3 harg3 arg4 harg4 arg5 harg5 arg6 harg6 arg7 harg7 arg8 harg8 arg9 harg9 arg10 harg10 arg11 harg11 hc0 hc1 hc2 hc3 x0 x1 x2 x3 x4 x5 xs0 xs1).1)

/-- Case E stores nothing into output 7 (the window is idle at its points and not written back there):
    no pieces — a placeholder (junk read back) that nothing consults, since at these points the window is neither
    written back nor read at the next point (Lib/Pipeline.lean "Idle points"). -/
def out0_E_7 (hc0 : ¬cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S512x512 .bf16 :=
  VO0_7.read (Elt F) (VO0_7.writes (Elt F) VO0_7.junk (kernelRun0_E c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.1)

/-- Case E's pieces for scratch `arg10`, which the kernel carries between points, cover it: 8 pieces of `S1x512x128` tiling it (Lib/Ring.lean `Piece.tiledL`). -/
theorem scover0_E_0 (hc0 : ¬cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) (y : S8x512x128.Idx) :
    ∃ pc ∈ (kernelRun0_E c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.1, y ∈ pc.1.set :=
  View.cover_of_tiledL (kernelRun0_E c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.1 S1x512x128.size (by sl_kernel_rfl) y

/-- What case E leaves in scratch `arg10`: its pieces read back over junk. -/
def sout0_E_0 (hc0 : ¬cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S8x512x128 .f32 :=
  VS0_0.read (Elt F) (VS0_0.writes (Elt F) VS0_0.junk (kernelRun0_E c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.1)

/-- Case E's pieces for scratch `arg11`, which the kernel carries between points, cover it: 4 pieces of `S1x512x128` tiling it (Lib/Ring.lean `Piece.tiledL`). -/
theorem scover0_E_1 (hc0 : ¬cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) (y : S4x512x128.Idx) :
    ∃ pc ∈ (kernelRun0_E c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.2.1, y ∈ pc.1.set :=
  View.cover_of_tiledL (kernelRun0_E c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.2.1 S1x512x128.size (by sl_kernel_rfl) y

/-- What case E leaves in scratch `arg11`: its pieces read back over junk. -/
def sout0_E_1 (hc0 : ¬cond0_0 i) (hc1 : ¬cond0_1 i) (hc2 : cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S4x512x128 .f32 :=
  VS0_1.read (Elt F) (VS0_1.writes (Elt F) VS0_1.junk (kernelRun0_E c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.2.1)

/-- Case F stores nothing into output 6 (the window is idle at its points and not written back there):
    no pieces — a placeholder (junk read back) that nothing consults, since at these points the window is neither
    written back nor read at the next point (Lib/Pipeline.lean "Idle points"). -/
def out0_F_6 (hc0 : ¬cond0_0 i) (hc1 : ¬cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S512x1024 .bf16 :=
  VO0_6.read (Elt F) (VO0_6.writes (Elt F) VO0_6.junk (kernelRun0_F c i arg2 harg2 arg3 harg3 arg4 harg4 arg5 harg5 arg6 harg6 arg7 harg7 arg8 harg8 arg9 harg9 arg10 harg10 arg11 harg11 hc0 hc1 hc2 hc3 x0 x1 x2 x3 x4 x5 xs0 xs1).1)

/-- Case F stores nothing into output 7 (the window is idle at its points and not written back there):
    no pieces — a placeholder (junk read back) that nothing consults, since at these points the window is neither
    written back nor read at the next point (Lib/Pipeline.lean "Idle points"). -/
def out0_F_7 (hc0 : ¬cond0_0 i) (hc1 : ¬cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S512x512 .bf16 :=
  VO0_7.read (Elt F) (VO0_7.writes (Elt F) VO0_7.junk (kernelRun0_F c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.1)

/-- Case F stores nothing into scratch `arg10`: it holds what the point before left. -/
def sout0_F_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1024 .bf16) (harg8 : arg8.IsWhole) (arg9 : Memref sig .tc .vmem S512x512 .bf16) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S8x512x128 .f32 := xs0

/-- Case F stores nothing into scratch `arg11`: it holds what the point before left. -/
def sout0_F_1 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1024 .bf16) (harg8 : arg8.IsWhole) (arg9 : Memref sig .tc .vmem S512x512 .bf16) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : ¬cond0_2 i) (hc3 : ¬cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S4x512x128 .f32 := xs1

/-- Case G's pieces for output 6 tile its block (8 stores of `S512x128`, checked by the kernel's evaluation: Lib/Ring.lean `Piece.tiledL`, linear in the pieces, through a loop's `@[irreducible]` trip theorem too), so they cover it. -/
theorem cover0_G_6 (hc0 : ¬cond0_0 i) (hc1 : ¬cond0_1 i) (hc2 : cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) (y : S512x1024.Idx) :
    ∃ pc ∈ (kernelRun0_G c i arg2 harg2 arg3 harg3 arg4 harg4 arg5 harg5 arg6 harg6 arg7 harg7 arg8 harg8 arg9 harg9 arg10 harg10 arg11 harg11 hc0 hc1 hc2 hc3 x0 x1 x2 x3 x4 x5 xs0 xs1).1, y ∈ pc.1.set :=
  View.cover_of_tiledL (kernelRun0_G c i arg2 harg2 arg3 harg3 arg4 harg4 arg5 harg5 arg6 harg6 arg7 harg7 arg8 harg8 arg9 harg9 arg10 harg10 arg11 harg11 hc0 hc1 hc2 hc3 x0 x1 x2 x3 x4 x5 xs0 xs1).1 S512x128.size (by sl_kernel_rfl) y

/-- What case G leaves in output 6's staging buffer: its pieces read back over junk. -/
def out0_G_6 (hc0 : ¬cond0_0 i) (hc1 : ¬cond0_1 i) (hc2 : cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S512x1024 .bf16 :=
  VO0_6.read (Elt F) (VO0_6.writes (Elt F) VO0_6.junk (kernelRun0_G c i arg2 harg2 arg3 harg3 arg4 harg4 arg5 harg5 arg6 harg6 arg7 harg7 arg8 harg8 arg9 harg9 arg10 harg10 arg11 harg11 hc0 hc1 hc2 hc3 x0 x1 x2 x3 x4 x5 xs0 xs1).1)

/-- Case G's pieces for output 7 tile its block (4 stores of `S512x128`, checked by the kernel's evaluation: Lib/Ring.lean `Piece.tiledL`, linear in the pieces, through a loop's `@[irreducible]` trip theorem too), so they cover it. -/
theorem cover0_G_7 (hc0 : ¬cond0_0 i) (hc1 : ¬cond0_1 i) (hc2 : cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) (y : S512x512.Idx) :
    ∃ pc ∈ (kernelRun0_G c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.1, y ∈ pc.1.set :=
  View.cover_of_tiledL (kernelRun0_G c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.1 S512x128.size (by sl_kernel_rfl) y

/-- What case G leaves in output 7's staging buffer: its pieces read back over junk. -/
def out0_G_7 (hc0 : ¬cond0_0 i) (hc1 : ¬cond0_1 i) (hc2 : cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S512x512 .bf16 :=
  VO0_7.read (Elt F) (VO0_7.writes (Elt F) VO0_7.junk (kernelRun0_G c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.1)

/-- Case G's pieces for scratch `arg10`, which the kernel carries between points, cover it: 8 pieces of `S1x512x128` tiling it (Lib/Ring.lean `Piece.tiledL`). -/
theorem scover0_G_0 (hc0 : ¬cond0_0 i) (hc1 : ¬cond0_1 i) (hc2 : cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) (y : S8x512x128.Idx) :
    ∃ pc ∈ (kernelRun0_G c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.1, y ∈ pc.1.set :=
  View.cover_of_tiledL (kernelRun0_G c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.1 S1x512x128.size (by sl_kernel_rfl) y

/-- What case G leaves in scratch `arg10`: its pieces read back over junk. -/
def sout0_G_0 (hc0 : ¬cond0_0 i) (hc1 : ¬cond0_1 i) (hc2 : cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S8x512x128 .f32 :=
  VS0_0.read (Elt F) (VS0_0.writes (Elt F) VS0_0.junk (kernelRun0_G c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.1)

/-- Case G's pieces for scratch `arg11`, which the kernel carries between points, cover it: 4 pieces of `S1x512x128` tiling it (Lib/Ring.lean `Piece.tiledL`). -/
theorem scover0_G_1 (hc0 : ¬cond0_0 i) (hc1 : ¬cond0_1 i) (hc2 : cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) (y : S4x512x128.Idx) :
    ∃ pc ∈ (kernelRun0_G c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.2.1, y ∈ pc.1.set :=
  View.cover_of_tiledL (kernelRun0_G c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.2.1 S1x512x128.size (by sl_kernel_rfl) y

/-- What case G leaves in scratch `arg11`: its pieces read back over junk. -/
def sout0_G_1 (hc0 : ¬cond0_0 i) (hc1 : ¬cond0_1 i) (hc2 : cond0_2 i) (hc3 : cond0_3 i)
    (x0 : Vec F S512x1024 .bf16) (x1 : Vec F S512x1024 .bf16) (x2 : Vec F S512x512 .bf16) (x3 : Vec F S512x512 .f32) (x4 : Vec F S512x512 .f32) (x5 : Vec F S512x512 .f32) (xs0 : Vec F S8x512x128 .f32) (xs1 : Vec F S4x512x128 .f32) : Vec F S4x512x128 .f32 :=
  VS0_1.read (Elt F) (VS0_1.writes (Elt F) VS0_1.junk (kernelRun0_G c i arg2 harg2 arg3 harg3 arg4 harg4 arg5 harg5 arg6 harg6 arg7 harg7 arg8 harg8 arg9 harg9 arg10 harg10 arg11 harg11 hc0 hc1 hc2 hc3 x0 x1 x2 x3 x4 x5 xs0 xs1).2.2.2.1)

end body

/-! ## What the outputs hold after each point -/

/-- What case A leaves at a point. -/
abbrev case_A (c : Dev nD) (t : Fin cfg0.N) (h0 : t.val % 8 = 0) (h1 : ¬t.val / 8 % 8 + 1 ≤ t.val % 8) (h2 : t.val % 9 = 0) (h3 : ¬t.val % 8 = 7) :
    Vec F S512x1024 .bf16 × Vec F S512x512 .bf16 × Vec F S8x512x128 .f32 × Vec F S4x512x128 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t))

/-- What case B leaves at a point, over what the point before left. -/
abbrev case_B (c : Dev nD) (t : Fin cfg0.N) (h0 : ¬t.val % 8 = 0) (h1 : t.val / 8 % 8 + 1 ≤ t.val % 8) (h2 : ¬t.val % 9 = 0) (h3 : ¬t.val % 8 = 7) (p : Vec F S512x1024 .bf16 × Vec F S512x512 .bf16 × Vec F S8x512x128 .f32 × Vec F S4x512x128 .f32) :
    Vec F S512x1024 .bf16 × Vec F S512x512 .bf16 × Vec F S8x512x128 .f32 × Vec F S4x512x128 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) p.2.2.1 p.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) p.2.2.1 p.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) p.2.2.1 p.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) p.2.2.1 p.2.2.2)

/-- What case C leaves at a point, over what the point before left. -/
abbrev case_C (c : Dev nD) (t : Fin cfg0.N) (h0 : ¬t.val % 8 = 0) (h1 : t.val / 8 % 8 + 1 ≤ t.val % 8) (h2 : ¬t.val % 9 = 0) (h3 : t.val % 8 = 7) (p : Vec F S512x1024 .bf16 × Vec F S512x512 .bf16 × Vec F S8x512x128 .f32 × Vec F S4x512x128 .f32) :
    Vec F S512x1024 .bf16 × Vec F S512x512 .bf16 × Vec F S8x512x128 .f32 × Vec F S4x512x128 .f32 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) p.2.2.1 p.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) p.2.2.1 p.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) p.2.2.1 p.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) p.2.2.1 p.2.2.2)

/-- What case D leaves at a point. -/
abbrev case_D (c : Dev nD) (t : Fin cfg0.N) (h0 : t.val % 8 = 0) (h1 : ¬t.val / 8 % 8 + 1 ≤ t.val % 8) (h2 : ¬t.val % 9 = 0) (h3 : ¬t.val % 8 = 7) :
    Vec F S512x1024 .bf16 × Vec F S512x512 .bf16 × Vec F S8x512x128 .f32 × Vec F S4x512x128 .f32 :=
  (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t), out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t), sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t), sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t))

/-- What case E leaves at a point, over what the point before left. -/
abbrev case_E (c : Dev nD) (t : Fin cfg0.N) (h0 : ¬t.val % 8 = 0) (h1 : ¬t.val / 8 % 8 + 1 ≤ t.val % 8) (h2 : t.val % 9 = 0) (h3 : ¬t.val % 8 = 7) (p : Vec F S512x1024 .bf16 × Vec F S512x512 .bf16 × Vec F S8x512x128 .f32 × Vec F S4x512x128 .f32) :
    Vec F S512x1024 .bf16 × Vec F S512x512 .bf16 × Vec F S8x512x128 .f32 × Vec F S4x512x128 .f32 :=
  (out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) p.2.2.1 p.2.2.2, out0_E_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) p.2.2.1 p.2.2.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) p.2.2.1 p.2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) p.2.2.1 p.2.2.2)

/-- What case F leaves at a point, over what the point before left. -/
abbrev case_F (c : Dev nD) (t : Fin cfg0.N) (h0 : ¬t.val % 8 = 0) (h1 : ¬t.val / 8 % 8 + 1 ≤ t.val % 8) (h2 : ¬t.val % 9 = 0) (h3 : ¬t.val % 8 = 7) (p : Vec F S512x1024 .bf16 × Vec F S512x512 .bf16 × Vec F S8x512x128 .f32 × Vec F S4x512x128 .f32) :
    Vec F S512x1024 .bf16 × Vec F S512x512 .bf16 × Vec F S8x512x128 .f32 × Vec F S4x512x128 .f32 :=
  (out0_F_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) p.2.2.1 p.2.2.2, out0_F_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) p.2.2.1 p.2.2.2, sout0_F_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) p.2.2.1 p.2.2.2, sout0_F_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) p.2.2.1 p.2.2.2)

/-- What case G leaves at a point, over what the point before left. -/
abbrev case_G (c : Dev nD) (t : Fin cfg0.N) (h0 : ¬t.val % 8 = 0) (h1 : ¬t.val / 8 % 8 + 1 ≤ t.val % 8) (h2 : t.val % 9 = 0) (h3 : t.val % 8 = 7) (p : Vec F S512x1024 .bf16 × Vec F S512x512 .bf16 × Vec F S8x512x128 .f32 × Vec F S4x512x128 .f32) :
    Vec F S512x1024 .bf16 × Vec F S512x512 .bf16 × Vec F S8x512x128 .f32 × Vec F S4x512x128 .f32 :=
  (out0_G_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) p.2.2.1 p.2.2.2, out0_G_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) p.2.2.1 p.2.2.2, sout0_G_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) p.2.2.1 p.2.2.2, sout0_G_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) p.2.2.1 p.2.2.2)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .bf16 × Vec F S512x512 .bf16 × Vec F S8x512x128 .f32 × Vec F S4x512x128 .f32
  | 0, hn => case_A m c ⟨0, hn⟩ (Nat.zero_mod _) (fun h => by (try dsimp only at h); omega) (Nat.zero_mod _) (fun h => by (try dsimp only at h); omega)
  | n + 1, hn =>
    if h0 : (n + 1) % 8 = 0 then
      if h1 : (n + 1) / 8 % 8 + 1 ≤ (n + 1) % 8 then
        False.elim (by have hN : n + 1 < 64 := lt_of_lt_of_eq hn (show cfg0.N = 64 from N_0); first | omega | exact no_such_point _ hN (by tauto))
      else
        if h2 : (n + 1) % 9 = 0 then
          if h3 : (n + 1) % 8 = 7 then
            False.elim (by have hN : n + 1 < 64 := lt_of_lt_of_eq hn (show cfg0.N = 64 from N_0); first | omega | exact no_such_point _ hN (by tauto))
          else
            case_A m c ⟨n + 1, hn⟩ h0 h1 h2 h3
        else
          if h3 : (n + 1) % 8 = 7 then
            False.elim (by have hN : n + 1 < 64 := lt_of_lt_of_eq hn (show cfg0.N = 64 from N_0); first | omega | exact no_such_point _ hN (by tauto))
          else
            case_D m c ⟨n + 1, hn⟩ h0 h1 h2 h3
    else
      if h1 : (n + 1) / 8 % 8 + 1 ≤ (n + 1) % 8 then
        if h2 : (n + 1) % 9 = 0 then
          False.elim (by have hN : n + 1 < 64 := lt_of_lt_of_eq hn (show cfg0.N = 64 from N_0); first | omega | exact no_such_point _ hN (by tauto))
        else
          if h3 : (n + 1) % 8 = 7 then
            case_C m c ⟨n + 1, hn⟩ h0 h1 h2 h3 (outsAt0 c n (Nat.lt_of_succ_lt hn))
          else
            case_B m c ⟨n + 1, hn⟩ h0 h1 h2 h3 (outsAt0 c n (Nat.lt_of_succ_lt hn))
      else
        if h2 : (n + 1) % 9 = 0 then
          if h3 : (n + 1) % 8 = 7 then
            case_G m c ⟨n + 1, hn⟩ h0 h1 h2 h3 (outsAt0 c n (Nat.lt_of_succ_lt hn))
          else
            case_E m c ⟨n + 1, hn⟩ h0 h1 h2 h3 (outsAt0 c n (Nat.lt_of_succ_lt hn))
        else
          if h3 : (n + 1) % 8 = 7 then
            False.elim (by have hN : n + 1 < 64 := lt_of_lt_of_eq hn (show cfg0.N = 64 from N_0); first | omega | exact no_such_point _ hN (by tauto))
          else
            case_F m c ⟨n + 1, hn⟩ h0 h1 h2 h3 (outsAt0 c n (Nat.lt_of_succ_lt hn))

/-- `outsAt0` at a point of case A: that case's contents. -/
theorem outsAt0_A (c : Dev nD) (t : Fin cfg0.N) (h0 : t.val % 8 = 0) (h1 : ¬t.val / 8 % 8 + 1 ≤ t.val % 8) (h2 : t.val % 9 = 0) (h3 : ¬t.val % 8 = 7) :
    outsAt0 m c t.val t.isLt = case_A m c t h0 h1 h2 h3 := by
  obtain ⟨n, hn⟩ := t
  cases n with
  | zero => exact rfl
  | succ n => exact (dif_pos h0).trans ((dif_neg h1).trans ((dif_pos h2).trans ((dif_neg h3).trans rfl)))

/-- `outsAt0` at a point of case B: that case's contents, over what the point before left. -/
theorem outsAt0_B (c : Dev nD) (t : Fin cfg0.N) (h0 : ¬t.val % 8 = 0) (h1 : t.val / 8 % 8 + 1 ≤ t.val % 8) (h2 : ¬t.val % 9 = 0) (h3 : ¬t.val % 8 = 7) :
    outsAt0 m c t.val t.isLt = case_B m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents, over what the point before left. -/
theorem outsAt0_C (c : Dev nD) (t : Fin cfg0.N) (h0 : ¬t.val % 8 = 0) (h1 : t.val / 8 % 8 + 1 ≤ t.val % 8) (h2 : ¬t.val % 9 = 0) (h3 : t.val % 8 = 7) :
    outsAt0 m c t.val t.isLt = case_C m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans rfl)))

/-- `outsAt0` at a point of case D: that case's contents. -/
theorem outsAt0_D (c : Dev nD) (t : Fin cfg0.N) (h0 : t.val % 8 = 0) (h1 : ¬t.val / 8 % 8 + 1 ≤ t.val % 8) (h2 : ¬t.val % 9 = 0) (h3 : ¬t.val % 8 = 7) :
    outsAt0 m c t.val t.isLt = case_D m c t h0 h1 h2 h3 := by
  obtain ⟨n, hn⟩ := t
  cases n with
  | zero => exact (by exfalso; (try dsimp only at h2); exact absurd (Nat.zero_mod _) h2)
  | succ n => exact (dif_pos h0).trans ((dif_neg h1).trans ((dif_neg h2).trans ((dif_neg h3).trans rfl)))

/-- `outsAt0` at a point of case E: that case's contents, over what the point before left. -/
theorem outsAt0_E (c : Dev nD) (t : Fin cfg0.N) (h0 : ¬t.val % 8 = 0) (h1 : ¬t.val / 8 % 8 + 1 ≤ t.val % 8) (h2 : t.val % 9 = 0) (h3 : ¬t.val % 8 = 7) :
    outsAt0 m c t.val t.isLt = case_E m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case F: that case's contents, over what the point before left. -/
theorem outsAt0_F (c : Dev nD) (t : Fin cfg0.N) (h0 : ¬t.val % 8 = 0) (h1 : ¬t.val / 8 % 8 + 1 ≤ t.val % 8) (h2 : ¬t.val % 9 = 0) (h3 : ¬t.val % 8 = 7) :
    outsAt0 m c t.val t.isLt = case_F m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans rfl)))

/-- `outsAt0` at a point of case G: that case's contents, over what the point before left. -/
theorem outsAt0_G (c : Dev nD) (t : Fin cfg0.N) (h0 : ¬t.val % 8 = 0) (h1 : ¬t.val / 8 % 8 + 1 ≤ t.val % 8) (h2 : t.val % 9 = 0) (h3 : t.val % 8 = 7) :
    outsAt0 m c t.val t.isLt = case_G m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

end Cert.Kernel2Ideal.Dkv

end
-- ==== Proof.DkvFrame.lean ====
/-
  The frame of the kernel of the gradients of keys and values, over any float values: the data of the launch, the body
  obligation, the run (`run_main`) and the frame (`frame`).
-/
module

public import proofs.«01_k».proof.Proof.DkvOuts
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Dkv

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 22400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val / 8 % 8 + 1 ≤ t.val % 8
    · exfalso; have hN : t.val < 64 := lt_of_lt_of_eq t.isLt (show cfg0.N = 64 from N_0); first | omega | exact no_such_point _ hN (by tauto)
    · by_cases h2 : t.val % 9 = 0
      · by_cases h3 : t.val % 8 = 7
        · exfalso; have hN : t.val < 64 := lt_of_lt_of_eq t.isLt (show cfg0.N = 64 from N_0); first | omega | exact no_such_point _ hN (by tauto)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [Dat.leavesExact_idle (dats m 0 c) 6 t (idleAt0_6_A t ((hcond0_0 t).mpr h0) (fun h => h1 ((hcond0_1 t).mp h)) ((hcond0_2 t).mpr h2) (fun h => h3 ((hcond0_3 t).mp h))) (noFlush0_6_A t ((hcond0_0 t).mpr h0) (fun h => h1 ((hcond0_1 t).mp h)) ((hcond0_2 t).mpr h2) (fun h => h3 ((hcond0_3 t).mp h)))]
          rw [Dat.leavesExact_idle (dats m 0 c) 7 t (idleAt0_7_A t ((hcond0_0 t).mpr h0) (fun h => h1 ((hcond0_1 t).mp h)) ((hcond0_2 t).mpr h2) (fun h => h3 ((hcond0_3 t).mp h))) (noFlush0_7_A t ((hcond0_0 t).mpr h0) (fun h => h1 ((hcond0_1 t).mp h)) ((hcond0_2 t).mpr h2) (fun h => h3 ((hcond0_3 t).mp h)))]
          by_cases hz : t.val = 0
          · rw [PhiS_castSucc m c t, PhiS_zero m c _ _ hz, PhiA0_eq]
            rw [outsAt0_A m c t h0 h1 h2 h3, case_A]
            unfold sout0_A_0 sout0_A_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_A c (grid0.coords t) _ _ _ _ _ _ _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t)).2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [HS0]; · iexact HS0
            isplitl [HS1]; · iexact HS1
            iintro ⟨H0, H1, H2, H3, H4, H5, H6, H7, ⟨%es0, HS0⟩, ⟨%es1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _)
                unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            iexists _; iexact H7
          · exfalso; have hN : t.val < 64 := lt_of_lt_of_eq t.isLt (show cfg0.N = 64 from N_0); first | omega | exact no_such_point _ hN (by tauto)
      · by_cases h3 : t.val % 8 = 7
        · exfalso; have hN : t.val < 64 := lt_of_lt_of_eq t.isLt (show cfg0.N = 64 from N_0); first | omega | exact no_such_point _ hN (by tauto)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [Dat.leavesExact_idle (dats m 0 c) 6 t (idleAt0_6_D t ((hcond0_0 t).mpr h0) (fun h => h1 ((hcond0_1 t).mp h)) (fun h => h2 ((hcond0_2 t).mp h)) (fun h => h3 ((hcond0_3 t).mp h))) (noFlush0_6_D t ((hcond0_0 t).mpr h0) (fun h => h1 ((hcond0_1 t).mp h)) (fun h => h2 ((hcond0_2 t).mp h)) (fun h => h3 ((hcond0_3 t).mp h)))]
          rw [Dat.leavesExact_idle (dats m 0 c) 7 t (idleAt0_7_D t ((hcond0_0 t).mpr h0) (fun h => h1 ((hcond0_1 t).mp h)) (fun h => h2 ((hcond0_2 t).mp h)) (fun h => h3 ((hcond0_3 t).mp h))) (noFlush0_7_D t ((hcond0_0 t).mpr h0) (fun h => h1 ((hcond0_1 t).mp h)) (fun h => h2 ((hcond0_2 t).mp h)) (fun h => h3 ((hcond0_3 t).mp h)))]
          by_cases hz : t.val = 0
          · exfalso; have hN : t.val < 64 := lt_of_lt_of_eq t.isLt (show cfg0.N = 64 from N_0); first | omega | exact no_such_point _ hN (by tauto)
          · rw [PhiS_castSucc m c t, PhiS_pos m c _ _ hz]
            rw [outsAt0_D m c t h0 h1 h2 h3, case_D]
            unfold sout0_D_0 sout0_D_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_D c (grid0.coords t) _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t)).2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [HS0]; · iexists _; iexact HS0
            isplitl [HS1]; · iexists _; iexact HS1
            iintro ⟨H0, H1, H2, H3, H4, H5, H6, H7, ⟨%es0, HS0⟩, ⟨%es1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_D_0 c _ _ _ _ _ _ _ _ _ _ _ _ _ _ _ _ _ _ _ _ _ _ _ _ _ _ _ _ _ _ _)
                unfold owns; iexists _; isplitr
                swap; · iexact HS1
                ipureintro; exact View.read_writes_of_cover _ _ _ _ _ (scover0_D_1 c _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            iexists _; iexact H7
  · by_cases h1 : t.val / 8 % 8 + 1 ≤ t.val % 8
    · by_cases h2 : t.val % 9 = 0
      · exfalso; have hN : t.val < 64 := lt_of_lt_of_eq t.isLt (show cfg0.N = 64 from N_0); first | omega | exact no_such_point _ hN (by tauto)
      · by_cases h3 : t.val % 8 = 7
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1) (fun h => h2 ((hcond0_2 t).mp h)) ((hcond0_3 t).mpr h3)], after0_6]
          rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1) (fun h => h2 ((hcond0_2 t).mp h)) ((hcond0_3 t).mpr h3)], after0_7]
          by_cases hz : t.val = 0
          · exfalso; have hN : t.val < 64 := lt_of_lt_of_eq t.isLt (show cfg0.N = 64 from N_0); first | omega | exact no_such_point _ hN (by tauto)
          · rw [PhiS_castSucc m c t, PhiS_pos m c _ _ hz]
            rw [outsAt0_C m c t h0 h1 h2 h3, case_C]
            unfold out0_C_6 out0_C_7 sout0_C_0 sout0_C_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_C c (grid0.coords t) _ _ _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) _ _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexact HS1
            iintro ⟨H0, H1, H2, H3, H4, H5, ⟨%e6, H6⟩, ⟨%e7, H7⟩, ⟨%es0, HS0⟩, ⟨%es1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_C_0 c _ _ _ _ _ _ _ _ _ _ _ _ _ _ _ _ _ _ _ _ _ _ _ _ _ _ _ _ _ _ _ _ _)
                unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover0_C_6 c _ _ _ _ _ _ _ _ _ _ _ _ _ _ _ _ _ _ _ _ _ _ _ _ _ _ _ _ _ _ _ _ _)
            unfold owns; iexists _; isplitr
            swap; · iexact H7
            ipureintro; exact View.read_writes_of_cover _ _ _ _ _ (cover0_C_7 c _ _ _ _ _ _ _ _ _ _ _ _ _ _ _ _ _ _ _ _ _ _ _ _ _ _ _ _ _ _ _ _ _)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [Dat.leavesExact_idle (dats m 0 c) 6 t (idleAt0_6_B t (fun h => h0 ((hcond0_0 t).mp h)) ((hcond0_1 t).mpr h1) (fun h => h2 ((hcond0_2 t).mp h)) (fun h => h3 ((hcond0_3 t).mp h))) (noFlush0_6_B t (fun h => h0 ((hcond0_0 t).mp h)) ((hcond0_1 t).mpr h1) (fun h => h2 ((hcond0_2 t).mp h)) (fun h => h3 ((hcond0_3 t).mp h)))]
          rw [Dat.leavesExact_idle (dats m 0 c) 7 t (idleAt0_7_B t (fun h => h0 ((hcond0_0 t).mp h)) ((hcond0_1 t).mpr h1) (fun h => h2 ((hcond0_2 t).mp h)) (fun h => h3 ((hcond0_3 t).mp h))) (noFlush0_7_B t (fun h => h0 ((hcond0_0 t).mp h)) ((hcond0_1 t).mpr h1) (fun h => h2 ((hcond0_2 t).mp h)) (fun h => h3 ((hcond0_3 t).mp h)))]
          by_cases hz : t.val = 0
          · exfalso; have hN : t.val < 64 := lt_of_lt_of_eq t.isLt (show cfg0.N = 64 from N_0); first | omega | exact no_such_point _ hN (by tauto)
          · rw [PhiS_castSucc m c t, PhiS_pos m c _ _ hz]
            rw [outsAt0_B m c t h0 h1 h2 h3, case_B]
            unfold sout0_B_0 sout0_B_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) _ _).2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [HS0]; · iexact HS0
            isplitl [HS1]; · iexact HS1
            iintro ⟨H0, H1, H2, H3, H4, H5, H6, H7, ⟨%es0, HS0⟩, ⟨%es1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _)
                unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            iexists _; iexact H7
    · by_cases h2 : t.val % 9 = 0
      · by_cases h3 : t.val % 8 = 7
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_G t (fun h => h0 ((hcond0_0 t).mp h)) (fun h => h1 ((hcond0_1 t).mp h)) ((hcond0_2 t).mpr h2) ((hcond0_3 t).mpr h3)], after0_6]
          rw [show (dats m 0 c).leavesExact 7 t = owns (c : Thread nD τ) (ms0_7 t) fullShare ((dats m 0 c).after 7 t) from by
      unfold Dat.leavesExact; rw [liveAt0_7_G t (fun h => h0 ((hcond0_0 t).mp h)) (fun h => h1 ((hcond0_1 t).mp h)) ((hcond0_2 t).mpr h2) ((hcond0_3 t).mpr h3)], after0_7]
          by_cases hz : t.val = 0
          · exfalso; have hN : t.val < 64 := lt_of_lt_of_eq t.isLt (show cfg0.N = 64 from N_0); first | omega | exact no_such_point _ hN (by tauto)
          · rw [PhiS_castSucc m c t, PhiS_pos m c _ _ hz]
            rw [outsAt0_G m c t h0 h1 h2 h3, case_G]
            unfold out0_G_6 out0_G_7 sout0_G_0 sout0_G_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_G c (grid0.coords t) _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) _ _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexact HS1
            iintro ⟨H0, H1, H2, H3, H4, H5, ⟨%e6, H6⟩, ⟨%e7, H7⟩, ⟨%es0, HS0⟩, ⟨%es1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_G_0 c _ _ _ _ _ _ _ _ _ _ _ _ _ _ _ _ _ _ _ _ _ _ _ _ _ _ _ _ _ _ _ _ _)
                unfold owns; iexists _; isplitr
                swap; · iexact HS1
                ipureintro; exact View.read_writes_of_cover _ _ _ _ _ (scover0_G_1 c _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover0_G_6 c _ _ _ _ _ _ _ _ _ _ _ _ _ _ _ _ _ _ _ _ _ _ _ _ _ _ _ _ _ _ _ _ _)
            unfold owns; iexists _; isplitr
            swap; · iexact H7
            ipureintro; exact View.read_writes_of_cover _ _ _ _ _ (cover0_G_7 c _ _ _ _ _ _ _ _ _ _ _ _ _ _ _ _ _ _ _ _ _ _ _ _ _ _ _ _ _ _ _ _ _)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [Dat.leavesExact_idle (dats m 0 c) 6 t (idleAt0_6_E t (fun h => h0 ((hcond0_0 t).mp h)) (fun h => h1 ((hcond0_1 t).mp h)) ((hcond0_2 t).mpr h2) (fun h => h3 ((hcond0_3 t).mp h))) (noFlush0_6_E t (fun h => h0 ((hcond0_0 t).mp h)) (fun h => h1 ((hcond0_1 t).mp h)) ((hcond0_2 t).mpr h2) (fun h => h3 ((hcond0_3 t).mp h)))]
          rw [Dat.leavesExact_idle (dats m 0 c) 7 t (idleAt0_7_E t (fun h => h0 ((hcond0_0 t).mp h)) (fun h => h1 ((hcond0_1 t).mp h)) ((hcond0_2 t).mpr h2) (fun h => h3 ((hcond0_3 t).mp h))) (noFlush0_7_E t (fun h => h0 ((hcond0_0 t).mp h)) (fun h => h1 ((hcond0_1 t).mp h)) ((hcond0_2 t).mpr h2) (fun h => h3 ((hcond0_3 t).mp h)))]
          by_cases hz : t.val = 0
          · exfalso; have hN : t.val < 64 := lt_of_lt_of_eq t.isLt (show cfg0.N = 64 from N_0); first | omega | exact no_such_point _ hN (by tauto)
          · rw [PhiS_castSucc m c t, PhiS_pos m c _ _ hz]
            rw [outsAt0_E m c t h0 h1 h2 h3, case_E]
            unfold sout0_E_0 sout0_E_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_E c (grid0.coords t) _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) _ _).2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [HS0]; · iexact HS0
            isplitl [HS1]; · iexact HS1
            iintro ⟨H0, H1, H2, H3, H4, H5, H6, H7, ⟨%es0, HS0⟩, ⟨%es1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_E_0 c _ _ _ _ _ _ _ _ _ _ _ _ _ _ _ _ _ _ _ _ _ _ _ _ _ _ _ _ _ _ _ _ _)
                unfold owns; iexists _; isplitr
                swap; · iexact HS1
                ipureintro; exact View.read_writes_of_cover _ _ _ _ _ (scover0_E_1 c _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            iexists _; iexact H7
      · by_cases h3 : t.val % 8 = 7
        · exfalso; have hN : t.val < 64 := lt_of_lt_of_eq t.isLt (show cfg0.N = 64 from N_0); first | omega | exact no_such_point _ hN (by tauto)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [Dat.leavesExact_idle (dats m 0 c) 6 t (idleAt0_6_F t (fun h => h0 ((hcond0_0 t).mp h)) (fun h => h1 ((hcond0_1 t).mp h)) (fun h => h2 ((hcond0_2 t).mp h)) (fun h => h3 ((hcond0_3 t).mp h))) (noFlush0_6_F t (fun h => h0 ((hcond0_0 t).mp h)) (fun h => h1 ((hcond0_1 t).mp h)) (fun h => h2 ((hcond0_2 t).mp h)) (fun h => h3 ((hcond0_3 t).mp h)))]
          rw [Dat.leavesExact_idle (dats m 0 c) 7 t (idleAt0_7_F t (fun h => h0 ((hcond0_0 t).mp h)) (fun h => h1 ((hcond0_1 t).mp h)) (fun h => h2 ((hcond0_2 t).mp h)) (fun h => h3 ((hcond0_3 t).mp h))) (noFlush0_7_F t (fun h => h0 ((hcond0_0 t).mp h)) (fun h => h1 ((hcond0_1 t).mp h)) (fun h => h2 ((hcond0_2 t).mp h)) (fun h => h3 ((hcond0_3 t).mp h)))]
          by_cases hz : t.val = 0
          · exfalso; have hN : t.val < 64 := lt_of_lt_of_eq t.isLt (show cfg0.N = 64 from N_0); first | omega | exact no_such_point _ hN (by tauto)
          · rw [PhiS_castSucc m c t, PhiS_pos m c _ _ hz]
            rw [outsAt0_F m c t h0 h1 h2 h3, case_F]
            unfold sout0_F_0 sout0_F_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_F c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) _ _).2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [HS0]; · iexact HS0
            isplitl [HS1]; · iexact HS1
            iintro ⟨H0, H1, H2, H3, H4, H5, H6, H7, HS0, HS1⟩
            isplitl [HS0 HS1 Hg]
            · isplitl [HS0 HS1]
              · isplitl [HS0]
                · iexact HS0
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel2Ideal.Dkv

end
-- ==== Proof.DkvClaims.lean ====
/-
  The frames of the kernel of the keys' and the values' gradients and the values of the three constants that its idealization names.

  The printed kernel and its idealization differ only in that the latter gives names to three constants. With float
  words for floats and each name standing for its own word they are one program, so the kernel's frame is the
  idealization's frame over float words.
-/
module

public import proofs.«01_k».proof.Defs
public import proofs.«01_k».proof.Proof.Gen.Kernel2
public import proofs.«01_k».proof.Proof.DkvFrame
public import proofs.«01_k».proof.Proof.Gen.Reference2Ideal
public import proofs.«01_k».proof.Proof.Gen.Reference2Ideal.Run
public import proofs.«01_k».proof.Proof.Gen.Pre_finite
public import Idealize.ShloMosaic.Lib.Claim

@[expose] public section

noncomputable section

namespace Cert.DkvClaims

open Idealize.ShloMosaic Idealize.ShloMosaic.Tactic Idealize.SL.Sem

/-- Float words, each named constant being the word that it is printed with. -/
@[reducible] def namedBits : Named Bits where
  named _ _ {φ} b := FloatOps.ofBits φ b

attribute [local instance] namedBits

set_option maxRecDepth 100000 in
theorem main_eq : Cert.Kernel2.main (F := Bits) = Cert.Kernel2Ideal.main (F := Bits) := by sl_kernel_rfl

set_option maxRecDepth 100000 in
theorem defs_eq : Cert.Kernel2.defs (F := Bits) = Cert.Kernel2Ideal.defs (F := Bits) := by sl_kernel_rfl

/-- The kernel's frame. -/
theorem frame_kernel : Cert.quiescent_Kernel2 := fun m ρ _ => by
  have h := @Cert.Kernel2Ideal.Dkv.frame Bits _ namedBits m ρ
  rw [← main_eq, ← defs_eq] at h
  exact h

/-- The frame of the kernel over the extended reals. -/
theorem frame_ideal : Cert.quiescent_Kernel2Ideal := fun m ρ _ => Cert.Kernel2Ideal.Dkv.frame (F := Ideal) m ρ

/-- The reference's frame: it declares no semaphore. -/
theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The three named constants. -/
theorem preserves : Cert.preserves_Kernel2_Kernel2Ideal :=
  ⟨IdealRules.named_const.statement Cert.Kernel2Ideal.κ "inv_scale" .f32 0x411CC471#32 _ rfl,
    IdealRules.named_const.statement Cert.Kernel2Ideal.κ "scale_log2e" .f32 0x3E16C740#32 _ rfl,
    IdealRules.named_const.statement Cert.Kernel2Ideal.κ "scale" .f32 0x3DD105EC#32 _ rfl⟩

end Cert.DkvClaims

end
-- ==== Proof.DqTile.lean ====
module

public import proofs.«01_k».proof.Proof.DqFrame
public import Idealize.ShloMosaic.Lib.Pointwise
public import Idealize.ShloMosaic.Lib.WordCmp
public import Idealize.ShloMosaic.Lib.Pipeline.ValueKit.Geometry

@[expose] public section

set_option maxRecDepth 16384

noncomputable section

namespace Cert.KernelIdeal.Dq

open Cert.KernelIdeal Cert.KernelIdeal.Gen
open Idealize.ShloMosaic Idealize.ShloMosaic.TcCoe Idealize.ShloMosaic.Tactic

section words

variable {F : FTy → Type} [FloatOps F] [Named F]

/-- The lanes of a pair's first head. -/
def lanesLow : IVec S512x128 1 := cmpi .slt (iota .tc S512x128 32 [1] iota_S512x128_d1_w32) (broadcast S512x128 64#32)

/-- The lanes of a pair's second head. -/
def lanesHigh : IVec S512x128 1 := cmpi .sge (iota .tc S512x128 32 [1] iota_S512x128_d1_w32) (broadcast S512x128 64#32)

/-- The causal mask of a block on the diagonal: the key's row is at most the query's. -/
def below : IVec S512x512 1 :=
  cmpi .sle (iota .tc S512x512 32 [1] iota_S512x512_d1_w32) (iota .tc S512x512 32 [0] iota_S512x512_d0_w32)

/-- The weights under the causal mask. -/
def masked (p : FVec F S512x512 .f32) : FVec F S512x512 .f32 :=
  select below p (broadcast S512x512 (Scalar.ofBits .f32 0x00000000#32))

/-- The attention weights of one head: 2 to the power of the scaled difference of the scores and the rows' log-sums. -/
def weights (qh kh : Vec F S512x128 .bf16) (lc : FVec F S512x1 .f32) : FVec F S512x512 .f32 :=
  exp2 (mulf (subf
    (matmul dot_S512x128_S512x128_S512x512_1_1_0_0_n_n none (shapeCast S512x128 qh shapeCasts_S512x128_S512x128)
      (shapeCast S512x128 kh shapeCasts_S512x128_S512x128) (constant S512x512 .f32 0x00000000#32))
    (broadcastTo S512x512 (mulf lc (broadcast S512x1 (Named.named κ "inv_scale" 0x411CC471#32))) broadcasts_S512x1_S512x512))
    (broadcast S512x512 (Named.named κ "scale_log2e" 0x3E16C740#32)))

/-- The gradient of one head's scores, from the head's weights `p`, its lanes `hm`, the pair's values, output gradients
    and outputs. -/
def scoreGrad (p : FVec F S512x512 .f32) (hm : IVec S512x128 1) (v : Vec F S512x128 .bf16) (d o : Vec F S512x128 .f32) :
    FVec F S512x512 .f32 :=
  mulf (mulf p (subf
    (matmul dot_S512x128_S512x128_S512x512_1_1_0_0_n_n none
      (select hm (truncf .bf16 (shapeCast S512x128 d shapeCasts_S512x128_S512x128) bitsLt_bf16_f32)
        (broadcast S512x128 (Scalar.ofBits .bf16 0x0000#16)))
      (shapeCast S512x128 v shapeCasts_S512x128_S512x128) (constant S512x512 .f32 0x00000000#32))
    (broadcastTo S512x512 (shapeCast S512x1
      (multiReduction .add [1] S512
        (select hm (mulf (shapeCast S512x128 d shapeCasts_S512x128_S512x128) (shapeCast S512x128 o shapeCasts_S512x128_S512x128))
          (broadcast S512x128 (Scalar.ofBits .f32 0x00000000#32)))
        0x00000000#32 reduces_S512x128_S512 (.inl rfl) rfl) shapeCasts_S512_S512x1) broadcasts_S512x1_S512x512)))
    (broadcast S512x512 (Named.named κ "scale" 0x3DD105EC#32))

/-- One head's accumulator after its addend: the gradient of the scores times the keys. -/
def addTo (ds : FVec F S512x512 .f32) (kh : Vec F S512x128 .bf16) (acc : Vec F S1x512x128 .f32) : FVec F S1x512x128 .f32 :=
  shapeCast S1x512x128 (addf (shapeCast S512x128 acc shapeCasts_S1x512x128_S512x128)
    (matmul dot_S512x512_S512x128_S512x128_1_0_0_1_n_n none (truncf .bf16 ds bitsLt_bf16_f32)
      (shapeCast S512x128 kh shapeCasts_S512x128_S512x128) (constant S512x128 .f32 0x00000000#32))) shapeCasts_S512x128_S1x512x128

/-- The log-sums of a pair's first head. -/
def logLow (l : Vec F S512x128 .f32) : FVec F S512x1 .f32 :=
  extractStridedSlice S512x1 ![0, 0] (shapeCast S512x128 l shapeCasts_S512x128_S512x128) slices_S512x128_o0_0_S512x1

/-- The log-sums of a pair's second head. -/
def logHigh (l : Vec F S512x128 .f32) : FVec F S512x1 .f32 :=
  extractStridedSlice S512x1 ![0, 64] (shapeCast S512x128 l shapeCasts_S512x128_S512x128) slices_S512x128_o0_64_S512x1

/-- The step of an even head: `f` is the mask or nothing. -/
def stepLow (f : FVec F S512x512 .f32 → FVec F S512x512 .f32) (q k v : Vec F S512x128 .bf16) (d o l : Vec F S512x128 .f32)
    (acc : Vec F S1x512x128 .f32) : FVec F S1x512x128 .f32 :=
  addTo (scoreGrad (f (weights q k (logLow l))) lanesLow v d o) k acc

/-- The step of an odd head. -/
def stepHigh (f : FVec F S512x512 .f32 → FVec F S512x512 .f32) (q k v : Vec F S512x128 .bf16) (d o l : Vec F S512x128 .f32)
    (acc : Vec F S1x512x128 .f32) : FVec F S1x512x128 .f32 :=
  addTo (scoreGrad (f (weights q k (logHigh l))) lanesHigh v d o) k acc

end words

/-- Lane `e` of head `h` in a row of 8 heads of 128 lanes. -/
abbrev wide (h : Fin 8) (e : Fin 128) : Fin 1024 := ⟨128 * h.val + e.val, by omega⟩

/-- Lane `e` of head `h` in a row of 8 heads of 64 lanes. -/
abbrev narrow (h : Fin 8) (e : Fin 64) : Fin 512 := ⟨64 * h.val + e.val, by omega⟩

/-- The weight of the key of row `b` for the query of row `a`, from the score `s` and the row's log-sum `l`. -/
def weightAt (s l : EReal) : EReal :=
  Ideal.exp2 ((s - l * ((Real.sqrt 96 : ℝ) : EReal)) * (((Real.sqrt 96)⁻¹ * (Real.log 2)⁻¹ : ℝ) : EReal))

/-- The gradient of a score, from the weight, the product of the output's gradient and the value, and the product of the
    output's gradient and the output. -/
def gradAt (p dp delta : EReal) : EReal := p * (dp - delta) * (((Real.sqrt 96)⁻¹ : ℝ) : EReal)

theorem named_scale : Named.named (F := Ideal) κ "scale" (φ := .f32) 0x3DD105EC#32 = (((Real.sqrt 96)⁻¹ : ℝ) : EReal) :=
  IdealRules.named_const.ideal_named_scalar _ _ _ _ rfl

theorem named_inv_scale : Named.named (F := Ideal) κ "inv_scale" (φ := .f32) 0x411CC471#32 = ((Real.sqrt 96 : ℝ) : EReal) :=
  IdealRules.named_const.ideal_named_scalar _ _ _ _ rfl

theorem named_scale_log2e : Named.named (F := Ideal) κ "scale_log2e" (φ := .f32) 0x3E16C740#32 =
    (((Real.sqrt 96)⁻¹ * (Real.log 2)⁻¹ : ℝ) : EReal) :=
  IdealRules.named_const.ideal_named_scalar _ _ _ _ rfl

theorem ofBool_eq_one (p : Prop) [Decidable p] : (BitVec.ofBool (decide p) = (1 : BitVec 1)) ↔ p := by
  by_cases h : p <;> simp [h]

/-- A sum over the lanes that the first head owns. -/
theorem sum_low (f : Fin 128 → EReal) :
    ∑ j : Fin 128, Scalar.select (IntOp.cmpi .slt (BitVec.ofNat 32 j.val) 64#32) (f j) 0 = ∑ j : Fin 64, f ⟨j.val, by omega⟩ := by
  have h : ∀ j : Fin 128, Scalar.select (IntOp.cmpi .slt (BitVec.ofNat 32 j.val) 64#32) (f j) 0 = if j.val < 64 then f j else 0 := by
    intro j
    rw [WordCmp.cmpi_slt_ofNat (by norm_num; omega) (by norm_num)]
    simp only [Scalar.select, ofBool_eq_one]
  rw [Finset.sum_congr rfl fun j _ => h j]
  refine (Fin.sum_univ_add (a := 64) (b := 64) (fun j : Fin 128 => if j.val < 64 then f j else 0)).trans ?_
  simp [Fin.castAdd, Fin.castLE]

/-- A sum over the lanes that the second head owns. -/
theorem sum_high (f : Fin 128 → EReal) :
    ∑ j : Fin 128, Scalar.select (IntOp.cmpi .sge (BitVec.ofNat 32 j.val) 64#32) (f j) 0 = ∑ j : Fin 64, f ⟨64 + j.val, by omega⟩ := by
  have h : ∀ j : Fin 128, Scalar.select (IntOp.cmpi .sge (BitVec.ofNat 32 j.val) 64#32) (f j) 0 = if 64 ≤ j.val then f j else 0 := by
    intro j
    rw [WordCmp.cmpi_sge_ofNat (by norm_num; omega) (by norm_num)]
    simp only [Scalar.select, ofBool_eq_one]
  rw [Finset.sum_congr rfl fun j _ => h j]
  refine (Fin.sum_univ_add (a := 64) (b := 64) (fun j : Fin 128 => if 64 ≤ j.val then f j else 0)).trans ?_
  have h0 : ∀ j : Fin 64, ¬64 ≤ j.val := fun j => by omega
  simp [h0, Fin.natAdd]

theorem stepLow_apply (f) (q k v : Vec Ideal S512x128 .bf16) (d o l : Vec Ideal S512x128 .f32) (acc : Vec Ideal S1x512x128 .f32)
    (a : Fin 512) (e : Fin 128) :
    stepLow f q k v d o l acc (ix3 0 a e) = acc (ix3 0 a e) + ∑ b : Fin 512,
      gradAt (f (weights q k (logLow l)) (ix2 a b)) (∑ j : Fin 64, d (ix2 a ⟨j, by omega⟩) * v (ix2 b ⟨j, by omega⟩))
        (∑ j : Fin 64, d (ix2 a ⟨j, by omega⟩) * o (ix2 a ⟨j, by omega⟩)) * k (ix2 b e) := by
  unfold stepLow addTo scoreGrad lanesLow
  pointwise [gradAt]
  simp only [sum_low, named_scale]

theorem stepHigh_apply (f) (q k v : Vec Ideal S512x128 .bf16) (d o l : Vec Ideal S512x128 .f32) (acc : Vec Ideal S1x512x128 .f32)
    (a : Fin 512) (e : Fin 128) :
    stepHigh f q k v d o l acc (ix3 0 a e) = acc (ix3 0 a e) + ∑ b : Fin 512,
      gradAt (f (weights q k (logHigh l)) (ix2 a b)) (∑ j : Fin 64, d (ix2 a ⟨64 + j, by omega⟩) * v (ix2 b ⟨64 + j, by omega⟩))
        (∑ j : Fin 64, d (ix2 a ⟨64 + j, by omega⟩) * o (ix2 a ⟨64 + j, by omega⟩)) * k (ix2 b e) := by
  unfold stepHigh addTo scoreGrad lanesHigh
  pointwise [gradAt]
  simp only [sum_high, named_scale]

theorem weightsLow_apply (q k : Vec Ideal S512x128 .bf16) (l : Vec Ideal S512x128 .f32) (a b : Fin 512) :
    weights q k (logLow l) (ix2 a b) = weightAt (∑ j : Fin 128, q (ix2 a j) * k (ix2 b j)) (l (ix2 a 0)) := by
  unfold weights logLow
  pointwise [weightAt]
  simp only [named_inv_scale, named_scale_log2e]
  rfl

theorem weightsHigh_apply (q k : Vec Ideal S512x128 .bf16) (l : Vec Ideal S512x128 .f32) (a b : Fin 512) :
    weights q k (logHigh l) (ix2 a b) = weightAt (∑ j : Fin 128, q (ix2 a j) * k (ix2 b j)) (l (ix2 a 64)) := by
  unfold weights logHigh
  pointwise [weightAt]
  simp only [named_inv_scale, named_scale_log2e]
  rfl

theorem masked_apply (p : FVec Ideal S512x512 .f32) (a b : Fin 512) :
    masked p (ix2 a b) = if b ≤ a then p (ix2 a b) else 0 := by
  unfold masked below
  pointwise
  rw [WordCmp.cmpi_sle_ofNat (by norm_num; omega) (by norm_num; omega)]
  simp only [Scalar.select, ofBool_eq_one, Fin.le_def]

/-- The gradient of the score of the query of row `a` and the key of row `b` in head `h`, of the blocks of queries `x0`,
    keys `x1`, values `x2`, output gradients `x3`, outputs `x4` and log-sums `x5`; on the diagonal (`dg`) the keys after
    the query have no weight. -/
def tileGrad (dg : Bool) (x0 x1 : Vec Ideal S512x1024 .bf16) (x2 : Vec Ideal S512x512 .bf16) (x3 x4 x5 : Vec Ideal S512x512 .f32)
    (h : Fin 8) (a b : Fin 512) : EReal :=
  gradAt (if dg = true → b ≤ a then weightAt (∑ j : Fin 128, x0 (ix2 a (wide h j)) * x1 (ix2 b (wide h j))) (x5 (ix2 a (narrow h 0))) else 0)
    (∑ j : Fin 64, x3 (ix2 a (narrow h j)) * x2 (ix2 b (narrow h j)))
    (∑ j : Fin 64, x3 (ix2 a (narrow h j)) * x4 (ix2 a (narrow h j)))

/-- What one key block adds to head `h`'s accumulator at row `a` and lane `e`. -/
def tileSum (dg : Bool) (x0 x1 : Vec Ideal S512x1024 .bf16) (x2 : Vec Ideal S512x512 .bf16) (x3 x4 x5 : Vec Ideal S512x512 .f32)
    (h : Fin 8) (a : Fin 512) (e : Fin 128) : EReal :=
  ∑ b : Fin 512, tileGrad dg x0 x1 x2 x3 x4 x5 h a b * x1 (ix2 b (wide h e))

/-- Where row `x` of head `h`'s slice lies in the accumulator. -/
theorem emb_head (h : Fin 8) (oh : ℕ) (hoh : oh = h.val) (inb) (x : S1x512x128.Idx) :
    (Rect.unit (s := S8x512x128) ![oh, 0, 0] ![1, 512, 128] inb).emb x = ix3 h (x 1) (x 2) := by
  subst hoh
  obtain ⟨u, c, e, rfl⟩ : ∃ (u : Fin 1) (c : Fin 512) (e : Fin 128), x = ix3 u c e := ⟨x 0, x 1, x 2, eq_ix3 x⟩
  funext a
  apply Fin.ext
  refine (ValueKit.rect_emb_unit_val (s := S8x512x128) _ _ inb (ix3 u c e) a).trans ?_
  have hu : u.val = 0 := by omega
  match a with
  | ⟨0, _⟩ => exact (congrArg (h.val + ·) hu)
  | ⟨1, _⟩ => exact Nat.zero_add _
  | ⟨2, _⟩ => exact Nat.zero_add _

section pieces

variable (dg : Bool) (f : FVec Ideal S512x512 .f32 → FVec Ideal S512x512 .f32)
  (hf : ∀ (p : FVec Ideal S512x512 .f32) (a b : Fin 512), f p (ix2 a b) = if dg = true → b ≤ a then p (ix2 a b) else 0)
  (x0 x1 : Vec Ideal S512x1024 .bf16) (x2 : Vec Ideal S512x512 .bf16) (x3 x4 x5 : Vec Ideal S512x512 .f32)
  (acc : Vec Ideal S1x512x128 .f32) (h : Fin 8)
include hf

theorem piece_low (ow on : ℕ) (how : ow = 128 * h.val) (hon : on = 64 * h.val) (i0 i1 i2 i3 i4 i5) (y : S1x512x128.Idx) :
    stepLow f (View.ld x0 (Rect.unit (s := S512x1024) ![0, ow] ![512, 128] i0)) (View.ld x1 (Rect.unit (s := S512x1024) ![0, ow] ![512, 128] i1))
      (View.ld x2 (Rect.unit (s := S512x512) ![0, on] ![512, 128] i2)) (View.ld x3 (Rect.unit (s := S512x512) ![0, on] ![512, 128] i3))
      (View.ld x4 (Rect.unit (s := S512x512) ![0, on] ![512, 128] i4)) (View.ld x5 (Rect.unit (s := S512x512) ![0, on] ![512, 128] i5))
      acc y = acc y + tileSum dg x0 x1 x2 x3 x4 x5 h (y 1) (y 2) := by
  subst how hon
  obtain ⟨u, a, e, rfl⟩ : ∃ (u : Fin 1) (a : Fin 512) (e : Fin 128), y = ix3 u a e := ⟨y 0, y 1, y 2, eq_ix3 y⟩
  rw [show u = (0 : Fin 1) from Subsingleton.elim _ _, stepLow_apply]
  simp only [hf, weightsLow_apply]
  unfold tileSum tileGrad
  pointwise
  rfl

theorem piece_high (ow on : ℕ) (how : ow = 128 * h.val) (hon : on + 64 = 64 * h.val) (i0 i1 i2 i3 i4 i5) (y : S1x512x128.Idx) :
    stepHigh f (View.ld x0 (Rect.unit (s := S512x1024) ![0, ow] ![512, 128] i0)) (View.ld x1 (Rect.unit (s := S512x1024) ![0, ow] ![512, 128] i1))
      (View.ld x2 (Rect.unit (s := S512x512) ![0, on] ![512, 128] i2)) (View.ld x3 (Rect.unit (s := S512x512) ![0, on] ![512, 128] i3))
      (View.ld x4 (Rect.unit (s := S512x512) ![0, on] ![512, 128] i4)) (View.ld x5 (Rect.unit (s := S512x512) ![0, on] ![512, 128] i5))
      acc y = acc y + tileSum dg x0 x1 x2 x3 x4 x5 h (y 1) (y 2) := by
  subst how
  obtain ⟨u, a, e, rfl⟩ : ∃ (u : Fin 1) (a : Fin 512) (e : Fin 128), y = ix3 u a e := ⟨y 0, y 1, y 2, eq_ix3 y⟩
  rw [show u = (0 : Fin 1) from Subsingleton.elim _ _, stepHigh_apply]
  simp only [hf, weightsHigh_apply]
  unfold tileSum tileGrad
  pointwise
  have e1 : ∀ (j : Fin 64) (p : on + (64 + j.val) < 512), (⟨on + (64 + j.val), p⟩ : Fin 512) = narrow h j := fun j p =>
    Fin.ext (by simp only [narrow]; omega)
  have e2 : ∀ (p : on + 64 < 512), (⟨on + 64, p⟩ : Fin 512) = narrow h 0 := fun p => Fin.ext (by simp only [narrow]; simpa using hon)
  simp only [e1, e2]

end pieces

theorem plain_id (p : FVec Ideal S512x512 .f32) (a b : Fin 512) : id p (ix2 a b) = if false = true → b ≤ a then p (ix2 a b) else 0 := by
  simp

theorem masked_dg (p : FVec Ideal S512x512 .f32) (a b : Fin 512) : masked p (ix2 a b) = if true = true → b ≤ a then p (ix2 a b) else 0 := by
  rw [masked_apply]; simp

/-- The accumulator after the addend of one key block. -/
def stepAll (dg : Bool) (x0 x1 : Vec Ideal S512x1024 .bf16) (x2 : Vec Ideal S512x512 .bf16) (x3 x4 x5 : Vec Ideal S512x512 .f32)
    (s : Vec Ideal S8x512x128 .f32) : Vec Ideal S8x512x128 .f32 :=
  fun y => s y + tileSum dg x0 x1 x2 x3 x4 x5 (y 0) (y 1) (y 2)

theorem stepAll_emb (dg : Bool) (x0 x1 : Vec Ideal S512x1024 .bf16) (x2 : Vec Ideal S512x512 .bf16) (x3 x4 x5 : Vec Ideal S512x512 .f32)
    (s : Vec Ideal S8x512x128 .f32) (h : Fin 8) (oh : ℕ) (hoh : oh = h.val) (inb) (y : S1x512x128.Idx) :
    stepAll dg x0 x1 x2 x3 x4 x5 s ((Rect.unit (s := S8x512x128) ![oh, 0, 0] ![1, 512, 128] inb).emb y) =
      View.ld s (Rect.unit (s := S8x512x128) ![oh, 0, 0] ![1, 512, 128] inb) y + tileSum dg x0 x1 x2 x3 x4 x5 h (y 1) (y 2) := by
  unfold stepAll
  congr 1
  rw [emb_head h oh hoh]
  rfl

/-- Head `h`'s slice (the lower half of a pair of heads) after its addend is the slice of the accumulator after it. -/
theorem head_low (dg : Bool) (f : FVec Ideal S512x512 .f32 → FVec Ideal S512x512 .f32)
    (hf : ∀ (p : FVec Ideal S512x512 .f32) (a b : Fin 512), f p (ix2 a b) = if dg = true → b ≤ a then p (ix2 a b) else 0)
    (x0 x1 : Vec Ideal S512x1024 .bf16) (x2 : Vec Ideal S512x512 .bf16) (x3 x4 x5 : Vec Ideal S512x512 .f32) (s : Vec Ideal S8x512x128 .f32)
    (h : Fin 8) (oh : ℕ) (hoh : oh = h.val) (ow on : ℕ) (how : ow = 128 * h.val) (hon : on = 64 * h.val) (i0 i1 i2 i3 i4 i5) (inb)
    (acc : Vec Ideal S1x512x128 .f32) (hacc : acc = View.ld s (Rect.unit (s := S8x512x128) ![oh, 0, 0] ![1, 512, 128] inb)) (y : S1x512x128.Idx) :
    stepLow f (View.ld x0 (Rect.unit (s := S512x1024) ![0, ow] ![512, 128] i0)) (View.ld x1 (Rect.unit (s := S512x1024) ![0, ow] ![512, 128] i1))
      (View.ld x2 (Rect.unit (s := S512x512) ![0, on] ![512, 128] i2)) (View.ld x3 (Rect.unit (s := S512x512) ![0, on] ![512, 128] i3))
      (View.ld x4 (Rect.unit (s := S512x512) ![0, on] ![512, 128] i4)) (View.ld x5 (Rect.unit (s := S512x512) ![0, on] ![512, 128] i5))
      acc y = stepAll dg x0 x1 x2 x3 x4 x5 s ((Rect.unit (s := S8x512x128) ![oh, 0, 0] ![1, 512, 128] inb).emb y) := by
  rw [piece_low dg f hf x0 x1 x2 x3 x4 x5 acc h ow on how hon, stepAll_emb dg x0 x1 x2 x3 x4 x5 s h oh hoh, hacc]

/-- Head `h`'s slice (the upper half of a pair of heads) after its addend is the slice of the accumulator after it. -/
theorem head_high (dg : Bool) (f : FVec Ideal S512x512 .f32 → FVec Ideal S512x512 .f32)
    (hf : ∀ (p : FVec Ideal S512x512 .f32) (a b : Fin 512), f p (ix2 a b) = if dg = true → b ≤ a then p (ix2 a b) else 0)
    (x0 x1 : Vec Ideal S512x1024 .bf16) (x2 : Vec Ideal S512x512 .bf16) (x3 x4 x5 : Vec Ideal S512x512 .f32) (s : Vec Ideal S8x512x128 .f32)
    (h : Fin 8) (oh : ℕ) (hoh : oh = h.val) (ow on : ℕ) (how : ow = 128 * h.val) (hon : on + 64 = 64 * h.val) (i0 i1 i2 i3 i4 i5) (inb)
    (acc : Vec Ideal S1x512x128 .f32) (hacc : acc = View.ld s (Rect.unit (s := S8x512x128) ![oh, 0, 0] ![1, 512, 128] inb)) (y : S1x512x128.Idx) :
    stepHigh f (View.ld x0 (Rect.unit (s := S512x1024) ![0, ow] ![512, 128] i0)) (View.ld x1 (Rect.unit (s := S512x1024) ![0, ow] ![512, 128] i1))
      (View.ld x2 (Rect.unit (s := S512x512) ![0, on] ![512, 128] i2)) (View.ld x3 (Rect.unit (s := S512x512) ![0, on] ![512, 128] i3))
      (View.ld x4 (Rect.unit (s := S512x512) ![0, on] ![512, 128] i4)) (View.ld x5 (Rect.unit (s := S512x512) ![0, on] ![512, 128] i5))
      acc y = stepAll dg x0 x1 x2 x3 x4 x5 s ((Rect.unit (s := S8x512x128) ![oh, 0, 0] ![1, 512, 128] inb).emb y) := by
  rw [piece_high dg f hf x0 x1 x2 x3 x4 x5 acc h ow on how hon, stepAll_emb dg x0 x1 x2 x3 x4 x5 s h oh hoh, hacc]

/-- The head that column `w` belongs to. -/
def headOf (w : Fin 1024) : Fin 8 := ⟨w.val / 128, by omega⟩

/-- The lane of its head that column `w` is. -/
def laneOf (w : Fin 1024) : Fin 128 := ⟨w.val % 128, by omega⟩

/-- The heads' accumulators, side by side. -/
def outOf (s : Vec Ideal S8x512x128 .f32) : Vec Ideal S512x1024 .bf16 := fun y => s (ix3 (headOf (y 1)) (y 0) (laneOf (y 1)))

section outWords

variable {F : FTy → Type} [FloatOps F] [Named F]

/-- A head's slice of the accumulator as it is stored into the result. -/
def outWord (v : Vec F S1x512x128 .f32) : FVec F S512x128 .bf16 :=
  truncf .bf16 (shapeCast S512x128 v shapeCasts_S1x512x128_S512x128) bitsLt_bf16_f32

end outWords

theorem outWord_apply (v : Vec Ideal S1x512x128 .f32) (a : Fin 512) (e : Fin 128) : outWord v (ix2 a e) = v (ix3 0 a e) := by
  unfold outWord
  pointwise

/-- Head `h`'s slice, stored at its columns, is that block of the heads side by side. -/
theorem head_out (s : Vec Ideal S8x512x128 .f32) (h : Fin 8) (oh : ℕ) (hoh : oh = h.val) (ow : ℕ) (how : ow = 128 * h.val) (inb) (inb')
    (v : Vec Ideal S1x512x128 .f32) (hv : ∀ y, v y = s ((Rect.unit (s := S8x512x128) ![oh, 0, 0] ![1, 512, 128] inb).emb y)) (x : S512x128.Idx) :
    outWord v x = outOf s ((Rect.unit (s := S512x1024) ![0, ow] ![512, 128] inb').emb x) := by
  obtain ⟨a, e, rfl⟩ : ∃ (a : Fin 512) (e : Fin 128), x = ix2 a e := ⟨x 0, x 1, eq_ix2 x⟩
  rw [outWord_apply, hv, emb_head h oh hoh]
  unfold outOf
  have h0 := ValueKit.rect_emb_unit_val (s := S512x1024) ![0, ow] ![512, 128] inb' (ix2 a e) 0
  have h1 := ValueKit.rect_emb_unit_val (s := S512x1024) ![0, ow] ![512, 128] inb' (ix2 a e) 1
  have e0 : ((Rect.unit (s := S512x1024) ![0, ow] ![512, 128] inb').emb (ix2 a e) 0 : Fin 512) = a :=
    Fin.ext (h0.trans (Nat.zero_add _))
  have e1 : ((Rect.unit (s := S512x1024) ![0, ow] ![512, 128] inb').emb (ix2 a e) 1 : Fin 1024) = wide h e :=
    Fin.ext (h1.trans (congrArg (· + e.val) how))
  have k0 : headOf (wide h e) = h := Fin.ext (by simp only [headOf, wide]; omega)
  have k1 : laneOf (wide h e) = e := Fin.ext (by simp only [laneOf, wide]; omega)
  rw [show ((Rect.unit (s := S512x1024) ![0, ow] ![512, 128] inb').emb (ix2 a e) 0) = a from e0,
    show ((Rect.unit (s := S512x1024) ![0, ow] ![512, 128] inb').emb (ix2 a e) 1) = wide h e from e1, k0, k1]
  rfl

end Cert.KernelIdeal.Dq

end
-- ==== Proof.DqCases.lean ====
module

public import proofs.«01_k».proof.Proof.DqTile
public import Idealize.ShloMosaic.Lib.Pipeline.ReadBack
public import Idealize.ShloMosaic.Lib.Pipeline.ValueKit.Acc

@[expose] public section

set_option maxRecDepth 16384

noncomputable section

namespace Cert.KernelIdeal.Dq

open Cert.KernelIdeal Cert.KernelIdeal.Gen
open Idealize.ShloMosaic Idealize.ShloMosaic.TcCoe Idealize.ShloMosaic.Tactic

/-- Pieces that are blocks of `G` and cover every index leave `G`. -/
theorem canon_of_piecesOf {Val : EltTy → Type} {s : Shape} {e : EltTy} [∀ e, Nonempty (Val e)] {G : s.Idx → Val e} {L : List (View.Piece Val s e)}
    (h : View.PiecesOf G L) (y : s.Idx) (hc : ∃ p ∈ L, y ∈ p.1.set) : View.canon L y = G y := by
  rw [← List.append_nil L]
  exact View.canon_append_of_piecesOf G [] L h y hc

variable (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1024 .bf16) (harg8 : arg8.IsWhole) (arg9 : Memref sig .tc .vmem S8x512x128 .f32) (harg9 : arg9.IsWhole)
  (x0 x1 : Vec Ideal S512x1024 .bf16) (x2 : Vec Ideal S512x512 .bf16) (x3 x4 x5 : Vec Ideal S512x512 .f32) (xs0 : Vec Ideal S8x512x128 .f32)

/-- The first point of the first query block starts from zero and adds its block under the causal mask. -/
theorem scratch_A (hc0 : cond0_0 i) (hc1 : ¬cond0_1 i) (hc2 : cond0_2 i) (hc3 : ¬cond0_3 i) :
    sout0_A_0 c i arg2 harg2 arg3 harg3 arg4 harg4 arg5 harg5 arg6 harg6 arg7 harg7 arg8 harg8 arg9 harg9 hc0 hc1 hc2 hc3 x0 x1 x2 x3 x4 x5 =
      stepAll true x0 x1 x2 x3 x4 x5 (k0_pay1 (F := Ideal)) := by
  unfold sout0_A_0
  frame_out [↓ View.readCov_skip, ↓ View.readCov_fill]
  funext y
  rw [show ∀ (a b c d e f g h z : View.Piece (Elt Ideal) S8x512x128 .f32), [a, b, c, d, e, f, g, h, z] = [a, b, c, d, e, f, g, h] ++ [z] from
    fun _ _ _ _ _ _ _ _ _ => rfl]
  refine View.canon_append_of_piecesOf _ _ _ ?_ y (View.cover_of_tiledL (s := S8x512x128) _ S1x512x128.size (by sl_kernel_rfl) y)
  refine ⟨?_, ?_, ?_, ?_, ?_, ?_, ?_, ?_, trivial⟩ <;> intro x
  · exact head_high true masked masked_dg x0 x1 x2 x3 x4 x5 (k0_pay1 (F := Ideal)) 7 _ rfl _ _ rfl rfl _ _ _ _ _ _ _ _ rfl x
  · exact head_low true masked masked_dg x0 x1 x2 x3 x4 x5 (k0_pay1 (F := Ideal)) 6 _ rfl _ _ rfl rfl _ _ _ _ _ _ _ _ rfl x
  · exact head_high true masked masked_dg x0 x1 x2 x3 x4 x5 (k0_pay1 (F := Ideal)) 5 _ rfl _ _ rfl rfl _ _ _ _ _ _ _ _ rfl x
  · exact head_low true masked masked_dg x0 x1 x2 x3 x4 x5 (k0_pay1 (F := Ideal)) 4 _ rfl _ _ rfl rfl _ _ _ _ _ _ _ _ rfl x
  · exact head_high true masked masked_dg x0 x1 x2 x3 x4 x5 (k0_pay1 (F := Ideal)) 3 _ rfl _ _ rfl rfl _ _ _ _ _ _ _ _ rfl x
  · exact head_low true masked masked_dg x0 x1 x2 x3 x4 x5 (k0_pay1 (F := Ideal)) 2 _ rfl _ _ rfl rfl _ _ _ _ _ _ _ _ rfl x
  · exact head_high true masked masked_dg x0 x1 x2 x3 x4 x5 (k0_pay1 (F := Ideal)) 1 _ rfl _ _ rfl rfl _ _ _ _ _ _ _ _ rfl x
  · exact head_low true masked masked_dg x0 x1 x2 x3 x4 x5 (k0_pay1 (F := Ideal)) 0 _ rfl _ _ rfl rfl _ _ _ _ _ _ _ _ rfl x

/-- The first point of another query block starts from zero and adds its whole block. -/
theorem scratch_D (hc0 : cond0_0 i) (hc1 : cond0_1 i) (hc2 : ¬cond0_2 i) (hc3 : ¬cond0_3 i) :
    sout0_D_0 c i arg2 harg2 arg3 harg3 arg4 harg4 arg5 harg5 arg6 harg6 arg7 harg7 arg8 harg8 arg9 harg9 hc0 hc1 hc2 hc3 x0 x1 x2 x3 x4 x5 =
      stepAll false x0 x1 x2 x3 x4 x5 (k0_pay1 (F := Ideal)) := by
  unfold sout0_D_0
  frame_out [↓ View.readCov_skip, ↓ View.readCov_fill]
  funext y
  rw [show ∀ (a b c d e f g h z : View.Piece (Elt Ideal) S8x512x128 .f32), [a, b, c, d, e, f, g, h, z] = [a, b, c, d, e, f, g, h] ++ [z] from
    fun _ _ _ _ _ _ _ _ _ => rfl]
  refine View.canon_append_of_piecesOf _ _ _ ?_ y (View.cover_of_tiledL (s := S8x512x128) _ S1x512x128.size (by sl_kernel_rfl) y)
  refine ⟨?_, ?_, ?_, ?_, ?_, ?_, ?_, ?_, trivial⟩ <;> intro x
  · exact head_high false id plain_id x0 x1 x2 x3 x4 x5 (k0_pay1 (F := Ideal)) 7 _ rfl _ _ rfl rfl _ _ _ _ _ _ _ _ rfl x
  · exact head_low false id plain_id x0 x1 x2 x3 x4 x5 (k0_pay1 (F := Ideal)) 6 _ rfl _ _ rfl rfl _ _ _ _ _ _ _ _ rfl x
  · exact head_high false id plain_id x0 x1 x2 x3 x4 x5 (k0_pay1 (F := Ideal)) 5 _ rfl _ _ rfl rfl _ _ _ _ _ _ _ _ rfl x
  · exact head_low false id plain_id x0 x1 x2 x3 x4 x5 (k0_pay1 (F := Ideal)) 4 _ rfl _ _ rfl rfl _ _ _ _ _ _ _ _ rfl x
  · exact head_high false id plain_id x0 x1 x2 x3 x4 x5 (k0_pay1 (F := Ideal)) 3 _ rfl _ _ rfl rfl _ _ _ _ _ _ _ _ rfl x
  · exact head_low false id plain_id x0 x1 x2 x3 x4 x5 (k0_pay1 (F := Ideal)) 2 _ rfl _ _ rfl rfl _ _ _ _ _ _ _ _ rfl x
  · exact head_high false id plain_id x0 x1 x2 x3 x4 x5 (k0_pay1 (F := Ideal)) 1 _ rfl _ _ rfl rfl _ _ _ _ _ _ _ _ rfl x
  · exact head_low false id plain_id x0 x1 x2 x3 x4 x5 (k0_pay1 (F := Ideal)) 0 _ rfl _ _ rfl rfl _ _ _ _ _ _ _ _ rfl x

/-- A point on the diagonal adds its block under the causal mask. -/
theorem scratch_E (hc0 : ¬cond0_0 i) (hc1 : ¬cond0_1 i) (hc2 : cond0_2 i) (hc3 : ¬cond0_3 i) :
    sout0_E_0 c i arg2 harg2 arg3 harg3 arg4 harg4 arg5 harg5 arg6 harg6 arg7 harg7 arg8 harg8 arg9 harg9 hc0 hc1 hc2 hc3 x0 x1 x2 x3 x4 x5 xs0 =
      stepAll true x0 x1 x2 x3 x4 x5 xs0 := by
  unfold sout0_E_0
  frame_out
  funext y
  refine canon_of_piecesOf ?_ y (View.cover_of_tiledL (s := S8x512x128) _ S1x512x128.size (by sl_kernel_rfl) y)
  refine ⟨?_, ?_, ?_, ?_, ?_, ?_, ?_, ?_, trivial⟩ <;> intro x
  · exact head_high true masked masked_dg x0 x1 x2 x3 x4 x5 xs0 7 _ rfl _ _ rfl rfl _ _ _ _ _ _ _ _ rfl x
  · exact head_low true masked masked_dg x0 x1 x2 x3 x4 x5 xs0 6 _ rfl _ _ rfl rfl _ _ _ _ _ _ _ _ rfl x
  · exact head_high true masked masked_dg x0 x1 x2 x3 x4 x5 xs0 5 _ rfl _ _ rfl rfl _ _ _ _ _ _ _ _ rfl x
  · exact head_low true masked masked_dg x0 x1 x2 x3 x4 x5 xs0 4 _ rfl _ _ rfl rfl _ _ _ _ _ _ _ _ rfl x
  · exact head_high true masked masked_dg x0 x1 x2 x3 x4 x5 xs0 3 _ rfl _ _ rfl rfl _ _ _ _ _ _ _ _ rfl x
  · exact head_low true masked masked_dg x0 x1 x2 x3 x4 x5 xs0 2 _ rfl _ _ rfl rfl _ _ _ _ _ _ _ _ rfl x
  · exact head_high true masked masked_dg x0 x1 x2 x3 x4 x5 xs0 1 _ rfl _ _ rfl rfl _ _ _ _ _ _ _ _ rfl x
  · exact head_low true masked masked_dg x0 x1 x2 x3 x4 x5 xs0 0 _ rfl _ _ rfl rfl _ _ _ _ _ _ _ _ rfl x

/-- A point below the diagonal adds its whole block. -/
theorem scratch_F (hc0 : ¬cond0_0 i) (hc1 : cond0_1 i) (hc2 : ¬cond0_2 i) (hc3 : ¬cond0_3 i) :
    sout0_F_0 c i arg2 harg2 arg3 harg3 arg4 harg4 arg5 harg5 arg6 harg6 arg7 harg7 arg8 harg8 arg9 harg9 hc0 hc1 hc2 hc3 x0 x1 x2 x3 x4 x5 xs0 =
      stepAll false x0 x1 x2 x3 x4 x5 xs0 := by
  unfold sout0_F_0
  frame_out
  funext y
  refine canon_of_piecesOf ?_ y (View.cover_of_tiledL (s := S8x512x128) _ S1x512x128.size (by sl_kernel_rfl) y)
  refine ⟨?_, ?_, ?_, ?_, ?_, ?_, ?_, ?_, trivial⟩ <;> intro x
  · exact head_high false id plain_id x0 x1 x2 x3 x4 x5 xs0 7 _ rfl _ _ rfl rfl _ _ _ _ _ _ _ _ rfl x
  · exact head_low false id plain_id x0 x1 x2 x3 x4 x5 xs0 6 _ rfl _ _ rfl rfl _ _ _ _ _ _ _ _ rfl x
  · exact head_high false id plain_id x0 x1 x2 x3 x4 x5 xs0 5 _ rfl _ _ rfl rfl _ _ _ _ _ _ _ _ rfl x
  · exact head_low false id plain_id x0 x1 x2 x3 x4 x5 xs0 4 _ rfl _ _ rfl rfl _ _ _ _ _ _ _ _ rfl x
  · exact head_high false id plain_id x0 x1 x2 x3 x4 x5 xs0 3 _ rfl _ _ rfl rfl _ _ _ _ _ _ _ _ rfl x
  · exact head_low false id plain_id x0 x1 x2 x3 x4 x5 xs0 2 _ rfl _ _ rfl rfl _ _ _ _ _ _ _ _ rfl x
  · exact head_high false id plain_id x0 x1 x2 x3 x4 x5 xs0 1 _ rfl _ _ rfl rfl _ _ _ _ _ _ _ _ rfl x
  · exact head_low false id plain_id x0 x1 x2 x3 x4 x5 xs0 0 _ rfl _ _ rfl rfl _ _ _ _ _ _ _ _ rfl x

/-- The last point of the last query block adds its block under the causal mask. -/
theorem scratch_G (hc0 : ¬cond0_0 i) (hc1 : ¬cond0_1 i) (hc2 : cond0_2 i) (hc3 : cond0_3 i) :
    sout0_G_0 c i arg2 harg2 arg3 harg3 arg4 harg4 arg5 harg5 arg6 harg6 arg7 harg7 arg8 harg8 arg9 harg9 hc0 hc1 hc2 hc3 x0 x1 x2 x3 x4 x5 xs0 =
      stepAll true x0 x1 x2 x3 x4 x5 xs0 := by
  unfold sout0_G_0
  frame_out
  funext y
  refine canon_of_piecesOf ?_ y (View.cover_of_tiledL (s := S8x512x128) _ S1x512x128.size (by sl_kernel_rfl) y)
  refine ⟨?_, ?_, ?_, ?_, ?_, ?_, ?_, ?_, trivial⟩ <;> intro x
  · exact head_high true masked masked_dg x0 x1 x2 x3 x4 x5 xs0 7 _ rfl _ _ rfl rfl _ _ _ _ _ _ _ _ rfl x
  · exact head_low true masked masked_dg x0 x1 x2 x3 x4 x5 xs0 6 _ rfl _ _ rfl rfl _ _ _ _ _ _ _ _ rfl x
  · exact head_high true masked masked_dg x0 x1 x2 x3 x4 x5 xs0 5 _ rfl _ _ rfl rfl _ _ _ _ _ _ _ _ rfl x
  · exact head_low true masked masked_dg x0 x1 x2 x3 x4 x5 xs0 4 _ rfl _ _ rfl rfl _ _ _ _ _ _ _ _ rfl x
  · exact head_high true masked masked_dg x0 x1 x2 x3 x4 x5 xs0 3 _ rfl _ _ rfl rfl _ _ _ _ _ _ _ _ rfl x
  · exact head_low true masked masked_dg x0 x1 x2 x3 x4 x5 xs0 2 _ rfl _ _ rfl rfl _ _ _ _ _ _ _ _ rfl x
  · exact head_high true masked masked_dg x0 x1 x2 x3 x4 x5 xs0 1 _ rfl _ _ rfl rfl _ _ _ _ _ _ _ _ rfl x
  · exact head_low true masked masked_dg x0 x1 x2 x3 x4 x5 xs0 0 _ rfl _ _ rfl rfl _ _ _ _ _ _ _ _ rfl x

/-- The last point of a query block above the diagonal keeps the accumulator. -/
theorem scratch_C (hc0 : ¬cond0_0 i) (hc1 : ¬cond0_1 i) (hc2 : ¬cond0_2 i) (hc3 : cond0_3 i) :
    sout0_C_0 c i arg2 harg2 arg3 harg3 arg4 harg4 arg5 harg5 arg6 harg6 arg7 harg7 arg8 harg8 arg9 harg9 hc0 hc1 hc2 hc3 x0 x1 x2 x3 x4 x5 xs0 = xs0 := by
  unfold sout0_C_0
  frame_out

/-- Another point above the diagonal keeps the accumulator. -/
theorem scratch_B (hc0 : ¬cond0_0 i) (hc1 : ¬cond0_1 i) (hc2 : ¬cond0_2 i) (hc3 : ¬cond0_3 i) :
    sout0_B_0 c i arg2 harg2 arg3 harg3 arg4 harg4 arg5 harg5 arg6 harg6 arg7 harg7 arg8 harg8 arg9 harg9 hc0 hc1 hc2 hc3 x0 x1 x2 x3 x4 x5 xs0 = xs0 := by
  unfold sout0_B_0
  frame_out

/-- The last point stores the heads side by side. -/
theorem result_C (hc0 : ¬cond0_0 i) (hc1 : ¬cond0_1 i) (hc2 : ¬cond0_2 i) (hc3 : cond0_3 i) :
    out0_C_6 c i arg2 harg2 arg3 harg3 arg4 harg4 arg5 harg5 arg6 harg6 arg7 harg7 arg8 harg8 arg9 harg9 hc0 hc1 hc2 hc3 x0 x1 x2 x3 x4 x5 xs0 = outOf xs0 := by
  unfold out0_C_6
  frame_out
  funext y
  refine canon_of_piecesOf (Val := Elt Ideal) ?_ y (View.cover_of_tiledL (s := S512x1024) _ S512x128.size (by sl_kernel_rfl) y)
  refine ⟨?_, ?_, ?_, ?_, ?_, ?_, ?_, ?_, trivial⟩ <;> intro x
  · exact head_out xs0 7 7 rfl 896 rfl _ inb_S512x1024_S512x128_0_896 _ (fun _ => rfl) x
  · exact head_out xs0 6 6 rfl 768 rfl _ inb_S512x1024_S512x128_0_768 _ (fun _ => rfl) x
  · exact head_out xs0 5 5 rfl 640 rfl _ inb_S512x1024_S512x128_0_640 _ (fun _ => rfl) x
  · exact head_out xs0 4 4 rfl 512 rfl _ inb_S512x1024_S512x128_0_512 _ (fun _ => rfl) x
  · exact head_out xs0 3 3 rfl 384 rfl _ inb_S512x1024_S512x128_0_384 _ (fun _ => rfl) x
  · exact head_out xs0 2 2 rfl 256 rfl _ inb_S512x1024_S512x128_0_256 _ (fun _ => rfl) x
  · exact head_out xs0 1 1 rfl 128 rfl _ inb_S512x1024_S512x128_0_128 _ (fun _ => rfl) x
  · exact head_out xs0 0 0 rfl 0 rfl _ inb_S512x1024_S512x128_0_0 _ (fun _ => rfl) x

/-- The last point of the last query block stores the heads side by side, its own block added. -/
theorem result_G (hc0 : ¬cond0_0 i) (hc1 : ¬cond0_1 i) (hc2 : cond0_2 i) (hc3 : cond0_3 i) :
    out0_G_6 c i arg2 harg2 arg3 harg3 arg4 harg4 arg5 harg5 arg6 harg6 arg7 harg7 arg8 harg8 arg9 harg9 hc0 hc1 hc2 hc3 x0 x1 x2 x3 x4 x5 xs0 =
      outOf (stepAll true x0 x1 x2 x3 x4 x5 xs0) := by
  unfold out0_G_6
  frame_out [↓ View.readCov_skip, ↓ View.readCov_cons_toLoadRect]
  funext y
  refine canon_of_piecesOf (Val := Elt Ideal) ?_ y (View.cover_of_tiledL (s := S512x1024) _ S512x128.size (by sl_kernel_rfl) y)
  refine ⟨?_, ?_, ?_, ?_, ?_, ?_, ?_, ?_, trivial⟩ <;> intro x
  · exact head_out _ 7 7 rfl 896 rfl _ inb_S512x1024_S512x128_0_896 _ (fun z => head_high true masked masked_dg x0 x1 x2 x3 x4 x5 xs0 7 7 rfl 896 384 rfl rfl _ _ _ _ _ _ _ _ rfl z) x
  · exact head_out _ 6 6 rfl 768 rfl _ inb_S512x1024_S512x128_0_768 _ (fun z => head_low true masked masked_dg x0 x1 x2 x3 x4 x5 xs0 6 6 rfl 768 384 rfl rfl _ _ _ _ _ _ _ _ rfl z) x
  · exact head_out _ 5 5 rfl 640 rfl _ inb_S512x1024_S512x128_0_640 _ (fun z => head_high true masked masked_dg x0 x1 x2 x3 x4 x5 xs0 5 5 rfl 640 256 rfl rfl _ _ _ _ _ _ _ _ rfl z) x
  · exact head_out _ 4 4 rfl 512 rfl _ inb_S512x1024_S512x128_0_512 _ (fun z => head_low true masked masked_dg x0 x1 x2 x3 x4 x5 xs0 4 4 rfl 512 256 rfl rfl _ _ _ _ _ _ _ _ rfl z) x
  · exact head_out _ 3 3 rfl 384 rfl _ inb_S512x1024_S512x128_0_384 _ (fun z => head_high true masked masked_dg x0 x1 x2 x3 x4 x5 xs0 3 3 rfl 384 128 rfl rfl _ _ _ _ _ _ _ _ rfl z) x
  · exact head_out _ 2 2 rfl 256 rfl _ inb_S512x1024_S512x128_0_256 _ (fun z => head_low true masked masked_dg x0 x1 x2 x3 x4 x5 xs0 2 2 rfl 256 128 rfl rfl _ _ _ _ _ _ _ _ rfl z) x
  · exact head_out _ 1 1 rfl 128 rfl _ inb_S512x1024_S512x128_0_128 _ (fun z => head_high true masked masked_dg x0 x1 x2 x3 x4 x5 xs0 1 1 rfl 128 0 rfl rfl _ _ _ _ _ _ _ _ rfl z) x
  · exact head_out _ 0 0 rfl 0 rfl _ inb_S512x1024_S512x128_0_0 _ (fun z => head_low true masked masked_dg x0 x1 x2 x3 x4 x5 xs0 0 0 rfl 0 0 rfl rfl _ _ _ _ _ _ _ _ rfl z) x

end Cert.KernelIdeal.Dq

end
-- ==== Proof.DqPoints.lean ====
module

public import proofs.«01_k».proof.Proof.DqCases
public import Idealize.ShloMosaic.Lib.Pipeline.ValueKit.Geometry

@[expose] public section

set_option maxRecDepth 16384

noncomputable section

namespace Cert.KernelIdeal.Dq

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem points : cfg0.N = 64 := N_0

/-- The points on the diagonal are the multiples of 9. -/
theorem diagonal : ∀ n < 64, n % 9 = 0 ↔ n % 8 = n / 8 := by decide

/-- The query block of a point. -/
def qb (t : Fin cfg0.N) : Fin 8 := ⟨t.val / 8, by have := lt_of_lt_of_eq t.isLt points; omega⟩

/-- The key block of a point. -/
def kb (t : Fin cfg0.N) : Fin 8 := ⟨t.val % 8, by omega⟩

/-- Row `a` of block `u`. -/
abbrev row (u : Fin 8) (a : Fin 512) : Fin 4096 := ⟨512 * u.val + a.val, by omega⟩

abbrev arr0 : Vec Ideal S4096x1024 .bf16 := V m c (Pipeline.arrRef spec0 0)
abbrev arr1 : Vec Ideal S4096x1024 .bf16 := V m c (Pipeline.arrRef spec0 1)
abbrev arr2 : Vec Ideal S4096x512 .bf16 := V m c (Pipeline.arrRef spec0 2)
abbrev arr3 : Vec Ideal S4096x512 .f32 := V m c (Pipeline.arrRef spec0 3)
abbrev arr4 : Vec Ideal S4096x512 .f32 := V m c (Pipeline.arrRef spec0 4)
abbrev arr5 : Vec Ideal S4096x512 .f32 := V m c (Pipeline.arrRef spec0 5)

theorem index_q : ∀ t : Fin cfg0.N, (cfg0.win 0).index t 0 = t.val / 8 ∧ (cfg0.win 0).index t 1 = 0
    ∧ (cfg0.win 3).index t 0 = t.val / 8 ∧ (cfg0.win 3).index t 1 = 0 ∧ (cfg0.win 4).index t 0 = t.val / 8 ∧ (cfg0.win 4).index t 1 = 0
    ∧ (cfg0.win 5).index t 0 = t.val / 8 ∧ (cfg0.win 5).index t 1 = 0 ∧ (cfg0.win 6).index t 0 = t.val / 8 ∧ (cfg0.win 6).index t 1 = 0 := by
  decide +kernel

theorem index_k : ∀ t : Fin cfg0.N, (cfg0.win 1).index t 0 = min (t.val % 8) (t.val / 8) ∧ (cfg0.win 1).index t 1 = 0
    ∧ (cfg0.win 2).index t 0 = min (t.val % 8) (t.val / 8) ∧ (cfg0.win 2).index t 1 = 0 := by
  decide +kernel

theorem block0 (t : Fin cfg0.N) (a : Fin 512) (w : Fin 1024) :
    (iblk m c 0 t : Vec Ideal S512x1024 .bf16) (ix2 a w) = arr0 m c (ix2 (row (qb t) a) w) := by
  obtain ⟨e0, e1, -⟩ := index_q t
  blk_ext [iblk, e0, e1, qb]

theorem block1 (t : Fin cfg0.N) (h : t.val % 8 ≤ t.val / 8) (b : Fin 512) (w : Fin 1024) :
    (iblk m c 1 t : Vec Ideal S512x1024 .bf16) (ix2 b w) = arr1 m c (ix2 (row (kb t) b) w) := by
  obtain ⟨e0, e1, -⟩ := index_k t
  rw [min_eq_left h] at e0
  blk_ext [iblk, e0, e1, kb]

theorem block2 (t : Fin cfg0.N) (h : t.val % 8 ≤ t.val / 8) (b : Fin 512) (w : Fin 512) :
    (iblk m c 2 t : Vec Ideal S512x512 .bf16) (ix2 b w) = arr2 m c (ix2 (row (kb t) b) w) := by
  obtain ⟨-, -, e0, e1⟩ := index_k t
  rw [min_eq_left h] at e0
  blk_ext [iblk, e0, e1, kb]

theorem block3 (t : Fin cfg0.N) (a : Fin 512) (w : Fin 512) :
    (iblk m c 3 t : Vec Ideal S512x512 .f32) (ix2 a w) = arr3 m c (ix2 (row (qb t) a) w) := by
  obtain ⟨-, -, e0, e1, -⟩ := index_q t
  blk_ext [iblk, e0, e1, qb]

theorem block4 (t : Fin cfg0.N) (a : Fin 512) (w : Fin 512) :
    (iblk m c 4 t : Vec Ideal S512x512 .f32) (ix2 a w) = arr4 m c (ix2 (row (qb t) a) w) := by
  obtain ⟨-, -, -, -, e0, e1, -⟩ := index_q t
  blk_ext [iblk, e0, e1, qb]

theorem emb5 (t : Fin cfg0.N) (a : Fin 512) (w : Fin 512) :
    ((cfg0.win 5).blk t).view.emb (ix2 a w) = ix2 (row (qb t) a) w := by
  obtain ⟨-, -, -, -, -, -, e0, e1, -⟩ := index_q t
  blk_ext [e0, e1, qb]

theorem read5 (A : Vec Ideal S4096x512 .f32) (t : Fin cfg0.N) (a : Fin 512) (w : Fin 512) :
    (((cfg0.win 5).blk t).view.read (Elt Ideal) A : Vec Ideal S512x512 .f32) (ix2 a w) = A (ix2 (row (qb t) a) w) :=
  congrArg A (emb5 t a w)

theorem iblk5 (t : Fin cfg0.N) : iblk m c 5 t = ((cfg0.win 5).blk t).view.read (Elt Ideal) (arr5 m c) := by
  unfold iblk
  rfl

theorem block5 (t : Fin cfg0.N) (a : Fin 512) (w : Fin 512) :
    (iblk m c 5 t : Vec Ideal S512x512 .f32) (ix2 a w) = arr5 m c (ix2 (row (qb t) a) w) := by
  rw [iblk5]
  exact read5 _ t a w

/-- The gradient of the score of query row `r` and key row `s` of head `h`. -/
def gradOf (A0 A1 : Vec Ideal S4096x1024 .bf16) (A2 : Vec Ideal S4096x512 .bf16) (A3 A4 A5 : Vec Ideal S4096x512 .f32) (h : Fin 8) (r s : Fin 4096) : EReal :=
  gradAt (if s ≤ r then weightAt (∑ j : Fin 128, A0 (ix2 r (wide h j)) * A1 (ix2 s (wide h j))) (A5 (ix2 r (narrow h 0))) else 0)
    (∑ j : Fin 64, A3 (ix2 r (narrow h j)) * A2 (ix2 s (narrow h j))) (∑ j : Fin 64, A3 (ix2 r (narrow h j)) * A4 (ix2 r (narrow h j)))

/-- What key block `u` adds at row `r`. -/
def partSum (u : Fin 8) (h : Fin 8) (r : Fin 4096) (e : Fin 128) : EReal :=
  ∑ b : Fin 512, gradOf (arr0 m c) (arr1 m c) (arr2 m c) (arr3 m c) (arr4 m c) (arr5 m c) h r (row u b) * arr1 m c (ix2 (row u b) (wide h e))

theorem tile_eq (t : Fin cfg0.N) (dg : Bool) (hd : dg = true ↔ t.val % 8 = t.val / 8) (h : t.val % 8 ≤ t.val / 8) (hh : Fin 8) (a : Fin 512) (e : Fin 128) :
    tileSum dg (iblk m c 0 t) (iblk m c 1 t) (iblk m c 2 t) (iblk m c 3 t) (iblk m c 4 t) (iblk m c 5 t) hh a e =
      partSum m c (kb t) hh (row (qb t) a) e := by
  unfold tileSum partSum
  refine Finset.sum_congr rfl fun b _ => ?_
  rw [block1 m c t h]
  congr 1
  unfold tileGrad gradOf
  simp only [block0, block1 m c t h, block2 m c t h, block3, block4, block5]
  have hm : (dg = true → b ≤ a) ↔ row (kb t) b ≤ row (qb t) a := by
    rw [hd]
    simp only [kb, qb, Fin.mk_le_mk, Fin.le_def]
    omega
  simp only [hm]

/-- What key block `u` adds, for any number `u`. -/
def partAt (u : ℕ) (h : Fin 8) (r : Fin 4096) (e : Fin 128) : EReal := if hu : u < 8 then partSum m c ⟨u, hu⟩ h r e else 0

theorem zero_start (y : S8x512x128.Idx) : k0_pay1 (F := Ideal) y = 0 := by
  unfold k0_pay1
  pointwise

/-- The accumulator after the key blocks below `k` are added. -/
def accTo (k : ℕ) (q : Fin 8) : Vec Ideal S8x512x128 .f32 := fun y => ∑ u ∈ Finset.range k, partAt m c u (y 0) (row q (y 1)) (y 2)

theorem step_start (t : Fin cfg0.N) (dg : Bool) (hd : dg = true ↔ t.val % 8 = t.val / 8) (h : t.val % 8 = 0) :
    stepAll dg (iblk m c 0 t) (iblk m c 1 t) (iblk m c 2 t) (iblk m c 3 t) (iblk m c 4 t) (iblk m c 5 t) (k0_pay1 (F := Ideal)) =
      accTo m c 1 (qb t) := by
  funext y
  obtain ⟨h', a, e, rfl⟩ : ∃ (h' : Fin 8) (a : Fin 512) (e : Fin 128), y = ix3 h' a e := ⟨y 0, y 1, y 2, eq_ix3 y⟩
  change k0_pay1 (F := Ideal) (ix3 h' a e) + tileSum dg (iblk m c 0 t) (iblk m c 1 t) (iblk m c 2 t) (iblk m c 3 t) (iblk m c 4 t) (iblk m c 5 t) h' a e =
    ∑ u ∈ Finset.range 1, partAt m c u h' (row (qb t) a) e
  rw [tile_eq m c t dg hd (by omega), zero_start, zero_add, Finset.sum_range_one, partAt, dif_pos (by norm_num)]
  congr 1
  exact Fin.ext h

theorem step_next (t : Fin cfg0.N) (dg : Bool) (hd : dg = true ↔ t.val % 8 = t.val / 8) (h : t.val % 8 ≤ t.val / 8) (k : ℕ) (hk : k = t.val % 8)
    (s : Vec Ideal S8x512x128 .f32) (hs : s = accTo m c k (qb t)) :
    stepAll dg (iblk m c 0 t) (iblk m c 1 t) (iblk m c 2 t) (iblk m c 3 t) (iblk m c 4 t) (iblk m c 5 t) s = accTo m c (k + 1) (qb t) := by
  subst hs
  funext y
  obtain ⟨h', a, e, rfl⟩ : ∃ (h' : Fin 8) (a : Fin 512) (e : Fin 128), y = ix3 h' a e := ⟨y 0, y 1, y 2, eq_ix3 y⟩
  change ∑ u ∈ Finset.range k, partAt m c u h' (row (qb t) a) e +
      tileSum dg (iblk m c 0 t) (iblk m c 1 t) (iblk m c 2 t) (iblk m c 3 t) (iblk m c 4 t) (iblk m c 5 t) h' a e =
    ∑ u ∈ Finset.range (k + 1), partAt m c u h' (row (qb t) a) e
  rw [tile_eq m c t dg hd h, Finset.sum_range_succ]
  congr 1
  rw [partAt, dif_pos (by omega)]
  congr 1
  exact Fin.ext hk.symm

theorem carried_A (t : Fin cfg0.N) (h0 : t.val % 8 = 0) (h1 : ¬t.val % 8 + 1 ≤ t.val / 8 % 8) (h2 : t.val % 9 = 0) (h3 : ¬t.val % 8 = 7) :
    (outsAt0 m c t.val t.isLt).2 = stepAll true (iblk m c 0 t) (iblk m c 1 t) (iblk m c 2 t) (iblk m c 3 t) (iblk m c 4 t) (iblk m c 5 t) (k0_pay1 (F := Ideal)) := by
  rw [outsAt0_A m c t h0 h1 h2 h3, case_A]
  dsimp only
  have h := scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) ((hcond0_0 t).mpr h0) (fun h => h1 ((hcond0_1 t).mp h)) ((hcond0_2 t).mpr h2) (fun h => h3 ((hcond0_3 t).mp h))
  rw [h]

theorem carried_B (t : Fin cfg0.N) (h0 : ¬t.val % 8 = 0) (h1 : ¬t.val % 8 + 1 ≤ t.val / 8 % 8) (h2 : ¬t.val % 9 = 0) (h3 : ¬t.val % 8 = 7) :
    (outsAt0 m c t.val t.isLt).2 = (outsAt0 m c (t.val - 1) (Nat.lt_of_le_of_lt (Nat.sub_le _ _) t.isLt)).2 := by
  rw [outsAt0_B m c t h0 h1 h2 h3, case_B]
  dsimp only
  have h := scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2 (fun h => h0 ((hcond0_0 t).mp h)) (fun h => h1 ((hcond0_1 t).mp h)) (fun h => h2 ((hcond0_2 t).mp h)) (fun h => h3 ((hcond0_3 t).mp h))
  rw [h]

theorem carried_C (t : Fin cfg0.N) (h0 : ¬t.val % 8 = 0) (h1 : ¬t.val % 8 + 1 ≤ t.val / 8 % 8) (h2 : ¬t.val % 9 = 0) (h3 : t.val % 8 = 7) :
    (outsAt0 m c t.val t.isLt).2 = (outsAt0 m c (t.val - 1) (Nat.lt_of_le_of_lt (Nat.sub_le _ _) t.isLt)).2 := by
  rw [outsAt0_C m c t h0 h1 h2 h3, case_C]
  dsimp only
  have h := scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2 (fun h => h0 ((hcond0_0 t).mp h)) (fun h => h1 ((hcond0_1 t).mp h)) (fun h => h2 ((hcond0_2 t).mp h)) ((hcond0_3 t).mpr h3)
  rw [h]

theorem carried_D (t : Fin cfg0.N) (h0 : t.val % 8 = 0) (h1 : t.val % 8 + 1 ≤ t.val / 8 % 8) (h2 : ¬t.val % 9 = 0) (h3 : ¬t.val % 8 = 7) :
    (outsAt0 m c t.val t.isLt).2 = stepAll false (iblk m c 0 t) (iblk m c 1 t) (iblk m c 2 t) (iblk m c 3 t) (iblk m c 4 t) (iblk m c 5 t) (k0_pay1 (F := Ideal)) := by
  rw [outsAt0_D m c t h0 h1 h2 h3, case_D]
  dsimp only
  have h := scratch_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) ((hcond0_0 t).mpr h0) ((hcond0_1 t).mpr h1) (fun h => h2 ((hcond0_2 t).mp h)) (fun h => h3 ((hcond0_3 t).mp h))
  rw [h]

theorem carried_E (t : Fin cfg0.N) (h0 : ¬t.val % 8 = 0) (h1 : ¬t.val % 8 + 1 ≤ t.val / 8 % 8) (h2 : t.val % 9 = 0) (h3 : ¬t.val % 8 = 7) :
    (outsAt0 m c t.val t.isLt).2 = stepAll true (iblk m c 0 t) (iblk m c 1 t) (iblk m c 2 t) (iblk m c 3 t) (iblk m c 4 t) (iblk m c 5 t) (outsAt0 m c (t.val - 1) (Nat.lt_of_le_of_lt (Nat.sub_le _ _) t.isLt)).2 := by
  rw [outsAt0_E m c t h0 h1 h2 h3, case_E]
  dsimp only
  have h := scratch_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2 (fun h => h0 ((hcond0_0 t).mp h)) (fun h => h1 ((hcond0_1 t).mp h)) ((hcond0_2 t).mpr h2) (fun h => h3 ((hcond0_3 t).mp h))
  rw [h]

theorem carried_F (t : Fin cfg0.N) (h0 : ¬t.val % 8 = 0) (h1 : t.val % 8 + 1 ≤ t.val / 8 % 8) (h2 : ¬t.val % 9 = 0) (h3 : ¬t.val % 8 = 7) :
    (outsAt0 m c t.val t.isLt).2 = stepAll false (iblk m c 0 t) (iblk m c 1 t) (iblk m c 2 t) (iblk m c 3 t) (iblk m c 4 t) (iblk m c 5 t) (outsAt0 m c (t.val - 1) (Nat.lt_of_le_of_lt (Nat.sub_le _ _) t.isLt)).2 := by
  rw [outsAt0_F m c t h0 h1 h2 h3, case_F]
  dsimp only
  have h := scratch_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2 (fun h => h0 ((hcond0_0 t).mp h)) ((hcond0_1 t).mpr h1) (fun h => h2 ((hcond0_2 t).mp h)) (fun h => h3 ((hcond0_3 t).mp h))
  rw [h]

theorem carried_G (t : Fin cfg0.N) (h0 : ¬t.val % 8 = 0) (h1 : ¬t.val % 8 + 1 ≤ t.val / 8 % 8) (h2 : t.val % 9 = 0) (h3 : t.val % 8 = 7) :
    (outsAt0 m c t.val t.isLt).2 = stepAll true (iblk m c 0 t) (iblk m c 1 t) (iblk m c 2 t) (iblk m c 3 t) (iblk m c 4 t) (iblk m c 5 t) (outsAt0 m c (t.val - 1) (Nat.lt_of_le_of_lt (Nat.sub_le _ _) t.isLt)).2 := by
  rw [outsAt0_G m c t h0 h1 h2 h3, case_G]
  dsimp only
  have h := scratch_G c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2 (fun h => h0 ((hcond0_0 t).mp h)) (fun h => h1 ((hcond0_1 t).mp h)) ((hcond0_2 t).mpr h2) ((hcond0_3 t).mpr h3)
  rw [h]

theorem stored_C (t : Fin cfg0.N) (h0 : ¬t.val % 8 = 0) (h1 : ¬t.val % 8 + 1 ≤ t.val / 8 % 8) (h2 : ¬t.val % 9 = 0) (h3 : t.val % 8 = 7) :
    (outsAt0 m c t.val t.isLt).1 = outOf ((outsAt0 m c (t.val - 1) (Nat.lt_of_le_of_lt (Nat.sub_le _ _) t.isLt)).2) := by
  rw [outsAt0_C m c t h0 h1 h2 h3, case_C]
  dsimp only
  have h := result_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2 (fun h => h0 ((hcond0_0 t).mp h)) (fun h => h1 ((hcond0_1 t).mp h)) (fun h => h2 ((hcond0_2 t).mp h)) ((hcond0_3 t).mpr h3)
  rw [h]

theorem stored_G (t : Fin cfg0.N) (h0 : ¬t.val % 8 = 0) (h1 : ¬t.val % 8 + 1 ≤ t.val / 8 % 8) (h2 : t.val % 9 = 0) (h3 : t.val % 8 = 7) :
    (outsAt0 m c t.val t.isLt).1 = outOf (stepAll true (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  rw [outsAt0_G m c t h0 h1 h2 h3, case_G]
  dsimp only
  have h := result_G c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2 (fun h => h0 ((hcond0_0 t).mp h)) (fun h => h1 ((hcond0_1 t).mp h)) ((hcond0_2 t).mpr h2) ((hcond0_3 t).mpr h3)
  rw [h]

/-- What the accumulator holds after every point: the sum over the key blocks met so far, the diagonal one the last. -/
theorem scratch_at : ∀ (n : ℕ) (hn : n < cfg0.N), (outsAt0 m c n hn).2 = accTo m c (min (n % 8) (n / 8) + 1) (qb ⟨n, hn⟩) := by
  intro n
  induction n using Nat.strong_induction_on with
  | _ n ih =>
    intro hn
    have hN : n < 64 := lt_of_lt_of_eq hn points
    by_cases h0 : n % 8 = 0
    · by_cases h1 : n % 8 + 1 ≤ n / 8 % 8
      · have h2 : ¬n % 9 = 0 := by omega
        have h3 : ¬n % 8 = 7 := by omega
        rw [show min (n % 8) (n / 8) + 1 = 1 by omega]
        exact (carried_D m c ⟨n, hn⟩ h0 h1 h2 h3).trans <| step_start m c ⟨n, hn⟩ false (by simp; omega) h0
      · have hz : n = 0 := by omega
        have h2 : n % 9 = 0 := by omega
        have h3 : ¬n % 8 = 7 := by omega
        rw [show min (n % 8) (n / 8) + 1 = 1 by omega]
        exact (carried_A m c ⟨n, hn⟩ h0 h1 h2 h3).trans <| step_start m c ⟨n, hn⟩ true (by simp; omega) h0
    · have hn' : n - 1 < cfg0.N := Nat.lt_of_le_of_lt (Nat.sub_le _ _) hn
      have hp := ih (n - 1) (by omega) hn'
      have hq : qb ⟨n - 1, hn'⟩ = qb ⟨n, hn⟩ := Fin.ext (show (n - 1) / 8 = n / 8 by omega)
      rw [hq] at hp
      by_cases h1 : n % 8 + 1 ≤ n / 8 % 8
      · have h2 : ¬n % 9 = 0 := by have := diagonal n hN; omega
        have h3 : ¬n % 8 = 7 := by omega
        refine (carried_F m c ⟨n, hn⟩ h0 h1 h2 h3).trans ?_
        rw [show min (n % 8) (n / 8) + 1 = n % 8 + 1 by omega]
        rw [show min ((n - 1) % 8) ((n - 1) / 8) + 1 = n % 8 by omega] at hp
        exact step_next m c ⟨n, hn⟩ false (by simp; omega) (show n % 8 ≤ n / 8 by omega) _ rfl _ hp
      · by_cases h2 : n % 9 = 0
        · have hd : n % 8 = n / 8 := (diagonal n hN).mp h2
          rw [show min (n % 8) (n / 8) + 1 = n % 8 + 1 by omega]
          rw [show min ((n - 1) % 8) ((n - 1) / 8) + 1 = n % 8 by omega] at hp
          by_cases h3 : n % 8 = 7
          · exact (carried_G m c ⟨n, hn⟩ h0 h1 h2 h3).trans <| step_next m c ⟨n, hn⟩ true (by simp; omega) (show n % 8 ≤ n / 8 by omega) _ rfl _ hp
          · exact (carried_E m c ⟨n, hn⟩ h0 h1 h2 h3).trans <| step_next m c ⟨n, hn⟩ true (by simp; omega) (show n % 8 ≤ n / 8 by omega) _ rfl _ hp
        · have hd : n / 8 < n % 8 := by have := diagonal n hN; omega
          rw [show min ((n - 1) % 8) ((n - 1) / 8) + 1 = min (n % 8) (n / 8) + 1 by omega] at hp
          by_cases h3 : n % 8 = 7
          · exact (carried_C m c ⟨n, hn⟩ h0 h1 h2 h3).trans <| hp
          · exact (carried_B m c ⟨n, hn⟩ h0 h1 h2 h3).trans <| hp

/-- What the last point of a query block stores. -/
theorem result_at (t : Fin cfg0.N) (h3 : t.val % 8 = 7) : (outsAt0 m c t.val t.isLt).1 = outOf (accTo m c (t.val / 8 + 1) (qb t)) := by
  have hN : t.val < 64 := lt_of_lt_of_eq t.isLt points
  have hn' : t.val - 1 < cfg0.N := Nat.lt_of_le_of_lt (Nat.sub_le _ _) t.isLt
  have hp := scratch_at m c (t.val - 1) hn'
  have hq : qb ⟨t.val - 1, hn'⟩ = qb t := Fin.ext (show (t.val - 1) / 8 = t.val / 8 by omega)
  rw [hq] at hp
  have h0 : ¬t.val % 8 = 0 := by omega
  have h1 : ¬t.val % 8 + 1 ≤ t.val / 8 % 8 := by omega
  by_cases h2 : t.val % 9 = 0
  · rw [show min ((t.val - 1) % 8) ((t.val - 1) / 8) + 1 = t.val % 8 by omega] at hp
    refine (stored_G m c t h0 h1 h2 h3).trans (congrArg outOf ?_)
    rw [show t.val / 8 + 1 = t.val % 8 + 1 by omega]
    exact step_next m c t true (by simp; omega) (by omega) _ rfl _ hp
  · rw [show min ((t.val - 1) % 8) ((t.val - 1) / 8) + 1 = t.val / 8 + 1 by omega] at hp
    exact (stored_C m c t h0 h1 h2 h3).trans (congrArg outOf hp)

/-- A sum over rows, block by block. -/
theorem sum_rows (f : Fin 4096 → EReal) : ∑ s : Fin 4096, f s = ∑ u : Fin 8, ∑ b : Fin 512, f (row u b) := by
  rw [← Fintype.sum_prod_type' (fun u b => f (row u b))]
  refine ((finProdFinEquiv (m := 8) (n := 512)).sum_comp f).symm.trans (Finset.sum_congr rfl fun p _ => ?_)
  congr 1
  exact Fin.ext (Nat.add_comm _ _)

theorem gradOf_above (A0 A1 : Vec Ideal S4096x1024 .bf16) (A2 : Vec Ideal S4096x512 .bf16) (A3 A4 A5 : Vec Ideal S4096x512 .f32) (h : Fin 8) (r s : Fin 4096)
    (hs : ¬s ≤ r) : gradOf A0 A1 A2 A3 A4 A5 h r s = 0 := by
  unfold gradOf gradAt
  rw [if_neg hs, zero_mul, zero_mul]

/-- The result at row `r`, head `h` and lane `e`: the sum over all keys, those after the query adding nothing. -/
theorem accTo_eq (q : Fin 8) (h : Fin 8) (a : Fin 512) (e : Fin 128) : accTo m c (q.val + 1) q (ix3 h a e) =
    ∑ s : Fin 4096, gradOf (arr0 m c) (arr1 m c) (arr2 m c) (arr3 m c) (arr4 m c) (arr5 m c) h (row q a) s * arr1 m c (ix2 s (wide h e)) := by
  rw [sum_rows]
  have hz : ∀ u : ℕ, q.val + 1 ≤ u → partAt m c u h (row q a) e = 0 := by
    intro u hu
    unfold partAt
    split
    · unfold partSum
      refine Finset.sum_eq_zero fun b _ => ?_
      rw [gradOf_above, zero_mul]
      simp only [Fin.mk_le_mk, Fin.le_def]
      omega
    · rfl
  have he : accTo m c (q.val + 1) q (ix3 h a e) = ∑ u ∈ Finset.range 8, partAt m c u h (row q a) e :=
    Finset.sum_subset (Finset.range_subset_range.mpr (by omega)) fun u _ hu => hz u (by simpa using hu)
  rw [he, Finset.sum_range]
  refine Finset.sum_congr rfl fun u _ => ?_
  rw [partAt, dif_pos u.isLt]
  rfl

end Cert.KernelIdeal.Dq

end
-- ==== Proof.DqArray.lean ====
module

public import proofs.«01_k».proof.Proof.DqPoints

@[expose] public section

set_option maxRecDepth 16384

noncomputable section

namespace Cert.KernelIdeal.Dq

open Cert.KernelIdeal Cert.KernelIdeal.Gen
open Idealize.ShloMosaic Idealize.ShloMosaic.TcCoe Idealize.ShloMosaic.Tactic

/-- The gradient of the queries, from the arrays that the call takes. -/
def queryGrad (A0 A1 : Vec Ideal S4096x1024 .bf16) (A2 : Vec Ideal S4096x512 .bf16) (A3 A4 A5 : Vec Ideal S4096x512 .f32) : Vec Ideal S4096x1024 .bf16 :=
  fun y => ∑ s : Fin 4096, gradOf A0 A1 A2 A3 A4 A5 (headOf (y 1)) (y 0) s * A1 (ix2 s (y 1))

variable (m : (ℓ : Loc nD τ sig) → Buf (Elt Ideal) ℓ) (c : Dev nD)

theorem wide_split (w : Fin 1024) : wide (headOf w) (laneOf w) = w := Fin.ext (by simp only [wide, headOf, laneOf]; omega)

theorem emb6 (t : Fin cfg0.N) (a : Fin 512) (w : Fin 1024) :
    ((cfg0.win 6).blk t).view.emb (ix2 a w) = ix2 (row (qb t) a) w := by
  obtain ⟨-, -, -, -, -, -, -, -, e0, e1⟩ := index_q t
  blk_ext [e0, e1, qb]

/-- The call's result is the gradient of the queries. -/
theorem result_array : (dats m 0 c).arrAt 6 cfg0.N =
    queryGrad (arr0 m c) (arr1 m c) (arr2 m c) (arr3 m c) (arr4 m c) (arr5 m c) := by
  refine (dats m 0 c).arrAt_eq_of_covers 6 _ (by decide +kernel) fun t hf y => ?_
  blk_simp
  rw [after0_6]
  obtain ⟨a, w, rfl⟩ : ∃ (a : Fin 512) (w : Fin 1024), y = ix2 a w := ⟨y 0, y 1, eq_ix2 y⟩
  rw [result_at m c t ((flush0_6 t).mp hf)]
  refine (accTo_eq m c (qb t) (headOf w) a (laneOf w)).trans ?_
  rw [wide_split]
  exact (congrArg (queryGrad (arr0 m c) (arr1 m c) (arr2 m c) (arr3 m c) (arr4 m c) (arr5 m c)) (emb6 t a w)).symm

end Cert.KernelIdeal.Dq

end
-- ==== Proof.Reals.lean ====
module

public import Idealize.ShloMosaic.PureOps.Ideal
public import Mathlib.Analysis.SpecialFunctions.Pow.Real

/-! The causal attention of one sequence and its gradient, over the real numbers: what the arrays of both programs hold
    when every argument is a real number. `n` tokens, `h` heads; every head's query and key have a part of its own and a
    rotary part, and the rotary part of a key belongs to all heads. -/

@[expose] public section

noncomputable section

namespace Cert.Attention

open Idealize.ShloMosaic

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The arguments: queries and keys without and with rotation, values, and the gradient of the attention's result. -/
structure Args where
  qn : Fin 4096 → Fin 8 → Fin 64 → ℝ
  qp : Fin 4096 → Fin 8 → Fin 32 → ℝ
  kn : Fin 4096 → Fin 8 → Fin 64 → ℝ
  kp : Fin 4096 → Fin 32 → ℝ
  v : Fin 4096 → Fin 8 → Fin 64 → ℝ
  g : Fin 4096 → Fin 8 → Fin 64 → ℝ

namespace Args

variable (A : Args)

/-- The product of query `r` and key `s`. -/
def dot (h : Fin 8) (r s : Fin 4096) : ℝ := (∑ j, A.qn r h j * A.kn s h j) + ∑ j, A.qp r h j * A.kp s j

/-- The exponential of the score, zero where the key comes after the query. -/
def weight (h : Fin 8) (r s : Fin 4096) : ℝ := if s ≤ r then Real.exp (A.dot h r s * (Real.sqrt 96)⁻¹) else 0

/-- The sum of a query's weights. -/
def total (h : Fin 8) (r : Fin 4096) : ℝ := ∑ s, A.weight h r s

/-- The attention's weight of key `s` for query `r`. -/
def prob (h : Fin 8) (r s : Fin 4096) : ℝ := A.weight h r s / A.total h r

/-- The attention's result. -/
def out (r : Fin 4096) (h : Fin 8) (j : Fin 64) : ℝ := ∑ s, A.v s h j * A.prob h r s

/-- The gradient of the attention's weight. -/
def dprob (h : Fin 8) (r s : Fin 4096) : ℝ := ∑ j, A.g r h j * A.v s h j

/-- The mean of the weights' gradients under the weights. -/
def mean (h : Fin 8) (r : Fin 4096) : ℝ := ∑ s, A.dprob h r s * A.prob h r s

/-- The gradient of the product of query `r` and key `s`. -/
def grad (h : Fin 8) (r s : Fin 4096) : ℝ := A.prob h r s * (A.dprob h r s - A.mean h r) * (Real.sqrt 96)⁻¹

theorem weight_nonneg (h : Fin 8) (r s : Fin 4096) : 0 ≤ A.weight h r s := by
  unfold weight; split
  · exact (Real.exp_pos _).le
  · exact le_rfl

theorem total_pos (h : Fin 8) (r : Fin 4096) : 0 < A.total h r :=
  Finset.sum_pos' (fun s _ => A.weight_nonneg h r s) ⟨r, Finset.mem_univ _, by unfold weight; rw [if_pos le_rfl]; exact Real.exp_pos _⟩

/-- The mean is the inner product of the result and its gradient. -/
theorem mean_eq (h : Fin 8) (r : Fin 4096) : A.mean h r = ∑ j, A.g r h j * A.out r h j := by
  unfold mean dprob out
  simp only [Finset.sum_mul, Finset.mul_sum]
  rw [Finset.sum_comm]
  exact Finset.sum_congr rfl fun j _ => Finset.sum_congr rfl fun s _ => mul_assoc _ _ _

/-- The masked score of query `r` and key `s`: −∞ where the key comes after the query. -/
def score (h : Fin 8) (r s : Fin 4096) : EReal := if s ≤ r then ((A.dot h r s * (Real.sqrt 96)⁻¹ : ℝ) : EReal) else ⊥

/-- The exponential of a masked score less a real shift. -/
theorem exp_score (h : Fin 8) (r s : Fin 4096) (M : ℝ) :
    Ideal.exp (A.score h r s - (M : EReal)) = ((A.weight h r s * Real.exp (-M) : ℝ) : EReal) := by
  unfold score weight
  split
  · rw [← EReal.coe_sub, Ideal.exp_coe, sub_eq_add_neg, Real.exp_add]
  · rw [EReal.bot_sub, Ideal.exp_bot, zero_mul, EReal.coe_zero]

/-- The sum of those exponentials. -/
theorem sum_exp_score (h : Fin 8) (r : Fin 4096) (M : ℝ) :
    ∑ s, Ideal.exp (A.score h r s - (M : EReal)) = ((A.total h r * Real.exp (-M) : ℝ) : EReal) := by
  unfold total
  rw [Finset.sum_mul, coe_sum]
  exact Finset.sum_congr rfl fun s _ => A.exp_score h r s M

theorem shifted_pos (h : Fin 8) (r : Fin 4096) (M : ℝ) : 0 < A.total h r * Real.exp (-M) :=
  mul_pos (A.total_pos h r) (Real.exp_pos _)

/-- The quotient of the two is the attention's weight, whatever the shift. -/
theorem div_score (h : Fin 8) (r s : Fin 4096) (M : ℝ) :
    Ideal.div ((A.weight h r s * Real.exp (-M) : ℝ) : EReal) ((A.total h r * Real.exp (-M) : ℝ) : EReal) =
      (A.prob h r s : EReal) := by
  rw [Ideal.div_coe (A.shifted_pos h r M).ne', ← EReal.coe_mul]
  congr 1
  unfold prob
  rw [mul_one_div, mul_div_mul_right _ _ (Real.exp_pos _).ne']

/-- The shift and the logarithm of the sum give the logarithm of the total, whatever the shift. -/
theorem log_score (h : Fin 8) (r : Fin 4096) (M : ℝ) :
    (M : EReal) + Ideal.log ((A.total h r * Real.exp (-M) : ℝ) : EReal) = (Real.log (A.total h r) : EReal) := by
  rw [Ideal.log_coe, if_neg (A.shifted_pos h r M).not_ge, ← EReal.coe_add,
    Real.log_mul (A.total_pos h r).ne' (Real.exp_pos _).ne', Real.log_exp]
  congr 1; ring

/-- Two to the power of the scaled difference of a product and the row's log-sum is the attention's weight. -/
theorem exp2_score (h : Fin 8) (r s : Fin 4096) (hs : s ≤ r) :
    Ideal.exp2 (((A.dot h r s : ℝ) - (Real.log (A.total h r) : EReal) * ((Real.sqrt 96 : ℝ) : EReal)) *
      (((Real.sqrt 96)⁻¹ * (Real.log 2)⁻¹ : ℝ) : EReal)) = (A.prob h r s : EReal) := by
  rw [← EReal.coe_mul, ← EReal.coe_sub, ← EReal.coe_mul, Ideal.exp2_coe]
  congr 1
  have h96 : Real.sqrt 96 ≠ 0 := (Real.sqrt_pos.mpr (by norm_num)).ne'
  have h2 : Real.log 2 ≠ 0 := (Real.log_pos (by norm_num)).ne'
  refine (Real.rpow_def_of_pos (by norm_num) _).trans ?_
  unfold prob weight
  rw [if_pos hs]
  rw [show Real.log 2 * ((A.dot h r s - Real.log (A.total h r) * Real.sqrt 96) * ((Real.sqrt 96)⁻¹ * (Real.log 2)⁻¹)) =
    A.dot h r s * (Real.sqrt 96)⁻¹ - Real.log (A.total h r) by field_simp]
  rw [Real.exp_sub, Real.exp_log (A.total_pos h r)]

theorem prob_above (h : Fin 8) (r s : Fin 4096) (hs : ¬ s ≤ r) : A.prob h r s = 0 := by
  unfold prob weight; rw [if_neg hs, zero_div]

/-- The derivative of the normalised exponentials, as a difference of quotients, is the gradient of the score. -/
theorem quotient_grad (h : Fin 8) (r s : Fin 4096) (M : ℝ) :
    (A.dprob h r s / (A.total h r * Real.exp (-M)) + -(∑ k, A.dprob h r k *
      (1 / ((A.total h r * Real.exp (-M)) * (A.total h r * Real.exp (-M)))) * (A.weight h r k * Real.exp (-M)))) *
      (A.weight h r s * Real.exp (-M)) * (Real.sqrt 96)⁻¹ = A.grad h r s := by
  have hT := (A.total_pos h r).ne'
  have hM := (Real.exp_pos (-M)).ne'
  have hsum : (∑ k, A.dprob h r k *
      (1 / ((A.total h r * Real.exp (-M)) * (A.total h r * Real.exp (-M)))) * (A.weight h r k * Real.exp (-M))) =
      A.mean h r * (1 / (A.total h r * Real.exp (-M))) := by
    unfold mean
    rw [Finset.sum_mul]
    refine Finset.sum_congr rfl fun k _ => ?_
    unfold prob
    field_simp
  rw [hsum]
  unfold grad prob
  field_simp
  ring

/-- The padded query: the part without rotation, the rotary part, zeros. -/
def qrow (r : Fin 4096) (h : Fin 8) (e : Fin 128) : ℝ :=
  if h1 : e.val < 64 then A.qn r h ⟨e.val, h1⟩ else if h2 : e.val - 64 < 32 then A.qp r h ⟨e.val - 64, h2⟩ else 0

/-- The padded key. -/
def krow (s : Fin 4096) (h : Fin 8) (e : Fin 128) : ℝ :=
  if h1 : e.val < 64 then A.kn s h ⟨e.val, h1⟩ else if h2 : e.val - 64 < 32 then A.kp s ⟨e.val - 64, h2⟩ else 0

/-- The padding adds nothing to the product of a query and a key. -/
theorem sum_rows (h : Fin 8) (r s : Fin 4096) : ∑ e, A.qrow r h e * A.krow s h e = A.dot h r s := by
  refine (Fin.sum_univ_add (a := 64) (b := 64) (fun e : Fin 128 => A.qrow r h e * A.krow s h e)).trans ?_
  unfold dot
  refine congrArg₂ (fun a b : ℝ => a + b) ?_ ?_
  · refine Finset.sum_congr rfl fun j _ => ?_
    unfold qrow krow
    rw [dif_pos (show (Fin.castAdd 64 j).val < 64 from j.isLt), dif_pos (show (Fin.castAdd 64 j).val < 64 from j.isLt)]
    rfl
  · refine (Fin.sum_univ_add (a := 32) (b := 32) (fun e : Fin 64 => A.qrow r h (Fin.natAdd 64 e) * A.krow s h (Fin.natAdd 64 e))).trans ?_
    have hz : ∑ j : Fin 32, A.qrow r h (Fin.natAdd 64 (Fin.natAdd 32 j)) * A.krow s h (Fin.natAdd 64 (Fin.natAdd 32 j)) = 0 := by
      refine Finset.sum_eq_zero fun j _ => ?_
      have e1 : (Fin.natAdd 64 (Fin.natAdd 32 j) : Fin 128).val = 96 + j.val := by simp only [Fin.natAdd]; omega
      unfold qrow
      rw [dif_neg (by rw [e1]; omega), dif_neg (by rw [e1]; omega), zero_mul]
    rw [hz, add_zero]
    refine Finset.sum_congr rfl fun j _ => ?_
    have e1 : (Fin.natAdd 64 (Fin.castAdd 32 j) : Fin 128).val = 64 + j.val := rfl
    unfold qrow krow
    rw [dif_neg (by rw [e1]; omega), dif_pos (by rw [e1]; omega), dif_neg (by rw [e1]; omega), dif_pos (by rw [e1]; omega)]
    have e2 : ∀ p, (⟨(Fin.natAdd 64 (Fin.castAdd 32 j) : Fin 128).val - 64, p⟩ : Fin 32) = j := fun p => Fin.ext (show (64 + j.val) - 64 = j.val by omega)
    rw [e2]

end Args

end Cert.Attention

end
-- ==== Proof.Host.lean ====
module

public import proofs.«01_k».proof.Proof.Gen.KernelIdeal
public import proofs.«01_k».proof.Proof.Reals
public import Idealize.ShloMosaic.Lib.Pointwise
public import Idealize.ShloMosaic.Lib.WordCmp

/-! What the host lines before the calls compute: the padded queries and keys, and the attention's result and the
    logarithm of each row's sum, which the forward pass saves. Both programs begin with these lines. -/

@[expose] public section

set_option maxRecDepth 16384

noncomputable section

namespace Cert.Host

open Cert.KernelIdeal Cert.KernelIdeal.Gen
open Idealize.ShloMosaic Idealize.ShloMosaic.TcCoe Idealize.ShloMosaic.Tactic Cert.Attention

/-- The rotary part of the keys, the same for every head. -/
def shared (x3 : FVec Ideal S4096x32 .f32) : FVec Ideal S4096x8x32 .f32 :=
  broadcastInDim S4096x8x32 ![0, 1, 2] bcast_S4096x1x32_S4096x8x32_0_1_2
    (broadcastInDim S4096x1x32 ![0, 2] bcast_S4096x32_S4096x1x32_0_2 x3)

/-- The heads of width 128: the part without rotation, the rotary part and zeros. -/
def padded (x : FVec Ideal S4096x8x64 .f32) (y : FVec Ideal S4096x8x32 .f32) : FVec Ideal S4096x1024 .bf16 :=
  truncf .bf16 (shapeCast S4096x1024
    (concatenate S4096x8x128 2 [⟨S4096x8x64, x⟩, ⟨S4096x8x32, y⟩,
      ⟨S4096x8x32, broadcastInDim S4096x8x32 ![] bcast_S_S4096x8x32 (constant (F := Ideal) S_ .f32 0x00000000#32)⟩]
      concatenates_S4096x8x64_S4096x8x32_S4096x8x32_S4096x8x128_d2) shapeCasts_S4096x8x128_S4096x1024) bitsLt_bf16_f32

/-- The masked scores. -/
def scores (x0 : FVec Ideal S4096x8x64 .f32) (x1 : FVec Ideal S4096x8x32 .f32) (x2 : FVec Ideal S4096x8x64 .f32)
    (x3 : FVec Ideal S4096x32 .f32) : FVec Ideal S8x4096x4096 .f32 :=
  select
    (broadcastInDim S8x4096x4096 ![1, 2] bcast_S4096x4096_S8x4096x4096_1_2
      (cmpi .sle
        (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (mulf
      (addf (Host.dotGeneral dot_S4096x8x64_S4096x8x64_S8x4096x4096_2_2_0_0_1_1 none x0 x2)
        (Host.dotGeneral dot_S4096x8x32_S4096x8x32_S8x4096x4096_2_2_0_0_1_1 none x1 (shared x3)))
      (broadcastInDim S8x4096x4096 ![] bcast_S_S8x4096x4096
        (Host.divf (constant (F := Ideal) S_ .f32 0x3F800000#32) (Host.sqrt (constant (F := Ideal) S_ .f32 0x42C00000#32)))))
    (broadcastInDim S8x4096x4096 ![] bcast_S_S8x4096x4096 (constant (F := Ideal) S_ .f32 0xFF800000#32))

/-- The greatest score of each row. -/
def top (S : FVec Ideal S8x4096x4096 .f32) : FVec Ideal S8x4096 .f32 :=
  Host.reduce FloatOps.maximumf S (constant (F := Ideal) S_ .f32 0xFF800000#32) reducesTo_S8x4096x4096_S8x4096_d2 h_S_

/-- One number per row, for every key of the row. -/
def along (x : FVec Ideal S8x4096 .f32) : FVec Ideal S8x4096x4096 .f32 :=
  broadcastInDim S8x4096x4096 ![0, 1, 2] bcast_S8x4096x1_S8x4096x4096_0_1_2
    (broadcastInDim S8x4096x1 ![0, 1] bcast_S8x4096_S8x4096x1_0_1 x)

/-- The exponentials of the scores, each less its row's greatest. -/
def weights (S : FVec Ideal S8x4096x4096 .f32) : FVec Ideal S8x4096x4096 .f32 := Host.exp (subf S (along (top S)))

/-- The sum of each row. -/
def total (E : FVec Ideal S8x4096x4096 .f32) : FVec Ideal S8x4096 .f32 :=
  Host.reduceAdd E (constant (F := Ideal) S_ .f32 0x00000000#32) reducesTo_S8x4096x4096_S8x4096_d2 h_S_

/-- The attention's weights. -/
def probs (S : FVec Ideal S8x4096x4096 .f32) : FVec Ideal S8x4096x4096 .f32 := Host.divf (weights S) (along (total (weights S)))

/-- The attention's result, a row of eight heads of 64 per token. -/
def result (x4 : FVec Ideal S4096x8x64 .f32) (S : FVec Ideal S8x4096x4096 .f32) : FVec Ideal S4096x512 .f32 :=
  shapeCast S4096x512 (transpose S4096x8x64 [2, 0, 1]
    (Host.dotGeneral dot_S4096x8x64_S8x4096x4096_S8x64x4096_0_2_2_1_1_0 none x4 (probs S)) transposes_S8x64x4096_S4096x8x64_2_0_1)
    shapeCasts_S4096x8x64_S4096x512

/-- One number per token and head, in the 64 lanes of the head. -/
def spread (x : FVec Ideal S8x4096 .f32) : FVec Ideal S4096x512 .f32 :=
  shapeCast S4096x512 (broadcastInDim S4096x8x64 ![0, 1, 2] bcast_S4096x8x1_S4096x8x64_0_1_2
    (broadcastInDim S4096x8x1 ![0, 1] bcast_S4096x8_S4096x8x1_0_1
      (transpose S4096x8 [1, 0] x transposes_S8x4096_S4096x8_1_0)))
    shapeCasts_S4096x8x64_S4096x512

/-- The logarithm of each row's sum. -/
def logs (S : FVec Ideal S8x4096x4096 .f32) : FVec Ideal S8x4096 .f32 := addf (top S) (Host.log (total (weights S)))

/-- The heads side by side, as words of the narrow format. -/
def flat (x : FVec Ideal S4096x8x64 .f32) : FVec Ideal S4096x512 .bf16 :=
  truncf .bf16 (shapeCast S4096x512 x shapeCasts_S4096x8x64_S4096x512) bitsLt_bf16_f32

/-- The heads side by side. -/
def beside (x : FVec Ideal S4096x8x64 .f32) : FVec Ideal S4096x512 .f32 := shapeCast S4096x512 x shapeCasts_S4096x8x64_S4096x512

/-! ### Read at an index -/

abbrev wide (h : Fin 8) (e : Fin 128) : Fin 1024 := ⟨128 * h.val + e.val, by omega⟩
abbrev narrow (h : Fin 8) (e : Fin 64) : Fin 512 := ⟨64 * h.val + e.val, by omega⟩

/-! ### The words at an index -/

section indices

theorem split64_1 (h : Fin 8) (j : Fin 64) : ∀ p, (⟨(64 * h.val + j.val) / 64, p⟩ : Fin 8) = h := fun p => Fin.ext (by
  change (64 * h.val + j.val) / 64 = h.val; omega)

theorem split64_2 (h : Fin 8) (j : Fin 64) : ∀ p, (⟨(64 * h.val + j.val) % 64, p⟩ : Fin 64) = j := fun p => Fin.ext (by
  change (64 * h.val + j.val) % 64 = j.val; omega)

theorem split128_1 (h : Fin 8) (e : Fin 128) : ∀ p, (⟨(128 * h.val + e.val) / 128, p⟩ : Fin 8) = h := fun p => Fin.ext (by
  change (128 * h.val + e.val) / 128 = h.val; omega)

end indices

theorem shared_apply (x3 : FVec Ideal S4096x32 .f32) (s : Fin 4096) (h : Fin 8) (j : Fin 32) :
    shared x3 (ix3 s h j) = x3 (ix2 s j) := by
  pointwise [shared]

/-- A lane of a padded head: of the part without rotation, of the rotary part, or zero. -/
theorem padded_apply (x : FVec Ideal S4096x8x64 .f32) (y : FVec Ideal S4096x8x32 .f32) (r : Fin 4096) (h : Fin 8) (e : Fin 128) :
    padded x y (ix2 r (wide h e)) = if h1 : e.val < 64 then x (ix3 r h ⟨e.val, h1⟩) else
      if h2 : e.val - 64 < 32 then y (ix3 r h ⟨e.val - 64, h2⟩) else 0 := by
  pointwise [padded]
  have e0 : (128 * h.val + e.val) % 128 = e.val := by omega
  simp only [e0, split128_1]

theorem flat_apply (x : FVec Ideal S4096x8x64 .f32) (r : Fin 4096) (h : Fin 8) (j : Fin 64) :
    flat x (ix2 r (narrow h j)) = x (ix3 r h j) := by
  pointwise [flat]
  rw [split64_1, split64_2]

theorem beside_apply (x : FVec Ideal S4096x8x64 .f32) (r : Fin 4096) (h : Fin 8) (j : Fin 64) :
    beside x (ix2 r (narrow h j)) = x (ix3 r h j) := by
  pointwise [beside]
  rw [split64_1, split64_2]

theorem spread_apply (x : FVec Ideal S8x4096 .f32) (r : Fin 4096) (h : Fin 8) (j : Fin 64) :
    spread x (ix2 r (narrow h j)) = x (ix2 h r) := by
  pointwise [spread]
  rw [split64_1]

theorem along_apply (x : FVec Ideal S8x4096 .f32) (h : Fin 8) (r s : Fin 4096) : along x (ix3 h r s) = x (ix2 h r) := by
  pointwise [along]

theorem total_apply (E : FVec Ideal S8x4096x4096 .f32) (h : Fin 8) (r : Fin 4096) : total E (ix2 h r) = ∑ s : Fin 4096, E (ix3 h r s) := by
  pointwise [total]

theorem result_apply (x4 : FVec Ideal S4096x8x64 .f32) (S : FVec Ideal S8x4096x4096 .f32) (r : Fin 4096) (h : Fin 8) (j : Fin 64) :
    result x4 S (ix2 r (narrow h j)) = ∑ s : Fin 4096, x4 (ix3 s h j) * probs S (ix3 h r s) := by
  pointwise [result]
  simp only [split64_1, split64_2]

theorem weights_apply (S : FVec Ideal S8x4096x4096 .f32) (h : Fin 8) (r s : Fin 4096) :
    weights S (ix3 h r s) = Ideal.exp (S (ix3 h r s) - top S (ix2 h r)) := by
  rw [← along_apply (top S) h r s]; rfl

theorem probs_apply (S : FVec Ideal S8x4096x4096 .f32) (h : Fin 8) (r s : Fin 4096) :
    probs S (ix3 h r s) = Ideal.div (weights S (ix3 h r s)) (total (weights S) (ix2 h r)) := by
  rw [← along_apply (total (weights S)) h r s]; rfl

theorem logs_apply (S : FVec Ideal S8x4096x4096 .f32) (h : Fin 8) (r : Fin 4096) :
    logs S (ix2 h r) = top S (ix2 h r) + Ideal.log (total (weights S) (ix2 h r)) := by
  unfold logs
  have e : ∀ a b : FVec Ideal S8x4096 .f32, addf a (Host.log b) (ix2 h r) = a (ix2 h r) + Ideal.log (b (ix2 h r)) := fun _ _ => rfl
  exact e _ _

theorem lit_scale : Ideal.div 1 (Ideal.sqrt (Ideal.ofBits FTy.f32 0x42C00000#32)) = (((Real.sqrt 96)⁻¹ : ℝ) : EReal) := by
  have h : Ideal.ofBits .f32 0x42C00000#32 = ((96 : ℝ) : EReal) := by
    simp [Ideal.ofBits, Ideal.ieee, -EReal.coe_mul]; norm_num
  have h96 : Real.sqrt 96 ≠ 0 := (Real.sqrt_pos.mpr (by norm_num)).ne'
  rw [h, Ideal.sqrt_coe, if_neg (by norm_num), Ideal.div_coe h96, one_mul, one_div]

theorem lit_bot : Ideal.ofBits FTy.f32 0xFF800000#32 = ⊥ := by
  simp [Ideal.ofBits, Ideal.ieee]

/-- The causal mask as a number of one bit. -/
theorem mask_apply (r s : Fin 4096) (a b : EReal) :
    Scalar.select (IntOp.cmpi .sle (BitVec.ofNat 32 s.val) (BitVec.ofNat 32 r.val)) a b = if s ≤ r then a else b := by
  rw [WordCmp.cmpi_sle_ofNat (by norm_num; omega) (by norm_num; omega)]
  by_cases h : s ≤ r
  · rw [if_pos h, decide_eq_true (show s.val ≤ r.val from h)]; rfl
  · rw [if_neg h, decide_eq_false (show ¬ s.val ≤ r.val from h)]; rfl

theorem scores_apply (x0 : FVec Ideal S4096x8x64 .f32) (x1 : FVec Ideal S4096x8x32 .f32) (x2 : FVec Ideal S4096x8x64 .f32)
    (x3 : FVec Ideal S4096x32 .f32)  (h : Fin 8) (r s : Fin 4096) :
    scores x0 x1 x2 x3 (ix3 h r s) = if s ≤ r then
      ((∑ j : Fin 64, x0 (ix3 r h j) * x2 (ix3 s h j)) + ∑ j : Fin 32, x1 (ix3 r h j) * x3 (ix2 s j)) * (((Real.sqrt 96)⁻¹ : ℝ) : EReal)
      else ⊥ := by
  pointwise [scores, shared]
  rw [lit_scale, lit_bot]
  exact mask_apply r s _ _

theorem drop_row (h : Fin 8) (r s : Fin 4096) : reducesTo_S8x4096x4096_S8x4096_d2.drop (ix3 h r s) = ix2 h r := by
  funext b
  refine Fin.ext ?_
  rcases b with ⟨_ | _ | b, hb⟩
  · exact Shape.ReducesTo.drop_apply_val_of_eq reducesTo_S8x4096x4096_S8x4096_d2 (ix3 h r s) 0 0 (by decide) (by decide)
  · exact Shape.ReducesTo.drop_apply_val_of_eq reducesTo_S8x4096x4096_S8x4096_d2 (ix3 h r s) 1 1 (by decide) (by decide)
  · exact absurd hb (by simp)

/-- The greatest score of a row is a real number, if no score is +∞ and some score of the row is not −∞. -/
theorem top_real (S : FVec Ideal S8x4096x4096 .f32) (h : Fin 8) (r s : Fin 4096) (ht : ∀ i, S i < ⊤) (hb : ⊥ < S (ix3 h r s)) :
    ∃ M : ℝ, top S (ix2 h r) = (M : EReal) := by
  have e : top S (ix2 h r) = (Finset.univ.filter fun i => reducesTo_S8x4096x4096_S8x4096_d2.drop i = ix2 h r).fold max
      (Ideal.ofBits .f32 0xFF800000#32) S := Host.reduce_eq_fold _ _ _ _ _ _
  rw [e, lit_bot]
  have h1 : (Finset.univ.filter fun i => reducesTo_S8x4096x4096_S8x4096_d2.drop i = ix2 h r).fold max ⊥ S < ⊤ :=
    (Finset.fold_max_lt _).mpr ⟨bot_lt_top, fun i _ => ht i⟩
  have h2 : ⊥ < (Finset.univ.filter fun i => reducesTo_S8x4096x4096_S8x4096_d2.drop i = ix2 h r).fold max ⊥ S :=
    (Finset.lt_fold_max _).mpr (.inr ⟨ix3 h r s, Finset.mem_filter.mpr ⟨Finset.mem_univ _, drop_row h r s⟩, hb⟩)
  exact ⟨_, (EReal.coe_toReal h1.ne h2.ne').symm⟩

/-! ### Of real arguments -/

/-- The six arrays hold the real numbers `A`. -/
structure Holds (A : Args) (x0 : FVec Ideal S4096x8x64 .f32) (x1 : FVec Ideal S4096x8x32 .f32) (x2 : FVec Ideal S4096x8x64 .f32)
    (x3 : FVec Ideal S4096x32 .f32) (x4 x5 : FVec Ideal S4096x8x64 .f32) : Prop where
  qn : ∀ r h j, x0 (ix3 r h j) = (A.qn r h j : EReal)
  qp : ∀ r h j, x1 (ix3 r h j) = (A.qp r h j : EReal)
  kn : ∀ r h j, x2 (ix3 r h j) = (A.kn r h j : EReal)
  kp : ∀ r j, x3 (ix2 r j) = (A.kp r j : EReal)
  v : ∀ r h j, x4 (ix3 r h j) = (A.v r h j : EReal)
  g : ∀ r h j, x5 (ix3 r h j) = (A.g r h j : EReal)

section real

variable {A : Args} {x0 : FVec Ideal S4096x8x64 .f32} {x1 : FVec Ideal S4096x8x32 .f32} {x2 : FVec Ideal S4096x8x64 .f32}
  {x3 : FVec Ideal S4096x32 .f32} {x4 x5 : FVec Ideal S4096x8x64 .f32} (H : Holds A x0 x1 x2 x3 x4 x5)

include H

theorem scores_real (h : Fin 8) (r s : Fin 4096) : scores x0 x1 x2 x3 (ix3 h r s) = A.score h r s := by
  rw [scores_apply]
  unfold Args.score Args.dot
  simp only [H.qn, H.qp, H.kn, H.kp, ← EReal.coe_mul, ← coe_sum, ← EReal.coe_add]

/-- Whatever holds the masked scores has a real greatest element in every row. -/
theorem shift_real {S : FVec Ideal S8x4096x4096 .f32} (hS : ∀ h r s, S (ix3 h r s) = A.score h r s) (h : Fin 8) (r : Fin 4096) :
    ∃ M : ℝ, top S (ix2 h r) = (M : EReal) := by
  refine top_real S h r r (fun i => ?_) ?_
  · rw [eq_ix3 i]
    refine (congrArg (· < ⊤) (hS (i 0) (i 1) (i 2))).mpr ?_
    unfold Args.score; split
    · exact EReal.coe_lt_top _
    · exact bot_lt_top
  · rw [hS]; unfold Args.score; rw [if_pos le_rfl]; exact EReal.bot_lt_coe _

theorem probs_real (h : Fin 8) (r s : Fin 4096) : probs (scores x0 x1 x2 x3) (ix3 h r s) = (A.prob h r s : EReal) := by
  obtain ⟨M, hM⟩ := shift_real H (scores_real H) h r
  rw [probs_apply, total_apply]
  simp only [weights_apply, scores_real H, hM]
  rw [A.sum_exp_score, A.exp_score, A.div_score]

theorem logs_real (h : Fin 8) (r : Fin 4096) : logs (scores x0 x1 x2 x3) (ix2 h r) = (Real.log (A.total h r) : EReal) := by
  obtain ⟨M, hM⟩ := shift_real H (scores_real H) h r
  rw [logs_apply, total_apply]
  simp only [weights_apply, scores_real H, hM]
  rw [A.sum_exp_score, A.log_score]

theorem result_real (r : Fin 4096) (h : Fin 8) (j : Fin 64) :
    result x4 (scores x0 x1 x2 x3) (ix2 r (narrow h j)) = (A.out r h j : EReal) := by
  rw [result_apply]
  unfold Args.out
  simp only [probs_real H, H.v, ← EReal.coe_mul, ← coe_sum]

theorem queries_real (r : Fin 4096) (h : Fin 8) (e : Fin 128) : padded x0 x1 (ix2 r (wide h e)) = (A.qrow r h e : EReal) := by
  rw [padded_apply]
  unfold Args.qrow
  split
  · exact H.qn _ _ _
  · split
    · exact H.qp _ _ _
    · rfl

theorem keys_real (s : Fin 4096) (h : Fin 8) (e : Fin 128) : padded x2 (shared x3) (ix2 s (wide h e)) = (A.krow s h e : EReal) := by
  rw [padded_apply]
  unfold Args.krow
  split
  · exact H.kn _ _ _
  · split
    · exact (shared_apply _ _ _ _).trans (H.kp _ _)
    · rfl

end real

end Cert.Host

end
-- ==== Proof.DqHost.lean ====
module

public import proofs.«01_k».proof.Proof.DqArray
public import proofs.«01_k».proof.Proof.Host
public import Idealize.ShloMosaic.Lib.StableHlo.RunRead

@[expose] public section

set_option maxRecDepth 16384

noncomputable section

namespace Cert.KernelIdeal.Dq

open Cert.KernelIdeal Cert.KernelIdeal.Gen Cert.Attention
open Idealize.ShloMosaic Idealize.ShloMosaic.TcCoe Idealize.ShloMosaic.Tactic

variable (m : (ℓ : Loc nD τ sig) → Buf (Elt Ideal) ℓ) (c : Dev nD)

/-- The arguments as the call finds them. -/
abbrev x0 : FVec Ideal S4096x8x64 .f32 := m (c.tc.loc main_arg0)
abbrev x1 : FVec Ideal S4096x8x32 .f32 := m (c.tc.loc main_arg1)
abbrev x2 : FVec Ideal S4096x8x64 .f32 := m (c.tc.loc main_arg2)
abbrev x3 : FVec Ideal S4096x32 .f32 := m (c.tc.loc main_arg3)
abbrev x4 : FVec Ideal S4096x8x64 .f32 := m (c.tc.loc main_arg4)
abbrev x5 : FVec Ideal S4096x8x64 .f32 := m (c.tc.loc main_arg5)

theorem arr0_eq : V m c main_v5 = Host.padded (x0 m c) (x1 m c) := by
  unfold_abbrev_sides
  simp only [List.flatten_cons, List.flatten_nil, List.append_nil]
  after_reads_simp
  rfl

theorem arr1_eq : V m c main_v8 = Host.padded (x2 m c) (Host.shared (x3 m c)) := by
  unfold_abbrev_sides
  simp only [List.flatten_cons, List.flatten_nil, List.append_nil]
  after_reads_simp
  rfl

theorem arr2_eq : V m c main_v42 = Host.flat (x4 m c) := by
  unfold_abbrev_sides
  simp only [List.flatten_cons, List.flatten_nil, List.append_nil]
  after_reads_simp
  rfl

theorem arr3_eq : V m c main_v43 = Host.beside (x5 m c) := by
  unfold_abbrev_sides
  simp only [List.flatten_cons, List.flatten_nil, List.append_nil]
  after_reads_simp
  rfl

theorem arr4_eq : V m c main_v36 = Host.result (x4 m c) (Host.scores (x0 m c) (x1 m c) (x2 m c) (x3 m c)) := by
  unfold_abbrev_sides
  simp only [List.flatten_cons, List.flatten_nil, List.append_nil]
  after_reads_simp
  rfl

theorem arr5_eq : V m c main_v40 = Host.spread (Host.logs (Host.scores (x0 m c) (x1 m c) (x2 m c) (x3 m c))) := by
  unfold_abbrev_sides
  simp only [List.flatten_cons, List.flatten_nil, List.append_nil]
  after_reads_simp
  rfl

/-- What the six arrays hold when the arguments are real numbers. -/
structure Reads (A : Args) (A0 A1 : Vec Ideal S4096x1024 .bf16) (A2 : Vec Ideal S4096x512 .bf16) (A3 A4 A5 : Vec Ideal S4096x512 .f32) : Prop where
  q : ∀ r h e, A0 (ix2 r (wide h e)) = (A.qrow r h e : EReal)
  k : ∀ s h e, A1 (ix2 s (wide h e)) = (A.krow s h e : EReal)
  v : ∀ s h j, A2 (ix2 s (narrow h j)) = (A.v s h j : EReal)
  g : ∀ r h j, A3 (ix2 r (narrow h j)) = (A.g r h j : EReal)
  o : ∀ r h j, A4 (ix2 r (narrow h j)) = (A.out r h j : EReal)
  l : ∀ r h j, A5 (ix2 r (narrow h j)) = (Real.log (A.total h r) : EReal)

section real

variable {A : Args} {A0 A1 : Vec Ideal S4096x1024 .bf16} {A2 : Vec Ideal S4096x512 .bf16} {A3 A4 A5 : Vec Ideal S4096x512 .f32}
  (R : Reads A A0 A1 A2 A3 A4 A5)

include R

/-- The attention's weight, from the arrays. -/
theorem weight_real (h : Fin 8) (r s : Fin 4096) :
    (if s ≤ r then weightAt (∑ j : Fin 128, A0 (ix2 r (wide h j)) * A1 (ix2 s (wide h j))) (A5 (ix2 r (narrow h 0))) else 0) =
      (A.prob h r s : EReal) := by
  split
  next hs =>
    unfold weightAt
    simp only [R.q, R.k, R.l, ← EReal.coe_mul, ← coe_sum]
    rw [A.sum_rows]
    simp only [EReal.coe_mul]
    exact_mod_cast A.exp2_score h r s hs
  next hs => rw [A.prob_above h r s hs, EReal.coe_zero]

/-- The gradient of a product, from the arrays. -/
theorem grad_real (h : Fin 8) (r s : Fin 4096) : gradOf A0 A1 A2 A3 A4 A5 h r s = (A.grad h r s : EReal) := by
  unfold gradOf
  rw [weight_real R h r s]
  unfold gradAt
  simp only [R.v, R.g, R.o, ← EReal.coe_mul, ← coe_sum, ← EReal.coe_sub]
  unfold Args.grad
  rw [A.mean_eq]
  rfl

/-- The gradient of the queries, from the arrays. -/
theorem queryGrad_real (r : Fin 4096) (h : Fin 8) (e : Fin 128) :
    queryGrad A0 A1 A2 A3 A4 A5 (ix2 r (wide h e)) = ((∑ s, A.grad h r s * A.krow s h e : ℝ) : EReal) := by
  have eh : headOf (wide h e) = h := Fin.ext (show (128 * h.val + e.val) / 128 = h.val by omega)
  change ∑ s : Fin 4096, gradOf A0 A1 A2 A3 A4 A5 (headOf (wide h e)) r s * A1 (ix2 s (wide h e)) = _
  simp only [eh, grad_real R, R.k, ← EReal.coe_mul, ← coe_sum]

end real

theorem reads {A : Args} (H : Host.Holds A (x0 m c) (x1 m c) (x2 m c) (x3 m c) (x4 m c) (x5 m c)) :
    Reads A (arr0 m c) (arr1 m c) (arr2 m c) (arr3 m c) (arr4 m c) (arr5 m c) where
  q r h e := (congrFun (arr0_eq m c) _).trans (Host.queries_real H r h e)
  k s h e := (congrFun (arr1_eq m c) _).trans (Host.keys_real H s h e)
  v s h j := (congrFun (arr2_eq m c) _).trans ((Host.flat_apply _ s h j).trans (H.v s h j))
  g r h j := (congrFun (arr3_eq m c) _).trans ((Host.beside_apply _ r h j).trans (H.g r h j))
  o r h j := (congrFun (arr4_eq m c) _).trans (Host.result_real H r h j)
  l r h j := (congrFun (arr5_eq m c) _).trans ((Host.spread_apply _ r h j).trans (Host.logs_real H h r))

/-- The call's result, from real arguments. -/
theorem result_real {A : Args} (H : Host.Holds A (x0 m c) (x1 m c) (x2 m c) (x3 m c) (x4 m c) (x5 m c))
    (r : Fin 4096) (h : Fin 8) (e : Fin 128) :
    (dats m 0 c).arrAt 6 cfg0.N (ix2 r (wide h e)) = ((∑ s, A.grad h r s * A.krow s h e : ℝ) : EReal) := by
  rw [result_array]
  exact queryGrad_real (reads m c H) r h e

end Cert.KernelIdeal.Dq

end
-- ==== Proof.Backward.lean ====
module

public import proofs.«01_k».proof.Proof.Gen.ReferenceIdeal
public import proofs.«01_k».proof.Proof.Host

/-! The derivative of the attention, line by line as both references print it: of the masked scores' normalised
    exponentials, then of the mask and of the scale. -/

@[expose] public section

set_option maxRecDepth 16384

noncomputable section

namespace Cert.Backward

open Cert.ReferenceIdeal Cert.ReferenceIdeal.Gen
open Idealize.ShloMosaic Idealize.ShloMosaic.TcCoe Idealize.ShloMosaic.Tactic Cert.Attention

/-- The greatest score of each row, and at least −∞. -/
def shift (T : FVec Ideal S8x4096 .f32) : FVec Ideal S8x4096 .f32 :=
  maximumf (broadcastInDim S8x4096 ![] bcast_S_S8x4096 (constant (F := Ideal) S_ .f32 0xFF800000#32)) T

/-- One number per row, as a column. -/
def column (x : FVec Ideal S8x4096 .f32) : FVec Ideal S8x4096x1 .f32 := broadcastInDim S8x4096x1 ![0, 1] bcast_S8x4096_S8x4096x1_0_1 x

/-- A column, for every key. -/
def across (x : FVec Ideal S8x4096x1 .f32) : FVec Ideal S8x4096x4096 .f32 :=
  broadcastInDim S8x4096x4096 ![0, 1, 2] bcast_S8x4096x1_S8x4096x4096_0_1_2 x

/-- The exponentials of the scores less the row's shift. -/
def weights (S : FVec Ideal S8x4096x4096 .f32) (T : FVec Ideal S8x4096 .f32) : FVec Ideal S8x4096x4096 .f32 :=
  Host.exp (subf S (across (column T)))

/-- The gradient of the attention's weights. -/
def weightGrad (x4 x5 : FVec Ideal S4096x8x64 .f32) : FVec Ideal S8x4096x4096 .f32 :=
  Host.dotGeneral dot_S8x64x4096_S4096x8x64_S8x4096x4096_1_2_2_0_0_1 none
    (transpose S8x64x4096 [1, 2, 0] x5 transposes_S4096x8x64_S8x64x4096_1_2_0) x4

/-- The sum of each row. -/
def rowSum (E : FVec Ideal S8x4096x4096 .f32) : FVec Ideal S8x4096 .f32 :=
  Host.reduceAdd E (constant (F := Ideal) S_ .f32 0x00000000#32) reducesTo_S8x4096x4096_S8x4096_d2 h_S_

/-- The reciprocal of a column's square. -/
def invSquare (L : FVec Ideal S8x4096x1 .f32) : FVec Ideal S8x4096x1 .f32 :=
  Host.divf (broadcastInDim S8x4096x1 ![] bcast_S_S8x4096x1 (constant (F := Ideal) S_ .f32 0x3F800000#32)) (mulf L L)

/-- The gradient of each row's sum. -/
def sumGrad (D E : FVec Ideal S8x4096x4096 .f32) (L : FVec Ideal S8x4096x1 .f32) : FVec Ideal S8x4096 .f32 :=
  Host.reduceAdd (Host.negf (shapeCast S8x4096x1 (rowSum (mulf (mulf D (across (invSquare L))) E)) shapeCasts_S8x4096_S8x4096x1))
    (constant (F := Ideal) S_ .f32 0x00000000#32) reducesTo_S8x4096x1_S8x4096_d2 h_S_

/-- The gradient of the products of queries and keys. -/
def scoreGrad (D E : FVec Ideal S8x4096x4096 .f32) (L : FVec Ideal S8x4096x1 .f32) : FVec Ideal S8x4096x4096 .f32 :=
  mulf
    (select
      (broadcastInDim S8x4096x4096 ![1, 2] bcast_S4096x4096_S8x4096x4096_1_2
        (cmpi .sle
          (broadcastInDim S4096x4096 ![0, 1] bcast_S1x4096_S4096x4096_0_1 (broadcastInDim S1x4096 ![1] bcast_S4096_S1x4096_1 (iotaInDim S4096 32 0)))
          (broadcastInDim S4096x4096 ![0, 1] bcast_S4096x1_S4096x4096_0_1 (broadcastInDim S4096x1 ![0] bcast_S4096_S4096x1_0 (iotaInDim S4096 32 0)))))
      (mulf (addf (Host.divf D (across L)) (broadcastInDim S8x4096x4096 ![0, 1] bcast_S8x4096_S8x4096x4096_0_1 (sumGrad D E L))) E)
      (broadcastInDim S8x4096x4096 ![] bcast_S_S8x4096x4096 (constant (F := Ideal) S_ .f32 0x00000000#32)))
    (broadcastInDim S8x4096x4096 ![] bcast_S_S8x4096x4096
      (Host.divf (constant (F := Ideal) S_ .f32 0x3F800000#32) (Host.sqrt (constant (F := Ideal) S_ .f32 0x42C00000#32))))

/-! ### Read at an index -/

theorem shift_apply (T : FVec Ideal S8x4096 .f32) (h : Fin 8) (r : Fin 4096) : shift T (ix2 h r) = T (ix2 h r) := by
  pointwise [shift]
  rw [Host.lit_bot]
  exact max_eq_right bot_le

theorem column_apply (x : FVec Ideal S8x4096 .f32) (h : Fin 8) (r : Fin 4096) (z : Fin 1) : column x (ix3 h r z) = x (ix2 h r) := by
  pointwise [column]

theorem across_apply (x : FVec Ideal S8x4096x1 .f32) (h : Fin 8) (r s : Fin 4096) : across x (ix3 h r s) = x (ix3 h r 0) := by
  pointwise [across]

theorem weights_apply (S : FVec Ideal S8x4096x4096 .f32) (T : FVec Ideal S8x4096 .f32) (h : Fin 8) (r s : Fin 4096) :
    weights S T (ix3 h r s) = Ideal.exp (S (ix3 h r s) - T (ix2 h r)) := by
  rw [← column_apply T h r 0, ← across_apply (column T) h r s]; rfl

theorem weightGrad_apply (x4 x5 : FVec Ideal S4096x8x64 .f32) (h : Fin 8) (r s : Fin 4096) :
    weightGrad x4 x5 (ix3 h r s) = ∑ j : Fin 64, x5 (ix3 r h j) * x4 (ix3 s h j) := by
  pointwise [weightGrad]

theorem rowSum_apply (E : FVec Ideal S8x4096x4096 .f32) (h : Fin 8) (r : Fin 4096) : rowSum E (ix2 h r) = ∑ s : Fin 4096, E (ix3 h r s) := by
  pointwise [rowSum]

theorem invSquare_apply (L : FVec Ideal S8x4096x1 .f32) (h : Fin 8) (r : Fin 4096) (z : Fin 1) :
    invSquare L (ix3 h r z) = Ideal.div 1 (L (ix3 h r z) * L (ix3 h r z)) := by
  pointwise [invSquare]

theorem sumGrad_apply (D E : FVec Ideal S8x4096x4096 .f32) (L : FVec Ideal S8x4096x1 .f32) (h : Fin 8) (r : Fin 4096) :
    sumGrad D E L (ix2 h r) =
      -∑ s : Fin 4096, D (ix3 h r s) * Ideal.div 1 (L (ix3 h r 0) * L (ix3 h r 0)) * E (ix3 h r s) := by
  pointwise [sumGrad, rowSum, across, invSquare]
  exact Fin.sum_univ_one _

theorem scoreGrad_apply (D E : FVec Ideal S8x4096x4096 .f32) (L : FVec Ideal S8x4096x1 .f32) (h : Fin 8) (r s : Fin 4096) :
    scoreGrad D E L (ix3 h r s) = (if s ≤ r then (Ideal.div (D (ix3 h r s)) (L (ix3 h r 0)) + sumGrad D E L (ix2 h r)) * E (ix3 h r s) else 0) *
      (((Real.sqrt 96)⁻¹ : ℝ) : EReal) := by
  unfold scoreGrad
  generalize sumGrad D E L = X
  pointwise [across]
  rw [Host.lit_scale]
  rw [Host.mask_apply]
  split
  · rfl
  · rw [zero_mul]

section real

variable {A : Args} {S D : FVec Ideal S8x4096x4096 .f32} {T : FVec Ideal S8x4096 .f32}

/-- Of real scores and real gradients the derivative is the gradient of the products, whatever the rows' real shifts. -/
theorem scoreGrad_real (hS : ∀ h r s, S (ix3 h r s) = A.score h r s) (hT : ∀ h r, ∃ M : ℝ, T (ix2 h r) = (M : EReal))
    (hD : ∀ h r s, D (ix3 h r s) = (A.dprob h r s : EReal)) (h : Fin 8) (r s : Fin 4096) :
    scoreGrad D (weights S T) (column (rowSum (weights S T))) (ix3 h r s) = (A.grad h r s : EReal) := by
  obtain ⟨M, hM⟩ := hT h r
  have hE : ∀ k, weights S T (ix3 h r k) = ((A.weight h r k * Real.exp (-M) : ℝ) : EReal) := fun k => by
    rw [weights_apply, hS, hM, A.exp_score]
  have hL : column (rowSum (weights S T)) (ix3 h r 0) = ((A.total h r * Real.exp (-M) : ℝ) : EReal) := by
    rw [column_apply, rowSum_apply]
    simp only [hE]
    rw [← coe_sum]
    unfold Args.total
    rw [Finset.sum_mul]
  have hL0 := (A.shifted_pos h r M).ne'
  rw [scoreGrad_apply, sumGrad_apply]
  simp only [hE, hL, hD]
  rw [← EReal.coe_mul (A.total h r * Real.exp (-M)), Ideal.div_coe hL0, Ideal.div_coe (mul_ne_zero hL0 hL0), one_mul]
  simp only [← EReal.coe_mul]
  rw [← coe_sum, ← EReal.coe_neg, ← EReal.coe_add, ← EReal.coe_mul]
  by_cases hs : s ≤ r
  · rw [if_pos hs, ← EReal.coe_mul, mul_one_div, A.quotient_grad]
  · rw [if_neg hs, zero_mul]
    unfold Args.grad
    rw [A.prob_above h r s hs, zero_mul, zero_mul, EReal.coe_zero]

end real

end Cert.Backward

end
-- ==== Proof.DqRef.lean ====
module

public import proofs.«01_k».proof.Proof.Backward
public import proofs.«01_k».proof.Proof.Gen.ReferenceIdeal.Run
public import proofs.«01_k».proof.Proof.Gen.ReferenceIdeal.Read

/-! What the reference of the queries' gradient computes from real arguments. -/

@[expose] public section

set_option maxRecDepth 16384

noncomputable section

namespace Cert.ReferenceIdeal.Dq

open Cert.ReferenceIdeal Cert.ReferenceIdeal.Gen Cert.ReferenceIdeal.Read Cert.Attention
open Idealize.ShloMosaic Idealize.ShloMosaic.TcCoe Idealize.ShloMosaic.Tactic

variable (x0 : FVec Ideal S4096x8x64 .f32) (x1 : FVec Ideal S4096x8x32 .f32) (x2 : FVec Ideal S4096x8x64 .f32)
  (x3 : FVec Ideal S4096x32 .f32) (x4 x5 : FVec Ideal S4096x8x64 .f32)

/-- The gradient of the products, as the reference computes it. -/
def products : FVec Ideal S8x4096x4096 .f32 :=
  Backward.scoreGrad (Backward.weightGrad x4 x5)
    (Backward.weights (Host.scores x0 x1 x2 x3) (Backward.shift (Host.top (Host.scores x0 x1 x2 x3))))
    (Backward.column (Backward.rowSum (Backward.weights (Host.scores x0 x1 x2 x3) (Backward.shift (Host.top (Host.scores x0 x1 x2 x3))))))

theorem products_eq : val_main_v65 (F := Ideal) x0 x1 x2 x3 x4 x5 = products x0 x1 x2 x3 x4 x5 := rfl

/-- The padded gradient of the queries from the gradient of the products. -/
def gather (G : FVec Ideal S8x4096x4096 .f32) : FVec Ideal S4096x1024 .bf16 :=
  Host.padded
    (transpose S4096x8x64 [1, 0, 2] (Host.dotGeneral dot_S8x4096x4096_S4096x8x64_S8x4096x64_2_0_1_2_0_1 none G x2) transposes_S8x4096x64_S4096x8x64_1_0_2)
    (transpose S4096x8x32 [1, 0, 2] (Host.dotGeneral dot_S8x4096x4096_S4096x8x32_S8x4096x32_2_0_1_2_0_1 none G (Host.shared x3)) transposes_S8x4096x32_S4096x8x32_1_0_2)

theorem gather_eq : val_main_v77 (F := Ideal) x0 x1 x2 x3 x4 x5 = gather x2 x3 (val_main_v65 (F := Ideal) x0 x1 x2 x3 x4 x5) := rfl

theorem low_apply (G : FVec Ideal S8x4096x4096 .f32) (r : Fin 4096) (h : Fin 8) (j : Fin 64) :
    transpose S4096x8x64 [1, 0, 2] (Host.dotGeneral dot_S8x4096x4096_S4096x8x64_S8x4096x64_2_0_1_2_0_1 none G x2) transposes_S8x4096x64_S4096x8x64_1_0_2 (ix3 r h j) =
      ∑ s : Fin 4096, G (ix3 h r s) * x2 (ix3 s h j) := by
  pointwise

theorem high_apply (G : FVec Ideal S8x4096x4096 .f32) (y : FVec Ideal S4096x8x32 .f32) (r : Fin 4096) (h : Fin 8) (j : Fin 32) :
    transpose S4096x8x32 [1, 0, 2] (Host.dotGeneral dot_S8x4096x4096_S4096x8x32_S8x4096x32_2_0_1_2_0_1 none G y) transposes_S8x4096x32_S4096x8x32_1_0_2 (ix3 r h j) =
      ∑ s : Fin 4096, G (ix3 h r s) * y (ix3 s h j) := by
  pointwise

variable {x0 x1 x2 x3 x4 x5} {A : Args} (H : Host.Holds A x0 x1 x2 x3 x4 x5)

include H

theorem products_real (h : Fin 8) (r s : Fin 4096) : products x0 x1 x2 x3 x4 x5 (ix3 h r s) = (A.grad h r s : EReal) := by
  unfold products
  refine Backward.scoreGrad_real (Host.scores_real H) (fun h r => ?_) (fun h r s => ?_) h r s
  · rw [Backward.shift_apply]; exact Host.shift_real H (Host.scores_real H) h r
  · rw [Backward.weightGrad_apply]
    simp only [H.v, H.g, ← EReal.coe_mul, ← coe_sum]
    rfl

theorem result_real (r : Fin 4096) (h : Fin 8) (e : Fin 128) :
    val_main_v77 (F := Ideal) x0 x1 x2 x3 x4 x5 (ix2 r (Host.wide h e)) = ((∑ s, A.grad h r s * A.krow s h e : ℝ) : EReal) := by
  rw [gather_eq, products_eq]
  unfold gather
  rw [Host.padded_apply]
  unfold Args.krow
  split
  next h1 =>
    rw [low_apply]
    simp only [products_real H, H.kn, ← EReal.coe_mul, ← coe_sum]
  next h1 =>
    split
    next h2 =>
      rw [high_apply]
      simp only [products_real H, Host.shared_apply, H.kp, ← EReal.coe_mul, ← coe_sum]
    next h2 => simp

end Cert.ReferenceIdeal.Dq

end
-- ==== Proof.Finite.lean ====
module

public import proofs.«01_k».proof.Proof.Gen.Pre_finite
public import proofs.«01_k».proof.Proof.Host
public import Idealize.ShloMosaic.Lib.ReduceAll

/-! The precondition: every argument is a real number. -/

@[expose] public section

set_option maxRecDepth 16384

noncomputable section

namespace Cert.Finite

open Idealize.ShloMosaic Cert.Attention

theorem lit_top : Ideal.ofBits FTy.f32 0x7F800000#32 = ⊤ := by
  simp [Ideal.ofBits, Ideal.ieee]

/-- An extended real whose absolute value is less than +∞ is a real number. -/
theorem real_of_abs (x : EReal) (h : Ideal.cmp .olt (max x (-x)) (Ideal.ofBits .f32 0x7F800000#32) = 1#1) : ((x.toReal : ℝ) : EReal) = x := by
  rw [lit_top] at h
  have h' : max x (-x) < ⊤ := by
    by_contra hn
    have : Ideal.cmp .olt (max x (-x)) ⊤ = 0#1 := by simp only [Ideal.cmp]; rw [decide_eq_false hn]; rfl
    rw [this] at h
    exact absurd h (by decide)
  obtain ⟨h1, h2⟩ := max_lt_iff.mp h'
  refine EReal.coe_toReal h1.ne fun hb => ?_
  rw [hb, EReal.neg_bot] at h2
  exact absurd h2 (lt_irrefl _)

section

open Cert.Pre_finite Cert.Pre_finite.Gen

instance : Subsingleton S_.Idx := ⟨fun a b => funext fun i => i.elim0⟩

theorem elim3 (x : FVec Ideal S4096x8x64 .f32) (v : S_.Idx → BitVec 1) (j : S_.Idx)
    (e : Host.reduce IntOp.andi (cmpf .olt (Host.absf x) (broadcastInDim S4096x8x64 ![] bcast_S_S4096x8x64 (constant (F := Ideal) S_ .f32 0x7F800000#32)))
      v reducesTo_S4096x8x64_S_d0_1_2 h_S_ j = 1#1) (i : S4096x8x64.Idx) : (((x i).toReal : ℝ) : EReal) = x i :=
  real_of_abs (x i) (Host.reduce_andi_all _ _ _ _ j e i)

theorem elim3' (x : FVec Ideal S4096x8x32 .f32) (v : S_.Idx → BitVec 1) (j : S_.Idx)
    (e : Host.reduce IntOp.andi (cmpf .olt (Host.absf x) (broadcastInDim S4096x8x32 ![] bcast_S_S4096x8x32 (constant (F := Ideal) S_ .f32 0x7F800000#32)))
      v reducesTo_S4096x8x32_S_d0_1_2 h_S_ j = 1#1) (i : S4096x8x32.Idx) : (((x i).toReal : ℝ) : EReal) = x i :=
  real_of_abs (x i) (Host.reduce_andi_all _ _ _ _ j e i)

theorem elim2 (x : FVec Ideal S4096x32 .f32) (v : S_.Idx → BitVec 1) (j : S_.Idx)
    (e : Host.reduce IntOp.andi (cmpf .olt (Host.absf x) (broadcastInDim S4096x32 ![] bcast_S_S4096x32 (constant (F := Ideal) S_ .f32 0x7F800000#32)))
      v reducesTo_S4096x32_S_d0_1 h_S_ j = 1#1) (i : S4096x32.Idx) : (((x i).toReal : ℝ) : EReal) = x i :=
  real_of_abs (x i) (Host.reduce_andi_all _ _ _ _ j e i)

/-- Arguments that meet the precondition hold real numbers. -/
theorem holds (x0 : FVec Ideal S4096x8x64 .f32) (x1 : FVec Ideal S4096x8x32 .f32) (x2 : FVec Ideal S4096x8x64 .f32)
    (x3 : FVec Ideal S4096x32 .f32) (x4 x5 : FVec Ideal S4096x8x64 .f32) (h : fn (F := Ideal) x0 x1 x2 x3 x4 x5 = fun _ => 1#1) :
    ∃ A : Args, Host.Holds A x0 x1 x2 x3 x4 x5 := by
  have e := congrFun h ix0
  dsimp only [fn, fn_part1] at e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨⟨fun r h j => (x0 (ix3 r h j)).toReal, fun r h j => (x1 (ix3 r h j)).toReal, fun r h j => (x2 (ix3 r h j)).toReal,
      fun r j => (x3 (ix2 r j)).toReal, fun r h j => (x4 (ix3 r h j)).toReal, fun r h j => (x5 (ix3 r h j)).toReal⟩,
    ⟨fun _ _ _ => (elim3 x0 _ _ e0 _).symm, fun _ _ _ => (elim3' x1 _ _ e1 _).symm, fun _ _ _ => (elim3 x2 _ _ e2 _).symm,
      fun _ _ => (elim2 x3 _ _ e3 _).symm, fun _ _ _ => (elim3 x4 _ _ e4 _).symm, fun _ _ _ => (elim3 x5 _ _ e5 _).symm⟩⟩

end

end Cert.Finite

end
-- ==== Proof.DqValue.lean ====
module

public import proofs.«01_k».proof.Defs
public import proofs.«01_k».proof.Proof.DqHost
public import proofs.«01_k».proof.Proof.DqRef
public import proofs.«01_k».proof.Proof.Finite
public import Idealize.ShloMosaic.Lib.Claim

/-! The kernel of the queries' gradient and its reference compute the same function over the extended reals. -/

@[expose] public section

set_option maxRecDepth 16384

noncomputable section

namespace Cert.DqClaims

open Idealize.ShloMosaic Idealize.ShloMosaic.TcCoe Idealize.ShloMosaic.Tactic Idealize.SL.Sem Cert.KernelIdeal Cert.KernelIdeal.Gen Cert.KernelIdeal.Dq

/-- From the same real arguments the call's result is the reference's. -/
theorem same (m : (ℓ : Loc nD τ sig) → Buf (Elt Ideal) ℓ) (c : Dev nD) {A : Attention.Args}
    (H : Host.Holds A (Dq.x0 m c) (Dq.x1 m c) (Dq.x2 m c) (Dq.x3 m c) (Dq.x4 m c) (Dq.x5 m c)) :
    Cert.ReferenceIdeal.Read.val_main_v77 (F := Ideal) (Dq.x0 m c) (Dq.x1 m c) (Dq.x2 m c) (Dq.x3 m c) (Dq.x4 m c) (Dq.x5 m c) =
      (dats m 0 c).arrAt 6 cfg0.N := by
  funext y
  obtain ⟨r, w, rfl⟩ : ∃ (r : Fin 4096) (w : Fin 1024), y = ix2 r w := ⟨y 0, y 1, eq_ix2 y⟩
  rw [← Dq.wide_split w]
  exact (Cert.ReferenceIdeal.Dq.result_real H r _ _).trans (Dq.result_real m c H r _ _).symm

theorem algebraic : Cert.algebraic_KernelIdeal_ReferenceIdeal_pre_finite := by
  intro m g m' g' hpre hagree
  have hH : ∀ c : Dev nD, ∃ A, Host.Holds A (Dq.x0 m c) (Dq.x1 m c) (Dq.x2 m c) (Dq.x3 m c) (Dq.x4 m c) (Dq.x5 m c) :=
    fun c => Finite.holds _ _ _ _ _ _ (hpre c)
  refine ⟨fun c => (dats m 0 c).arrAt 6 cfg0.N, ?_, ?_⟩
  · refine (θ_run (defs (F := Ideal)) _ _).mono (fun r h c => ⟨(h c).1 6, ?_, ?_, ?_, ?_, ?_, ?_⟩) (run_main m g)
    · exact ((h c).2 main_arg0 (Pipeline.mem_restRefs_of main_arg0 (by decide) (by decide))).trans (V_main_arg0 m c)
    · exact ((h c).2 main_arg1 (Pipeline.mem_restRefs_of main_arg1 (by decide) (by decide))).trans (V_main_arg1 m c)
    · exact ((h c).2 main_arg2 (Pipeline.mem_restRefs_of main_arg2 (by decide) (by decide))).trans (V_main_arg2 m c)
    · exact ((h c).2 main_arg3 (Pipeline.mem_restRefs_of main_arg3 (by decide) (by decide))).trans (V_main_arg3 m c)
    · exact ((h c).2 main_arg4 (Pipeline.mem_restRefs_of main_arg4 (by decide) (by decide))).trans (V_main_arg4 m c)
    · exact ((h c).2 main_arg5 (Pipeline.mem_restRefs_of main_arg5 (by decide) (by decide))).trans (V_main_arg5 m c)
  · refine (θ_run (Cert.ReferenceIdeal.defs (F := Ideal)) _ _).mono (fun r h c => ⟨(h c).1.trans ?_, (h c).2⟩)
      (Cert.ReferenceIdeal.Value.run (F := Ideal) m' g')
    rw [Cert.ReferenceIdeal.Read.val_main_v77_eq]
    obtain ⟨a0, a1, a2, a3, a4, a5⟩ := hagree c
    obtain ⟨A, H⟩ := hH c
    rw [a0, a1, a2, a3, a4, a5]
    exact same m c H

end Cert.DqClaims

end
-- ==== Proof.DkvTile.lean ====
/-
  One step of the kernel of the gradients of keys and values: what a pair of a key block and a query block adds to each
  head's accumulator, read index by index.

  The kernel holds a block's weights with the keys along the rows and the queries along the lanes.
-/
module

public import proofs.«01_k».proof.Proof.DkvFrame
public import proofs.«01_k».proof.Proof.DqTile

@[expose] public section

set_option maxRecDepth 16384

noncomputable section

namespace Cert.Kernel2Ideal.Dkv

open Cert.Kernel2Ideal Cert.Kernel2Ideal.Gen
open Idealize.ShloMosaic Idealize.ShloMosaic.TcCoe Idealize.ShloMosaic.Tactic
open Cert.KernelIdeal.Dq (wide narrow weightAt gradAt tileGrad sum_low sum_high ofBool_eq_one emb_head)

section words

variable {F : FTy → Type} [FloatOps F] [Named F]

/-- The causal mask of a block on the diagonal: the key's row is at most the query's lane. -/
def below : IVec S512x512 1 :=
  cmpi .sle (iota .tc S512x512 32 [0] iota_S512x512_d0_w32) (iota .tc S512x512 32 [1] iota_S512x512_d1_w32)

/-- The weights under the causal mask. -/
def masked (p : FVec F S512x512 .f32) : FVec F S512x512 .f32 :=
  select below p (broadcast S512x512 (Scalar.ofBits .f32 0x00000000#32))

/-- A pair's output gradients in the lanes of its first head, and zero in the others. -/
def gradLow (d : Vec F S512x128 .f32) : FVec F S512x128 .bf16 :=
  select (cmpi .slt (iota .tc S512x128 32 [1] iota_S512x128_d1_w32) (broadcast S512x128 64#32))
    (truncf .bf16 (shapeCast S512x128 d shapeCasts_S512x128_S512x128) bitsLt_bf16_f32)
    (broadcast S512x128 (Scalar.ofBits .bf16 0x0000#16))

/-- A pair's output gradients in the lanes of its second head, and zero in the others. -/
def gradHigh (d : Vec F S512x128 .f32) : FVec F S512x128 .bf16 :=
  select (cmpi .sge (iota .tc S512x128 32 [1] iota_S512x128_d1_w32) (broadcast S512x128 64#32))
    (truncf .bf16 (shapeCast S512x128 d shapeCasts_S512x128_S512x128) bitsLt_bf16_f32)
    (broadcast S512x128 (Scalar.ofBits .bf16 0x0000#16))

/-- The log-sums of a pair's first head, along the lanes, times the square root of 96. -/
def logLow (l : Vec F S512x128 .f32) : FVec F S1x512 .f32 :=
  mulf (extractStridedSlice S1x512 ![0, 0] (transpose S128x512 [1, 0] (shapeCast S512x128 l shapeCasts_S512x128_S512x128)
    transposes_S512x128_p1_0_S128x512) slices_S128x512_o0_0_S1x512) (broadcast S1x512 (Named.named κ "inv_scale" 0x411CC471#32))

/-- The log-sums of a pair's second head, along the lanes, times the square root of 96. -/
def logHigh (l : Vec F S512x128 .f32) : FVec F S1x512 .f32 :=
  mulf (extractStridedSlice S1x512 ![64, 0] (transpose S128x512 [1, 0] (shapeCast S512x128 l shapeCasts_S512x128_S512x128)
    transposes_S512x128_p1_0_S128x512) slices_S128x512_o64_0_S1x512) (broadcast S1x512 (Named.named κ "inv_scale" 0x411CC471#32))

/-- The products of a pair's output gradients and outputs, transposed. -/
def products (d o : Vec F S512x128 .f32) : FVec F S128x512 .f32 :=
  transpose S128x512 [1, 0] (mulf (shapeCast S512x128 d shapeCasts_S512x128_S512x128)
    (shapeCast S512x128 o shapeCasts_S512x128_S512x128)) transposes_S512x128_p1_0_S128x512

/-- Each query's product of the output's gradient and the output, in a pair's first head. -/
def deltaLow (d o : Vec F S512x128 .f32) : FVec F S1x512 .f32 :=
  shapeCast S1x512 (multiReduction .add [0] S512 (extractStridedSlice S64x512 ![0, 0] (products d o) slices_S128x512_o0_0_S64x512)
    0x00000000#32 reduces_S64x512_S512 (.inl rfl) rfl) shapeCasts_S512_S1x512

/-- Each query's product of the output's gradient and the output, in a pair's second head. -/
def deltaHigh (d o : Vec F S512x128 .f32) : FVec F S1x512 .f32 :=
  shapeCast S1x512 (multiReduction .add [0] S512 (extractStridedSlice S64x512 ![64, 0] (products d o) slices_S128x512_o64_0_S64x512)
    0x00000000#32 reduces_S64x512_S512 (.inl rfl) rfl) shapeCasts_S512_S1x512

/-- The attention weights of one head, from its queries, keys and scaled log-sums. -/
def weights (qh kh : Vec F S512x128 .bf16) (lr : FVec F S1x512 .f32) : FVec F S512x512 .f32 :=
  exp2 (mulf (subf
    (matmul dot_S512x128_S512x128_S512x512_1_1_0_0_n_n none (shapeCast S512x128 kh shapeCasts_S512x128_S512x128)
      (shapeCast S512x128 qh shapeCasts_S512x128_S512x128) (constant S512x512 .f32 0x00000000#32))
    (broadcastTo S512x512 lr broadcasts_S1x512_S512x512))
    (broadcast S512x512 (Named.named κ "scale_log2e" 0x3E16C740#32)))

/-- The gradient of one head's scores, from its weights, its output gradients, the pair's values and the products `dl`. -/
def scoreGrad (p : FVec F S512x512 .f32) (dom : FVec F S512x128 .bf16) (v : Vec F S512x128 .bf16) (dl : FVec F S1x512 .f32) :
    FVec F S512x512 .f32 :=
  mulf (mulf p (subf
    (matmul dot_S512x128_S512x128_S512x512_1_1_0_0_n_n none (shapeCast S512x128 v shapeCasts_S512x128_S512x128) dom
      (constant S512x512 .f32 0x00000000#32))
    (broadcastTo S512x512 dl broadcasts_S1x512_S512x512)))
    (broadcast S512x512 (Named.named κ "scale" 0x3DD105EC#32))

/-- One head's accumulator of the keys' gradient after its addend: the gradient of the scores times the queries. -/
def addTo (ds : FVec F S512x512 .f32) (qh : Vec F S512x128 .bf16) (acc : Vec F S1x512x128 .f32) : FVec F S1x512x128 .f32 :=
  shapeCast S1x512x128 (addf (shapeCast S512x128 acc shapeCasts_S1x512x128_S512x128)
    (matmul dot_S512x512_S512x128_S512x128_1_0_0_1_n_n none (truncf .bf16 ds bitsLt_bf16_f32)
      (shapeCast S512x128 qh shapeCasts_S512x128_S512x128) (constant S512x128 .f32 0x00000000#32))) shapeCasts_S512x128_S1x512x128

/-- The step of an even head: `f` is the mask or nothing. -/
def stepLow (f : FVec F S512x512 .f32 → FVec F S512x512 .f32) (q k v : Vec F S512x128 .bf16) (d o l : Vec F S512x128 .f32)
    (acc : Vec F S1x512x128 .f32) : FVec F S1x512x128 .f32 :=
  addTo (scoreGrad (f (weights q k (logLow l))) (gradLow d) v (deltaLow d o)) q acc

/-- The step of an odd head. -/
def stepHigh (f : FVec F S512x512 .f32 → FVec F S512x512 .f32) (q k v : Vec F S512x128 .bf16) (d o l : Vec F S512x128 .f32)
    (acc : Vec F S1x512x128 .f32) : FVec F S1x512x128 .f32 :=
  addTo (scoreGrad (f (weights q k (logHigh l))) (gradHigh d) v (deltaHigh d o)) q acc

/-- A pair's accumulator of the values' gradient after its addend: the weights times the output gradients, of both heads. -/
def stepPair (f : FVec F S512x512 .f32 → FVec F S512x512 .f32) (q0 k0 q1 k1 : Vec F S512x128 .bf16) (d l : Vec F S512x128 .f32)
    (acc : Vec F S1x512x128 .f32) : FVec F S1x512x128 .f32 :=
  shapeCast S1x512x128 (addf (shapeCast S512x128 acc shapeCasts_S1x512x128_S512x128)
    (addf
      (matmul dot_S512x512_S512x128_S512x128_1_0_0_1_n_n none (truncf .bf16 (f (weights q0 k0 (logLow l))) bitsLt_bf16_f32) (gradLow d)
        (constant S512x128 .f32 0x00000000#32))
      (matmul dot_S512x512_S512x128_S512x128_1_0_0_1_n_n none (truncf .bf16 (f (weights q1 k1 (logHigh l))) bitsLt_bf16_f32) (gradHigh d)
        (constant S512x128 .f32 0x00000000#32)))) shapeCasts_S512x128_S1x512x128

end words

theorem named_scale : Named.named (F := Ideal) κ "scale" (φ := .f32) 0x3DD105EC#32 = (((Real.sqrt 96)⁻¹ : ℝ) : EReal) :=
  IdealRules.named_const.ideal_named_scalar _ _ _ _ rfl

theorem named_inv_scale : Named.named (F := Ideal) κ "inv_scale" (φ := .f32) 0x411CC471#32 = ((Real.sqrt 96 : ℝ) : EReal) :=
  IdealRules.named_const.ideal_named_scalar _ _ _ _ rfl

theorem named_scale_log2e : Named.named (F := Ideal) κ "scale_log2e" (φ := .f32) 0x3E16C740#32 =
    (((Real.sqrt 96)⁻¹ * (Real.log 2)⁻¹ : ℝ) : EReal) :=
  IdealRules.named_const.ideal_named_scalar _ _ _ _ rfl

/-- The first head's output gradients: those of its own 64 lanes. -/
theorem gradLow_apply (d : Vec Ideal S512x128 .f32) (a : Fin 512) (j : Fin 128) :
    gradLow d (ix2 a j) = if j.val < 64 then d (ix2 a j) else 0 := by
  unfold gradLow
  pointwise
  rw [WordCmp.cmpi_slt_ofNat (by norm_num; omega) (by norm_num)]
  simp only [Scalar.select, ofBool_eq_one]

/-- The second head's output gradients: those of its own 64 lanes. -/
theorem gradHigh_apply (d : Vec Ideal S512x128 .f32) (a : Fin 512) (j : Fin 128) :
    gradHigh d (ix2 a j) = if 64 ≤ j.val then d (ix2 a j) else 0 := by
  unfold gradHigh
  pointwise
  rw [WordCmp.cmpi_sge_ofNat (by norm_num; omega) (by norm_num)]
  simp only [Scalar.select, ofBool_eq_one]

/-- The masked weights: zero where the key is after the query. -/
theorem masked_apply (p : FVec Ideal S512x512 .f32) (b a : Fin 512) :
    masked p (ix2 b a) = if b ≤ a then p (ix2 b a) else 0 := by
  unfold masked below
  pointwise
  rw [WordCmp.cmpi_sle_ofNat (by norm_num; omega) (by norm_num; omega)]
  simp only [Scalar.select, ofBool_eq_one, Fin.le_def]

theorem weightsLow_apply (q k : Vec Ideal S512x128 .bf16) (l : Vec Ideal S512x128 .f32) (b a : Fin 512) :
    weights q k (logLow l) (ix2 b a) = weightAt (∑ j : Fin 128, q (ix2 a j) * k (ix2 b j)) (l (ix2 a 0)) := by
  unfold weights logLow
  pointwise [weightAt]
  simp only [named_inv_scale, named_scale_log2e, mul_comm (k _)]
  rfl

theorem weightsHigh_apply (q k : Vec Ideal S512x128 .bf16) (l : Vec Ideal S512x128 .f32) (b a : Fin 512) :
    weights q k (logHigh l) (ix2 b a) = weightAt (∑ j : Fin 128, q (ix2 a j) * k (ix2 b j)) (l (ix2 a 64)) := by
  unfold weights logHigh
  pointwise [weightAt]
  simp only [named_inv_scale, named_scale_log2e, mul_comm (k _)]
  rfl

theorem deltaLow_apply (d o : Vec Ideal S512x128 .f32) (a : Fin 512) :
    deltaLow d o (ix2 0 a) = ∑ j : Fin 64, d (ix2 a ⟨j, by omega⟩) * o (ix2 a ⟨j, by omega⟩) := by
  unfold deltaLow products
  pointwise

theorem deltaHigh_apply (d o : Vec Ideal S512x128 .f32) (a : Fin 512) :
    deltaHigh d o (ix2 0 a) = ∑ j : Fin 64, d (ix2 a ⟨64 + j, by omega⟩) * o (ix2 a ⟨64 + j, by omega⟩) := by
  unfold deltaHigh products
  pointwise

/-- The product of the values and the first head's output gradients: over its own lanes. -/
theorem sum_gradLow (d : Vec Ideal S512x128 .f32) (v : Vec Ideal S512x128 .bf16) (a b : Fin 512) :
    ∑ j : Fin 128, v (ix2 b j) * gradLow d (ix2 a j) = ∑ j : Fin 64, d (ix2 a ⟨j, by omega⟩) * v (ix2 b ⟨j, by omega⟩) := by
  simp only [gradLow_apply, mul_ite, mul_zero]
  refine (Fin.sum_univ_add (a := 64) (b := 64) (fun j : Fin 128 => if j.val < 64 then v (ix2 b j) * d (ix2 a j) else 0)).trans ?_
  simp [Fin.castAdd, Fin.castLE, mul_comm]

/-- The product of the values and the second head's output gradients: over its own lanes. -/
theorem sum_gradHigh (d : Vec Ideal S512x128 .f32) (v : Vec Ideal S512x128 .bf16) (a b : Fin 512) :
    ∑ j : Fin 128, v (ix2 b j) * gradHigh d (ix2 a j) = ∑ j : Fin 64, d (ix2 a ⟨64 + j, by omega⟩) * v (ix2 b ⟨64 + j, by omega⟩) := by
  simp only [gradHigh_apply, mul_ite, mul_zero]
  refine (Fin.sum_univ_add (a := 64) (b := 64) (fun j : Fin 128 => if 64 ≤ j.val then v (ix2 b j) * d (ix2 a j) else 0)).trans ?_
  have h0 : ∀ j : Fin 64, ¬64 ≤ j.val := fun j => by omega
  simp [h0, Fin.natAdd, mul_comm]

theorem stepLow_apply (f) (q k v : Vec Ideal S512x128 .bf16) (d o l : Vec Ideal S512x128 .f32) (acc : Vec Ideal S1x512x128 .f32)
    (b : Fin 512) (e : Fin 128) :
    stepLow f q k v d o l acc (ix3 0 b e) = acc (ix3 0 b e) + ∑ a : Fin 512,
      gradAt (f (weights q k (logLow l)) (ix2 b a)) (∑ j : Fin 64, d (ix2 a ⟨j, by omega⟩) * v (ix2 b ⟨j, by omega⟩))
        (∑ j : Fin 64, d (ix2 a ⟨j, by omega⟩) * o (ix2 a ⟨j, by omega⟩)) * q (ix2 a e) := by
  unfold stepLow addTo scoreGrad
  pointwise [gradAt]
  simp only [deltaLow_apply, named_scale]
  exact congrArg (acc (ix3 0 b e) + ·) (Finset.sum_congr rfl fun a _ => congrArg (fun s : EReal => f (weights q k (logLow l)) (ix2 b a) *
    (s - ∑ j : Fin 64, d (ix2 a ⟨j, by omega⟩) * o (ix2 a ⟨j, by omega⟩)) * ((Real.sqrt 96)⁻¹ : ℝ) * q (ix2 a e)) (sum_gradLow d v a b))

theorem stepHigh_apply (f) (q k v : Vec Ideal S512x128 .bf16) (d o l : Vec Ideal S512x128 .f32) (acc : Vec Ideal S1x512x128 .f32)
    (b : Fin 512) (e : Fin 128) :
    stepHigh f q k v d o l acc (ix3 0 b e) = acc (ix3 0 b e) + ∑ a : Fin 512,
      gradAt (f (weights q k (logHigh l)) (ix2 b a)) (∑ j : Fin 64, d (ix2 a ⟨64 + j, by omega⟩) * v (ix2 b ⟨64 + j, by omega⟩))
        (∑ j : Fin 64, d (ix2 a ⟨64 + j, by omega⟩) * o (ix2 a ⟨64 + j, by omega⟩)) * q (ix2 a e) := by
  unfold stepHigh addTo scoreGrad
  pointwise [gradAt]
  simp only [deltaHigh_apply, named_scale]
  exact congrArg (acc (ix3 0 b e) + ·) (Finset.sum_congr rfl fun a _ => congrArg (fun s : EReal => f (weights q k (logHigh l)) (ix2 b a) *
    (s - ∑ j : Fin 64, d (ix2 a ⟨64 + j, by omega⟩) * o (ix2 a ⟨64 + j, by omega⟩)) * ((Real.sqrt 96)⁻¹ : ℝ) * q (ix2 a e)) (sum_gradHigh d v a b))

/-- A lane of the values' gradient takes the weights of the head that owns it. -/
theorem stepPair_apply (f) (q0 k0 q1 k1 : Vec Ideal S512x128 .bf16) (d l : Vec Ideal S512x128 .f32) (acc : Vec Ideal S1x512x128 .f32)
    (b : Fin 512) (w : Fin 128) :
    stepPair f q0 k0 q1 k1 d l acc (ix3 0 b w) = acc (ix3 0 b w) + ∑ a : Fin 512,
      (if w.val < 64 then f (weights q0 k0 (logLow l)) (ix2 b a) else f (weights q1 k1 (logHigh l)) (ix2 b a)) * d (ix2 a w) := by
  unfold stepPair
  pointwise
  simp only [gradLow_apply, gradHigh_apply, mul_ite, mul_zero]
  by_cases h : w.val < 64
  · have h' : ¬64 ≤ w.val := by omega
    simp [h, h']
  · have h' : 64 ≤ w.val := by omega
    simp [h, h']

/-- The weight of the query of row `a` and the key of row `b` in head `h`; on the diagonal (`dg`) zero where the key is
    after the query. -/
def tileProb (dg : Bool) (x0 x1 : Vec Ideal S512x1024 .bf16) (x5 : Vec Ideal S512x512 .f32) (h : Fin 8) (a b : Fin 512) : EReal :=
  if dg = true → b ≤ a then weightAt (∑ j : Fin 128, x0 (ix2 a (wide h j)) * x1 (ix2 b (wide h j))) (x5 (ix2 a (narrow h 0))) else 0

/-- What one query block adds to head `h`'s gradient of the keys at row `b` and lane `e`. -/
def tileDk (dg : Bool) (x0 x1 : Vec Ideal S512x1024 .bf16) (x2 : Vec Ideal S512x512 .bf16) (x3 x4 x5 : Vec Ideal S512x512 .f32)
    (h : Fin 8) (b : Fin 512) (e : Fin 128) : EReal :=
  ∑ a : Fin 512, tileGrad dg x0 x1 x2 x3 x4 x5 h a b * x0 (ix2 a (wide h e))

/-- The head that lane `w` of the pair `pr` of heads belongs to. -/
def pairHead (pr : Fin 4) (w : Fin 128) : Fin 8 := ⟨2 * pr.val + w.val / 64, by omega⟩

/-- The column of lane `w` of the pair `pr` of heads. -/
def pairCol (pr : Fin 4) (w : Fin 128) : Fin 512 := ⟨128 * pr.val + w.val, by omega⟩

/-- What one query block adds to the gradient of the values at row `b` and lane `w` of the pair `pr` of heads. -/
def tileDv (dg : Bool) (x0 x1 : Vec Ideal S512x1024 .bf16) (x3 x5 : Vec Ideal S512x512 .f32) (pr : Fin 4) (b : Fin 512) (w : Fin 128) : EReal :=
  ∑ a : Fin 512, tileProb dg x0 x1 x5 (pairHead pr w) a b * x3 (ix2 a (pairCol pr w))

/-- Where row `x` of a pair's slice lies in the accumulator of the values' gradient. -/
theorem emb_pair (h : Fin 4) (oh : ℕ) (hoh : oh = h.val) (inb) (x : S1x512x128.Idx) :
    (Rect.unit (s := S4x512x128) ![oh, 0, 0] ![1, 512, 128] inb).emb x = ix3 h (x 1) (x 2) := by
  subst hoh
  obtain ⟨u, c, e, rfl⟩ : ∃ (u : Fin 1) (c : Fin 512) (e : Fin 128), x = ix3 u c e := ⟨x 0, x 1, x 2, eq_ix3 x⟩
  funext a
  apply Fin.ext
  refine (ValueKit.rect_emb_unit_val (s := S4x512x128) _ _ inb (ix3 u c e) a).trans ?_
  have hu : u.val = 0 := by omega
  match a with
  | ⟨0, _⟩ => exact (congrArg (h.val + ·) hu)
  | ⟨1, _⟩ => exact Nat.zero_add _
  | ⟨2, _⟩ => exact Nat.zero_add _

/-- The accumulator of the keys' gradient after the addend of one query block. -/
def stepK (dg : Bool) (x0 x1 : Vec Ideal S512x1024 .bf16) (x2 : Vec Ideal S512x512 .bf16) (x3 x4 x5 : Vec Ideal S512x512 .f32)
    (s : Vec Ideal S8x512x128 .f32) : Vec Ideal S8x512x128 .f32 :=
  fun y => s y + tileDk dg x0 x1 x2 x3 x4 x5 (y 0) (y 1) (y 2)

/-- The accumulator of the values' gradient after the addend of one query block. -/
def stepV (dg : Bool) (x0 x1 : Vec Ideal S512x1024 .bf16) (x3 x5 : Vec Ideal S512x512 .f32)
    (s : Vec Ideal S4x512x128 .f32) : Vec Ideal S4x512x128 .f32 :=
  fun y => s y + tileDv dg x0 x1 x3 x5 (y 0) (y 1) (y 2)

section pieces

variable (dg : Bool) (f : FVec Ideal S512x512 .f32 → FVec Ideal S512x512 .f32)
  (hf : ∀ (p : FVec Ideal S512x512 .f32) (b a : Fin 512), f p (ix2 b a) = if dg = true → b ≤ a then p (ix2 b a) else 0)
  (x0 x1 : Vec Ideal S512x1024 .bf16) (x2 : Vec Ideal S512x512 .bf16) (x3 x4 x5 : Vec Ideal S512x512 .f32)
include hf

/-- An even head's step on its columns of the blocks. -/
theorem piece_low (acc : Vec Ideal S1x512x128 .f32) (h : Fin 8) (ow on : ℕ) (how : ow = 128 * h.val) (hon : on = 64 * h.val) (i0 i1 i2 i3 i4 i5) (y : S1x512x128.Idx) :
    stepLow f (View.ld x0 (Rect.unit (s := S512x1024) ![0, ow] ![512, 128] i0)) (View.ld x1 (Rect.unit (s := S512x1024) ![0, ow] ![512, 128] i1))
      (View.ld x2 (Rect.unit (s := S512x512) ![0, on] ![512, 128] i2)) (View.ld x3 (Rect.unit (s := S512x512) ![0, on] ![512, 128] i3))
      (View.ld x4 (Rect.unit (s := S512x512) ![0, on] ![512, 128] i4)) (View.ld x5 (Rect.unit (s := S512x512) ![0, on] ![512, 128] i5))
      acc y = acc y + tileDk dg x0 x1 x2 x3 x4 x5 h (y 1) (y 2) := by
  subst how hon
  obtain ⟨u, b, e, rfl⟩ : ∃ (u : Fin 1) (b : Fin 512) (e : Fin 128), y = ix3 u b e := ⟨y 0, y 1, y 2, eq_ix3 y⟩
  rw [show u = (0 : Fin 1) from Subsingleton.elim _ _, stepLow_apply]
  simp only [hf, weightsLow_apply]
  unfold tileDk tileGrad
  pointwise
  rfl

/-- An odd head's step on its columns of the blocks. -/
theorem piece_high (acc : Vec Ideal S1x512x128 .f32) (h : Fin 8) (ow on : ℕ) (how : ow = 128 * h.val) (hon : on + 64 = 64 * h.val) (i0 i1 i2 i3 i4 i5) (y : S1x512x128.Idx) :
    stepHigh f (View.ld x0 (Rect.unit (s := S512x1024) ![0, ow] ![512, 128] i0)) (View.ld x1 (Rect.unit (s := S512x1024) ![0, ow] ![512, 128] i1))
      (View.ld x2 (Rect.unit (s := S512x512) ![0, on] ![512, 128] i2)) (View.ld x3 (Rect.unit (s := S512x512) ![0, on] ![512, 128] i3))
      (View.ld x4 (Rect.unit (s := S512x512) ![0, on] ![512, 128] i4)) (View.ld x5 (Rect.unit (s := S512x512) ![0, on] ![512, 128] i5))
      acc y = acc y + tileDk dg x0 x1 x2 x3 x4 x5 h (y 1) (y 2) := by
  subst how
  obtain ⟨u, b, e, rfl⟩ : ∃ (u : Fin 1) (b : Fin 512) (e : Fin 128), y = ix3 u b e := ⟨y 0, y 1, y 2, eq_ix3 y⟩
  rw [show u = (0 : Fin 1) from Subsingleton.elim _ _, stepHigh_apply]
  simp only [hf, weightsHigh_apply]
  unfold tileDk tileGrad
  pointwise
  have e1 : ∀ (j : Fin 64) (p : on + (64 + j.val) < 512), (⟨on + (64 + j.val), p⟩ : Fin 512) = narrow h j := fun j p =>
    Fin.ext (by simp only [narrow]; omega)
  have e2 : ∀ (p : on + 64 < 512), (⟨on + 64, p⟩ : Fin 512) = narrow h 0 := fun p => Fin.ext (by simp only [narrow]; simpa using hon)
  simp only [e1, e2]

/-- A pair's step on its columns of the blocks. -/
theorem piece_pair (acc : Vec Ideal S1x512x128 .f32) (pr : Fin 4) (o0 o1 on : ℕ) (h0 : o0 = 256 * pr.val) (h1 : o1 = 256 * pr.val + 128) (hon : on = 128 * pr.val)
    (i0 i1 i2 i3 i4 i5) (y : S1x512x128.Idx) :
    stepPair f (View.ld x0 (Rect.unit (s := S512x1024) ![0, o0] ![512, 128] i0)) (View.ld x1 (Rect.unit (s := S512x1024) ![0, o0] ![512, 128] i1))
      (View.ld x0 (Rect.unit (s := S512x1024) ![0, o1] ![512, 128] i2)) (View.ld x1 (Rect.unit (s := S512x1024) ![0, o1] ![512, 128] i3))
      (View.ld x3 (Rect.unit (s := S512x512) ![0, on] ![512, 128] i4)) (View.ld x5 (Rect.unit (s := S512x512) ![0, on] ![512, 128] i5))
      acc y = acc y + tileDv dg x0 x1 x3 x5 pr (y 1) (y 2) := by
  obtain ⟨u, b, w, rfl⟩ : ∃ (u : Fin 1) (b : Fin 512) (w : Fin 128), y = ix3 u b w := ⟨y 0, y 1, y 2, eq_ix3 y⟩
  rw [show u = (0 : Fin 1) from Subsingleton.elim _ _, stepPair_apply]
  simp only [hf, weightsLow_apply, weightsHigh_apply]
  unfold tileDv tileProb
  pointwise
  have ew : ∀ (p : on + w.val < 512), (⟨on + w.val, p⟩ : Fin 512) = pairCol pr w := fun p => Fin.ext (by simp only [pairCol]; omega)
  by_cases h : w.val < 64
  · have e0 : ∀ (j : Fin 128) (p : o0 + j.val < 1024), (⟨o0 + j.val, p⟩ : Fin 1024) = wide (pairHead pr w) j := fun j p =>
      Fin.ext (by simp only [wide, pairHead]; omega)
    have e2 : ∀ (p : on < 512), (⟨on, p⟩ : Fin 512) = narrow (pairHead pr w) 0 := fun p =>
      Fin.ext (by simp only [narrow, pairHead, Fin.val_zero]; omega)
    simp only [h, if_true, e0, e2, ew]
  · have e0 : ∀ (j : Fin 128) (p : o1 + j.val < 1024), (⟨o1 + j.val, p⟩ : Fin 1024) = wide (pairHead pr w) j := fun j p =>
      Fin.ext (by simp only [wide, pairHead]; omega)
    have e2 : ∀ (p : on + 64 < 512), (⟨on + 64, p⟩ : Fin 512) = narrow (pairHead pr w) 0 := fun p =>
      Fin.ext (by simp only [narrow, pairHead, Fin.val_zero]; omega)
    simp only [h, if_false, e0, e2, ew]

/-- An even head's slice after its addend is the slice of the accumulator after it. -/
theorem head_low (s : Vec Ideal S8x512x128 .f32)
    (h : Fin 8) (oh : ℕ) (hoh : oh = h.val) (ow on : ℕ) (how : ow = 128 * h.val) (hon : on = 64 * h.val) (i0 i1 i2 i3 i4 i5) (inb)
    (acc : Vec Ideal S1x512x128 .f32) (hacc : acc = View.ld s (Rect.unit (s := S8x512x128) ![oh, 0, 0] ![1, 512, 128] inb)) (y : S1x512x128.Idx) :
    stepLow f (View.ld x0 (Rect.unit (s := S512x1024) ![0, ow] ![512, 128] i0)) (View.ld x1 (Rect.unit (s := S512x1024) ![0, ow] ![512, 128] i1))
      (View.ld x2 (Rect.unit (s := S512x512) ![0, on] ![512, 128] i2)) (View.ld x3 (Rect.unit (s := S512x512) ![0, on] ![512, 128] i3))
      (View.ld x4 (Rect.unit (s := S512x512) ![0, on] ![512, 128] i4)) (View.ld x5 (Rect.unit (s := S512x512) ![0, on] ![512, 128] i5))
      acc y = stepK dg x0 x1 x2 x3 x4 x5 s ((Rect.unit (s := S8x512x128) ![oh, 0, 0] ![1, 512, 128] inb).emb y) := by
  rw [piece_low dg f hf x0 x1 x2 x3 x4 x5 acc h ow on how hon, hacc]
  unfold stepK
  congr 1
  rw [emb_head h oh hoh]
  rfl

/-- An odd head's slice after its addend is the slice of the accumulator after it. -/
theorem head_high (s : Vec Ideal S8x512x128 .f32)
    (h : Fin 8) (oh : ℕ) (hoh : oh = h.val) (ow on : ℕ) (how : ow = 128 * h.val) (hon : on + 64 = 64 * h.val) (i0 i1 i2 i3 i4 i5) (inb)
    (acc : Vec Ideal S1x512x128 .f32) (hacc : acc = View.ld s (Rect.unit (s := S8x512x128) ![oh, 0, 0] ![1, 512, 128] inb)) (y : S1x512x128.Idx) :
    stepHigh f (View.ld x0 (Rect.unit (s := S512x1024) ![0, ow] ![512, 128] i0)) (View.ld x1 (Rect.unit (s := S512x1024) ![0, ow] ![512, 128] i1))
      (View.ld x2 (Rect.unit (s := S512x512) ![0, on] ![512, 128] i2)) (View.ld x3 (Rect.unit (s := S512x512) ![0, on] ![512, 128] i3))
      (View.ld x4 (Rect.unit (s := S512x512) ![0, on] ![512, 128] i4)) (View.ld x5 (Rect.unit (s := S512x512) ![0, on] ![512, 128] i5))
      acc y = stepK dg x0 x1 x2 x3 x4 x5 s ((Rect.unit (s := S8x512x128) ![oh, 0, 0] ![1, 512, 128] inb).emb y) := by
  rw [piece_high dg f hf x0 x1 x2 x3 x4 x5 acc h ow on how hon, hacc]
  unfold stepK
  congr 1
  rw [emb_head h oh hoh]
  rfl

/-- A pair's slice after its addend is the slice of the accumulator after it. -/
theorem pair_step (s : Vec Ideal S4x512x128 .f32)
    (pr : Fin 4) (oh : ℕ) (hoh : oh = pr.val) (o0 o1 on : ℕ) (h0 : o0 = 256 * pr.val) (h1 : o1 = 256 * pr.val + 128) (hon : on = 128 * pr.val) (i0 i1 i2 i3 i4 i5) (inb)
    (acc : Vec Ideal S1x512x128 .f32) (hacc : acc = View.ld s (Rect.unit (s := S4x512x128) ![oh, 0, 0] ![1, 512, 128] inb)) (y : S1x512x128.Idx) :
    stepPair f (View.ld x0 (Rect.unit (s := S512x1024) ![0, o0] ![512, 128] i0)) (View.ld x1 (Rect.unit (s := S512x1024) ![0, o0] ![512, 128] i1))
      (View.ld x0 (Rect.unit (s := S512x1024) ![0, o1] ![512, 128] i2)) (View.ld x1 (Rect.unit (s := S512x1024) ![0, o1] ![512, 128] i3))
      (View.ld x3 (Rect.unit (s := S512x512) ![0, on] ![512, 128] i4)) (View.ld x5 (Rect.unit (s := S512x512) ![0, on] ![512, 128] i5))
      acc y = stepV dg x0 x1 x3 x5 s ((Rect.unit (s := S4x512x128) ![oh, 0, 0] ![1, 512, 128] inb).emb y) := by
  rw [piece_pair dg f hf x0 x1 x3 x5 acc pr o0 o1 on h0 h1 hon, hacc]
  unfold stepV
  congr 1
  rw [emb_pair pr oh hoh]
  rfl

end pieces

/-- Without a mask the weights stay. -/
theorem plain_id (p : FVec Ideal S512x512 .f32) (b a : Fin 512) : id p (ix2 b a) = if false = true → b ≤ a then p (ix2 b a) else 0 := by
  simp

/-- With the mask the weights of the keys after the query are zero. -/
theorem masked_dg (p : FVec Ideal S512x512 .f32) (b a : Fin 512) : masked p (ix2 b a) = if true = true → b ≤ a then p (ix2 b a) else 0 := by
  rw [masked_apply]; simp

section outWords

variable {F : FTy → Type} [FloatOps F] [Named F]

/-- A slice of an accumulator as it is stored into the result. -/
def outWord (v : Vec F S1x512x128 .f32) : FVec F S512x128 .bf16 :=
  truncf .bf16 (shapeCast S512x128 v shapeCasts_S1x512x128_S512x128) bitsLt_bf16_f32

end outWords

theorem outWord_apply (v : Vec Ideal S1x512x128 .f32) (a : Fin 512) (e : Fin 128) : outWord v (ix2 a e) = v (ix3 0 a e) := by
  unfold outWord
  pointwise

/-- Head `h`'s slice, stored at its columns, is that block of the heads side by side. -/
theorem head_out (s : Vec Ideal S8x512x128 .f32) (h : Fin 8) (oh : ℕ) (hoh : oh = h.val) (ow : ℕ) (how : ow = 128 * h.val) (inb) (inb')
    (v : Vec Ideal S1x512x128 .f32) (hv : ∀ y, v y = s ((Rect.unit (s := S8x512x128) ![oh, 0, 0] ![1, 512, 128] inb).emb y)) (x : S512x128.Idx) :
    outWord v x = Cert.KernelIdeal.Dq.outOf s ((Rect.unit (s := S512x1024) ![0, ow] ![512, 128] inb').emb x) :=
  Cert.KernelIdeal.Dq.head_out s h oh hoh ow how inb inb' v hv x

/-- The pair that column `w` belongs to. -/
def pairOf (w : Fin 512) : Fin 4 := ⟨w.val / 128, by omega⟩

/-- The lane of its pair that column `w` is. -/
def laneOf (w : Fin 512) : Fin 128 := ⟨w.val % 128, by omega⟩

/-- The pairs' accumulators, side by side. -/
def outOfV (s : Vec Ideal S4x512x128 .f32) : Vec Ideal S512x512 .bf16 := fun y => s (ix3 (pairOf (y 1)) (y 0) (laneOf (y 1)))

/-- A pair's slice, stored at its columns, is that block of the pairs side by side. -/
theorem pair_out (s : Vec Ideal S4x512x128 .f32) (h : Fin 4) (oh : ℕ) (hoh : oh = h.val) (ow : ℕ) (how : ow = 128 * h.val) (inb) (inb')
    (v : Vec Ideal S1x512x128 .f32) (hv : ∀ y, v y = s ((Rect.unit (s := S4x512x128) ![oh, 0, 0] ![1, 512, 128] inb).emb y)) (x : S512x128.Idx) :
    outWord v x = outOfV s ((Rect.unit (s := S512x512) ![0, ow] ![512, 128] inb').emb x) := by
  obtain ⟨a, e, rfl⟩ : ∃ (a : Fin 512) (e : Fin 128), x = ix2 a e := ⟨x 0, x 1, eq_ix2 x⟩
  rw [outWord_apply, hv, emb_pair h oh hoh]
  unfold outOfV
  have h0 := ValueKit.rect_emb_unit_val (s := S512x512) ![0, ow] ![512, 128] inb' (ix2 a e) 0
  have h1 := ValueKit.rect_emb_unit_val (s := S512x512) ![0, ow] ![512, 128] inb' (ix2 a e) 1
  have e0 : ((Rect.unit (s := S512x512) ![0, ow] ![512, 128] inb').emb (ix2 a e) 0 : Fin 512) = a :=
    Fin.ext (h0.trans (Nat.zero_add _))
  have e1 : ((Rect.unit (s := S512x512) ![0, ow] ![512, 128] inb').emb (ix2 a e) 1 : Fin 512) = pairCol h e :=
    Fin.ext (h1.trans (congrArg (· + e.val) how))
  have k0 : pairOf (pairCol h e) = h := Fin.ext (by simp only [pairOf, pairCol]; omega)
  have k1 : laneOf (pairCol h e) = e := Fin.ext (by simp only [laneOf, pairCol]; omega)
  rw [show ((Rect.unit (s := S512x512) ![0, ow] ![512, 128] inb').emb (ix2 a e) 0) = a from e0,
    show ((Rect.unit (s := S512x512) ![0, ow] ![512, 128] inb').emb (ix2 a e) 1) = pairCol h e from e1, k0, k1]
  rfl

end Cert.Kernel2Ideal.Dkv

end
-- ==== Proof.DkvCases.lean ====
/-
  What each kind of point of the kernel leaves: the accumulators of the keys' and values' gradients with the addend of
  the point's block or without it, and at the last query block the results.
-/
module

public import proofs.«01_k».proof.Proof.DkvTile
public import proofs.«01_k».proof.Proof.DqCases

@[expose] public section

set_option maxRecDepth 16384

noncomputable section

namespace Cert.Kernel2Ideal.Dkv

open Cert.Kernel2Ideal Cert.Kernel2Ideal.Gen
open Idealize.ShloMosaic Idealize.ShloMosaic.TcCoe Idealize.ShloMosaic.Tactic
open Cert.KernelIdeal.Dq (canon_of_piecesOf outOf)

variable (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1024 .bf16) (harg8 : arg8.IsWhole) (arg9 : Memref sig .tc .vmem S512x512 .bf16) (harg9 : arg9.IsWhole) (arg10 : Memref sig .tc .vmem S8x512x128 .f32) (harg10 : arg10.IsWhole) (arg11 : Memref sig .tc .vmem S4x512x128 .f32) (harg11 : arg11.IsWhole)
  (x0 x1 : Vec Ideal S512x1024 .bf16) (x2 : Vec Ideal S512x512 .bf16) (x3 x4 x5 : Vec Ideal S512x512 .f32) (xs0 : Vec Ideal S8x512x128 .f32) (xs1 : Vec Ideal S4x512x128 .f32)

/-- The first point of key block 0 starts the keys' gradient from zero and adds its block under the causal mask. -/
theorem scratchK_A (hc0 : cond0_0 i) (hc1 : ¬cond0_1 i) (hc2 : cond0_2 i) (hc3 : ¬cond0_3 i) :
    sout0_A_0 c i arg2 harg2 arg3 harg3 arg4 harg4 arg5 harg5 arg6 harg6 arg7 harg7 arg8 harg8 arg9 harg9 arg10 harg10 arg11 harg11 hc0 hc1 hc2 hc3 x0 x1 x2 x3 x4 x5 =
      stepK true x0 x1 x2 x3 x4 x5 (k0_pay1 (F := Ideal)) := by
  unfold sout0_A_0
  frame_out [↓ View.readCov_skip, ↓ View.readCov_fill]
  funext y
  rw [show ∀ (a b c d e f g h z : View.Piece (Elt Ideal) S8x512x128 .f32), [a, b, c, d, e, f, g, h, z] = [a, b, c, d, e, f, g, h] ++ [z] from
    fun _ _ _ _ _ _ _ _ _ => rfl]
  refine View.canon_append_of_piecesOf _ _ _ ?_ y (View.cover_of_tiledL (s := S8x512x128) _ S1x512x128.size (by sl_kernel_rfl) y)
  refine ⟨?_, ?_, ?_, ?_, ?_, ?_, ?_, ?_, trivial⟩ <;> intro x
  · exact head_high true masked masked_dg x0 x1 x2 x3 x4 x5 (k0_pay1 (F := Ideal)) 7 _ rfl _ _ rfl rfl _ _ _ _ _ _ _ _ rfl x
  · exact head_low true masked masked_dg x0 x1 x2 x3 x4 x5 (k0_pay1 (F := Ideal)) 6 _ rfl _ _ rfl rfl _ _ _ _ _ _ _ _ rfl x
  · exact head_high true masked masked_dg x0 x1 x2 x3 x4 x5 (k0_pay1 (F := Ideal)) 5 _ rfl _ _ rfl rfl _ _ _ _ _ _ _ _ rfl x
  · exact head_low true masked masked_dg x0 x1 x2 x3 x4 x5 (k0_pay1 (F := Ideal)) 4 _ rfl _ _ rfl rfl _ _ _ _ _ _ _ _ rfl x
  · exact head_high true masked masked_dg x0 x1 x2 x3 x4 x5 (k0_pay1 (F := Ideal)) 3 _ rfl _ _ rfl rfl _ _ _ _ _ _ _ _ rfl x
  · exact head_low true masked masked_dg x0 x1 x2 x3 x4 x5 (k0_pay1 (F := Ideal)) 2 _ rfl _ _ rfl rfl _ _ _ _ _ _ _ _ rfl x
  · exact head_high true masked masked_dg x0 x1 x2 x3 x4 x5 (k0_pay1 (F := Ideal)) 1 _ rfl _ _ rfl rfl _ _ _ _ _ _ _ _ rfl x
  · exact head_low true masked masked_dg x0 x1 x2 x3 x4 x5 (k0_pay1 (F := Ideal)) 0 _ rfl _ _ rfl rfl _ _ _ _ _ _ _ _ rfl x

/-- The first point of key block 0 starts the values' gradient from zero and adds its block under the causal mask. -/
theorem scratchV_A (hc0 : cond0_0 i) (hc1 : ¬cond0_1 i) (hc2 : cond0_2 i) (hc3 : ¬cond0_3 i) :
    sout0_A_1 c i arg2 harg2 arg3 harg3 arg4 harg4 arg5 harg5 arg6 harg6 arg7 harg7 arg8 harg8 arg9 harg9 arg10 harg10 arg11 harg11 hc0 hc1 hc2 hc3 x0 x1 x2 x3 x4 x5 =
      stepV true x0 x1 x3 x5 (k0_pay2 (F := Ideal)) := by
  unfold sout0_A_1
  frame_out [↓ View.readCov_skip, ↓ View.readCov_fill]
  funext y
  rw [show ∀ (a b c d z : View.Piece (Elt Ideal) S4x512x128 .f32), [a, b, c, d, z] = [a, b, c, d] ++ [z] from
    fun _ _ _ _ _ => rfl]
  refine View.canon_append_of_piecesOf _ _ _ ?_ y (View.cover_of_tiledL (s := S4x512x128) _ S1x512x128.size (by sl_kernel_rfl) y)
  refine ⟨?_, ?_, ?_, ?_, trivial⟩ <;> intro x
  · exact pair_step true masked masked_dg x0 x1 x3 x5 (k0_pay2 (F := Ideal)) 3 _ rfl _ _ _ rfl rfl rfl _ _ _ _ _ _ _ _ rfl x
  · exact pair_step true masked masked_dg x0 x1 x3 x5 (k0_pay2 (F := Ideal)) 2 _ rfl _ _ _ rfl rfl rfl _ _ _ _ _ _ _ _ rfl x
  · exact pair_step true masked masked_dg x0 x1 x3 x5 (k0_pay2 (F := Ideal)) 1 _ rfl _ _ _ rfl rfl rfl _ _ _ _ _ _ _ _ rfl x
  · exact pair_step true masked masked_dg x0 x1 x3 x5 (k0_pay2 (F := Ideal)) 0 _ rfl _ _ _ rfl rfl rfl _ _ _ _ _ _ _ _ rfl x

/-- A point below the diagonal adds its whole block to the keys' gradient. -/
theorem scratchK_B (hc0 : ¬cond0_0 i) (hc1 : cond0_1 i) (hc2 : ¬cond0_2 i) (hc3 : ¬cond0_3 i) :
    sout0_B_0 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 =
      stepK false x0 x1 x2 x3 x4 x5 xs0 := by
  unfold sout0_B_0
  frame_out
  funext y
  refine canon_of_piecesOf ?_ y (View.cover_of_tiledL (s := S8x512x128) _ S1x512x128.size (by sl_kernel_rfl) y)
  refine ⟨?_, ?_, ?_, ?_, ?_, ?_, ?_, ?_, trivial⟩ <;> intro x
  · exact head_high false id plain_id x0 x1 x2 x3 x4 x5 xs0 7 _ rfl _ _ rfl rfl _ _ _ _ _ _ _ _ rfl x
  · exact head_low false id plain_id x0 x1 x2 x3 x4 x5 xs0 6 _ rfl _ _ rfl rfl _ _ _ _ _ _ _ _ rfl x
  · exact head_high false id plain_id x0 x1 x2 x3 x4 x5 xs0 5 _ rfl _ _ rfl rfl _ _ _ _ _ _ _ _ rfl x
  · exact head_low false id plain_id x0 x1 x2 x3 x4 x5 xs0 4 _ rfl _ _ rfl rfl _ _ _ _ _ _ _ _ rfl x
  · exact head_high false id plain_id x0 x1 x2 x3 x4 x5 xs0 3 _ rfl _ _ rfl rfl _ _ _ _ _ _ _ _ rfl x
  · exact head_low false id plain_id x0 x1 x2 x3 x4 x5 xs0 2 _ rfl _ _ rfl rfl _ _ _ _ _ _ _ _ rfl x
  · exact head_high false id plain_id x0 x1 x2 x3 x4 x5 xs0 1 _ rfl _ _ rfl rfl _ _ _ _ _ _ _ _ rfl x
  · exact head_low false id plain_id x0 x1 x2 x3 x4 x5 xs0 0 _ rfl _ _ rfl rfl _ _ _ _ _ _ _ _ rfl x

/-- A point below the diagonal adds its whole block to the values' gradient. -/
theorem scratchV_B (hc0 : ¬cond0_0 i) (hc1 : cond0_1 i) (hc2 : ¬cond0_2 i) (hc3 : ¬cond0_3 i) :
    sout0_B_1 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 =
      stepV false x0 x1 x3 x5 xs1 := by
  unfold sout0_B_1
  frame_out
  funext y
  refine canon_of_piecesOf ?_ y (View.cover_of_tiledL (s := S4x512x128) _ S1x512x128.size (by sl_kernel_rfl) y)
  refine ⟨?_, ?_, ?_, ?_, trivial⟩ <;> intro x
  · exact pair_step false id plain_id x0 x1 x3 x5 xs1 3 _ rfl _ _ _ rfl rfl rfl _ _ _ _ _ _ _ _ rfl x
  · exact pair_step false id plain_id x0 x1 x3 x5 xs1 2 _ rfl _ _ _ rfl rfl rfl _ _ _ _ _ _ _ _ rfl x
  · exact pair_step false id plain_id x0 x1 x3 x5 xs1 1 _ rfl _ _ _ rfl rfl rfl _ _ _ _ _ _ _ _ rfl x
  · exact pair_step false id plain_id x0 x1 x3 x5 xs1 0 _ rfl _ _ _ rfl rfl rfl _ _ _ _ _ _ _ _ rfl x

/-- The last point of a key block adds its whole block to the keys' gradient. -/
theorem scratchK_C (hc0 : ¬cond0_0 i) (hc1 : cond0_1 i) (hc2 : ¬cond0_2 i) (hc3 : cond0_3 i) :
    sout0_C_0 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 =
      stepK false x0 x1 x2 x3 x4 x5 xs0 := by
  unfold sout0_C_0
  frame_out
  funext y
  refine canon_of_piecesOf ?_ y (View.cover_of_tiledL (s := S8x512x128) _ S1x512x128.size (by sl_kernel_rfl) y)
  refine ⟨?_, ?_, ?_, ?_, ?_, ?_, ?_, ?_, trivial⟩ <;> intro x
  · exact head_high false id plain_id x0 x1 x2 x3 x4 x5 xs0 7 _ rfl _ _ rfl rfl _ _ _ _ _ _ _ _ rfl x
  · exact head_low false id plain_id x0 x1 x2 x3 x4 x5 xs0 6 _ rfl _ _ rfl rfl _ _ _ _ _ _ _ _ rfl x
  · exact head_high false id plain_id x0 x1 x2 x3 x4 x5 xs0 5 _ rfl _ _ rfl rfl _ _ _ _ _ _ _ _ rfl x
  · exact head_low false id plain_id x0 x1 x2 x3 x4 x5 xs0 4 _ rfl _ _ rfl rfl _ _ _ _ _ _ _ _ rfl x
  · exact head_high false id plain_id x0 x1 x2 x3 x4 x5 xs0 3 _ rfl _ _ rfl rfl _ _ _ _ _ _ _ _ rfl x
  · exact head_low false id plain_id x0 x1 x2 x3 x4 x5 xs0 2 _ rfl _ _ rfl rfl _ _ _ _ _ _ _ _ rfl x
  · exact head_high false id plain_id x0 x1 x2 x3 x4 x5 xs0 1 _ rfl _ _ rfl rfl _ _ _ _ _ _ _ _ rfl x
  · exact head_low false id plain_id x0 x1 x2 x3 x4 x5 xs0 0 _ rfl _ _ rfl rfl _ _ _ _ _ _ _ _ rfl x

/-- The last point of a key block adds its whole block to the values' gradient. -/
theorem scratchV_C (hc0 : ¬cond0_0 i) (hc1 : cond0_1 i) (hc2 : ¬cond0_2 i) (hc3 : cond0_3 i) :
    sout0_C_1 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 =
      stepV false x0 x1 x3 x5 xs1 := by
  unfold sout0_C_1
  frame_out
  funext y
  refine canon_of_piecesOf ?_ y (View.cover_of_tiledL (s := S4x512x128) _ S1x512x128.size (by sl_kernel_rfl) y)
  refine ⟨?_, ?_, ?_, ?_, trivial⟩ <;> intro x
  · exact pair_step false id plain_id x0 x1 x3 x5 xs1 3 _ rfl _ _ _ rfl rfl rfl _ _ _ _ _ _ _ _ rfl x
  · exact pair_step false id plain_id x0 x1 x3 x5 xs1 2 _ rfl _ _ _ rfl rfl rfl _ _ _ _ _ _ _ _ rfl x
  · exact pair_step false id plain_id x0 x1 x3 x5 xs1 1 _ rfl _ _ _ rfl rfl rfl _ _ _ _ _ _ _ _ rfl x
  · exact pair_step false id plain_id x0 x1 x3 x5 xs1 0 _ rfl _ _ _ rfl rfl rfl _ _ _ _ _ _ _ _ rfl x

/-- A point on the diagonal adds its block to the keys' gradient under the causal mask. -/
theorem scratchK_E (hc0 : ¬cond0_0 i) (hc1 : ¬cond0_1 i) (hc2 : cond0_2 i) (hc3 : ¬cond0_3 i) :
    sout0_E_0 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 =
      stepK true x0 x1 x2 x3 x4 x5 xs0 := by
  unfold sout0_E_0
  frame_out
  funext y
  refine canon_of_piecesOf ?_ y (View.cover_of_tiledL (s := S8x512x128) _ S1x512x128.size (by sl_kernel_rfl) y)
  refine ⟨?_, ?_, ?_, ?_, ?_, ?_, ?_, ?_, trivial⟩ <;> intro x
  · exact head_high true masked masked_dg x0 x1 x2 x3 x4 x5 xs0 7 _ rfl _ _ rfl rfl _ _ _ _ _ _ _ _ rfl x
  · exact head_low true masked masked_dg x0 x1 x2 x3 x4 x5 xs0 6 _ rfl _ _ rfl rfl _ _ _ _ _ _ _ _ rfl x
  · exact head_high true masked masked_dg x0 x1 x2 x3 x4 x5 xs0 5 _ rfl _ _ rfl rfl _ _ _ _ _ _ _ _ rfl x
  · exact head_low true masked masked_dg x0 x1 x2 x3 x4 x5 xs0 4 _ rfl _ _ rfl rfl _ _ _ _ _ _ _ _ rfl x
  · exact head_high true masked masked_dg x0 x1 x2 x3 x4 x5 xs0 3 _ rfl _ _ rfl rfl _ _ _ _ _ _ _ _ rfl x
  · exact head_low true masked masked_dg x0 x1 x2 x3 x4 x5 xs0 2 _ rfl _ _ rfl rfl _ _ _ _ _ _ _ _ rfl x
  · exact head_high true masked masked_dg x0 x1 x2 x3 x4 x5 xs0 1 _ rfl _ _ rfl rfl _ _ _ _ _ _ _ _ rfl x
  · exact head_low true masked masked_dg x0 x1 x2 x3 x4 x5 xs0 0 _ rfl _ _ rfl rfl _ _ _ _ _ _ _ _ rfl x

/-- A point on the diagonal adds its block to the values' gradient under the causal mask. -/
theorem scratchV_E (hc0 : ¬cond0_0 i) (hc1 : ¬cond0_1 i) (hc2 : cond0_2 i) (hc3 : ¬cond0_3 i) :
    sout0_E_1 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 =
      stepV true x0 x1 x3 x5 xs1 := by
  unfold sout0_E_1
  frame_out
  funext y
  refine canon_of_piecesOf ?_ y (View.cover_of_tiledL (s := S4x512x128) _ S1x512x128.size (by sl_kernel_rfl) y)
  refine ⟨?_, ?_, ?_, ?_, trivial⟩ <;> intro x
  · exact pair_step true masked masked_dg x0 x1 x3 x5 xs1 3 _ rfl _ _ _ rfl rfl rfl _ _ _ _ _ _ _ _ rfl x
  · exact pair_step true masked masked_dg x0 x1 x3 x5 xs1 2 _ rfl _ _ _ rfl rfl rfl _ _ _ _ _ _ _ _ rfl x
  · exact pair_step true masked masked_dg x0 x1 x3 x5 xs1 1 _ rfl _ _ _ rfl rfl rfl _ _ _ _ _ _ _ _ rfl x
  · exact pair_step true masked masked_dg x0 x1 x3 x5 xs1 0 _ rfl _ _ _ rfl rfl rfl _ _ _ _ _ _ _ _ rfl x

/-- The last point of the last key block adds its block to the keys' gradient under the causal mask. -/
theorem scratchK_G (hc0 : ¬cond0_0 i) (hc1 : ¬cond0_1 i) (hc2 : cond0_2 i) (hc3 : cond0_3 i) :
    sout0_G_0 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 =
      stepK true x0 x1 x2 x3 x4 x5 xs0 := by
  unfold sout0_G_0
  frame_out
  funext y
  refine canon_of_piecesOf ?_ y (View.cover_of_tiledL (s := S8x512x128) _ S1x512x128.size (by sl_kernel_rfl) y)
  refine ⟨?_, ?_, ?_, ?_, ?_, ?_, ?_, ?_, trivial⟩ <;> intro x
  · exact head_high true masked masked_dg x0 x1 x2 x3 x4 x5 xs0 7 _ rfl _ _ rfl rfl _ _ _ _ _ _ _ _ rfl x
  · exact head_low true masked masked_dg x0 x1 x2 x3 x4 x5 xs0 6 _ rfl _ _ rfl rfl _ _ _ _ _ _ _ _ rfl x
  · exact head_high true masked masked_dg x0 x1 x2 x3 x4 x5 xs0 5 _ rfl _ _ rfl rfl _ _ _ _ _ _ _ _ rfl x
  · exact head_low true masked masked_dg x0 x1 x2 x3 x4 x5 xs0 4 _ rfl _ _ rfl rfl _ _ _ _ _ _ _ _ rfl x
  · exact head_high true masked masked_dg x0 x1 x2 x3 x4 x5 xs0 3 _ rfl _ _ rfl rfl _ _ _ _ _ _ _ _ rfl x
  · exact head_low true masked masked_dg x0 x1 x2 x3 x4 x5 xs0 2 _ rfl _ _ rfl rfl _ _ _ _ _ _ _ _ rfl x
  · exact head_high true masked masked_dg x0 x1 x2 x3 x4 x5 xs0 1 _ rfl _ _ rfl rfl _ _ _ _ _ _ _ _ rfl x
  · exact head_low true masked masked_dg x0 x1 x2 x3 x4 x5 xs0 0 _ rfl _ _ rfl rfl _ _ _ _ _ _ _ _ rfl x

/-- The last point of the last key block adds its block to the values' gradient under the causal mask. -/
theorem scratchV_G (hc0 : ¬cond0_0 i) (hc1 : ¬cond0_1 i) (hc2 : cond0_2 i) (hc3 : cond0_3 i) :
    sout0_G_1 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 =
      stepV true x0 x1 x3 x5 xs1 := by
  unfold sout0_G_1
  frame_out
  funext y
  refine canon_of_piecesOf ?_ y (View.cover_of_tiledL (s := S4x512x128) _ S1x512x128.size (by sl_kernel_rfl) y)
  refine ⟨?_, ?_, ?_, ?_, trivial⟩ <;> intro x
  · exact pair_step true masked masked_dg x0 x1 x3 x5 xs1 3 _ rfl _ _ _ rfl rfl rfl _ _ _ _ _ _ _ _ rfl x
  · exact pair_step true masked masked_dg x0 x1 x3 x5 xs1 2 _ rfl _ _ _ rfl rfl rfl _ _ _ _ _ _ _ _ rfl x
  · exact pair_step true masked masked_dg x0 x1 x3 x5 xs1 1 _ rfl _ _ _ rfl rfl rfl _ _ _ _ _ _ _ _ rfl x
  · exact pair_step true masked masked_dg x0 x1 x3 x5 xs1 0 _ rfl _ _ _ rfl rfl rfl _ _ _ _ _ _ _ _ rfl x

/-- The first point of another key block starts the keys' gradient from zero and adds nothing. -/
theorem scratchK_D (hc0 : cond0_0 i) (hc1 : ¬cond0_1 i) (hc2 : ¬cond0_2 i) (hc3 : ¬cond0_3 i) :
    sout0_D_0 c i arg2 harg2 arg3 harg3 arg4 harg4 arg5 harg5 arg6 harg6 arg7 harg7 arg8 harg8 arg9 harg9 arg10 harg10 arg11 harg11 hc0 hc1 hc2 hc3 x0 x1 x2 x3 x4 x5 = k0_pay1 (F := Ideal) := by
  unfold sout0_D_0
  frame_out

/-- The first point of another key block starts the values' gradient from zero and adds nothing. -/
theorem scratchV_D (hc0 : cond0_0 i) (hc1 : ¬cond0_1 i) (hc2 : ¬cond0_2 i) (hc3 : ¬cond0_3 i) :
    sout0_D_1 c i arg2 harg2 arg3 harg3 arg4 harg4 arg5 harg5 arg6 harg6 arg7 harg7 arg8 harg8 arg9 harg9 arg10 harg10 arg11 harg11 hc0 hc1 hc2 hc3 x0 x1 x2 x3 x4 x5 = k0_pay2 (F := Ideal) := by
  unfold sout0_D_1
  frame_out

/-- The last point stores the heads' gradients of the keys side by side, its own block added. -/
theorem resultK_C (hc0 : ¬cond0_0 i) (hc1 : cond0_1 i) (hc2 : ¬cond0_2 i) (hc3 : cond0_3 i) :
    out0_C_6 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 =
      outOf (stepK false x0 x1 x2 x3 x4 x5 xs0) := by
  unfold out0_C_6
  frame_out [↓ View.readCov_skip, ↓ View.readCov_cons_toLoadRect]
  funext y
  refine canon_of_piecesOf (Val := Elt Ideal) ?_ y (View.cover_of_tiledL (s := S512x1024) _ S512x128.size (by sl_kernel_rfl) y)
  refine ⟨?_, ?_, ?_, ?_, ?_, ?_, ?_, ?_, trivial⟩ <;> intro x
  · exact head_out _ 7 7 rfl 896 rfl _ inb_S512x1024_S512x128_0_896 _ (fun z => head_high false id plain_id x0 x1 x2 x3 x4 x5 xs0 7 7 rfl 896 384 rfl rfl _ _ _ _ _ _ _ _ rfl z) x
  · exact head_out _ 6 6 rfl 768 rfl _ inb_S512x1024_S512x128_0_768 _ (fun z => head_low false id plain_id x0 x1 x2 x3 x4 x5 xs0 6 6 rfl 768 384 rfl rfl _ _ _ _ _ _ _ _ rfl z) x
  · exact head_out _ 5 5 rfl 640 rfl _ inb_S512x1024_S512x128_0_640 _ (fun z => head_high false id plain_id x0 x1 x2 x3 x4 x5 xs0 5 5 rfl 640 256 rfl rfl _ _ _ _ _ _ _ _ rfl z) x
  · exact head_out _ 4 4 rfl 512 rfl _ inb_S512x1024_S512x128_0_512 _ (fun z => head_low false id plain_id x0 x1 x2 x3 x4 x5 xs0 4 4 rfl 512 256 rfl rfl _ _ _ _ _ _ _ _ rfl z) x
  · exact head_out _ 3 3 rfl 384 rfl _ inb_S512x1024_S512x128_0_384 _ (fun z => head_high false id plain_id x0 x1 x2 x3 x4 x5 xs0 3 3 rfl 384 128 rfl rfl _ _ _ _ _ _ _ _ rfl z) x
  · exact head_out _ 2 2 rfl 256 rfl _ inb_S512x1024_S512x128_0_256 _ (fun z => head_low false id plain_id x0 x1 x2 x3 x4 x5 xs0 2 2 rfl 256 128 rfl rfl _ _ _ _ _ _ _ _ rfl z) x
  · exact head_out _ 1 1 rfl 128 rfl _ inb_S512x1024_S512x128_0_128 _ (fun z => head_high false id plain_id x0 x1 x2 x3 x4 x5 xs0 1 1 rfl 128 0 rfl rfl _ _ _ _ _ _ _ _ rfl z) x
  · exact head_out _ 0 0 rfl 0 rfl _ inb_S512x1024_S512x128_0_0 _ (fun z => head_low false id plain_id x0 x1 x2 x3 x4 x5 xs0 0 0 rfl 0 0 rfl rfl _ _ _ _ _ _ _ _ rfl z) x

/-- The last point stores the pairs' gradients of the values side by side, its own block added. -/
theorem resultV_C (hc0 : ¬cond0_0 i) (hc1 : cond0_1 i) (hc2 : ¬cond0_2 i) (hc3 : cond0_3 i) :
    out0_C_7 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 =
      outOfV (stepV false x0 x1 x3 x5 xs1) := by
  unfold out0_C_7
  frame_out [↓ View.readCov_skip, ↓ View.readCov_cons_toLoadRect]
  funext y
  refine canon_of_piecesOf (Val := Elt Ideal) ?_ y (View.cover_of_tiledL (s := S512x512) _ S512x128.size (by sl_kernel_rfl) y)
  refine ⟨?_, ?_, ?_, ?_, trivial⟩ <;> intro x
  · exact pair_out _ 3 3 rfl 384 rfl _ inb_S512x512_S512x128_0_384 _ (fun z => pair_step false id plain_id x0 x1 x3 x5 xs1 3 3 rfl 768 896 384 rfl rfl rfl _ _ _ _ _ _ _ _ rfl z) x
  · exact pair_out _ 2 2 rfl 256 rfl _ inb_S512x512_S512x128_0_256 _ (fun z => pair_step false id plain_id x0 x1 x3 x5 xs1 2 2 rfl 512 640 256 rfl rfl rfl _ _ _ _ _ _ _ _ rfl z) x
  · exact pair_out _ 1 1 rfl 128 rfl _ inb_S512x512_S512x128_0_128 _ (fun z => pair_step false id plain_id x0 x1 x3 x5 xs1 1 1 rfl 256 384 128 rfl rfl rfl _ _ _ _ _ _ _ _ rfl z) x
  · exact pair_out _ 0 0 rfl 0 rfl _ inb_S512x512_S512x128_0_0 _ (fun z => pair_step false id plain_id x0 x1 x3 x5 xs1 0 0 rfl 0 128 0 rfl rfl rfl _ _ _ _ _ _ _ _ rfl z) x

/-- The last point stores the heads' gradients of the keys side by side, its own block added under the causal mask. -/
theorem resultK_G (hc0 : ¬cond0_0 i) (hc1 : ¬cond0_1 i) (hc2 : cond0_2 i) (hc3 : cond0_3 i) :
    out0_G_6 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 =
      outOf (stepK true x0 x1 x2 x3 x4 x5 xs0) := by
  unfold out0_G_6
  frame_out [↓ View.readCov_skip, ↓ View.readCov_cons_toLoadRect]
  funext y
  refine canon_of_piecesOf (Val := Elt Ideal) ?_ y (View.cover_of_tiledL (s := S512x1024) _ S512x128.size (by sl_kernel_rfl) y)
  refine ⟨?_, ?_, ?_, ?_, ?_, ?_, ?_, ?_, trivial⟩ <;> intro x
  · exact head_out _ 7 7 rfl 896 rfl _ inb_S512x1024_S512x128_0_896 _ (fun z => head_high true masked masked_dg x0 x1 x2 x3 x4 x5 xs0 7 7 rfl 896 384 rfl rfl _ _ _ _ _ _ _ _ rfl z) x
  · exact head_out _ 6 6 rfl 768 rfl _ inb_S512x1024_S512x128_0_768 _ (fun z => head_low true masked masked_dg x0 x1 x2 x3 x4 x5 xs0 6 6 rfl 768 384 rfl rfl _ _ _ _ _ _ _ _ rfl z) x
  · exact head_out _ 5 5 rfl 640 rfl _ inb_S512x1024_S512x128_0_640 _ (fun z => head_high true masked masked_dg x0 x1 x2 x3 x4 x5 xs0 5 5 rfl 640 256 rfl rfl _ _ _ _ _ _ _ _ rfl z) x
  · exact head_out _ 4 4 rfl 512 rfl _ inb_S512x1024_S512x128_0_512 _ (fun z => head_low true masked masked_dg x0 x1 x2 x3 x4 x5 xs0 4 4 rfl 512 256 rfl rfl _ _ _ _ _ _ _ _ rfl z) x
  · exact head_out _ 3 3 rfl 384 rfl _ inb_S512x1024_S512x128_0_384 _ (fun z => head_high true masked masked_dg x0 x1 x2 x3 x4 x5 xs0 3 3 rfl 384 128 rfl rfl _ _ _ _ _ _ _ _ rfl z) x
  · exact head_out _ 2 2 rfl 256 rfl _ inb_S512x1024_S512x128_0_256 _ (fun z => head_low true masked masked_dg x0 x1 x2 x3 x4 x5 xs0 2 2 rfl 256 128 rfl rfl _ _ _ _ _ _ _ _ rfl z) x
  · exact head_out _ 1 1 rfl 128 rfl _ inb_S512x1024_S512x128_0_128 _ (fun z => head_high true masked masked_dg x0 x1 x2 x3 x4 x5 xs0 1 1 rfl 128 0 rfl rfl _ _ _ _ _ _ _ _ rfl z) x
  · exact head_out _ 0 0 rfl 0 rfl _ inb_S512x1024_S512x128_0_0 _ (fun z => head_low true masked masked_dg x0 x1 x2 x3 x4 x5 xs0 0 0 rfl 0 0 rfl rfl _ _ _ _ _ _ _ _ rfl z) x

/-- The last point stores the pairs' gradients of the values side by side, its own block added under the causal mask. -/
theorem resultV_G (hc0 : ¬cond0_0 i) (hc1 : ¬cond0_1 i) (hc2 : cond0_2 i) (hc3 : cond0_3 i) :
    out0_G_7 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 =
      outOfV (stepV true x0 x1 x3 x5 xs1) := by
  unfold out0_G_7
  frame_out [↓ View.readCov_skip, ↓ View.readCov_cons_toLoadRect]
  funext y
  refine canon_of_piecesOf (Val := Elt Ideal) ?_ y (View.cover_of_tiledL (s := S512x512) _ S512x128.size (by sl_kernel_rfl) y)
  refine ⟨?_, ?_, ?_, ?_, trivial⟩ <;> intro x
  · exact pair_out _ 3 3 rfl 384 rfl _ inb_S512x512_S512x128_0_384 _ (fun z => pair_step true masked masked_dg x0 x1 x3 x5 xs1 3 3 rfl 768 896 384 rfl rfl rfl _ _ _ _ _ _ _ _ rfl z) x
  · exact pair_out _ 2 2 rfl 256 rfl _ inb_S512x512_S512x128_0_256 _ (fun z => pair_step true masked masked_dg x0 x1 x3 x5 xs1 2 2 rfl 512 640 256 rfl rfl rfl _ _ _ _ _ _ _ _ rfl z) x
  · exact pair_out _ 1 1 rfl 128 rfl _ inb_S512x512_S512x128_0_128 _ (fun z => pair_step true masked masked_dg x0 x1 x3 x5 xs1 1 1 rfl 256 384 128 rfl rfl rfl _ _ _ _ _ _ _ _ rfl z) x
  · exact pair_out _ 0 0 rfl 0 rfl _ inb_S512x512_S512x128_0_0 _ (fun z => pair_step true masked masked_dg x0 x1 x3 x5 xs1 0 0 rfl 0 128 0 rfl rfl rfl _ _ _ _ _ _ _ _ rfl z) x

end Cert.Kernel2Ideal.Dkv

end
-- ==== Proof.DkvPoints.lean ====
/-
  The kernel's 64 points, one after the other: key block `t / 8`, query block `t % 8`. After a point the accumulators hold
  the sums over the query blocks met so far; the blocks of queries before the key block would add zero.
-/
module

public import proofs.«01_k».proof.Proof.DkvCases
public import proofs.«01_k».proof.Proof.DqPoints

@[expose] public section

set_option maxRecDepth 16384

noncomputable section

namespace Cert.Kernel2Ideal.Dkv

open Cert.Kernel2Ideal Cert.Kernel2Ideal.Gen
open Idealize.ShloMosaic Idealize.ShloMosaic.TcCoe Idealize.ShloMosaic.Tactic
open Cert.KernelIdeal.Dq (outOf wide narrow row weightAt gradAt tileGrad gradOf gradOf_above sum_rows diagonal)

variable (m : (ℓ : Loc nD τ sig) → Buf (Elt Ideal) ℓ) (c : Dev nD)

theorem points : cfg0.N = 64 := N_0

/-- The key block of a point. -/
def keyB (t : Fin cfg0.N) : Fin 8 := ⟨t.val / 8, by have := lt_of_lt_of_eq t.isLt points; omega⟩

/-- The query block of a point. -/
def queryB (t : Fin cfg0.N) : Fin 8 := ⟨t.val % 8, by omega⟩

/-- The queries, as the call finds them. -/
abbrev arr0 : Vec Ideal S4096x1024 .bf16 := V m c (Pipeline.arrRef spec0 0)
/-- The keys, as the call finds them. -/
abbrev arr1 : Vec Ideal S4096x1024 .bf16 := V m c (Pipeline.arrRef spec0 1)
/-- The values, as the call finds them. -/
abbrev arr2 : Vec Ideal S4096x512 .bf16 := V m c (Pipeline.arrRef spec0 2)
/-- The output's gradients, as the call finds them. -/
abbrev arr3 : Vec Ideal S4096x512 .f32 := V m c (Pipeline.arrRef spec0 3)
/-- The output, as the call finds it. -/
abbrev arr4 : Vec Ideal S4096x512 .f32 := V m c (Pipeline.arrRef spec0 4)
/-- The log-sums, as the call finds them. -/
abbrev arr5 : Vec Ideal S4096x512 .f32 := V m c (Pipeline.arrRef spec0 5)

/-- The windows that follow the query block, never before the key block. -/
theorem index_q : ∀ t : Fin cfg0.N, (cfg0.win 0).index t 0 = max (t.val % 8) (t.val / 8) ∧ (cfg0.win 0).index t 1 = 0
    ∧ (cfg0.win 3).index t 0 = max (t.val % 8) (t.val / 8) ∧ (cfg0.win 3).index t 1 = 0
    ∧ (cfg0.win 4).index t 0 = max (t.val % 8) (t.val / 8) ∧ (cfg0.win 4).index t 1 = 0
    ∧ (cfg0.win 5).index t 0 = max (t.val % 8) (t.val / 8) ∧ (cfg0.win 5).index t 1 = 0 := by
  decide +kernel

/-- The windows that follow the key block. -/
theorem index_k : ∀ t : Fin cfg0.N, (cfg0.win 1).index t 0 = t.val / 8 ∧ (cfg0.win 1).index t 1 = 0
    ∧ (cfg0.win 2).index t 0 = t.val / 8 ∧ (cfg0.win 2).index t 1 = 0
    ∧ (cfg0.win 6).index t 0 = t.val / 8 ∧ (cfg0.win 6).index t 1 = 0
    ∧ (cfg0.win 7).index t 0 = t.val / 8 ∧ (cfg0.win 7).index t 1 = 0 := by
  decide +kernel

theorem block0 (t : Fin cfg0.N) (h : t.val / 8 ≤ t.val % 8) (a : Fin 512) (w : Fin 1024) :
    (iblk m c 0 t : Vec Ideal S512x1024 .bf16) (ix2 a w) = arr0 m c (ix2 (row (queryB t) a) w) := by
  obtain ⟨e0, e1, -⟩ := index_q t
  rw [max_eq_left h] at e0
  blk_ext [iblk, e0, e1, queryB]

theorem block1 (t : Fin cfg0.N) (b : Fin 512) (w : Fin 1024) :
    (iblk m c 1 t : Vec Ideal S512x1024 .bf16) (ix2 b w) = arr1 m c (ix2 (row (keyB t) b) w) := by
  obtain ⟨e0, e1, -⟩ := index_k t
  blk_ext [iblk, e0, e1, keyB]

theorem block2 (t : Fin cfg0.N) (b : Fin 512) (w : Fin 512) :
    (iblk m c 2 t : Vec Ideal S512x512 .bf16) (ix2 b w) = arr2 m c (ix2 (row (keyB t) b) w) := by
  obtain ⟨-, -, e0, e1, -⟩ := index_k t
  blk_ext [iblk, e0, e1, keyB]

theorem block3 (t : Fin cfg0.N) (h : t.val / 8 ≤ t.val % 8) (a : Fin 512) (w : Fin 512) :
    (iblk m c 3 t : Vec Ideal S512x512 .f32) (ix2 a w) = arr3 m c (ix2 (row (queryB t) a) w) := by
  obtain ⟨-, -, e0, e1, -⟩ := index_q t
  rw [max_eq_left h] at e0
  blk_ext [iblk, e0, e1, queryB]

theorem block4 (t : Fin cfg0.N) (h : t.val / 8 ≤ t.val % 8) (a : Fin 512) (w : Fin 512) :
    (iblk m c 4 t : Vec Ideal S512x512 .f32) (ix2 a w) = arr4 m c (ix2 (row (queryB t) a) w) := by
  obtain ⟨-, -, -, -, e0, e1, -⟩ := index_q t
  rw [max_eq_left h] at e0
  blk_ext [iblk, e0, e1, queryB]

theorem emb5 (t : Fin cfg0.N) (h : t.val / 8 ≤ t.val % 8) (a : Fin 512) (w : Fin 512) :
    ((cfg0.win 5).blk t).view.emb (ix2 a w) = ix2 (row (queryB t) a) w := by
  obtain ⟨-, -, -, -, -, -, e0, e1⟩ := index_q t
  rw [max_eq_left h] at e0
  blk_ext [e0, e1, queryB]

theorem read5 (A : Vec Ideal S4096x512 .f32) (t : Fin cfg0.N) (h : t.val / 8 ≤ t.val % 8) (a : Fin 512) (w : Fin 512) :
    (((cfg0.win 5).blk t).view.read (Elt Ideal) A : Vec Ideal S512x512 .f32) (ix2 a w) = A (ix2 (row (queryB t) a) w) :=
  congrArg A (emb5 t h a w)

theorem iblk5 (t : Fin cfg0.N) : iblk m c 5 t = ((cfg0.win 5).blk t).view.read (Elt Ideal) (arr5 m c) := by
  unfold iblk
  rfl

theorem block5 (t : Fin cfg0.N) (h : t.val / 8 ≤ t.val % 8) (a : Fin 512) (w : Fin 512) :
    (iblk m c 5 t : Vec Ideal S512x512 .f32) (ix2 a w) = arr5 m c (ix2 (row (queryB t) a) w) := by
  rw [iblk5]
  exact read5 _ t h a w

/-- The weight of query row `r` and key row `s` of head `h`. -/
def probOf (A0 A1 : Vec Ideal S4096x1024 .bf16) (A5 : Vec Ideal S4096x512 .f32) (h : Fin 8) (r s : Fin 4096) : EReal :=
  if s ≤ r then weightAt (∑ j : Fin 128, A0 (ix2 r (wide h j)) * A1 (ix2 s (wide h j))) (A5 (ix2 r (narrow h 0))) else 0

/-- What query block `u` adds to the keys' gradient at row `s`. -/
def partK (u : Fin 8) (h : Fin 8) (s : Fin 4096) (e : Fin 128) : EReal :=
  ∑ a : Fin 512, gradOf (arr0 m c) (arr1 m c) (arr2 m c) (arr3 m c) (arr4 m c) (arr5 m c) h (row u a) s * arr0 m c (ix2 (row u a) (wide h e))

/-- What query block `u` adds to the values' gradient at row `s`. -/
def partV (u : Fin 8) (pr : Fin 4) (s : Fin 4096) (w : Fin 128) : EReal :=
  ∑ a : Fin 512, probOf (arr0 m c) (arr1 m c) (arr5 m c) (pairHead pr w) (row u a) s * arr3 m c (ix2 (row u a) (pairCol pr w))

/-- The causal mask of a point's block, by the rows in the arrays. -/
theorem mask_rows (t : Fin cfg0.N) (dg : Bool) (hd : dg = true ↔ t.val % 8 = t.val / 8) (h : t.val / 8 ≤ t.val % 8) (a b : Fin 512) :
    (dg = true → b ≤ a) ↔ row (keyB t) b ≤ row (queryB t) a := by
  rw [hd]
  simp only [keyB, queryB, Fin.mk_le_mk, Fin.le_def]
  omega

theorem tileDk_eq (t : Fin cfg0.N) (dg : Bool) (hd : dg = true ↔ t.val % 8 = t.val / 8) (h : t.val / 8 ≤ t.val % 8) (hh : Fin 8) (b : Fin 512) (e : Fin 128) :
    tileDk dg (iblk m c 0 t) (iblk m c 1 t) (iblk m c 2 t) (iblk m c 3 t) (iblk m c 4 t) (iblk m c 5 t) hh b e =
      partK m c (queryB t) hh (row (keyB t) b) e := by
  unfold tileDk partK
  refine Finset.sum_congr rfl fun a _ => ?_
  rw [block0 m c t h]
  congr 1
  unfold tileGrad gradOf
  simp only [block0 m c t h, block1, block2, block3 m c t h, block4 m c t h, block5 m c t h]
  have hm := mask_rows t dg hd h a b
  simp only [hm]

theorem tileDv_eq (t : Fin cfg0.N) (dg : Bool) (hd : dg = true ↔ t.val % 8 = t.val / 8) (h : t.val / 8 ≤ t.val % 8) (pr : Fin 4) (b : Fin 512) (w : Fin 128) :
    tileDv dg (iblk m c 0 t) (iblk m c 1 t) (iblk m c 3 t) (iblk m c 5 t) pr b w =
      partV m c (queryB t) pr (row (keyB t) b) w := by
  unfold tileDv partV
  refine Finset.sum_congr rfl fun a _ => ?_
  rw [block3 m c t h]
  congr 1
  unfold tileProb probOf
  simp only [block0 m c t h, block1, block5 m c t h]
  have hm := mask_rows t dg hd h a b
  simp only [hm]

/-- A query before the key gives it no weight. -/
theorem probOf_above (A0 A1 : Vec Ideal S4096x1024 .bf16) (A5 : Vec Ideal S4096x512 .f32) (h : Fin 8) (r s : Fin 4096)
    (hs : ¬s ≤ r) : probOf A0 A1 A5 h r s = 0 := by
  unfold probOf
  rw [if_neg hs]

/-- A block of queries before the key block adds nothing to the keys' gradient. -/
theorem partK_above (u j : Fin 8) (hu : u < j) (h : Fin 8) (b : Fin 512) (e : Fin 128) : partK m c u h (row j b) e = 0 := by
  unfold partK
  refine Finset.sum_eq_zero fun a _ => ?_
  rw [gradOf_above _ _ _ _ _ _ _ _ _ (by simp only [Fin.lt_def, Fin.le_def] at *; omega), zero_mul]

/-- A block of queries before the key block adds nothing to the values' gradient. -/
theorem partV_above (u j : Fin 8) (hu : u < j) (pr : Fin 4) (b : Fin 512) (w : Fin 128) : partV m c u pr (row j b) w = 0 := by
  unfold partV
  refine Finset.sum_eq_zero fun a _ => ?_
  rw [probOf_above _ _ _ _ _ _ (by simp only [Fin.lt_def, Fin.le_def] at *; omega), zero_mul]

/-- What query block `u` adds to the keys' gradient, for any number `u`. -/
def partKAt (u : ℕ) (h : Fin 8) (s : Fin 4096) (e : Fin 128) : EReal := if hu : u < 8 then partK m c ⟨u, hu⟩ h s e else 0

/-- What query block `u` adds to the values' gradient, for any number `u`. -/
def partVAt (u : ℕ) (pr : Fin 4) (s : Fin 4096) (w : Fin 128) : EReal := if hu : u < 8 then partV m c ⟨u, hu⟩ pr s w else 0

theorem zero_startK (y : S8x512x128.Idx) : k0_pay1 (F := Ideal) y = 0 := by
  unfold k0_pay1
  pointwise

theorem zero_startV (y : S4x512x128.Idx) : k0_pay2 (F := Ideal) y = 0 := by
  unfold k0_pay2
  pointwise

/-- The accumulator of the keys' gradient after the query blocks below `k`. -/
def accK (k : ℕ) (j : Fin 8) : Vec Ideal S8x512x128 .f32 := fun y => ∑ u ∈ Finset.range k, partKAt m c u (y 0) (row j (y 1)) (y 2)

/-- The accumulator of the values' gradient after the query blocks below `k`. -/
def accV (k : ℕ) (j : Fin 8) : Vec Ideal S4x512x128 .f32 := fun y => ∑ u ∈ Finset.range k, partVAt m c u (y 0) (row j (y 1)) (y 2)

theorem accK_zero (j : Fin 8) : accK m c 0 j = k0_pay1 (F := Ideal) := by
  funext y
  rw [zero_startK]
  exact Finset.sum_range_zero _

theorem accV_zero (j : Fin 8) : accV m c 0 j = k0_pay2 (F := Ideal) := by
  funext y
  rw [zero_startV]
  exact Finset.sum_range_zero _

theorem stepK_next (t : Fin cfg0.N) (dg : Bool) (hd : dg = true ↔ t.val % 8 = t.val / 8) (h : t.val / 8 ≤ t.val % 8) (k : ℕ) (hk : k = t.val % 8)
    (s : Vec Ideal S8x512x128 .f32) (hs : s = accK m c k (keyB t)) :
    stepK dg (iblk m c 0 t) (iblk m c 1 t) (iblk m c 2 t) (iblk m c 3 t) (iblk m c 4 t) (iblk m c 5 t) s = accK m c (k + 1) (keyB t) := by
  subst hs
  funext y
  obtain ⟨h', b, e, rfl⟩ : ∃ (h' : Fin 8) (b : Fin 512) (e : Fin 128), y = ix3 h' b e := ⟨y 0, y 1, y 2, eq_ix3 y⟩
  change ∑ u ∈ Finset.range k, partKAt m c u h' (row (keyB t) b) e +
      tileDk dg (iblk m c 0 t) (iblk m c 1 t) (iblk m c 2 t) (iblk m c 3 t) (iblk m c 4 t) (iblk m c 5 t) h' b e =
    ∑ u ∈ Finset.range (k + 1), partKAt m c u h' (row (keyB t) b) e
  rw [tileDk_eq m c t dg hd h, Finset.sum_range_succ]
  congr 1
  rw [partKAt, dif_pos (by omega)]
  congr 1
  exact Fin.ext hk.symm

theorem stepV_next (t : Fin cfg0.N) (dg : Bool) (hd : dg = true ↔ t.val % 8 = t.val / 8) (h : t.val / 8 ≤ t.val % 8) (k : ℕ) (hk : k = t.val % 8)
    (s : Vec Ideal S4x512x128 .f32) (hs : s = accV m c k (keyB t)) :
    stepV dg (iblk m c 0 t) (iblk m c 1 t) (iblk m c 3 t) (iblk m c 5 t) s = accV m c (k + 1) (keyB t) := by
  subst hs
  funext y
  obtain ⟨pr, b, w, rfl⟩ : ∃ (pr : Fin 4) (b : Fin 512) (w : Fin 128), y = ix3 pr b w := ⟨y 0, y 1, y 2, eq_ix3 y⟩
  change ∑ u ∈ Finset.range k, partVAt m c u pr (row (keyB t) b) w +
      tileDv dg (iblk m c 0 t) (iblk m c 1 t) (iblk m c 3 t) (iblk m c 5 t) pr b w =
    ∑ u ∈ Finset.range (k + 1), partVAt m c u pr (row (keyB t) b) w
  rw [tileDv_eq m c t dg hd h, Finset.sum_range_succ]
  congr 1
  rw [partVAt, dif_pos (by omega)]
  congr 1
  exact Fin.ext hk.symm

theorem accK_skip (k : ℕ) (j : Fin 8) (hk : k < j.val) : accK m c (k + 1) j = accK m c k j := by
  funext y
  obtain ⟨h, b, e, rfl⟩ : ∃ (h : Fin 8) (b : Fin 512) (e : Fin 128), y = ix3 h b e := ⟨y 0, y 1, y 2, eq_ix3 y⟩
  change ∑ u ∈ Finset.range (k + 1), partKAt m c u h (row j b) e = ∑ u ∈ Finset.range k, partKAt m c u h (row j b) e
  rw [Finset.sum_range_succ, partKAt, dif_pos (by omega), partK_above m c ⟨k, by omega⟩ j hk, add_zero]

theorem accV_skip (k : ℕ) (j : Fin 8) (hk : k < j.val) : accV m c (k + 1) j = accV m c k j := by
  funext y
  obtain ⟨h, b, e, rfl⟩ : ∃ (h : Fin 4) (b : Fin 512) (e : Fin 128), y = ix3 h b e := ⟨y 0, y 1, y 2, eq_ix3 y⟩
  change ∑ u ∈ Finset.range (k + 1), partVAt m c u h (row j b) e = ∑ u ∈ Finset.range k, partVAt m c u h (row j b) e
  rw [Finset.sum_range_succ, partVAt, dif_pos (by omega), partV_above m c ⟨k, by omega⟩ j hk, add_zero]

/-- At the first point of key block 0 the accumulators are the block's own addends, under the causal mask. -/
theorem carried_A (t : Fin cfg0.N) (h0 : t.val % 8 = 0) (h1 : ¬t.val / 8 % 8 + 1 ≤ t.val % 8) (h2 : t.val % 9 = 0) (h3 : ¬t.val % 8 = 7) :
    (outsAt0 m c t.val t.isLt).2.2 = (stepK true (iblk m c 0 t) (iblk m c 1 t) (iblk m c 2 t) (iblk m c 3 t) (iblk m c 4 t) (iblk m c 5 t) (k0_pay1 (F := Ideal)), stepV true (iblk m c 0 t) (iblk m c 1 t) (iblk m c 3 t) (iblk m c 5 t) (k0_pay2 (F := Ideal))) := by
  rw [outsAt0_A m c t h0 h1 h2 h3, case_A]
  dsimp only
  have hK := scratchK_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0) (fun h => h1 ((hcond0_1 t).mp h)) ((hcond0_2 t).mpr h2) (fun h => h3 ((hcond0_3 t).mp h))
  have hV := scratchV_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0) (fun h => h1 ((hcond0_1 t).mp h)) ((hcond0_2 t).mpr h2) (fun h => h3 ((hcond0_3 t).mp h))
  rw [hK, hV]

/-- A point below the diagonal adds its block. -/
theorem carried_B (t : Fin cfg0.N) (h0 : ¬t.val % 8 = 0) (h1 : t.val / 8 % 8 + 1 ≤ t.val % 8) (h2 : ¬t.val % 9 = 0) (h3 : ¬t.val % 8 = 7) :
    (outsAt0 m c t.val t.isLt).2.2 = (stepK false (iblk m c 0 t) (iblk m c 1 t) (iblk m c 2 t) (iblk m c 3 t) (iblk m c 4 t) (iblk m c 5 t) (outsAt0 m c (t.val - 1) (Nat.lt_of_le_of_lt (Nat.sub_le _ _) t.isLt)).2.2.1, stepV false (iblk m c 0 t) (iblk m c 1 t) (iblk m c 3 t) (iblk m c 5 t) (outsAt0 m c (t.val - 1) (Nat.lt_of_le_of_lt (Nat.sub_le _ _) t.isLt)).2.2.2) := by
  rw [outsAt0_B m c t h0 h1 h2 h3, case_B]
  dsimp only
  have hK := scratchK_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1) (fun h => h2 ((hcond0_2 t).mp h)) (fun h => h3 ((hcond0_3 t).mp h))
  have hV := scratchV_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1) (fun h => h2 ((hcond0_2 t).mp h)) (fun h => h3 ((hcond0_3 t).mp h))
  rw [hK, hV]

/-- The last point of a key block adds its block. -/
theorem carried_C (t : Fin cfg0.N) (h0 : ¬t.val % 8 = 0) (h1 : t.val / 8 % 8 + 1 ≤ t.val % 8) (h2 : ¬t.val % 9 = 0) (h3 : t.val % 8 = 7) :
    (outsAt0 m c t.val t.isLt).2.2 = (stepK false (iblk m c 0 t) (iblk m c 1 t) (iblk m c 2 t) (iblk m c 3 t) (iblk m c 4 t) (iblk m c 5 t) (outsAt0 m c (t.val - 1) (Nat.lt_of_le_of_lt (Nat.sub_le _ _) t.isLt)).2.2.1, stepV false (iblk m c 0 t) (iblk m c 1 t) (iblk m c 3 t) (iblk m c 5 t) (outsAt0 m c (t.val - 1) (Nat.lt_of_le_of_lt (Nat.sub_le _ _) t.isLt)).2.2.2) := by
  rw [outsAt0_C m c t h0 h1 h2 h3, case_C]
  dsimp only
  have hK := scratchK_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1) (fun h => h2 ((hcond0_2 t).mp h)) ((hcond0_3 t).mpr h3)
  have hV := scratchV_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1) (fun h => h2 ((hcond0_2 t).mp h)) ((hcond0_3 t).mpr h3)
  rw [hK, hV]

/-- At the first point of another key block the accumulators are zero. -/
theorem carried_D (t : Fin cfg0.N) (h0 : t.val % 8 = 0) (h1 : ¬t.val / 8 % 8 + 1 ≤ t.val % 8) (h2 : ¬t.val % 9 = 0) (h3 : ¬t.val % 8 = 7) :
    (outsAt0 m c t.val t.isLt).2.2 = (k0_pay1 (F := Ideal), k0_pay2 (F := Ideal)) := by
  rw [outsAt0_D m c t h0 h1 h2 h3, case_D]
  dsimp only
  have hK := scratchK_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0) (fun h => h1 ((hcond0_1 t).mp h)) (fun h => h2 ((hcond0_2 t).mp h)) (fun h => h3 ((hcond0_3 t).mp h))
  have hV := scratchV_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0) (fun h => h1 ((hcond0_1 t).mp h)) (fun h => h2 ((hcond0_2 t).mp h)) (fun h => h3 ((hcond0_3 t).mp h))
  rw [hK, hV]

/-- A point on the diagonal adds its block under the causal mask. -/
theorem carried_E (t : Fin cfg0.N) (h0 : ¬t.val % 8 = 0) (h1 : ¬t.val / 8 % 8 + 1 ≤ t.val % 8) (h2 : t.val % 9 = 0) (h3 : ¬t.val % 8 = 7) :
    (outsAt0 m c t.val t.isLt).2.2 = (stepK true (iblk m c 0 t) (iblk m c 1 t) (iblk m c 2 t) (iblk m c 3 t) (iblk m c 4 t) (iblk m c 5 t) (outsAt0 m c (t.val - 1) (Nat.lt_of_le_of_lt (Nat.sub_le _ _) t.isLt)).2.2.1, stepV true (iblk m c 0 t) (iblk m c 1 t) (iblk m c 3 t) (iblk m c 5 t) (outsAt0 m c (t.val - 1) (Nat.lt_of_le_of_lt (Nat.sub_le _ _) t.isLt)).2.2.2) := by
  rw [outsAt0_E m c t h0 h1 h2 h3, case_E]
  dsimp only
  have hK := scratchK_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2) (fun h => h3 ((hcond0_3 t).mp h))
  have hV := scratchV_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2) (fun h => h3 ((hcond0_3 t).mp h))
  rw [hK, hV]

/-- A point above the diagonal keeps the accumulators. -/
theorem carried_F (t : Fin cfg0.N) (h0 : ¬t.val % 8 = 0) (h1 : ¬t.val / 8 % 8 + 1 ≤ t.val % 8) (h2 : ¬t.val % 9 = 0) (h3 : ¬t.val % 8 = 7) :
    (outsAt0 m c t.val t.isLt).2.2 = (outsAt0 m c (t.val - 1) (Nat.lt_of_le_of_lt (Nat.sub_le _ _) t.isLt)).2.2 := by
  rw [outsAt0_F m c t h0 h1 h2 h3, case_F]
  rfl

/-- The last point of the last key block adds its block under the causal mask. -/
theorem carried_G (t : Fin cfg0.N) (h0 : ¬t.val % 8 = 0) (h1 : ¬t.val / 8 % 8 + 1 ≤ t.val % 8) (h2 : t.val % 9 = 0) (h3 : t.val % 8 = 7) :
    (outsAt0 m c t.val t.isLt).2.2 = (stepK true (iblk m c 0 t) (iblk m c 1 t) (iblk m c 2 t) (iblk m c 3 t) (iblk m c 4 t) (iblk m c 5 t) (outsAt0 m c (t.val - 1) (Nat.lt_of_le_of_lt (Nat.sub_le _ _) t.isLt)).2.2.1, stepV true (iblk m c 0 t) (iblk m c 1 t) (iblk m c 3 t) (iblk m c 5 t) (outsAt0 m c (t.val - 1) (Nat.lt_of_le_of_lt (Nat.sub_le _ _) t.isLt)).2.2.2) := by
  rw [outsAt0_G m c t h0 h1 h2 h3, case_G]
  dsimp only
  have hK := scratchK_G c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2) ((hcond0_3 t).mpr h3)
  have hV := scratchV_G c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2) ((hcond0_3 t).mpr h3)
  rw [hK, hV]

/-- The last point of a key block stores the keys' gradient, its own block added. -/
theorem storedK_C (t : Fin cfg0.N) (h0 : ¬t.val % 8 = 0) (h1 : t.val / 8 % 8 + 1 ≤ t.val % 8) (h2 : ¬t.val % 9 = 0) (h3 : t.val % 8 = 7) :
    (outsAt0 m c t.val t.isLt).1 = outOf (stepK false (iblk m c 0 t) (iblk m c 1 t) (iblk m c 2 t) (iblk m c 3 t) (iblk m c 4 t) (iblk m c 5 t) (outsAt0 m c (t.val - 1) (Nat.lt_of_le_of_lt (Nat.sub_le _ _) t.isLt)).2.2.1) := by
  rw [outsAt0_C m c t h0 h1 h2 h3, case_C]
  dsimp only
  have h := resultK_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1) (fun h => h2 ((hcond0_2 t).mp h)) ((hcond0_3 t).mpr h3)
  rw [h]

/-- The last point of a key block stores the values' gradient, its own block added. -/
theorem storedV_C (t : Fin cfg0.N) (h0 : ¬t.val % 8 = 0) (h1 : t.val / 8 % 8 + 1 ≤ t.val % 8) (h2 : ¬t.val % 9 = 0) (h3 : t.val % 8 = 7) :
    (outsAt0 m c t.val t.isLt).2.1 = outOfV (stepV false (iblk m c 0 t) (iblk m c 1 t) (iblk m c 3 t) (iblk m c 5 t) (outsAt0 m c (t.val - 1) (Nat.lt_of_le_of_lt (Nat.sub_le _ _) t.isLt)).2.2.2) := by
  rw [outsAt0_C m c t h0 h1 h2 h3, case_C]
  dsimp only
  have h := resultV_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1) (fun h => h2 ((hcond0_2 t).mp h)) ((hcond0_3 t).mpr h3)
  rw [h]

/-- The last point of the last key block stores the keys' gradient, its own block added. -/
theorem storedK_G (t : Fin cfg0.N) (h0 : ¬t.val % 8 = 0) (h1 : ¬t.val / 8 % 8 + 1 ≤ t.val % 8) (h2 : t.val % 9 = 0) (h3 : t.val % 8 = 7) :
    (outsAt0 m c t.val t.isLt).1 = outOf (stepK true (iblk m c 0 t) (iblk m c 1 t) (iblk m c 2 t) (iblk m c 3 t) (iblk m c 4 t) (iblk m c 5 t) (outsAt0 m c (t.val - 1) (Nat.lt_of_le_of_lt (Nat.sub_le _ _) t.isLt)).2.2.1) := by
  rw [outsAt0_G m c t h0 h1 h2 h3, case_G]
  dsimp only
  have h := resultK_G c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2) ((hcond0_3 t).mpr h3)
  rw [h]

/-- The last point of the last key block stores the values' gradient, its own block added. -/
theorem storedV_G (t : Fin cfg0.N) (h0 : ¬t.val % 8 = 0) (h1 : ¬t.val / 8 % 8 + 1 ≤ t.val % 8) (h2 : t.val % 9 = 0) (h3 : t.val % 8 = 7) :
    (outsAt0 m c t.val t.isLt).2.1 = outOfV (stepV true (iblk m c 0 t) (iblk m c 1 t) (iblk m c 3 t) (iblk m c 5 t) (outsAt0 m c (t.val - 1) (Nat.lt_of_le_of_lt (Nat.sub_le _ _) t.isLt)).2.2.2) := by
  rw [outsAt0_G m c t h0 h1 h2 h3, case_G]
  dsimp only
  have h := resultV_G c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2) ((hcond0_3 t).mpr h3)
  rw [h]

/-- What the accumulators hold after every point: the sums over the query blocks met so far. -/
theorem scratch_at : ∀ (n : ℕ) (hn : n < cfg0.N),
    (outsAt0 m c n hn).2.2 = (accK m c (n % 8 + 1) (keyB ⟨n, hn⟩), accV m c (n % 8 + 1) (keyB ⟨n, hn⟩)) := by
  intro n
  induction n using Nat.strong_induction_on with
  | _ n ih =>
    intro hn
    have hN : n < 64 := lt_of_lt_of_eq hn points
    by_cases h0 : n % 8 = 0
    · have h1 : ¬n / 8 % 8 + 1 ≤ n % 8 := by omega
      have h3 : ¬n % 8 = 7 := by omega
      by_cases h2 : n % 9 = 0
      · have hd : n % 8 = n / 8 := (diagonal n hN).mp h2
        refine (carried_A m c ⟨n, hn⟩ h0 h1 h2 h3).trans ?_
        exact congrArg₂ Prod.mk (stepK_next m c ⟨n, hn⟩ true (by simp; omega) (show n / 8 ≤ n % 8 by omega) _ rfl _ ((accK_zero m c _).symm.trans (by rw [show n % 8 = 0 from h0])))
          (stepV_next m c ⟨n, hn⟩ true (by simp; omega) (show n / 8 ≤ n % 8 by omega) _ rfl _ ((accV_zero m c _).symm.trans (by rw [show n % 8 = 0 from h0])))
      · have hd : n % 8 < n / 8 := by have := diagonal n hN; omega
        refine (carried_D m c ⟨n, hn⟩ h0 h1 h2 h3).trans ?_
        rw [accK_skip m c (n % 8) _ hd, accV_skip m c (n % 8) _ hd, h0, accK_zero, accV_zero]
    · have hn' : n - 1 < cfg0.N := Nat.lt_of_le_of_lt (Nat.sub_le _ _) hn
      have hp := ih (n - 1) (by omega) hn'
      have hq : keyB ⟨n - 1, hn'⟩ = keyB ⟨n, hn⟩ := Fin.ext (show (n - 1) / 8 = n / 8 by omega)
      rw [hq, show (n - 1) % 8 + 1 = n % 8 by omega] at hp
      by_cases h1 : n / 8 % 8 + 1 ≤ n % 8
      · have h2 : ¬n % 9 = 0 := by have := diagonal n hN; omega
        have hstep := congrArg₂ Prod.mk (stepK_next m c ⟨n, hn⟩ false (by simp; omega) (show n / 8 ≤ n % 8 by omega) _ rfl _ (congrArg Prod.fst hp))
          (stepV_next m c ⟨n, hn⟩ false (by simp; omega) (show n / 8 ≤ n % 8 by omega) _ rfl _ (congrArg Prod.snd hp))
        by_cases h3 : n % 8 = 7
        · exact (carried_C m c ⟨n, hn⟩ h0 h1 h2 h3).trans hstep
        · exact (carried_B m c ⟨n, hn⟩ h0 h1 h2 h3).trans hstep
      · by_cases h2 : n % 9 = 0
        · have hd : n % 8 = n / 8 := (diagonal n hN).mp h2
          have hstep := congrArg₂ Prod.mk (stepK_next m c ⟨n, hn⟩ true (by simp; omega) (show n / 8 ≤ n % 8 by omega) _ rfl _ (congrArg Prod.fst hp))
            (stepV_next m c ⟨n, hn⟩ true (by simp; omega) (show n / 8 ≤ n % 8 by omega) _ rfl _ (congrArg Prod.snd hp))
          by_cases h3 : n % 8 = 7
          · exact (carried_G m c ⟨n, hn⟩ h0 h1 h2 h3).trans hstep
          · exact (carried_E m c ⟨n, hn⟩ h0 h1 h2 h3).trans hstep
        · have hd : n % 8 < n / 8 := by have := diagonal n hN; omega
          have h3 : ¬n % 8 = 7 := by omega
          refine (carried_F m c ⟨n, hn⟩ h0 h1 h2 h3).trans (hp.trans ?_)
          rw [accK_skip m c (n % 8) _ hd, accV_skip m c (n % 8) _ hd]

/-- What the last point of a key block stores: the sums over all query blocks. -/
theorem results_at (t : Fin cfg0.N) (h3 : t.val % 8 = 7) :
    (outsAt0 m c t.val t.isLt).1 = outOf (accK m c 8 (keyB t)) ∧ (outsAt0 m c t.val t.isLt).2.1 = outOfV (accV m c 8 (keyB t)) := by
  have hN : t.val < 64 := lt_of_lt_of_eq t.isLt points
  have hn' : t.val - 1 < cfg0.N := Nat.lt_of_le_of_lt (Nat.sub_le _ _) t.isLt
  have hp := scratch_at m c (t.val - 1) hn'
  have hq : keyB ⟨t.val - 1, hn'⟩ = keyB t := Fin.ext (show (t.val - 1) / 8 = t.val / 8 by omega)
  rw [hq, show (t.val - 1) % 8 + 1 = t.val % 8 by omega] at hp
  have h0 : ¬t.val % 8 = 0 := by omega
  have h8 : (8 : ℕ) = t.val % 8 + 1 := by omega
  rw [h8]
  by_cases h2 : t.val % 9 = 0
  · have hd : t.val % 8 = t.val / 8 := (diagonal _ hN).mp h2
    have h1 : ¬t.val / 8 % 8 + 1 ≤ t.val % 8 := by omega
    exact ⟨(storedK_G m c t h0 h1 h2 h3).trans (congrArg outOf (stepK_next m c t true (by simp; omega) (by omega) _ rfl _ (congrArg Prod.fst hp))),
      (storedV_G m c t h0 h1 h2 h3).trans (congrArg outOfV (stepV_next m c t true (by simp; omega) (by omega) _ rfl _ (congrArg Prod.snd hp)))⟩
  · have hd : t.val / 8 < 7 := by have := diagonal _ hN; omega
    have h1 : t.val / 8 % 8 + 1 ≤ t.val % 8 := by omega
    exact ⟨(storedK_C m c t h0 h1 h2 h3).trans (congrArg outOf (stepK_next m c t false (by simp; omega) (by omega) _ rfl _ (congrArg Prod.fst hp))),
      (storedV_C m c t h0 h1 h2 h3).trans (congrArg outOfV (stepV_next m c t false (by simp; omega) (by omega) _ rfl _ (congrArg Prod.snd hp)))⟩

/-- The keys' gradient at row `s` of its block, head `h` and lane `e`: the sum over all queries. -/
theorem accK_eq (j : Fin 8) (h : Fin 8) (b : Fin 512) (e : Fin 128) : accK m c 8 j (ix3 h b e) =
    ∑ r : Fin 4096, gradOf (arr0 m c) (arr1 m c) (arr2 m c) (arr3 m c) (arr4 m c) (arr5 m c) h r (row j b) * arr0 m c (ix2 r (wide h e)) := by
  rw [sum_rows]
  change ∑ u ∈ Finset.range 8, partKAt m c u h (row j b) e = _
  rw [Finset.sum_range]
  refine Finset.sum_congr rfl fun u _ => ?_
  rw [partKAt, dif_pos u.isLt]
  rfl

/-- The values' gradient at row `s` of its block and lane `w` of a pair: the sum over all queries. -/
theorem accV_eq (j : Fin 8) (pr : Fin 4) (b : Fin 512) (w : Fin 128) : accV m c 8 j (ix3 pr b w) =
    ∑ r : Fin 4096, probOf (arr0 m c) (arr1 m c) (arr5 m c) (pairHead pr w) r (row j b) * arr3 m c (ix2 r (pairCol pr w)) := by
  rw [sum_rows]
  change ∑ u ∈ Finset.range 8, partVAt m c u pr (row j b) w = _
  rw [Finset.sum_range]
  refine Finset.sum_congr rfl fun u _ => ?_
  rw [partVAt, dif_pos u.isLt]
  rfl

end Cert.Kernel2Ideal.Dkv

end
-- ==== Proof.DkvArray.lean ====
/-
  The call's two results: the blocks that its points write make up the whole gradients of the keys and of the values.
-/
module

public import proofs.«01_k».proof.Proof.DkvPoints
public import proofs.«01_k».proof.Proof.DqArray

@[expose] public section

set_option maxRecDepth 16384

noncomputable section

namespace Cert.Kernel2Ideal.Dkv

open Cert.Kernel2Ideal Cert.Kernel2Ideal.Gen
open Idealize.ShloMosaic Idealize.ShloMosaic.TcCoe Idealize.ShloMosaic.Tactic
open Cert.KernelIdeal.Dq (outOf wide narrow row gradOf headOf wide_split)

/-- The head of a value column. -/
def narrowHead (w : Fin 512) : Fin 8 := ⟨w.val / 64, by omega⟩

/-- The gradient of the keys, from the arrays that the call takes. -/
def keyGrad (A0 A1 : Vec Ideal S4096x1024 .bf16) (A2 : Vec Ideal S4096x512 .bf16) (A3 A4 A5 : Vec Ideal S4096x512 .f32) : Vec Ideal S4096x1024 .bf16 :=
  fun y => ∑ r : Fin 4096, gradOf A0 A1 A2 A3 A4 A5 (headOf (y 1)) r (y 0) * A0 (ix2 r (y 1))

/-- The gradient of the values, from the arrays that the call takes. -/
def valueGrad (A0 A1 : Vec Ideal S4096x1024 .bf16) (A3 A5 : Vec Ideal S4096x512 .f32) : Vec Ideal S4096x512 .bf16 :=
  fun y => ∑ r : Fin 4096, probOf A0 A1 A5 (narrowHead (y 1)) r (y 0) * A3 (ix2 r (y 1))

variable (m : (ℓ : Loc nD τ sig) → Buf (Elt Ideal) ℓ) (c : Dev nD)

/-- A column of a pair of heads is the pair's column. -/
theorem pair_split (w : Fin 512) : pairCol (pairOf w) (laneOf w) = w := Fin.ext (by simp only [pairCol, pairOf, laneOf]; omega)

/-- The head of a column of a pair. -/
theorem pair_head (w : Fin 512) : pairHead (pairOf w) (laneOf w) = narrowHead w :=
  Fin.ext (by simp only [pairHead, pairOf, laneOf, narrowHead]; omega)

/-- Where a point's block of the keys' gradient lies. -/
theorem emb6 (t : Fin cfg0.N) (b : Fin 512) (w : Fin 1024) :
    ((cfg0.win 6).blk t).view.emb (ix2 b w) = ix2 (row (keyB t) b) w := by
  obtain ⟨-, -, -, -, e0, e1, -⟩ := index_k t
  blk_ext [e0, e1, keyB]

/-- Where a point's block of the values' gradient lies. -/
theorem emb7 (t : Fin cfg0.N) (b : Fin 512) (w : Fin 512) :
    ((cfg0.win 7).blk t).view.emb (ix2 b w) = ix2 (row (keyB t) b) w := by
  obtain ⟨-, -, -, -, -, -, e0, e1⟩ := index_k t
  blk_ext [e0, e1, keyB]

/-- The call's first result is the gradient of the keys. -/
theorem result_keys : (dats m 0 c).arrAt 6 cfg0.N =
    keyGrad (arr0 m c) (arr1 m c) (arr2 m c) (arr3 m c) (arr4 m c) (arr5 m c) := by
  refine (dats m 0 c).arrAt_eq_of_covers 6 _ (by decide +kernel) fun t hf y => ?_
  blk_simp
  rw [after0_6]
  obtain ⟨b, w, rfl⟩ : ∃ (b : Fin 512) (w : Fin 1024), y = ix2 b w := ⟨y 0, y 1, eq_ix2 y⟩
  rw [(results_at m c t ((flush0_6 t).mp hf)).1]
  refine (accK_eq m c (keyB t) (headOf w) b (Cert.KernelIdeal.Dq.laneOf w)).trans ?_
  rw [wide_split]
  exact (congrArg (keyGrad (arr0 m c) (arr1 m c) (arr2 m c) (arr3 m c) (arr4 m c) (arr5 m c)) (emb6 t b w)).symm

/-- The call's second result is the gradient of the values. -/
theorem result_values : (dats m 0 c).arrAt 7 cfg0.N =
    valueGrad (arr0 m c) (arr1 m c) (arr3 m c) (arr5 m c) := by
  refine (dats m 0 c).arrAt_eq_of_covers 7 _ (by decide +kernel) fun t hf y => ?_
  blk_simp
  rw [after0_7]
  obtain ⟨b, w, rfl⟩ : ∃ (b : Fin 512) (w : Fin 512), y = ix2 b w := ⟨y 0, y 1, eq_ix2 y⟩
  rw [(results_at m c t ((flush0_7 t).mp hf)).2]
  refine (accV_eq m c (keyB t) (pairOf w) b (laneOf w)).trans ?_
  rw [pair_split, pair_head]
  exact (congrArg (valueGrad (arr0 m c) (arr1 m c) (arr3 m c) (arr5 m c)) (emb7 t b w)).symm

end Cert.Kernel2Ideal.Dkv

end
-- ==== Proof.DkvHost.lean ====
/-
  The arrays that the call of the keys' and values' gradients finds, as words of the arguments, and its results from real
  arguments.
-/
module

public import proofs.«01_k».proof.Proof.DkvArray
public import proofs.«01_k».proof.Proof.DqHost
public import Idealize.ShloMosaic.Lib.StableHlo.RunRead

@[expose] public section

set_option maxRecDepth 16384

noncomputable section

namespace Cert.Kernel2Ideal.Dkv

open Cert.Kernel2Ideal Cert.Kernel2Ideal.Gen Cert.Attention
open Idealize.ShloMosaic Idealize.ShloMosaic.TcCoe Idealize.ShloMosaic.Tactic
open Cert.KernelIdeal.Dq (wide narrow gradOf headOf Reads weight_real grad_real)

variable (m : (ℓ : Loc nD τ sig) → Buf (Elt Ideal) ℓ) (c : Dev nD)

/-- The arguments as the call finds them. -/
abbrev x0 : FVec Ideal S4096x8x64 .f32 := m (c.tc.loc main_arg0)
abbrev x1 : FVec Ideal S4096x8x32 .f32 := m (c.tc.loc main_arg1)
abbrev x2 : FVec Ideal S4096x8x64 .f32 := m (c.tc.loc main_arg2)
abbrev x3 : FVec Ideal S4096x32 .f32 := m (c.tc.loc main_arg3)
abbrev x4 : FVec Ideal S4096x8x64 .f32 := m (c.tc.loc main_arg4)
abbrev x5 : FVec Ideal S4096x8x64 .f32 := m (c.tc.loc main_arg5)

theorem arr0_eq : V m c main_v5 = Host.padded (x0 m c) (x1 m c) := by
  unfold_abbrev_sides
  simp only [List.flatten_cons, List.flatten_nil, List.append_nil]
  after_reads_simp
  rfl

theorem arr1_eq : V m c main_v8 = Host.padded (x2 m c) (Host.shared (x3 m c)) := by
  unfold_abbrev_sides
  simp only [List.flatten_cons, List.flatten_nil, List.append_nil]
  after_reads_simp
  rfl

theorem arr2_eq : V m c main_v42 = Host.flat (x4 m c) := by
  unfold_abbrev_sides
  simp only [List.flatten_cons, List.flatten_nil, List.append_nil]
  after_reads_simp
  rfl

theorem arr3_eq : V m c main_v43 = Host.beside (x5 m c) := by
  unfold_abbrev_sides
  simp only [List.flatten_cons, List.flatten_nil, List.append_nil]
  after_reads_simp
  rfl

theorem arr4_eq : V m c main_v36 = Host.result (x4 m c) (Host.scores (x0 m c) (x1 m c) (x2 m c) (x3 m c)) := by
  unfold_abbrev_sides
  simp only [List.flatten_cons, List.flatten_nil, List.append_nil]
  after_reads_simp
  rfl

theorem arr5_eq : V m c main_v40 = Host.spread (Host.logs (Host.scores (x0 m c) (x1 m c) (x2 m c) (x3 m c))) := by
  unfold_abbrev_sides
  simp only [List.flatten_cons, List.flatten_nil, List.append_nil]
  after_reads_simp
  rfl

/-- What the six arrays hold when the arguments are real numbers. -/
theorem reads {A : Args} (H : Host.Holds A (x0 m c) (x1 m c) (x2 m c) (x3 m c) (x4 m c) (x5 m c)) :
    Reads A (arr0 m c) (arr1 m c) (arr2 m c) (arr3 m c) (arr4 m c) (arr5 m c) where
  q r h e := (congrFun (arr0_eq m c) _).trans (Host.queries_real H r h e)
  k s h e := (congrFun (arr1_eq m c) _).trans (Host.keys_real H s h e)
  v s h j := (congrFun (arr2_eq m c) _).trans ((Host.flat_apply _ s h j).trans (H.v s h j))
  g r h j := (congrFun (arr3_eq m c) _).trans ((Host.beside_apply _ r h j).trans (H.g r h j))
  o r h j := (congrFun (arr4_eq m c) _).trans (Host.result_real H r h j)
  l r h j := (congrFun (arr5_eq m c) _).trans ((Host.spread_apply _ r h j).trans (Host.logs_real H h r))

section real

variable {A : Args} {A0 A1 : Vec Ideal S4096x1024 .bf16} {A2 : Vec Ideal S4096x512 .bf16} {A3 A4 A5 : Vec Ideal S4096x512 .f32}
  (R : Reads A A0 A1 A2 A3 A4 A5)

include R

/-- The attention's weight, from the arrays. -/
theorem prob_real (h : Fin 8) (r s : Fin 4096) : probOf A0 A1 A5 h r s = (A.prob h r s : EReal) := weight_real R h r s

/-- The gradient of the keys, from the arrays. -/
theorem keyGrad_real (s : Fin 4096) (h : Fin 8) (e : Fin 128) :
    keyGrad A0 A1 A2 A3 A4 A5 (ix2 s (wide h e)) = ((∑ r, A.grad h r s * A.qrow r h e : ℝ) : EReal) := by
  have eh : headOf (wide h e) = h := Fin.ext (show (128 * h.val + e.val) / 128 = h.val by omega)
  change ∑ r : Fin 4096, gradOf A0 A1 A2 A3 A4 A5 (headOf (wide h e)) r s * A0 (ix2 r (wide h e)) = _
  simp only [eh, grad_real R, R.q, ← EReal.coe_mul, ← coe_sum]

/-- The gradient of the values, from the arrays. -/
theorem valueGrad_real (s : Fin 4096) (h : Fin 8) (j : Fin 64) :
    valueGrad A0 A1 A3 A5 (ix2 s (narrow h j)) = ((∑ r, A.prob h r s * A.g r h j : ℝ) : EReal) := by
  have eh : narrowHead (narrow h j) = h := Fin.ext (show (64 * h.val + j.val) / 64 = h.val by omega)
  change ∑ r : Fin 4096, probOf A0 A1 A5 (narrowHead (narrow h j)) r s * A3 (ix2 r (narrow h j)) = _
  simp only [eh, prob_real R, R.g, ← EReal.coe_mul, ← coe_sum]

end real

/-- The call's first result, from real arguments. -/
theorem keys_real {A : Args} (H : Host.Holds A (x0 m c) (x1 m c) (x2 m c) (x3 m c) (x4 m c) (x5 m c))
    (s : Fin 4096) (h : Fin 8) (e : Fin 128) :
    (dats m 0 c).arrAt 6 cfg0.N (ix2 s (wide h e)) = ((∑ r, A.grad h r s * A.qrow r h e : ℝ) : EReal) := by
  rw [result_keys]
  exact keyGrad_real (reads m c H) s h e

/-- The call's second result, from real arguments. -/
theorem values_real {A : Args} (H : Host.Holds A (x0 m c) (x1 m c) (x2 m c) (x3 m c) (x4 m c) (x5 m c))
    (s : Fin 4096) (h : Fin 8) (j : Fin 64) :
    (dats m 0 c).arrAt 7 cfg0.N (ix2 s (narrow h j)) = ((∑ r, A.prob h r s * A.g r h j : ℝ) : EReal) := by
  rw [result_values]
  exact valueGrad_real (reads m c H) s h j

end Cert.Kernel2Ideal.Dkv

end
-- ==== Proof.DkvRef.lean ====
module

public import proofs.«01_k».proof.Proof.Backward
public import proofs.«01_k».proof.Proof.DqRef
public import proofs.«01_k».proof.Proof.Gen.Reference2Ideal.Run
public import proofs.«01_k».proof.Proof.Gen.Reference2Ideal.Read

/-! What the reference of the keys' and values' gradients computes from real arguments. -/

@[expose] public section

set_option maxRecDepth 16384

noncomputable section

namespace Cert.Reference2Ideal.Dkv

open Cert.Reference2Ideal Cert.Reference2Ideal.Gen Cert.Reference2Ideal.Read Cert.Attention
open Idealize.ShloMosaic Idealize.ShloMosaic.TcCoe Idealize.ShloMosaic.Tactic

variable (x0 : FVec Ideal S4096x8x64 .f32) (x1 : FVec Ideal S4096x8x32 .f32) (x2 : FVec Ideal S4096x8x64 .f32)
  (x3 : FVec Ideal S4096x32 .f32) (x4 x5 : FVec Ideal S4096x8x64 .f32)

/-- Both references take the gradient of the products alike. -/
theorem products_eq : val_main_v65 (F := Ideal) x0 x1 x2 x3 x4 x5 = Cert.ReferenceIdeal.Dq.products x0 x1 x2 x3 x4 x5 := rfl

/-- The attention's weights, from the scores and the rows' shifts. -/
def probs (S : FVec Ideal S8x4096x4096 .f32) (T : FVec Ideal S8x4096 .f32) : FVec Ideal S8x4096x4096 .f32 :=
  Host.divf (Backward.weights S T) (Backward.across (Backward.column (Backward.rowSum (Backward.weights S T))))

theorem probs_eq : val_main_v41 (F := Ideal) x0 x1 x2 x3 =
    probs (Host.scores x0 x1 x2 x3) (Backward.shift (Host.top (Host.scores x0 x1 x2 x3))) := rfl

theorem probs_apply (S : FVec Ideal S8x4096x4096 .f32) (T : FVec Ideal S8x4096 .f32) (h : Fin 8) (r s : Fin 4096) :
    probs S T (ix3 h r s) = Ideal.div (Backward.weights S T (ix3 h r s)) (Backward.rowSum (Backward.weights S T) (ix2 h r)) := by
  change Ideal.div (Backward.weights S T (ix3 h r s)) (Backward.across (Backward.column (Backward.rowSum (Backward.weights S T))) (ix3 h r s)) = _
  rw [Backward.across_apply, Backward.column_apply]

/-- The padded gradient of the keys from the gradient of the products. -/
def gather (G : FVec Ideal S8x4096x4096 .f32) : FVec Ideal S4096x1024 .bf16 :=
  Host.padded
    (transpose S4096x8x64 [1, 0, 2] (Host.dotGeneral dot_S8x4096x4096_S4096x8x64_S8x4096x64_1_0_2_2_0_1 none G x0) transposes_S8x4096x64_S4096x8x64_1_0_2)
    (transpose S4096x8x32 [1, 0, 2] (Host.dotGeneral dot_S8x4096x4096_S4096x8x32_S8x4096x32_1_0_2_2_0_1 none G x1) transposes_S8x4096x32_S4096x8x32_1_0_2)

theorem gather_eq : val_main_v77 (F := Ideal) x0 x1 x2 x3 x4 x5 = gather x0 x1 (val_main_v65 (F := Ideal) x0 x1 x2 x3 x4 x5) := rfl

/-- The gradient of the values from the attention's weights. -/
def values (P : FVec Ideal S8x4096x4096 .f32) : FVec Ideal S4096x8x64 .f32 :=
  transpose S4096x8x64 [2, 0, 1]
    (Host.dotGeneral dot_S8x64x4096_S8x4096x4096_S8x64x4096_2_1_1_2_0_0 none
      (transpose S8x64x4096 [1, 2, 0] x5 transposes_S4096x8x64_S8x64x4096_1_2_0) P) transposes_S8x64x4096_S4096x8x64_2_0_1

theorem values_eq : val_main_v79 (F := Ideal) x0 x1 x2 x3 x5 = Host.flat (values x5 (val_main_v41 (F := Ideal) x0 x1 x2 x3)) := rfl

theorem low_apply (G : FVec Ideal S8x4096x4096 .f32) (s : Fin 4096) (h : Fin 8) (j : Fin 64) :
    transpose S4096x8x64 [1, 0, 2] (Host.dotGeneral dot_S8x4096x4096_S4096x8x64_S8x4096x64_1_0_2_2_0_1 none G x0) transposes_S8x4096x64_S4096x8x64_1_0_2 (ix3 s h j) =
      ∑ r : Fin 4096, G (ix3 h r s) * x0 (ix3 r h j) := by
  pointwise

theorem high_apply (G : FVec Ideal S8x4096x4096 .f32) (s : Fin 4096) (h : Fin 8) (j : Fin 32) :
    transpose S4096x8x32 [1, 0, 2] (Host.dotGeneral dot_S8x4096x4096_S4096x8x32_S8x4096x32_1_0_2_2_0_1 none G x1) transposes_S8x4096x32_S4096x8x32_1_0_2 (ix3 s h j) =
      ∑ r : Fin 4096, G (ix3 h r s) * x1 (ix3 r h j) := by
  pointwise

theorem values_apply (P : FVec Ideal S8x4096x4096 .f32) (s : Fin 4096) (h : Fin 8) (j : Fin 64) :
    values x5 P (ix3 s h j) = ∑ r : Fin 4096, x5 (ix3 r h j) * P (ix3 h r s) := by
  unfold values
  pointwise

variable {x0 x1 x2 x3 x4 x5} {A : Args} (H : Host.Holds A x0 x1 x2 x3 x4 x5)

include H

/-- Of real arguments the reference's weights are the attention's. -/
theorem probs_real (h : Fin 8) (r s : Fin 4096) :
    probs (Host.scores x0 x1 x2 x3) (Backward.shift (Host.top (Host.scores x0 x1 x2 x3))) (ix3 h r s) = (A.prob h r s : EReal) := by
  obtain ⟨M, hM⟩ := Host.shift_real H (Host.scores_real H) h r
  rw [probs_apply, Backward.rowSum_apply]
  simp only [Backward.weights_apply, Backward.shift_apply, Host.scores_real H, hM]
  rw [A.sum_exp_score, A.exp_score, A.div_score]

/-- The reference's gradient of the keys, from real arguments. -/
theorem keys_real (s : Fin 4096) (h : Fin 8) (e : Fin 128) :
    val_main_v77 (F := Ideal) x0 x1 x2 x3 x4 x5 (ix2 s (Host.wide h e)) = ((∑ r, A.grad h r s * A.qrow r h e : ℝ) : EReal) := by
  rw [gather_eq, products_eq]
  unfold gather
  rw [Host.padded_apply]
  unfold Args.qrow
  split
  next h1 =>
    rw [low_apply]
    simp only [Cert.ReferenceIdeal.Dq.products_real H, H.qn, ← EReal.coe_mul, ← coe_sum]
  next h1 =>
    split
    next h2 =>
      rw [high_apply]
      simp only [Cert.ReferenceIdeal.Dq.products_real H, H.qp, ← EReal.coe_mul, ← coe_sum]
    next h2 => simp

/-- The reference's gradient of the values, from real arguments. -/
theorem values_real (s : Fin 4096) (h : Fin 8) (j : Fin 64) :
    val_main_v79 (F := Ideal) x0 x1 x2 x3 x5 (ix2 s (Host.narrow h j)) = ((∑ r, A.prob h r s * A.g r h j : ℝ) : EReal) := by
  rw [values_eq, Host.flat_apply, values_apply, probs_eq]
  simp only [probs_real H, H.g, ← EReal.coe_mul, ← coe_sum, mul_comm (A.g _ _ _)]

end Cert.Reference2Ideal.Dkv

end
-- ==== Proof.DkvValue.lean ====
module

public import proofs.«01_k».proof.Defs
public import proofs.«01_k».proof.Proof.DkvClaims
public import proofs.«01_k».proof.Proof.DkvHost
public import proofs.«01_k».proof.Proof.DkvRef
public import proofs.«01_k».proof.Proof.Finite
public import Idealize.ShloMosaic.Lib.Claim

/-! The kernel of the keys' and values' gradients and its reference compute the same functions over the extended reals. -/

@[expose] public section

set_option maxRecDepth 16384

noncomputable section

namespace Cert.DkvClaims

open Idealize.ShloMosaic Idealize.ShloMosaic.TcCoe Idealize.ShloMosaic.Tactic Idealize.SL.Sem Cert.Kernel2Ideal Cert.Kernel2Ideal.Gen Cert.Kernel2Ideal.Dkv

/-- The ideal kernel's frame, under the precondition. -/
theorem frame_ideal_finite : Cert.quiescent_Kernel2Ideal_pre_finite := fun m ρ _ => frame_ideal m ρ trivial

/-- The reference's frame, under the precondition. -/
theorem frame_reference_finite : Cert.quiescent_Reference2Ideal_pre_finite := fun m ρ _ => frame_reference m ρ trivial

/-- A column of the values, by its head and its lane. -/
theorem narrow_split (w : Fin 512) : Host.narrow (narrowHead w) ⟨w.val % 64, by omega⟩ = w :=
  Fin.ext (show 64 * (w.val / 64) + w.val % 64 = w.val by omega)

/-- From the same real arguments the call's gradient of the keys is the reference's. -/
theorem same_keys (m : (ℓ : Loc nD τ sig) → Buf (Elt Ideal) ℓ) (c : Dev nD) {A : Attention.Args}
    (H : Host.Holds A (Dkv.x0 m c) (Dkv.x1 m c) (Dkv.x2 m c) (Dkv.x3 m c) (Dkv.x4 m c) (Dkv.x5 m c)) :
    Cert.Reference2Ideal.Read.val_main_v77 (F := Ideal) (Dkv.x0 m c) (Dkv.x1 m c) (Dkv.x2 m c) (Dkv.x3 m c) (Dkv.x4 m c) (Dkv.x5 m c) =
      (dats m 0 c).arrAt 6 cfg0.N := by
  funext y
  obtain ⟨s, w, rfl⟩ : ∃ (s : Fin 4096) (w : Fin 1024), y = ix2 s w := ⟨y 0, y 1, eq_ix2 y⟩
  rw [← Cert.KernelIdeal.Dq.wide_split w]
  exact (Cert.Reference2Ideal.Dkv.keys_real H s _ _).trans (Dkv.keys_real m c H s _ _).symm

/-- From the same real arguments the call's gradient of the values is the reference's. -/
theorem same_values (m : (ℓ : Loc nD τ sig) → Buf (Elt Ideal) ℓ) (c : Dev nD) {A : Attention.Args}
    (H : Host.Holds A (Dkv.x0 m c) (Dkv.x1 m c) (Dkv.x2 m c) (Dkv.x3 m c) (Dkv.x4 m c) (Dkv.x5 m c)) :
    Cert.Reference2Ideal.Read.val_main_v79 (F := Ideal) (Dkv.x0 m c) (Dkv.x1 m c) (Dkv.x2 m c) (Dkv.x3 m c) (Dkv.x5 m c) =
      (dats m 0 c).arrAt 7 cfg0.N := by
  funext y
  obtain ⟨s, w, rfl⟩ : ∃ (s : Fin 4096) (w : Fin 512), y = ix2 s w := ⟨y 0, y 1, eq_ix2 y⟩
  rw [← narrow_split w]
  exact (Cert.Reference2Ideal.Dkv.values_real H s _ _).trans (Dkv.values_real m c H s _ _).symm

/-- Of finite arguments the kernel and its reference compute the same gradients of the keys and of the values. -/
theorem algebraic : Cert.algebraic_Kernel2Ideal_Reference2Ideal_pre_finite := by
  intro m g m' g' hpre hagree
  have hH : ∀ c : Dev nD, ∃ A, Host.Holds A (Dkv.x0 m c) (Dkv.x1 m c) (Dkv.x2 m c) (Dkv.x3 m c) (Dkv.x4 m c) (Dkv.x5 m c) :=
    fun c => Finite.holds _ _ _ _ _ _ (hpre c)
  refine ⟨fun c => (dats m 0 c).arrAt 6 cfg0.N, fun c => (dats m 0 c).arrAt 7 cfg0.N, ?_, ?_⟩
  · refine (θ_run (defs (F := Ideal)) _ _).mono (fun r h c => ⟨(h c).1 6, (h c).1 7, ?_, ?_, ?_, ?_, ?_, ?_⟩) (run_main m g)
    · exact ((h c).2 main_arg0 (Pipeline.mem_restRefs_of main_arg0 (by decide) (by decide))).trans (V_main_arg0 m c)
    · exact ((h c).2 main_arg1 (Pipeline.mem_restRefs_of main_arg1 (by decide) (by decide))).trans (V_main_arg1 m c)
    · exact ((h c).2 main_arg2 (Pipeline.mem_restRefs_of main_arg2 (by decide) (by decide))).trans (V_main_arg2 m c)
    · exact ((h c).2 main_arg3 (Pipeline.mem_restRefs_of main_arg3 (by decide) (by decide))).trans (V_main_arg3 m c)
    · exact ((h c).2 main_arg4 (Pipeline.mem_restRefs_of main_arg4 (by decide) (by decide))).trans (V_main_arg4 m c)
    · exact ((h c).2 main_arg5 (Pipeline.mem_restRefs_of main_arg5 (by decide) (by decide))).trans (V_main_arg5 m c)
  · refine (θ_run (Cert.Reference2Ideal.defs (F := Ideal)) _ _).mono
      (fun r h c => ⟨(h c).1.trans ?_, (h c).2.1.trans ?_, (h c).2.2⟩) (Cert.Reference2Ideal.Value.run (F := Ideal) m' g')
    · rw [Cert.Reference2Ideal.Read.val_main_v77_eq]
      obtain ⟨a0, a1, a2, a3, a4, a5⟩ := hagree c
      obtain ⟨A, H⟩ := hH c
      rw [a0, a1, a2, a3, a4, a5]
      exact same_keys m c H
    · rw [Cert.Reference2Ideal.Read.val_main_v79_eq]
      obtain ⟨a0, a1, a2, a3, a4, a5⟩ := hagree c
      obtain ⟨A, H⟩ := hH c
      rw [a0, a1, a2, a3, a5]
      exact same_values m c H

end Cert.DkvClaims

end
-- ==== Proof.Tiles.lean ====
/-
  A sum over the entries of a contracted axis, taken one block of entries at a time.
-/
module

public import Mathlib.Algebra.BigOperators.Intervals
public import Mathlib.Algebra.BigOperators.Fin
public import Mathlib.Data.EReal.Operations

@[expose] public section

noncomputable section

namespace Cert.Tiles

/-- The values of `g`, continued by zero. -/
def extend {N : ℕ} (g : Fin N → EReal) (n : ℕ) : EReal := if h : n < N then g ⟨n, h⟩ else 0

theorem extend_of_lt {N : ℕ} (g : Fin N → EReal) (n : ℕ) (h : n < N) : extend g n = g ⟨n, h⟩ := dif_pos h

/-- The sum of the first `k` blocks of `T` values. -/
def upTo {N : ℕ} (T : ℕ) (g : Fin N → EReal) (k : ℕ) : EReal := ∑ n ∈ Finset.range (T * k), extend g n

/-- One block more. -/
theorem upTo_succ {N : ℕ} (T : ℕ) (g : Fin N → EReal) (k : ℕ) (f : Fin T → EReal) (h : ∀ i : Fin T, f i = extend g (T * k + i.val)) :
    upTo T g (k + 1) = upTo T g k + ∑ i : Fin T, f i := by
  unfold upTo
  rw [Nat.mul_succ, Finset.sum_range_add, Finset.sum_range (fun x => extend g (T * k + x))]
  exact congrArg _ (Finset.sum_congr rfl fun i _ => (h i).symm)

/-- The first block. -/
theorem upTo_one {N : ℕ} (T : ℕ) (g : Fin N → EReal) (f : Fin T → EReal) (h : ∀ i : Fin T, f i = extend g (T * 0 + i.val)) :
    upTo T g 1 = ∑ i : Fin T, f i := by
  rw [upTo_succ T g 0 f h]
  unfold upTo
  rw [Nat.mul_zero, Finset.sum_range_zero, zero_add]

/-- All blocks. -/
theorem upTo_all {N : ℕ} (T : ℕ) (g : Fin N → EReal) (k : ℕ) (h : T * k = N) : upTo T g k = ∑ i : Fin N, g i := by
  unfold upTo
  rw [h, Finset.sum_range]
  exact Finset.sum_congr rfl fun i _ => extend_of_lt g i.val i.isLt

/-- A running sum over groups of four points, a point's block being 1024 of the group's 4096 summands: what it is after
    a point, and what it is after the last point of a group. -/
theorem four {M : ℕ} (g : ℕ → Fin 4096 → EReal) (acc : ∀ n, n < M → EReal) (f : ∀ n, n < M → Fin 1024 → EReal)
    (hf : ∀ n hn k, f n hn k = extend (g (n / 4)) (1024 * (n % 4) + k.val))
    (first : ∀ n hn, n % 4 = 0 → acc n hn = ∑ k, f n hn k)
    (next : ∀ n hn, n % 4 ≠ 0 → acc n hn = acc (n - 1) (Nat.lt_of_le_of_lt (Nat.sub_le _ _) hn) + ∑ k, f n hn k) :
    ∀ n hn, acc n hn = upTo 1024 (g (n / 4)) (n % 4 + 1) := by
  intro n
  induction n using Nat.strong_induction_on with
  | _ n ih =>
    intro hn
    by_cases h0 : n % 4 = 0
    · rw [first n hn h0, h0]
      exact (upTo_one 1024 _ _ fun k => by rw [hf, h0]).symm
    · rw [next n hn h0, ih (n - 1) (by omega), upTo_succ 1024 _ _ _ (hf n hn),
        show (n - 1) / 4 = n / 4 by omega, show (n - 1) % 4 + 1 = n % 4 by omega]

end Cert.Tiles

end
-- ==== Proof.InW.lean ====
/-
  The gradient of the input projection's weights: what the call computes from the two arrays that it takes, the input
  and the gradient of the projected row, the latter in the kernel's order of columns.

  A point of the grid adds the product of one block of 1024 rows to the accumulator, the last of the four points of a
  column block stores it.
-/
module

public import proofs.«01_k».proof.Proof.Gen.Kernel3Ideal.Frame
public import proofs.«01_k».proof.Proof.Tiles
public import Idealize.ShloMosaic.Lib.Pointwise
public import Idealize.ShloMosaic.Lib.Pipeline.Value
public import Idealize.ShloMosaic.Lib.Pipeline.ValueKit.Geometry
public import Idealize.ShloMosaic.Lib.Pipeline.ReadBack
public import Idealize.ShloMosaic.Lib.Pipeline.ValueKit.Acc

@[expose] public section

set_option maxRecDepth 16384

noncomputable section

namespace Cert.Kernel3Ideal.In

open Cert.Kernel3Ideal Cert.Kernel3Ideal.Gen
open Idealize.ShloMosaic Idealize.ShloMosaic.TcCoe Idealize.ShloMosaic.Tactic

/-- One block's product. -/
theorem pay1_apply (x0 : Vec Ideal S1024x1024 .bf16) (x1 : Vec Ideal S1024x1536 .bf16) (a : Fin 1024) (b : Fin 1536) :
    k0_pay1 (F := Ideal) x0 x1 (ix2 a b) = ∑ k : Fin 1024, x0 (ix2 k a) * x1 (ix2 k b) := by
  unfold k0_pay1
  pointwise

/-- The first block's product, as it is stored. -/
theorem pay2_apply (x0 : Vec Ideal S1024x1024 .bf16) (x1 : Vec Ideal S1024x1536 .bf16) (a : Fin 1024) (b : Fin 1536) :
    k0_pay2 (F := Ideal) x0 x1 (ix2 a b) = ∑ k : Fin 1024, x0 (ix2 k a) * x1 (ix2 k b) := by
  rw [← pay1_apply]
  unfold k0_pay2
  pointwise

/-- A later block's product, added to what is stored. -/
theorem pay3_apply (x0 : Vec Ideal S1024x1024 .bf16) (x1 : Vec Ideal S1024x1536 .bf16) (z : Vec Ideal S1024x1536 .f32) (a : Fin 1024) (b : Fin 1536) :
    k0_pay3 (F := Ideal) x0 x1 z (ix2 a b) = z (ix2 a b) + ∑ k : Fin 1024, x0 (ix2 k a) * x1 (ix2 k b) := by
  rw [← pay1_apply]
  unfold k0_pay3
  pointwise

section cases

variable (c : Dev nD) (i : grid0.Coords) (arg3 : Memref sig .tc .vmem S1024x1024 .bf16) (harg3 : arg3.IsWhole) (arg4 : Memref sig .tc .vmem S1024x1536 .bf16) (harg4 : arg4.IsWhole) (arg5 : Memref sig .tc .vmem S1024x1536 .f32) (harg5 : arg5.IsWhole) (arg6 : Memref sig .tc .vmem S1024x1536 .f32) (harg6 : arg6.IsWhole)
  (x0 : Vec Ideal S1024x1024 .bf16) (x1 : Vec Ideal S1024x1536 .bf16) (z : Vec Ideal S1024x1536 .f32)

/-- The first point of a column block stores its product. -/
theorem scratch_A (hc0 : cond0_0 i) (hc1 : ¬cond0_1 i) (hc2 : ¬cond0_2 i) :
    sout0_A_0 c i arg3 harg3 arg4 harg4 arg5 harg5 arg6 harg6 hc0 hc1 hc2 x0 x1 = k0_pay2 (F := Ideal) x0 x1 := by
  unfold sout0_A_0
  frame_out

/-- A later point adds its product. -/
theorem scratch_B (hc0 : ¬cond0_0 i) (hc1 : cond0_1 i) (hc2 : ¬cond0_2 i) :
    sout0_B_0 c i arg3 harg3 arg4 harg4 arg5 harg5 arg6 harg6 hc0 hc1 hc2 x0 x1 z = k0_pay3 (F := Ideal) x0 x1 z := by
  unfold sout0_B_0
  frame_out

/-- The last point adds its product. -/
theorem scratch_C (hc0 : ¬cond0_0 i) (hc1 : cond0_1 i) (hc2 : cond0_2 i) :
    sout0_C_0 c i arg3 harg3 arg4 harg4 arg5 harg5 arg6 harg6 hc0 hc1 hc2 x0 x1 z = k0_pay3 (F := Ideal) x0 x1 z := by
  unfold sout0_C_0
  frame_out

/-- The last point stores the accumulator. -/
theorem result_C (hc0 : ¬cond0_0 i) (hc1 : cond0_1 i) (hc2 : cond0_2 i) :
    out0_C_2 c i arg3 harg3 arg4 harg4 arg5 harg5 arg6 harg6 hc0 hc1 hc2 x0 x1 z = k0_pay3 (F := Ideal) x0 x1 z := by
  unfold out0_C_2
  frame_out

end cases

variable (m : (ℓ : Loc nD τ sig) → Buf (Elt Ideal) ℓ) (c : Dev nD)

theorem points : cfg0.N = 28 := rfl

/-- The input, as the call finds it. -/
abbrev arr0 : Vec Ideal S4096x1024 .bf16 := V m c (Pipeline.arrRef spec0 0)
/-- The gradient of the projected row, as the call finds them. -/
abbrev arr1 : Vec Ideal S4096x10752 .bf16 := V m c (Pipeline.arrRef spec0 1)

theorem index_all : ∀ t : Fin cfg0.N, (cfg0.win 0).index t 0 = t.val % 4 ∧ (cfg0.win 0).index t 1 = 0
    ∧ (cfg0.win 1).index t 0 = t.val % 4 ∧ (cfg0.win 1).index t 1 = t.val / 4
    ∧ (cfg0.win 2).index t 0 = 0 ∧ (cfg0.win 2).index t 1 = t.val / 4 := by
  decide +kernel

/-- Row `k` of a row block. -/
def row (n : ℕ) (k : Fin 1024) : Fin 4096 := ⟨1024 * (n % 4) + k.val, by omega⟩
/-- Column `b` of a column block. -/
def col (n : ℕ) (hn : n < 28) (b : Fin 1536) : Fin 10752 := ⟨1536 * (n / 4) + b.val, by omega⟩

theorem block0 (t : Fin cfg0.N) (k : Fin 1024) (a : Fin 1024) :
    (iblk m c 0 t : Vec Ideal S1024x1024 .bf16) (ix2 k a) = arr0 m c (ix2 (row t.val k) a) := by
  obtain ⟨e0, e1, -⟩ := index_all t
  blk_ext [iblk, e0, e1, row]

theorem block1 (t : Fin cfg0.N) (k : Fin 1024) (b : Fin 1536) :
    (iblk m c 1 t : Vec Ideal S1024x1536 .bf16) (ix2 k b) = arr1 m c (ix2 (row t.val k) (col t.val t.isLt b)) := by
  obtain ⟨-, -, e0, e1, -⟩ := index_all t
  blk_ext [iblk, e0, e1, row, col]

theorem emb2 (t : Fin cfg0.N) (a : Fin 1024) (b : Fin 1536) : ((cfg0.win 2).blk t).view.emb (ix2 a b) = ix2 a (col t.val t.isLt b) := by
  obtain ⟨-, -, -, -, e0, e1⟩ := index_all t
  blk_ext [e0, e1, col]

/-- The summand of an entry of the product. -/
def term (a : Fin 1024) (w : Fin 10752) (n : Fin 4096) : EReal := arr0 m c (ix2 n a) * arr1 m c (ix2 n w)

/-- A point's product is the sum of its block of summands. -/
theorem block_term (t : Fin cfg0.N) (a : Fin 1024) (b : Fin 1536) (k : Fin 1024) :
    HMul.hMul (α := EReal) (β := EReal) (γ := EReal) ((iblk m c 0 t : Vec Ideal S1024x1024 .bf16) (ix2 k a)) ((iblk m c 1 t : Vec Ideal S1024x1536 .bf16) (ix2 k b)) =
      Tiles.extend (term m c a (col t.val t.isLt b)) (1024 * (t.val % 4) + k.val) := by
  rw [block0, block1]
  exact (Tiles.extend_of_lt (term m c a (col t.val t.isLt b)) _ (row t.val k).isLt).symm

theorem carried_A (t : Fin cfg0.N) (h0 : t.val % 4 = 0) (h1 : ¬1 ≤ t.val % 4) (h2 : ¬t.val % 4 = 3) :
    (outsAt0 m c t.val t.isLt).2 = k0_pay2 (F := Ideal) (iblk m c 0 t) (iblk m c 1 t) := by
  rw [outsAt0_A m c t h0 h1 h2]
  dsimp only
  have h := scratch_A c (grid0.coords t) (ms0_0 t) (hs0_0 t) (ms0_1 t) (hs0_1 t) (ms0_2 t) (hs0_2 t) scM0_0 (Memref.isWhole_whole _) (iblk m c 0 t) (iblk m c 1 t) ((hcond0_0 t).mpr h0) (fun h => h1 ((hcond0_1 t).mp h)) (fun h => h2 ((hcond0_2 t).mp h))
  rw [h]

theorem carried_B (t : Fin cfg0.N) (h0 : ¬t.val % 4 = 0) (h1 : 1 ≤ t.val % 4) (h2 : ¬t.val % 4 = 3) :
    (outsAt0 m c t.val t.isLt).2 = k0_pay3 (F := Ideal) (iblk m c 0 t) (iblk m c 1 t)
      (outsAt0 m c (t.val - 1) (Nat.lt_of_le_of_lt (Nat.sub_le _ _) t.isLt)).2 := by
  rw [outsAt0_B m c t h0 h1 h2]
  dsimp only
  have h := scratch_B c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) (fun h => h2 ((hcond0_2 t).mp h))
  rw [h]

theorem carried_C (t : Fin cfg0.N) (h0 : ¬t.val % 4 = 0) (h1 : 1 ≤ t.val % 4) (h2 : t.val % 4 = 3) :
    (outsAt0 m c t.val t.isLt).2 = k0_pay3 (F := Ideal) (iblk m c 0 t) (iblk m c 1 t)
      (outsAt0 m c (t.val - 1) (Nat.lt_of_le_of_lt (Nat.sub_le _ _) t.isLt)).2 := by
  rw [outsAt0_C m c t h0 h1 h2]
  dsimp only
  have h := scratch_C c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) ((hcond0_2 t).mpr h2)
  rw [h]

theorem stored_C (t : Fin cfg0.N) (h0 : ¬t.val % 4 = 0) (h1 : 1 ≤ t.val % 4) (h2 : t.val % 4 = 3) :
    (outsAt0 m c t.val t.isLt).1 = k0_pay3 (F := Ideal) (iblk m c 0 t) (iblk m c 1 t)
      (outsAt0 m c (t.val - 1) (Nat.lt_of_le_of_lt (Nat.sub_le _ _) t.isLt)).2 := by
  rw [outsAt0_C m c t h0 h1 h2]
  dsimp only
  have h := result_C c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) ((hcond0_2 t).mpr h2)
  rw [h]

/-- One point's step of the accumulator, read at an entry. -/
theorem step (t : Fin cfg0.N) (z : Vec Ideal S1024x1536 .f32) (a : Fin 1024) (b : Fin 1536)
    (hz : z (ix2 a b) = Tiles.upTo 1024 (term m c a (col t.val t.isLt b)) (t.val % 4)) :
    k0_pay3 (F := Ideal) (iblk m c 0 t) (iblk m c 1 t) z (ix2 a b) =
      Tiles.upTo 1024 (term m c a (col t.val t.isLt b)) (t.val % 4 + 1) := by
  refine (pay3_apply _ _ z a b).trans ?_
  rw [Tiles.upTo_succ 1024 _ _ _ (fun k => block_term m c t a b k), hz]

/-- What the accumulator holds after every point: the sum over the blocks of rows met so far. -/
theorem scratch_at : ∀ (n : ℕ) (hn : n < cfg0.N) (a : Fin 1024) (b : Fin 1536),
    (outsAt0 m c n hn).2 (ix2 a b) = Tiles.upTo 1024 (term m c a (col n hn b)) (n % 4 + 1) := by
  intro n
  induction n using Nat.strong_induction_on with
  | _ n ih =>
    intro hn a b
    by_cases h0 : n % 4 = 0
    · rw [carried_A m c ⟨n, hn⟩ h0 (show ¬1 ≤ n % 4 by omega) (show ¬n % 4 = 3 by omega), pay2_apply, h0]
      exact (Tiles.upTo_one 1024 _ _ fun k => (block_term m c ⟨n, hn⟩ a b k).trans (by
        change Tiles.extend _ (1024 * (n % 4) + k.val) = _
        rw [h0])).symm
    · have hn' : n - 1 < cfg0.N := Nat.lt_of_le_of_lt (Nat.sub_le _ _) hn
      have hp := ih (n - 1) (by omega) hn' a b
      have hr : col (n - 1) hn' b = col n hn b := Fin.ext (show 1536 * ((n - 1) / 4) + b.val = 1536 * (n / 4) + b.val by omega)
      rw [hr, show (n - 1) % 4 + 1 = n % 4 by omega] at hp
      by_cases h2 : n % 4 = 3
      · rw [carried_C m c ⟨n, hn⟩ h0 (show 1 ≤ n % 4 by omega) h2]
        exact step m c ⟨n, hn⟩ _ a b hp
      · rw [carried_B m c ⟨n, hn⟩ h0 (show 1 ≤ n % 4 by omega) h2]
        exact step m c ⟨n, hn⟩ _ a b hp

/-- What the last point of a column block stores: the sum over all rows. -/
theorem stored_at (t : Fin cfg0.N) (h2 : t.val % 4 = 3) (a : Fin 1024) (b : Fin 1536) :
    (outsAt0 m c t.val t.isLt).1 (ix2 a b) = ∑ n : Fin 4096, term m c a (col t.val t.isLt b) n := by
  have hn' : t.val - 1 < cfg0.N := Nat.lt_of_le_of_lt (Nat.sub_le _ _) t.isLt
  have hp := scratch_at m c (t.val - 1) hn' a b
  have hr : col (t.val - 1) hn' b = col t.val t.isLt b :=
    Fin.ext (show 1536 * ((t.val - 1) / 4) + b.val = 1536 * (t.val / 4) + b.val by omega)
  rw [hr, show (t.val - 1) % 4 + 1 = t.val % 4 by omega] at hp
  rw [stored_C m c t (by omega) (by omega) h2, step m c t _ a b hp, h2]
  exact Tiles.upTo_all 1024 _ 4 rfl

/-- The product of two arrays over their rows. -/
def product (A0 : Vec Ideal S4096x1024 .bf16) (A1 : Vec Ideal S4096x10752 .bf16) : Vec Ideal S1024x10752 .f32 :=
  fun y => ∑ n : Fin 4096, A0 (ix2 n (y 0)) * A1 (ix2 n (y 1))

/-- The call's result is the product of the two arrays. -/
theorem result_array : (dats m 0 c).arrAt 2 cfg0.N = product (arr0 m c) (arr1 m c) := by
  refine (dats m 0 c).arrAt_eq_of_covers 2 _ (by decide +kernel) fun t hf y => ?_
  blk_simp
  rw [after0_2]
  obtain ⟨a, b, rfl⟩ : ∃ (a : Fin 1024) (b : Fin 1536), y = ix2 a b := ⟨y 0, y 1, eq_ix2 y⟩
  refine (stored_at m c t ((flush0_2 t).mp hf) a b).trans ?_
  exact (congrArg (product (arr0 m c) (arr1 m c)) (emb2 t a b)).symm

end Cert.Kernel3Ideal.In

end
-- ==== Proof.Columns.lean ====
/-
  The kernel's order of the projection's columns.

  The calls take the projection's columns in an order of their own, padded by 96 columns of zeros to a multiple of the
  block. A sum over the padded columns is the sum over the columns.
-/
module

public import proofs.«01_k».proof.Proof.Gen.Kernel4Ideal
public import Idealize.ShloMosaic.Lib.Pointwise

@[expose] public section

set_option maxRecDepth 16384

noncomputable section

namespace Cert.Columns

open Cert.Kernel4Ideal Cert.Kernel4Ideal.Gen
open Idealize.ShloMosaic Idealize.ShloMosaic.TcCoe Idealize.ShloMosaic.Tactic

/-- The place of a column in the kernel's order. -/
def placeVal (c : Fin 10656) : ℕ :=
  if c.val < 512 then c.val + 8704 else
  if c.val < 640 then c.val + 9856 else
  if c.val < 768 then c.val + 9856 else
  if c.val < 1152 then c.val + 9216 else
  if c.val < 1408 then c.val + 8576 else
  if c.val < 1440 then c.val + 9216 else
  if c.val < 6048 then c.val + 2656 else
  if c.val < 6560 then c.val + 3168 else
  c.val - 6560

theorem placeVal_cases (c : Fin 10656) :
    (0 ≤ c.val ∧ c.val < 512 ∧ placeVal c = c.val + 8704) ∨
    (512 ≤ c.val ∧ c.val < 640 ∧ placeVal c = c.val + 9856) ∨
    (640 ≤ c.val ∧ c.val < 768 ∧ placeVal c = c.val + 9856) ∨
    (768 ≤ c.val ∧ c.val < 1152 ∧ placeVal c = c.val + 9216) ∨
    (1152 ≤ c.val ∧ c.val < 1408 ∧ placeVal c = c.val + 8576) ∨
    (1408 ≤ c.val ∧ c.val < 1440 ∧ placeVal c = c.val + 9216) ∨
    (1440 ≤ c.val ∧ c.val < 6048 ∧ placeVal c = c.val + 2656) ∨
    (6048 ≤ c.val ∧ c.val < 6560 ∧ placeVal c = c.val + 3168) ∨
    (6560 ≤ c.val ∧ c.val < 10656 ∧ placeVal c = c.val - 6560) := by
  have := c.isLt
  unfold placeVal
  by_cases h0 : c.val < 512
  · exact .inl ⟨by omega, by omega, if_pos h0⟩
  by_cases h1 : c.val < 640
  · exact .inr (.inl ⟨by omega, by omega, (if_neg h0).trans (if_pos h1)⟩)
  by_cases h2 : c.val < 768
  · exact .inr (.inr (.inl ⟨by omega, by omega, (if_neg h0).trans ((if_neg h1).trans (if_pos h2))⟩))
  by_cases h3 : c.val < 1152
  · exact .inr (.inr (.inr (.inl ⟨by omega, by omega, (if_neg h0).trans ((if_neg h1).trans ((if_neg h2).trans (if_pos h3)))⟩)))
  by_cases h4 : c.val < 1408
  · exact .inr (.inr (.inr (.inr (.inl ⟨by omega, by omega, (if_neg h0).trans ((if_neg h1).trans ((if_neg h2).trans ((if_neg h3).trans (if_pos h4))))⟩))))
  by_cases h5 : c.val < 1440
  · exact .inr (.inr (.inr (.inr (.inr (.inl ⟨by omega, by omega, (if_neg h0).trans ((if_neg h1).trans ((if_neg h2).trans ((if_neg h3).trans ((if_neg h4).trans (if_pos h5)))))⟩)))))
  by_cases h6 : c.val < 6048
  · exact .inr (.inr (.inr (.inr (.inr (.inr (.inl ⟨by omega, by omega, (if_neg h0).trans ((if_neg h1).trans ((if_neg h2).trans ((if_neg h3).trans ((if_neg h4).trans ((if_neg h5).trans (if_pos h6))))))⟩))))))
  by_cases h7 : c.val < 6560
  · exact .inr (.inr (.inr (.inr (.inr (.inr (.inr (.inl ⟨by omega, by omega, (if_neg h0).trans ((if_neg h1).trans ((if_neg h2).trans ((if_neg h3).trans ((if_neg h4).trans ((if_neg h5).trans ((if_neg h6).trans (if_pos h7)))))))⟩)))))))
  exact .inr (.inr (.inr (.inr (.inr (.inr (.inr (.inr (⟨by omega, by omega, (if_neg h0).trans ((if_neg h1).trans ((if_neg h2).trans ((if_neg h3).trans ((if_neg h4).trans ((if_neg h5).trans ((if_neg h6).trans (if_neg h7)))))))⟩))))))))

theorem placeVal_lt (c : Fin 10656) : placeVal c < 10656 := by
  have := placeVal_cases c
  omega

/-- The place of a column among the padded columns. -/
def place (c : Fin 10656) : Fin 10752 := ⟨placeVal c, Nat.lt_of_lt_of_le (placeVal_lt c) (by decide)⟩

/-- The column at a place of the kernel's order. -/
def columnVal (n : ℕ) : ℕ :=
  if n < 4096 then n + 6560 else
  if n < 8704 then n - 2656 else
  if n < 9216 then n - 8704 else
  if n < 9728 then n - 3168 else
  if n < 9984 then n - 8576 else
  if n < 10368 then n - 9216 else
  if n < 10496 then n - 9856 else
  if n < 10624 then n - 9856 else
  n - 9216

theorem columnVal_cases (n : ℕ) (h : n < 10656) :
    (0 ≤ n ∧ n < 4096 ∧ columnVal n = n + 6560) ∨
    (4096 ≤ n ∧ n < 8704 ∧ columnVal n = n - 2656) ∨
    (8704 ≤ n ∧ n < 9216 ∧ columnVal n = n - 8704) ∨
    (9216 ≤ n ∧ n < 9728 ∧ columnVal n = n - 3168) ∨
    (9728 ≤ n ∧ n < 9984 ∧ columnVal n = n - 8576) ∨
    (9984 ≤ n ∧ n < 10368 ∧ columnVal n = n - 9216) ∨
    (10368 ≤ n ∧ n < 10496 ∧ columnVal n = n - 9856) ∨
    (10496 ≤ n ∧ n < 10624 ∧ columnVal n = n - 9856) ∨
    (10624 ≤ n ∧ n < 10656 ∧ columnVal n = n - 9216) := by
  unfold columnVal
  by_cases h0 : n < 4096
  · exact .inl ⟨by omega, by omega, if_pos h0⟩
  by_cases h1 : n < 8704
  · exact .inr (.inl ⟨by omega, by omega, (if_neg h0).trans (if_pos h1)⟩)
  by_cases h2 : n < 9216
  · exact .inr (.inr (.inl ⟨by omega, by omega, (if_neg h0).trans ((if_neg h1).trans (if_pos h2))⟩))
  by_cases h3 : n < 9728
  · exact .inr (.inr (.inr (.inl ⟨by omega, by omega, (if_neg h0).trans ((if_neg h1).trans ((if_neg h2).trans (if_pos h3)))⟩)))
  by_cases h4 : n < 9984
  · exact .inr (.inr (.inr (.inr (.inl ⟨by omega, by omega, (if_neg h0).trans ((if_neg h1).trans ((if_neg h2).trans ((if_neg h3).trans (if_pos h4))))⟩))))
  by_cases h5 : n < 10368
  · exact .inr (.inr (.inr (.inr (.inr (.inl ⟨by omega, by omega, (if_neg h0).trans ((if_neg h1).trans ((if_neg h2).trans ((if_neg h3).trans ((if_neg h4).trans (if_pos h5)))))⟩)))))
  by_cases h6 : n < 10496
  · exact .inr (.inr (.inr (.inr (.inr (.inr (.inl ⟨by omega, by omega, (if_neg h0).trans ((if_neg h1).trans ((if_neg h2).trans ((if_neg h3).trans ((if_neg h4).trans ((if_neg h5).trans (if_pos h6))))))⟩))))))
  by_cases h7 : n < 10624
  · exact .inr (.inr (.inr (.inr (.inr (.inr (.inr (.inl ⟨by omega, by omega, (if_neg h0).trans ((if_neg h1).trans ((if_neg h2).trans ((if_neg h3).trans ((if_neg h4).trans ((if_neg h5).trans ((if_neg h6).trans (if_pos h7)))))))⟩)))))))
  exact .inr (.inr (.inr (.inr (.inr (.inr (.inr (.inr (⟨by omega, by omega, (if_neg h0).trans ((if_neg h1).trans ((if_neg h2).trans ((if_neg h3).trans ((if_neg h4).trans ((if_neg h5).trans ((if_neg h6).trans (if_neg h7)))))))⟩))))))))

theorem columnVal_lt (n : ℕ) (h : n < 10656) : columnVal n < 10656 := by
  have := columnVal_cases n h
  omega

theorem placeVal_columnVal (n : ℕ) (h : n < 10656) : placeVal ⟨columnVal n, columnVal_lt n h⟩ = n := by
  have h1 := columnVal_cases n h
  have h2 := placeVal_cases ⟨columnVal n, columnVal_lt n h⟩
  dsimp only at h2
  omega

theorem columnVal_placeVal (c : Fin 10656) : columnVal (placeVal c) = c.val := by
  have h1 := placeVal_cases c
  have h2 := columnVal_cases (placeVal c) (placeVal_lt c)
  omega

/-- A sum over the padded columns whose summand vanishes on the padding is the sum over the columns. -/
theorem sum_place (F : Fin 10752 → EReal) (G : Fin 10656 → EReal) (h : ∀ c, F (place c) = G c) (h0 : ∀ n, 10656 ≤ n.val → F n = 0) :
    ∑ n, F n = ∑ c, G c := by
  refine (Finset.sum_of_injOn place ?_ (fun _ _ => Finset.mem_coe.mpr (Finset.mem_univ _)) (fun n _ hn => ?_) (fun c _ => (h c).symm)).symm
  · intro a _ b _ hab
    apply Fin.ext
    rw [← columnVal_placeVal a, ← columnVal_placeVal b]
    exact congrArg columnVal (congrArg Fin.val hab)
  · refine h0 n (Nat.le_of_not_lt fun hl => hn ?_)
    exact ⟨⟨columnVal n.val, columnVal_lt n.val hl⟩, Finset.mem_coe.mpr (Finset.mem_univ _), Fin.ext (placeVal_columnVal n.val hl)⟩

/-- The columns of the gradient of the projected row in the kernel's order, with 96 columns of zeros behind them. -/
def gradient (x : FVec Ideal S4096x10656 .f32) : FVec Ideal S4096x10752 .bf16 :=
  truncf .bf16
    (concatenate S4096x10752 1 [⟨S4096x4096, extractStridedSlice S4096x4096 ![0, 6560] x slices_S4096x10656_S4096x4096_0_6560⟩,
      ⟨S4096x4608, extractStridedSlice S4096x4608 ![0, 1440] x slices_S4096x10656_S4096x4608_0_1440⟩,
      ⟨S4096x512, extractStridedSlice S4096x512 ![0, 0] x slices_S4096x10656_S4096x512_0_0⟩,
      ⟨S4096x512, extractStridedSlice S4096x512 ![0, 6048] x slices_S4096x10656_S4096x512_0_6048⟩,
      ⟨S4096x256, extractStridedSlice S4096x256 ![0, 1152] x slices_S4096x10656_S4096x256_0_1152⟩,
      ⟨S4096x384, extractStridedSlice S4096x384 ![0, 768] x slices_S4096x10656_S4096x384_0_768⟩,
      ⟨S4096x128, extractStridedSlice S4096x128 ![0, 512] x slices_S4096x10656_S4096x128_0_512⟩,
      ⟨S4096x128, extractStridedSlice S4096x128 ![0, 640] x slices_S4096x10656_S4096x128_0_640⟩,
      ⟨S4096x32, extractStridedSlice S4096x32 ![0, 1408] x slices_S4096x10656_S4096x32_0_1408⟩,
      ⟨S4096x96, broadcastInDim S4096x96 ![] bcast_S_S4096x96 (constant (F := Ideal) S_ .f32 0x00000000#32)⟩]
      concatenates_S4096x4096_S4096x4608_S4096x512_S4096x512_S4096x256_S4096x384_S4096x128_S4096x128_S4096x32_S4096x96_S4096x10752_d1)
    bitsLt_bf16_f32

set_option maxHeartbeats 1000000 in
/-- Every column stands in its place. -/
theorem gradient_place (x : FVec Ideal S4096x10656 .f32) (r : Fin 4096) (c : Fin 10656) : gradient x (ix2 r (place c)) = x (ix2 r c) := by
  unfold gradient
  pointwise
  have hp := placeVal_cases c
  have hv : (place c).val = placeVal c := rfl
  rw [← hv] at hp
  generalize place c = p at hp
  rcases hp with h | h | h | h | h | h | h | h | h <;> obtain ⟨h0, h1, h2⟩ := h
  all_goals repeat first | refine (dif_pos (by omega)).trans ?_ | refine (dif_neg (by omega)).trans ?_
  all_goals exact congrArg x (congrArg (ix2 r) (Fin.ext (by dsimp only; omega)))

set_option maxHeartbeats 1000000 in
/-- The columns behind them are zero. -/
theorem gradient_zero (x : FVec Ideal S4096x10656 .f32) (r : Fin 4096) (n : Fin 10752) (h : 10656 ≤ n.val) : gradient x (ix2 r n) = (0 : EReal) := by
  unfold gradient
  pointwise
  have hn := n.isLt
  repeat refine (dif_neg (by omega)).trans ?_
  rfl

/-- The columns of the weights in the kernel's order, with 96 columns of zeros behind them. -/
def weights (x : FVec Ideal S1024x10656 .f32) : FVec Ideal S1024x10752 .bf16 :=
  truncf .bf16
    (concatenate S1024x10752 1 [⟨S1024x4096, extractStridedSlice S1024x4096 ![0, 6560] x slices_S1024x10656_S1024x4096_0_6560⟩,
      ⟨S1024x4608, extractStridedSlice S1024x4608 ![0, 1440] x slices_S1024x10656_S1024x4608_0_1440⟩,
      ⟨S1024x512, extractStridedSlice S1024x512 ![0, 0] x slices_S1024x10656_S1024x512_0_0⟩,
      ⟨S1024x512, extractStridedSlice S1024x512 ![0, 6048] x slices_S1024x10656_S1024x512_0_6048⟩,
      ⟨S1024x256, extractStridedSlice S1024x256 ![0, 1152] x slices_S1024x10656_S1024x256_0_1152⟩,
      ⟨S1024x384, extractStridedSlice S1024x384 ![0, 768] x slices_S1024x10656_S1024x384_0_768⟩,
      ⟨S1024x128, extractStridedSlice S1024x128 ![0, 512] x slices_S1024x10656_S1024x128_0_512⟩,
      ⟨S1024x128, extractStridedSlice S1024x128 ![0, 640] x slices_S1024x10656_S1024x128_0_640⟩,
      ⟨S1024x32, extractStridedSlice S1024x32 ![0, 1408] x slices_S1024x10656_S1024x32_0_1408⟩,
      ⟨S1024x96, broadcastInDim S1024x96 ![] bcast_S_S1024x96 (constant (F := Ideal) S_ .f32 0x00000000#32)⟩]
      concatenates_S1024x4096_S1024x4608_S1024x512_S1024x512_S1024x256_S1024x384_S1024x128_S1024x128_S1024x32_S1024x96_S1024x10752_d1)
    bitsLt_bf16_f32

set_option maxHeartbeats 1000000 in
/-- Every column stands in its place. -/
theorem weights_place (x : FVec Ideal S1024x10656 .f32) (r : Fin 1024) (c : Fin 10656) : weights x (ix2 r (place c)) = x (ix2 r c) := by
  unfold weights
  pointwise
  have hp := placeVal_cases c
  have hv : (place c).val = placeVal c := rfl
  rw [← hv] at hp
  generalize place c = p at hp
  rcases hp with h | h | h | h | h | h | h | h | h <;> obtain ⟨h0, h1, h2⟩ := h
  all_goals repeat first | refine (dif_pos (by omega)).trans ?_ | refine (dif_neg (by omega)).trans ?_
  all_goals exact congrArg x (congrArg (ix2 r) (Fin.ext (by dsimp only; omega)))

set_option maxHeartbeats 1000000 in
/-- The columns behind them are zero. -/
theorem weights_zero (x : FVec Ideal S1024x10656 .f32) (r : Fin 1024) (n : Fin 10752) (h : 10656 ≤ n.val) : weights x (ix2 r n) = (0 : EReal) := by
  unfold weights
  pointwise
  have hn := n.isLt
  repeat refine (dif_neg (by omega)).trans ?_
  rfl

end Cert.Columns

end
-- ==== Proof.InWClaims.lean ====
/-
  The gradient of the input projection's weights: the kernel and the reference compute the same function over the
  extended reals, whatever their arguments, and the frames of the programs.

  The call's result has the columns in the kernel's order; the lines after it bring them back into the problem's order.
-/
module

public import proofs.«01_k».proof.Defs
public import proofs.«01_k».proof.Proof.InW
public import proofs.«01_k».proof.Proof.Columns
public import proofs.«01_k».proof.Proof.Gen.Kernel3
public import proofs.«01_k».proof.Proof.Gen.Reference3Ideal
public import proofs.«01_k».proof.Proof.Gen.Reference3Ideal.Run
public import proofs.«01_k».proof.Proof.Gen.Reference3Ideal.Read
public import Idealize.ShloMosaic.Lib.StableHlo.RunRead
public import Idealize.ShloMosaic.Lib.Claim

@[expose] public section

set_option maxRecDepth 16384

noncomputable section

namespace Cert.Kernel3Ideal.In

open Cert.Kernel3Ideal Cert.Kernel3Ideal.Gen
open Idealize.ShloMosaic Idealize.ShloMosaic.TcCoe Idealize.ShloMosaic.Tactic

/-- The columns in the problem's order. -/
def ordered (x : FVec Ideal S1024x10752 .f32) : FVec Ideal S1024x10656 .f32 :=
  concatenate S1024x10656 1 [⟨S1024x512, extractStridedSlice S1024x512 ![0, 8704] x slices_S1024x10752_S1024x512_0_8704⟩,
      ⟨S1024x128, extractStridedSlice S1024x128 ![0, 10368] x slices_S1024x10752_S1024x128_0_10368⟩,
      ⟨S1024x128, extractStridedSlice S1024x128 ![0, 10496] x slices_S1024x10752_S1024x128_0_10496⟩,
      ⟨S1024x384, extractStridedSlice S1024x384 ![0, 9984] x slices_S1024x10752_S1024x384_0_9984⟩,
      ⟨S1024x256, extractStridedSlice S1024x256 ![0, 9728] x slices_S1024x10752_S1024x256_0_9728⟩,
      ⟨S1024x32, extractStridedSlice S1024x32 ![0, 10624] x slices_S1024x10752_S1024x32_0_10624⟩,
      ⟨S1024x4608, extractStridedSlice S1024x4608 ![0, 4096] x slices_S1024x10752_S1024x4608_0_4096⟩,
      ⟨S1024x512, extractStridedSlice S1024x512 ![0, 9216] x slices_S1024x10752_S1024x512_0_9216⟩,
      ⟨S1024x4096, extractStridedSlice S1024x4096 ![0, 0] x slices_S1024x10752_S1024x4096_0_0⟩]
    concatenates_S1024x512_S1024x128_S1024x128_S1024x384_S1024x256_S1024x32_S1024x4608_S1024x512_S1024x4096_S1024x10656_d1

set_option maxHeartbeats 1000000 in
/-- Every column comes from its place. -/
theorem ordered_apply (x : FVec Ideal S1024x10752 .f32) (a : Fin 1024) (k : Fin 10656) : ordered x (ix2 a k) = x (ix2 a (Columns.place k)) := by
  unfold ordered
  pointwise
  have hp := Columns.placeVal_cases k
  have hv : (Columns.place k).val = Columns.placeVal k := rfl
  rw [← hv] at hp
  generalize Columns.place k = p at hp
  have hk := k.isLt
  rcases hp with h | h | h | h | h | h | h | h | h <;> obtain ⟨h0, h1, h2⟩ := h
  all_goals repeat first | refine (dif_pos (by omega)).trans ?_ | refine (dif_neg (by omega)).trans ?_
  all_goals exact congrArg x (congrArg (ix2 a) (Fin.ext (by dsimp only; omega)))

variable (m : (ℓ : Loc nD τ sig) → Buf (Elt Ideal) ℓ) (c : Dev nD)

/-- The input among the program's arguments. -/
abbrev x0 : FVec Ideal S4096x1024 .f32 := m (c.tc.loc main_arg0)
/-- The gradient of the projected row among the program's arguments. -/
abbrev x2 : FVec Ideal S4096x10656 .f32 := m (c.tc.loc main_arg2)

theorem arr0_eq : V m c main_v12 = truncf (F := Ideal) .bf16 (x0 m c) bitsLt_bf16_f32 := by
  unfold_abbrev_sides
  after_reads_simp

theorem arr1_eq : V m c main_v11 = Columns.gradient (x2 m c) := by
  unfold_abbrev_sides
  after_reads_simp
  rfl

/-- What the lines after the call leave: the columns of the call's result in the problem's order. -/
theorem lines_eq (W : Valuation τ sig (Elt Ideal)) : StableHlo.after hostOps1 W (Proc.devRef .tc main_v23) = ordered (W (Proc.devRef .tc main_v13)) := by
  unfold_abbrev_sides
  after_reads_simp
  rfl

/-- The program's result: the call's, its columns in the problem's order. -/
theorem tail_eq : Pipeline.afterTail₀ cfgs (dats m) 0 (V0 m) [hostOps1] c main_v23 = ordered ((dats m 0 c).arrAt 2 cfg0.N) := by
  unfold Pipeline.afterTail₀
  simp only [List.flatten_cons, List.flatten_nil, List.append_nil]
  refine (lines_eq _).trans (congrArg ordered ?_)
  exact Pipeline.withArrays_arr spec0 (by decide) c (V0 m c) (fun w => (dats m 0 c).arrAt w cfg0.N) 2

/-- An entry of the call's result: the sum over the rows. -/
theorem result_apply (a : Fin 1024) (k : Fin 10656) : ordered ((dats m 0 c).arrAt 2 cfg0.N) (ix2 a k) =
    ∑ n : Fin 4096, HMul.hMul (α := EReal) (β := EReal) (γ := EReal) (x0 m c (ix2 n a)) (x2 m c (ix2 n k)) := by
  rw [ordered_apply, result_array]
  change ∑ n : Fin 4096, HMul.hMul (α := EReal) (β := EReal) (γ := EReal) (arr0 m c (ix2 n a)) (arr1 m c (ix2 n (Columns.place k))) = _
  exact Finset.sum_congr rfl fun n _ => congrArg₂ (fun u v : EReal => u * v) (congrFun (arr0_eq m c) _)
    ((congrFun (arr1_eq m c) _).trans (Columns.gradient_place _ n k))

end Cert.Kernel3Ideal.In

namespace Cert.InWClaims

open Idealize.ShloMosaic Idealize.ShloMosaic.TcCoe Idealize.ShloMosaic.Tactic Idealize.SL.Sem

/-- An entry of the reference's result: the sum over the rows. -/
theorem reference_apply (y0 : FVec Ideal Cert.Kernel3Ideal.S4096x1024 .f32) (y2 : FVec Ideal Cert.Kernel3Ideal.S4096x10656 .f32) (a : Fin 1024) (k : Fin 10656) :
    Cert.Reference3Ideal.Read.val_main_v2 (F := Ideal) y0 y2 (ix2 a k) =
      ∑ n : Fin 4096, HMul.hMul (α := EReal) (β := EReal) (γ := EReal) (y0 (ix2 n a)) (y2 (ix2 n k)) := by
  unfold Cert.Reference3Ideal.Read.val_main_v2 Cert.Reference3Ideal.Read.val_main_v1
  pointwise
  exact Finset.sum_congr rfl fun n _ => mul_comm _ _

set_option maxRecDepth 100000 in
theorem main_eq : Cert.Kernel3.main (F := Bits) = Cert.Kernel3Ideal.main (F := Bits) := by sl_kernel_rfl

set_option maxRecDepth 100000 in
theorem defs_eq : Cert.Kernel3.defs (F := Bits) = Cert.Kernel3Ideal.defs (F := Bits) := by sl_kernel_rfl

/-- The kernel's frame: the idealization has its text, so it is the idealization's frame over float words. -/
theorem frame_kernel : Cert.quiescent_Kernel3 := fun m ρ _ => by
  have h := Cert.Kernel3Ideal.Gen.frame (F := Bits) m ρ
  rw [← main_eq, ← defs_eq] at h
  exact h

/-- The frame of the kernel over the extended reals. -/
theorem frame_ideal : Cert.quiescent_Kernel3Ideal := fun m ρ _ => Cert.Kernel3Ideal.Gen.frame (F := Ideal) m ρ

/-- The reference's frame: it declares no semaphore. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The idealization changes nothing. -/
theorem preserves : Cert.preserves_Kernel3_Kernel3Ideal := trivial

/-- The kernel and the reference compute the same function. -/
theorem algebraic : Cert.algebraic_Kernel3Ideal_Reference3Ideal := by
  intro m g m' g' _ hagree
  refine ⟨fun c => Cert.Kernel3Ideal.In.ordered ((Cert.Kernel3Ideal.Gen.dats m 0 c).arrAt 2 Cert.Kernel3Ideal.cfg0.N), ?_, ?_⟩
  · refine (θ_run (Cert.Kernel3Ideal.defs (F := Ideal)) _ _).mono (fun r h c => ⟨?_, h.2 c⟩)
      (θ_run_and (Cert.Kernel3Ideal.Gen.run_main (F := Ideal) m g) (Cert.Kernel3Ideal.Gen.unchanged (F := Ideal) m g))
    exact ((h.1 c).2 Cert.Kernel3Ideal.main_v23 (Pipeline.mem_restRefs_of Cert.Kernel3Ideal.main_v23 (by decide) (by decide))).trans
      (Cert.Kernel3Ideal.In.tail_eq m c)
  refine (θ_run (Cert.Reference3Ideal.defs (F := Ideal)) _ _).mono (fun r h c => ⟨(h c).1.trans ?_, (h c).2⟩)
    (Cert.Reference3Ideal.Value.run (F := Ideal) m' g')
  rw [Cert.Reference3Ideal.Read.val_main_v2_eq]
  obtain ⟨a0, -, a2⟩ := hagree c
  rw [a0, a2]
  funext y
  obtain ⟨a, k, rfl⟩ : ∃ (a : Fin 1024) (k : Fin 10656), y = ix2 a k := ⟨y 0, y 1, eq_ix2 y⟩
  exact (reference_apply _ _ a k).trans (Cert.Kernel3Ideal.In.result_apply m c a k).symm

end Cert.InWClaims

end
-- ==== Proof.InX.lean ====
/-
  The gradient of the input projection's input: what the call computes from the two arrays that it takes, the gradient
  of the projected row and the weights, both in the kernel's order of columns.

  A point of the grid adds the product of one block of 1536 columns to the accumulator, the last of the seven points of
  a row block stores it.
-/
module

public import proofs.«01_k».proof.Proof.Gen.Kernel4Ideal.Value
public import proofs.«01_k».proof.Proof.Tiles
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc

@[expose] public section

set_option maxRecDepth 16384

noncomputable section

namespace Cert.Kernel4Ideal.In

open Cert.Kernel4Ideal Cert.Kernel4Ideal.Gen
open Idealize.ShloMosaic Idealize.ShloMosaic.TcCoe Idealize.ShloMosaic.Tactic

/-- One block's product. -/
theorem pay1_apply (x0 x1 : Vec Ideal S1024x1536 .bf16) (a b : Fin 1024) :
    k0_pay1 (F := Ideal) x0 x1 (ix2 a b) = ∑ k : Fin 1536, x0 (ix2 a k) * x1 (ix2 b k) := by
  unfold k0_pay1
  pointwise

/-- The first block's product, as it is stored. -/
theorem pay2_apply (x0 x1 : Vec Ideal S1024x1536 .bf16) (a b : Fin 1024) :
    k0_pay2 (F := Ideal) x0 x1 (ix2 a b) = ∑ k : Fin 1536, x0 (ix2 a k) * x1 (ix2 b k) := by
  rw [← pay1_apply]
  unfold k0_pay2
  pointwise

/-- A later block's product, added to what is stored. -/
theorem pay3_apply (x0 x1 : Vec Ideal S1024x1536 .bf16) (z : Vec Ideal S1024x1024 .f32) (a b : Fin 1024) :
    k0_pay3 (F := Ideal) x0 x1 z (ix2 a b) = z (ix2 a b) + ∑ k : Fin 1536, x0 (ix2 a k) * x1 (ix2 b k) := by
  rw [← pay1_apply]
  unfold k0_pay3
  pointwise

section cases

variable (c : Dev nD) (i : grid0.Coords) (arg3 : Memref sig .tc .vmem S1024x1536 .bf16) (harg3 : arg3.IsWhole) (arg4 : Memref sig .tc .vmem S1024x1536 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec Ideal S1024x1536 .bf16) (z : Vec Ideal S1024x1024 .f32)

/-- The first point of a row block stores its product. -/
theorem scratch_A (hc0 : cond0_0 i) (hc1 : ¬cond0_1 i) (hc2 : ¬cond0_2 i) :
    sout0_A_0 c i arg3 harg3 arg4 harg4 arg5 harg5 arg6 harg6 hc0 hc1 hc2 x0 x1 = k0_pay2 (F := Ideal) x0 x1 := by
  unfold sout0_A_0
  frame_out

/-- A later point adds its product. -/
theorem scratch_B (hc0 : ¬cond0_0 i) (hc1 : cond0_1 i) (hc2 : ¬cond0_2 i) :
    sout0_B_0 c i arg3 harg3 arg4 harg4 arg5 harg5 arg6 harg6 hc0 hc1 hc2 x0 x1 z = k0_pay3 (F := Ideal) x0 x1 z := by
  unfold sout0_B_0
  frame_out

/-- The last point adds its product. -/
theorem scratch_C (hc0 : ¬cond0_0 i) (hc1 : cond0_1 i) (hc2 : cond0_2 i) :
    sout0_C_0 c i arg3 harg3 arg4 harg4 arg5 harg5 arg6 harg6 hc0 hc1 hc2 x0 x1 z = k0_pay3 (F := Ideal) x0 x1 z := by
  unfold sout0_C_0
  frame_out

/-- The last point stores the accumulator. -/
theorem result_C (hc0 : ¬cond0_0 i) (hc1 : cond0_1 i) (hc2 : cond0_2 i) :
    out0_C_2 c i arg3 harg3 arg4 harg4 arg5 harg5 arg6 harg6 hc0 hc1 hc2 x0 x1 z = k0_pay3 (F := Ideal) x0 x1 z := by
  unfold out0_C_2
  frame_out

end cases

variable (m : (ℓ : Loc nD τ sig) → Buf (Elt Ideal) ℓ) (c : Dev nD)

theorem points : cfg0.N = 28 := rfl

/-- The gradient of the projected row, as the call finds it. -/
abbrev arr0 : Vec Ideal S4096x10752 .bf16 := V m c (Pipeline.arrRef spec0 0)
/-- The weights, as the call finds them. -/
abbrev arr1 : Vec Ideal S1024x10752 .bf16 := V m c (Pipeline.arrRef spec0 1)

theorem index_all : ∀ t : Fin cfg0.N, (cfg0.win 0).index t 0 = t.val / 7 ∧ (cfg0.win 0).index t 1 = t.val % 7
    ∧ (cfg0.win 1).index t 0 = 0 ∧ (cfg0.win 1).index t 1 = t.val % 7
    ∧ (cfg0.win 2).index t 0 = t.val / 7 ∧ (cfg0.win 2).index t 1 = 0 := by
  decide +kernel

/-- Row `a` of a row block. -/
def row (n : ℕ) (hn : n < 28) (a : Fin 1024) : Fin 4096 := ⟨1024 * (n / 7) + a.val, by omega⟩
/-- Column `k` of a column block. -/
def col (n : ℕ) (k : Fin 1536) : Fin 10752 := ⟨1536 * (n % 7) + k.val, by omega⟩

theorem block0 (t : Fin cfg0.N) (a : Fin 1024) (k : Fin 1536) :
    (iblk m c 0 t : Vec Ideal S1024x1536 .bf16) (ix2 a k) = arr0 m c (ix2 (row t.val t.isLt a) (col t.val k)) := by
  obtain ⟨e0, e1, -⟩ := index_all t
  blk_ext [iblk, e0, e1, row, col]

theorem block1 (t : Fin cfg0.N) (b : Fin 1024) (k : Fin 1536) :
    (iblk m c 1 t : Vec Ideal S1024x1536 .bf16) (ix2 b k) = arr1 m c (ix2 b (col t.val k)) := by
  obtain ⟨-, -, e0, e1, -⟩ := index_all t
  blk_ext [iblk, e0, e1, col]

theorem emb2 (t : Fin cfg0.N) (a b : Fin 1024) : ((cfg0.win 2).blk t).view.emb (ix2 a b) = ix2 (row t.val t.isLt a) b := by
  obtain ⟨-, -, -, -, e0, e1⟩ := index_all t
  blk_ext [e0, e1, row]

/-- The summand of an entry of the product. -/
def term (r : Fin 4096) (b : Fin 1024) (n : Fin 10752) : EReal := arr0 m c (ix2 r n) * arr1 m c (ix2 b n)

/-- A point's product is the sum of its block of summands. -/
theorem block_term (t : Fin cfg0.N) (a b : Fin 1024) (k : Fin 1536) :
    HMul.hMul (α := EReal) (β := EReal) (γ := EReal) ((iblk m c 0 t : Vec Ideal S1024x1536 .bf16) (ix2 a k)) ((iblk m c 1 t : Vec Ideal S1024x1536 .bf16) (ix2 b k)) =
      Tiles.extend (term m c (row t.val t.isLt a) b) (1536 * (t.val % 7) + k.val) := by
  rw [block0, block1]
  exact (Tiles.extend_of_lt (term m c (row t.val t.isLt a) b) _ (col t.val k).isLt).symm

theorem carried_A (t : Fin cfg0.N) (h0 : t.val % 7 = 0) (h1 : ¬1 ≤ t.val % 7) (h2 : ¬t.val % 7 = 6) :
    (outsAt0 m c t.val t.isLt).2 = k0_pay2 (F := Ideal) (iblk m c 0 t) (iblk m c 1 t) := by
  rw [outsAt0_A m c t h0 h1 h2]
  dsimp only
  have h := scratch_A c (grid0.coords t) (ms0_0 t) (hs0_0 t) (ms0_1 t) (hs0_1 t) (ms0_2 t) (hs0_2 t) scM0_0 (Memref.isWhole_whole _) (iblk m c 0 t) (iblk m c 1 t) ((hcond0_0 t).mpr h0) (fun h => h1 ((hcond0_1 t).mp h)) (fun h => h2 ((hcond0_2 t).mp h))
  rw [h]

theorem carried_B (t : Fin cfg0.N) (h0 : ¬t.val % 7 = 0) (h1 : 1 ≤ t.val % 7) (h2 : ¬t.val % 7 = 6) :
    (outsAt0 m c t.val t.isLt).2 = k0_pay3 (F := Ideal) (iblk m c 0 t) (iblk m c 1 t)
      (outsAt0 m c (t.val - 1) (Nat.lt_of_le_of_lt (Nat.sub_le _ _) t.isLt)).2 := by
  rw [outsAt0_B m c t h0 h1 h2]
  dsimp only
  have h := scratch_B c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) (fun h => h2 ((hcond0_2 t).mp h))
  rw [h]

theorem carried_C (t : Fin cfg0.N) (h0 : ¬t.val % 7 = 0) (h1 : 1 ≤ t.val % 7) (h2 : t.val % 7 = 6) :
    (outsAt0 m c t.val t.isLt).2 = k0_pay3 (F := Ideal) (iblk m c 0 t) (iblk m c 1 t)
      (outsAt0 m c (t.val - 1) (Nat.lt_of_le_of_lt (Nat.sub_le _ _) t.isLt)).2 := by
  rw [outsAt0_C m c t h0 h1 h2]
  dsimp only
  have h := scratch_C c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) ((hcond0_2 t).mpr h2)
  rw [h]

theorem stored_C (t : Fin cfg0.N) (h0 : ¬t.val % 7 = 0) (h1 : 1 ≤ t.val % 7) (h2 : t.val % 7 = 6) :
    (outsAt0 m c t.val t.isLt).1 = k0_pay3 (F := Ideal) (iblk m c 0 t) (iblk m c 1 t)
      (outsAt0 m c (t.val - 1) (Nat.lt_of_le_of_lt (Nat.sub_le _ _) t.isLt)).2 := by
  rw [outsAt0_C m c t h0 h1 h2]
  dsimp only
  have h := result_C c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) ((hcond0_2 t).mpr h2)
  rw [h]

/-- One point's step of the accumulator, read at an entry. -/
theorem step (t : Fin cfg0.N) (z : Vec Ideal S1024x1024 .f32) (a b : Fin 1024)
    (hz : z (ix2 a b) = Tiles.upTo 1536 (term m c (row t.val t.isLt a) b) (t.val % 7)) :
    k0_pay3 (F := Ideal) (iblk m c 0 t) (iblk m c 1 t) z (ix2 a b) =
      Tiles.upTo 1536 (term m c (row t.val t.isLt a) b) (t.val % 7 + 1) := by
  refine (pay3_apply _ _ z a b).trans ?_
  rw [Tiles.upTo_succ 1536 _ _ _ (fun k => block_term m c t a b k), hz]

/-- What the accumulator holds after every point: the sum over the blocks of columns met so far. -/
theorem scratch_at : ∀ (n : ℕ) (hn : n < cfg0.N) (a b : Fin 1024),
    (outsAt0 m c n hn).2 (ix2 a b) = Tiles.upTo 1536 (term m c (row n hn a) b) (n % 7 + 1) := by
  intro n
  induction n using Nat.strong_induction_on with
  | _ n ih =>
    intro hn a b
    by_cases h0 : n % 7 = 0
    · rw [carried_A m c ⟨n, hn⟩ h0 (show ¬1 ≤ n % 7 by omega) (show ¬n % 7 = 6 by omega), pay2_apply, h0]
      exact (Tiles.upTo_one 1536 _ _ fun k => (block_term m c ⟨n, hn⟩ a b k).trans (by
        change Tiles.extend _ (1536 * (n % 7) + k.val) = _
        rw [h0])).symm
    · have hn' : n - 1 < cfg0.N := Nat.lt_of_le_of_lt (Nat.sub_le _ _) hn
      have hp := ih (n - 1) (by omega) hn' a b
      have hr : row (n - 1) hn' a = row n hn a := Fin.ext (show 1024 * ((n - 1) / 7) + a.val = 1024 * (n / 7) + a.val by omega)
      rw [hr, show (n - 1) % 7 + 1 = n % 7 by omega] at hp
      by_cases h2 : n % 7 = 6
      · rw [carried_C m c ⟨n, hn⟩ h0 (show 1 ≤ n % 7 by omega) h2]
        exact step m c ⟨n, hn⟩ _ a b hp
      · rw [carried_B m c ⟨n, hn⟩ h0 (show 1 ≤ n % 7 by omega) h2]
        exact step m c ⟨n, hn⟩ _ a b hp

/-- What the last point of a row block stores: the sum over all columns. -/
theorem stored_at (t : Fin cfg0.N) (h2 : t.val % 7 = 6) (a b : Fin 1024) :
    (outsAt0 m c t.val t.isLt).1 (ix2 a b) = ∑ n : Fin 10752, term m c (row t.val t.isLt a) b n := by
  have hn' : t.val - 1 < cfg0.N := Nat.lt_of_le_of_lt (Nat.sub_le _ _) t.isLt
  have hp := scratch_at m c (t.val - 1) hn' a b
  have hr : row (t.val - 1) hn' a = row t.val t.isLt a :=
    Fin.ext (show 1024 * ((t.val - 1) / 7) + a.val = 1024 * (t.val / 7) + a.val by omega)
  rw [hr, show (t.val - 1) % 7 + 1 = t.val % 7 by omega] at hp
  rw [stored_C m c t (by omega) (by omega) h2, step m c t _ a b hp, h2]
  exact Tiles.upTo_all 1536 _ 7 rfl

/-- The product of two arrays over their columns. -/
def product (A0 : Vec Ideal S4096x10752 .bf16) (A1 : Vec Ideal S1024x10752 .bf16) : Vec Ideal S4096x1024 .f32 :=
  fun y => ∑ n : Fin 10752, A0 (ix2 (y 0) n) * A1 (ix2 (y 1) n)

/-- The call's result is the product of the two arrays. -/
theorem result_array : (dats m 0 c).arrAt 2 cfg0.N = product (arr0 m c) (arr1 m c) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  refine (stored_at m c t ((flush0_2 t).mp hf) a b).trans ?_
  exact (congrArg (product (arr0 m c) (arr1 m c)) (emb2 t a b)).symm

end Cert.Kernel4Ideal.In

end
-- ==== Proof.InXClaims.lean ====
/-
  The gradient of the input projection's input: the kernel and the reference compute the same function over the extended
  reals, whatever their arguments, and the frames of the programs.
-/
module

public import proofs.«01_k».proof.Defs
public import proofs.«01_k».proof.Proof.InX
public import proofs.«01_k».proof.Proof.Columns
public import proofs.«01_k».proof.Proof.Gen.Kernel4
public import proofs.«01_k».proof.Proof.Gen.Reference4Ideal
public import proofs.«01_k».proof.Proof.Gen.Reference4Ideal.Run
public import proofs.«01_k».proof.Proof.Gen.Reference4Ideal.Read
public import Idealize.ShloMosaic.Lib.StableHlo.RunRead
public import Idealize.ShloMosaic.Lib.Claim

@[expose] public section

set_option maxRecDepth 16384

noncomputable section

namespace Cert.Kernel4Ideal.In

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

/-- The weights among the program's arguments. -/
abbrev x1 : FVec Ideal S1024x10656 .f32 := m (c.tc.loc main_arg1)
/-- The gradient of the projected row among the program's arguments. -/
abbrev x2 : FVec Ideal S4096x10656 .f32 := m (c.tc.loc main_arg2)

theorem arr0_eq : V m c main_v11 = Columns.gradient (x2 m c) := by
  unfold_abbrev_sides
  after_reads_simp
  rfl

theorem arr1_eq : V m c main_v23 = Columns.weights (x1 m c) := by
  unfold_abbrev_sides
  after_reads_simp
  rfl

/-- An entry of the call's result: the sum over the projection's columns. -/
theorem result_apply (r : Fin 4096) (b : Fin 1024) : ((dats m 0 c).arrAt 2 cfg0.N : Vec Ideal S4096x1024 .f32) (ix2 r b) =
    ∑ k : Fin 10656, HMul.hMul (α := EReal) (β := EReal) (γ := EReal) (x2 m c (ix2 r k)) (x1 m c (ix2 b k)) := by
  rw [result_array]
  refine Columns.sum_place (fun n => HMul.hMul (α := EReal) (β := EReal) (γ := EReal) (arr0 m c (ix2 r n)) (arr1 m c (ix2 b n))) _
    (fun k => ?_) (fun n hn => ?_)
  · exact congrArg₂ (fun u v : EReal => u * v) ((congrFun (arr0_eq m c) _).trans (Columns.gradient_place _ r k))
      ((congrFun (arr1_eq m c) _).trans (Columns.weights_place _ b k))
  · exact (congrArg (fun u : EReal => u * _) ((congrFun (arr0_eq m c) _).trans (Columns.gradient_zero _ r n hn))).trans (zero_mul _)

end Cert.Kernel4Ideal.In

namespace Cert.InXClaims

open Idealize.ShloMosaic Idealize.ShloMosaic.TcCoe Idealize.ShloMosaic.Tactic Idealize.SL.Sem

/-- An entry of the reference's result: the sum over the projection's columns. -/
theorem reference_apply (y1 : FVec Ideal Cert.Kernel4Ideal.S1024x10656 .f32) (y2 : FVec Ideal Cert.Kernel4Ideal.S4096x10656 .f32) (r : Fin 4096) (b : Fin 1024) :
    Cert.Reference4Ideal.Read.val_main_v3 (F := Ideal) y1 y2 (ix2 r b) =
      ∑ k : Fin 10656, HMul.hMul (α := EReal) (β := EReal) (γ := EReal) (y2 (ix2 r k)) (y1 (ix2 b k)) := by
  unfold Cert.Reference4Ideal.Read.val_main_v3
  pointwise

set_option maxRecDepth 100000 in
theorem main_eq : Cert.Kernel4.main (F := Bits) = Cert.Kernel4Ideal.main (F := Bits) := by sl_kernel_rfl

set_option maxRecDepth 100000 in
theorem defs_eq : Cert.Kernel4.defs (F := Bits) = Cert.Kernel4Ideal.defs (F := Bits) := by sl_kernel_rfl

/-- The kernel's frame: the idealization has its text, so it is the idealization's frame over float words. -/
theorem frame_kernel : Cert.quiescent_Kernel4 := fun m ρ _ => by
  have h := Cert.Kernel4Ideal.Gen.frame (F := Bits) m ρ
  rw [← main_eq, ← defs_eq] at h
  exact h

/-- The frame of the kernel over the extended reals. -/
theorem frame_ideal : Cert.quiescent_Kernel4Ideal := fun m ρ _ => Cert.Kernel4Ideal.Gen.frame (F := Ideal) m ρ

/-- The reference's frame: it declares no semaphore. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The idealization changes nothing. -/
theorem preserves : Cert.preserves_Kernel4_Kernel4Ideal := trivial

/-- The kernel and the reference compute the same function. -/
theorem algebraic : Cert.algebraic_Kernel4Ideal_Reference4Ideal := by
  intro m g m' g' _ hagree
  refine ⟨fun c => (Cert.Kernel4Ideal.Gen.dats m 0 c).arrAt 2 Cert.Kernel4Ideal.cfg0.N, Cert.Kernel4Ideal.Value.run_blocks m g, ?_⟩
  refine (θ_run (Cert.Reference4Ideal.defs (F := Ideal)) _ _).mono (fun r h c => ⟨(h c).1.trans ?_, (h c).2⟩)
    (Cert.Reference4Ideal.Value.run (F := Ideal) m' g')
  rw [Cert.Reference4Ideal.Read.val_main_v3_eq]
  obtain ⟨-, a1, a2⟩ := hagree c
  rw [a1, a2]
  funext y
  obtain ⟨r, b, rfl⟩ : ∃ (r : Fin 4096) (b : Fin 1024), y = ix2 r b := ⟨y 0, y 1, eq_ix2 y⟩
  exact (reference_apply _ _ r b).trans (Cert.Kernel4Ideal.In.result_apply m c r b).symm

end Cert.InXClaims

end
-- ==== Proof.Relu.lean ====
/-
  The squared ReLU and its derivative over the extended reals.
-/
module

public import Idealize.ShloMosaic.Lib.IdealHost

@[expose] public section

noncomputable section

namespace Cert.Relu

open Idealize.ShloMosaic

/-- The literal two. -/
theorem two : Ideal.ofBits .f32 0x40000000#32 = 2 := by
  rw [show (2 : EReal) = ((2 : ℝ) : EReal) by norm_cast]
  simp [Ideal.ofBits, Ideal.ieee, -EReal.coe_mul]
  norm_num

/-- The squared ReLU. -/
def square (x : EReal) : EReal := max x 0 * max x 0

/-- The derivative of the squared ReLU, times `r`: the factor `2 · max x 0` vanishes where `x` isn't positive. -/
theorem derivative (r x : EReal) : (if x > 0 then r * (2 * max x 0) else 0) = r * (2 * max x 0) := by
  split
  · rfl
  · rw [max_eq_right (not_lt.mp ‹_›), mul_zero, mul_zero]

end Cert.Relu

end
-- ==== Proof.DownX.lean ====
/-
  The gradient of the hidden row: the product of the gradient of the MLP's result and the second weights, transposed,
  times the derivative of the squared ReLU. The call computes it, and the kernel and the reference compute the same
  function over the extended reals, whatever their arguments.

  The contracted axis has one block, so every point of the grid stores its block of the result. Where the hidden row
  isn't positive the reference selects zero, and the kernel's factor vanishes.
-/
module

public import proofs.«01_k».proof.Defs
public import proofs.«01_k».proof.Proof.Gen.Kernel5Ideal.Value
public import proofs.«01_k».proof.Proof.Gen.Kernel5
public import proofs.«01_k».proof.Proof.Gen.Reference5Ideal
public import proofs.«01_k».proof.Proof.Gen.Reference5Ideal.Run
public import proofs.«01_k».proof.Proof.Gen.Reference5Ideal.Read
public import proofs.«01_k».proof.Proof.Relu
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel5Ideal.Product

open Cert.Kernel5Ideal Cert.Kernel5Ideal.Gen
open Idealize.ShloMosaic Idealize.ShloMosaic.TcCoe Idealize.ShloMosaic.Tactic

section payloads

variable (x0 : Vec Ideal S1024x1024 .f32) (x1 : Vec Ideal S1024x1024 .bf16) (a : Fin 1024) (b : Fin 1024)

/-- One block's product. -/
theorem pay1_apply : k0_pay1 (F := Ideal) x0 x1 (ix2 a b) = ∑ k : Fin 1024, x0 (ix2 a k) * x1 (ix2 b k) := by
  unfold k0_pay1
  pointwise

/-- The block's product, as it is stored. -/
theorem pay2_apply : k0_pay2 (F := Ideal) x0 x1 (ix2 a b) = ∑ k : Fin 1024, x0 (ix2 a k) * x1 (ix2 b k) := by
  rw [← pay1_apply]
  unfold k0_pay2
  pointwise

/-- The product times the derivative of the squared ReLU. -/
theorem pay4_apply (z y : Vec Ideal S1024x1024 .f32) : k0_pay4 (F := Ideal) z y (ix2 a b) = z (ix2 a b) * (2 * max (y (ix2 a b)) 0) := by
  unfold k0_pay4
  pointwise [Relu.two]

end payloads

variable (m : (ℓ : Loc nD τ sig) → Buf (Elt Ideal) ℓ) (c : Dev nD)

/-- The first factor, as the call finds it. -/
abbrev arr0 : Vec Ideal S4096x1024 .f32 := V m c (Pipeline.arrRef spec0 0)
/-- The second factor, as the call finds it. -/
abbrev arr1 : Vec Ideal S4096x1024 .bf16 := V m c (Pipeline.arrRef spec0 1)
/-- The hidden row, as the call finds it. -/
abbrev arr2 : Vec Ideal S4096x4096 .f32 := V m c (Pipeline.arrRef spec0 2)

/-- The blocks of a point. -/
theorem index_all : ∀ t : Fin cfg0.N, (cfg0.win 0).index t 0 = t.val / 4 ∧ (cfg0.win 0).index t 1 = 0
    ∧ (cfg0.win 1).index t 0 = t.val % 4 ∧ (cfg0.win 1).index t 1 = 0
    ∧ (cfg0.win 2).index t 0 = t.val / 4 ∧ (cfg0.win 2).index t 1 = t.val % 4
    ∧ (cfg0.win 3).index t 0 = t.val / 4 ∧ (cfg0.win 3).index t 1 = t.val % 4 := by
  decide +kernel

/-- Row `a` of a point's block. -/
def row (n : ℕ) (hn : n < 16) (a : Fin 1024) : Fin 4096 := ⟨1024 * (n / 4) + a.val, by omega⟩
/-- Column `b` of a point's block. -/
def col (n : ℕ) (b : Fin 1024) : Fin 4096 := ⟨1024 * (n % 4) + b.val, by omega⟩

/-- The first factor's block. -/
theorem block0 (t : Fin cfg0.N) (a k : Fin 1024) :
    (iblk m c 0 t : Vec Ideal S1024x1024 .f32) (ix2 a k) = arr0 m c (ix2 (row t.val t.isLt a) k) := by
  obtain ⟨e0, e1, -⟩ := index_all t
  blk_ext [iblk, e0, e1, row, col]

/-- The second factor's block. -/
theorem block1 (t : Fin cfg0.N) (k : Fin 1024) (b : Fin 1024) :
    (iblk m c 1 t : Vec Ideal S1024x1024 .bf16) (ix2 b k) = arr1 m c (ix2 (col t.val b) k) := by
  obtain ⟨-, -, e0, e1, -⟩ := index_all t
  blk_ext [iblk, e0, e1, row, col]

/-- The hidden row's block. -/
theorem block2 (t : Fin cfg0.N) (a b : Fin 1024) :
    (iblk m c 2 t : Vec Ideal S1024x1024 .f32) (ix2 a b) = arr2 m c (ix2 (row t.val t.isLt a) (col t.val b)) := by
  obtain ⟨-, -, -, -, e0, e1, -⟩ := index_all t
  blk_ext [iblk, e0, e1, row, col]

/-- The place of a result block's entry. -/
theorem emb (t : Fin cfg0.N) (a : Fin 1024) (b : Fin 1024) : ((cfg0.win 3).blk t).view.emb (ix2 a b) = ix2 (row t.val t.isLt a) (col t.val b) := by
  obtain ⟨-, -, -, -, -, -, e0, e1⟩ := index_all t
  blk_ext [e0, e1, row, col]

/-- The call's result. -/
def product : Vec Ideal S4096x4096 .bf16 := fun y => HMul.hMul (α := EReal) (β := EReal) (γ := EReal) (∑ k : Fin 1024, HMul.hMul (α := EReal) (β := EReal) (γ := EReal) (arr0 m c (ix2 (y 0) k)) (arr1 m c (ix2 (y 1) k))) (2 * max (arr2 m c (ix2 (y 0) (y 1)) : EReal) 0)

/-- What a point stores is its block of the result. -/
theorem stored (t : Fin cfg0.N) (a : Fin 1024) (b : Fin 1024) :
    outsAt0 m c t (ix2 a b) = product m c (ix2 (row t.val t.isLt a) (col t.val b)) := by
  have h : outsAt0 m c t = k0_pay4 (F := Ideal) (k0_pay2 (F := Ideal) (iblk m c 0 t) (iblk m c 1 t)) (iblk m c 2 t) := by
    unfold outsAt0 out0_A_3
    frame_out
  rw [h]
  refine (pay4_apply a b _ _).trans ?_
  rw [pay2_apply, block2]
  exact congrArg (fun u : EReal => u * (2 * max (arr2 m c (ix2 (row t.val t.isLt a) (col t.val b)) : EReal) 0))
    (Finset.sum_congr rfl fun k _ => congrArg₂ (fun u v : EReal => u * v) (block0 m c t a k) (block1 m c t k b))

/-- The result, whole. -/
theorem result_array : (dats m 0 c).arrAt 3 cfg0.N = product m c := by
  refine (dats m 0 c).arrAt_eq_of_covers 3 _ (by decide +kernel) fun t hf y => ?_
  blk_simp
  rw [after0_3]
  obtain ⟨a, b, rfl⟩ : ∃ (a : Fin 1024) (b : Fin 1024), y = ix2 a b := ⟨y 0, y 1, eq_ix2 y⟩
  refine (stored m c t a b).trans ?_
  exact (congrArg (product m c) (emb t a b)).symm

/-- Argument 2 of the program. -/
abbrev x2 : FVec Ideal S4096x1024 .f32 := m (c.tc.loc main_arg2)
/-- Argument 1 of the program. -/
abbrev x1 : FVec Ideal S4096x1024 .f32 := m (c.tc.loc main_arg1)
/-- Argument 0 of the program. -/
abbrev x0 : FVec Ideal S4096x4096 .f32 := m (c.tc.loc main_arg0)

/-- What the call finds. -/
theorem arr0_eq : V m c main_arg2 = x2 m c := by
  unfold_abbrev_sides
  after_reads_simp

/-- What the call finds. -/
theorem arr1_eq : V m c main_v0 = truncf (F := Ideal) .bf16 (x1 m c) bitsLt_bf16_f32 := by
  unfold_abbrev_sides
  after_reads_simp

/-- What the call finds. -/
theorem arr2_eq : V m c main_arg0 = x0 m c := by
  unfold_abbrev_sides
  after_reads_simp

/-- An entry of the call's result: a sum over 1024 products, times the derivative of the squared ReLU. -/
theorem result_apply (r : Fin 4096) (s : Fin 4096) : ((dats m 0 c).arrAt 3 cfg0.N : Vec Ideal S4096x4096 .bf16) (ix2 r s) =
    HMul.hMul (α := EReal) (β := EReal) (γ := EReal) (∑ k : Fin 1024, HMul.hMul (α := EReal) (β := EReal) (γ := EReal) (x2 m c (ix2 r k)) (x1 m c (ix2 s k))) (2 * max (x0 m c (ix2 r s) : EReal) 0) := by
  rw [result_array]
  change HMul.hMul (α := EReal) (β := EReal) (γ := EReal) (∑ k : Fin 1024, HMul.hMul (α := EReal) (β := EReal) (γ := EReal) (arr0 m c (ix2 r k)) (arr1 m c (ix2 s k))) (2 * max (arr2 m c (ix2 r s) : EReal) 0) = _
  exact congrArg₂ (fun u v : EReal => u * (2 * max v 0)) (Finset.sum_congr rfl fun k _ => congrArg₂ (fun u v : EReal => u * v) (congrFun (arr0_eq m c) _) (congrFun (arr1_eq m c) _)) (congrFun (arr2_eq m c) _)

end Cert.Kernel5Ideal.Product

namespace Cert.DownX

open Idealize.ShloMosaic Idealize.ShloMosaic.TcCoe Idealize.ShloMosaic.Tactic Idealize.SL.Sem

/-- An entry of the reference's result. -/
theorem reference_apply (y0 : FVec Ideal Cert.Kernel5Ideal.S4096x4096 .f32) (y1 : FVec Ideal Cert.Kernel5Ideal.S4096x1024 .f32) (y2 : FVec Ideal Cert.Kernel5Ideal.S4096x1024 .f32) (r : Fin 4096) (s : Fin 4096) :
    Cert.Reference5Ideal.Read.val_main_v14 (F := Ideal) y0 y1 y2 (ix2 r s) =
      HMul.hMul (α := EReal) (β := EReal) (γ := EReal) (∑ k : Fin 1024, HMul.hMul (α := EReal) (β := EReal) (γ := EReal) (y2 (ix2 r k)) (y1 (ix2 s k))) (2 * max (y0 (ix2 r s) : EReal) 0) := by
  unfold Cert.Reference5Ideal.Read.val_main_v14 Cert.Reference5Ideal.Read.val_main_v13 Cert.Reference5Ideal.Read.val_main_v12 Cert.Reference5Ideal.Read.val_main_cst_2 Cert.Reference5Ideal.Read.val_main_v11 Cert.Reference5Ideal.Read.val_main_v10 Cert.Reference5Ideal.Read.val_main_v6 Cert.Reference5Ideal.Read.val_main_v5 Cert.Reference5Ideal.Read.val_main_cst_1 Cert.Reference5Ideal.Read.val_main_v2 Cert.Reference5Ideal.Read.val_main_v1 Cert.Reference5Ideal.Read.val_main_cst Cert.Reference5Ideal.Read.val_main_v0 Cert.Reference5Ideal.Read.val_main_call0_v0 Cert.Reference5Ideal.Read.val_main_call0_cst
  pointwise [Relu.two]
  exact Relu.derivative _ _

set_option maxRecDepth 100000 in
theorem main_eq : Cert.Kernel5.main (F := Bits) = Cert.Kernel5Ideal.main (F := Bits) := by sl_kernel_rfl

set_option maxRecDepth 100000 in
theorem defs_eq : Cert.Kernel5.defs (F := Bits) = Cert.Kernel5Ideal.defs (F := Bits) := by sl_kernel_rfl

/-- The kernel's frame: the idealization has its text, so it is the idealization's frame over float words. -/
theorem frame_kernel : Cert.quiescent_Kernel5 := fun m ρ _ => by
  have h := Cert.Kernel5Ideal.Gen.frame (F := Bits) m ρ
  rw [← main_eq, ← defs_eq] at h
  exact h

/-- The frame of the kernel over the extended reals. -/
theorem frame_ideal : Cert.quiescent_Kernel5Ideal := fun m ρ _ => Cert.Kernel5Ideal.Gen.frame (F := Ideal) m ρ

/-- The reference's frame: it declares no semaphore. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The idealization changes nothing. -/
theorem preserves : Cert.preserves_Kernel5_Kernel5Ideal := trivial

/-- The kernel and the reference compute the same function. -/
theorem algebraic : Cert.algebraic_Kernel5Ideal_Reference5Ideal := by
  intro m g m' g' _ hagree
  refine ⟨fun c => (Cert.Kernel5Ideal.Gen.dats m 0 c).arrAt 3 Cert.Kernel5Ideal.cfg0.N, Cert.Kernel5Ideal.Value.run_blocks m g, ?_⟩
  refine (θ_run (Cert.Reference5Ideal.defs (F := Ideal)) _ _).mono (fun r h c => ⟨(h c).1.trans ?_, (h c).2⟩)
    (Cert.Reference5Ideal.Value.run (F := Ideal) m' g')
  rw [Cert.Reference5Ideal.Read.val_main_v14_eq]
  obtain ⟨a0, a1, a2⟩ := hagree c
  rw [a0, a1, a2]
  funext y
  obtain ⟨r, s, rfl⟩ : ∃ (r : Fin 4096) (s : Fin 4096), y = ix2 r s := ⟨y 0, y 1, eq_ix2 y⟩
  exact (reference_apply _ _ _ r s).trans (Cert.Kernel5Ideal.Product.result_apply m c r s).symm

end Cert.DownX

end
-- ==== Proof.DownW.lean ====
/-
  The gradient of the MLP's second weights: the product of the squared ReLU of the hidden row, transposed, and the
  gradient of the MLP's result. The call computes it, and the kernel and the reference compute the same function over
  the extended reals, whatever their arguments.

  A point of the grid adds the product of one block of 1024 rows to the accumulator, the last of the four points of a
  group stores it.
-/
module

public import proofs.«01_k».proof.Defs
public import proofs.«01_k».proof.Proof.Gen.Kernel6Ideal.Value
public import proofs.«01_k».proof.Proof.Gen.Kernel6
public import proofs.«01_k».proof.Proof.Gen.Reference6Ideal
public import proofs.«01_k».proof.Proof.Gen.Reference6Ideal.Run
public import proofs.«01_k».proof.Proof.Gen.Reference6Ideal.Read
public import proofs.«01_k».proof.Proof.Relu
public import proofs.«01_k».proof.Proof.Tiles
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel6Ideal.Product

open Cert.Kernel6Ideal Cert.Kernel6Ideal.Gen
open Idealize.ShloMosaic Idealize.ShloMosaic.TcCoe Idealize.ShloMosaic.Tactic

section payloads

variable (x0 : Vec Ideal S1024x1024 .f32) (x1 : Vec Ideal S1024x1024 .f32) (z : Vec Ideal S1024x1024 .f32) (a b : Fin 1024)

/-- One block's product. -/
theorem pay1_apply : k0_pay1 (F := Ideal) x0 x1 (ix2 a b) = ∑ k : Fin 1024, Relu.square (x0 (ix2 k a)) * x1 (ix2 k b) := by
  unfold k0_pay1
  pointwise [Relu.square]

/-- The first block's product, as it is stored. -/
theorem pay2_apply : k0_pay2 (F := Ideal) x0 x1 (ix2 a b) = ∑ k : Fin 1024, Relu.square (x0 (ix2 k a)) * x1 (ix2 k b) := by
  rw [← pay1_apply]
  unfold k0_pay2
  pointwise

/-- A later block's product, added to what is stored. -/
theorem pay3_apply : k0_pay3 (F := Ideal) x0 x1 z (ix2 a b) = z (ix2 a b) + ∑ k : Fin 1024, Relu.square (x0 (ix2 k a)) * x1 (ix2 k b) := by
  rw [← pay1_apply]
  unfold k0_pay3
  pointwise

end payloads

variable (m : (ℓ : Loc nD τ sig) → Buf (Elt Ideal) ℓ) (c : Dev nD)

/-- The first factor, as the call finds it. -/
abbrev arr0 : Vec Ideal S4096x4096 .f32 := V m c (Pipeline.arrRef spec0 0)
/-- The second factor, as the call finds it. -/
abbrev arr1 : Vec Ideal S4096x1024 .f32 := V m c (Pipeline.arrRef spec0 1)

/-- The blocks of a point. -/
theorem index_all : ∀ t : Fin cfg0.N, (cfg0.win 0).index t 0 = t.val % 4 ∧ (cfg0.win 0).index t 1 = t.val / 4
    ∧ (cfg0.win 1).index t 0 = t.val % 4 ∧ (cfg0.win 1).index t 1 = 0
    ∧ (cfg0.win 2).index t 0 = t.val / 4 ∧ (cfg0.win 2).index t 1 = 0 := by
  decide +kernel

/-- Entry `a` of a group's block. -/
def row (n : ℕ) (hn : n < 16) (a : Fin 1024) : Fin 4096 := ⟨1024 * (n / 4) + a.val, by omega⟩
/-- Entry `k` of a point's block of summands. -/
def col (n : ℕ) (k : Fin 1024) : Fin 4096 := ⟨1024 * (n % 4) + k.val, by omega⟩

/-- The first factor's block. -/
theorem block0 (t : Fin cfg0.N) (k a : Fin 1024) :
    (iblk m c 0 t : Vec Ideal S1024x1024 .f32) (ix2 k a) = arr0 m c (ix2 (col t.val k) (row t.val t.isLt a)) := by
  obtain ⟨e0, e1, -⟩ := index_all t
  blk_ext [iblk, e0, e1, row, col]

/-- The second factor's block. -/
theorem block1 (t : Fin cfg0.N) (k b : Fin 1024) :
    (iblk m c 1 t : Vec Ideal S1024x1024 .f32) (ix2 k b) = arr1 m c (ix2 (col t.val k) b) := by
  obtain ⟨-, -, e0, e1, -⟩ := index_all t
  blk_ext [iblk, e0, e1, row, col]

/-- The place of a result block's entry. -/
theorem emb (t : Fin cfg0.N) (a b : Fin 1024) : ((cfg0.win 2).blk t).view.emb (ix2 a b) = ix2 (row t.val t.isLt a) b := by
  obtain ⟨-, -, -, -, e0, e1⟩ := index_all t
  blk_ext [e0, e1, row]

/-- The summand of an entry of the product. -/
def term (r : Fin 4096) (s : Fin 1024) (n : Fin 4096) : EReal :=
  HMul.hMul (α := EReal) (β := EReal) (γ := EReal) (Relu.square (arr0 m c (ix2 n r))) (arr1 m c (ix2 n s))

/-- A group's summands. -/
def group (a s : Fin 1024) (q : ℕ) : Fin 4096 → EReal := if h : q < 4 then term m c ⟨1024 * q + a.val, by omega⟩ s else fun _ => 0

/-- The group of a point. -/
theorem group_eq (a s : Fin 1024) (n : ℕ) (hn : n < 16) : group m c a s (n / 4) = term m c (row n hn a) s := dif_pos (by omega)

/-- A point's product is the sum of its block of summands. -/
theorem block_term (t : Fin cfg0.N) (a b k : Fin 1024) :
    HMul.hMul (α := EReal) (β := EReal) (γ := EReal) (Relu.square ((iblk m c 0 t : Vec Ideal S1024x1024 .f32) (ix2 k a))) ((iblk m c 1 t : Vec Ideal S1024x1024 .f32) (ix2 k b)) =
      Tiles.extend (group m c a b (t.val / 4)) (1024 * (t.val % 4) + k.val) := by
  rw [block0, block1, group_eq m c a b t.val t.isLt]
  exact (Tiles.extend_of_lt (term m c (row t.val t.isLt a) b) _ (col t.val k).isLt).symm

/-- After the first point of a group: its product. -/
theorem carried_first (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  frame_out

/-- After a later point: its product added. -/
theorem carried_next (t : Fin cfg0.N) (h0 : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    frame_out
    exact congrArg (k0_pay3 _ _) (read_unread_whole _ _ _)
  · rw [outsAt0_B m c t h0 (by omega) h2]
    dsimp only
    unfold sout0_B_0
    frame_out
    exact congrArg (k0_pay3 _ _) (read_unread_whole _ _ _)

/-- The result block after the last point. -/
theorem stored (t : Fin cfg0.N) (h2 : t.val % 4 = 3) :
    (outsAt0 m c t.val t.isLt).1 = (outsAt0 m c t.val t.isLt).2 := by
  rw [carried_next m c t (by omega), outsAt0_C m c t (by omega) (by omega) h2]
  dsimp only
  unfold out0_C_2
  frame_out
  exact congrArg (k0_pay3 _ _) (read_unread_whole _ _ _)

/-- What the accumulator holds after every point: the sum over the blocks met so far. -/
theorem scratch_at (a b : Fin 1024) (n : ℕ) (hn : n < cfg0.N) :
    (outsAt0 m c n hn).2 (ix2 a b) = Tiles.upTo 1024 (group m c a b (n / 4)) (n % 4 + 1) := by
  refine Tiles.four (M := cfg0.N) (group m c a b) (fun n hn => (outsAt0 m c n hn).2 (ix2 a b)) _
    (fun n hn k => block_term m c ⟨n, hn⟩ a b k) (fun n hn h0 => ?_) (fun n hn h0 => ?_) n hn
  · exact (congrFun (carried_first m c ⟨n, hn⟩ h0) _).trans (pay2_apply _ _ a b)
  · exact (congrFun (carried_next m c ⟨n, hn⟩ h0) _).trans (pay3_apply _ _ _ a b)

/-- The accumulator after the last point of a group: the sum over all summands. -/
theorem last_at (t : Fin cfg0.N) (h2 : t.val % 4 = 3) (a b : Fin 1024) :
    (outsAt0 m c t.val t.isLt).2 (ix2 a b) = ∑ n : Fin 4096, term m c (row t.val t.isLt a) b n := by
  rw [scratch_at m c a b t.val t.isLt, h2, group_eq m c a b t.val t.isLt]
  exact Tiles.upTo_all 1024 _ 4 rfl

/-- The call's result. -/
def product : Vec Ideal S4096x1024 .f32 := fun y => ∑ n : Fin 4096, term m c (y 0) (y 1) n

/-- The call's result is the product of the two arrays. -/
theorem result_array : (dats m 0 c).arrAt 2 cfg0.N = product m c := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  have h2 := (flush0_2 t).mp hf
  refine (congrFun (stored m c t h2) _).trans ?_
  refine (last_at m c t h2 a b).trans ?_
  exact (congrArg (product m c) (emb t a b)).symm

/-- Argument 0 of the program. -/
abbrev x0 : FVec Ideal S4096x4096 .f32 := m (c.tc.loc main_arg0)
/-- Argument 2 of the program. -/
abbrev x2 : FVec Ideal S4096x1024 .f32 := m (c.tc.loc main_arg2)

/-- What the call finds. -/
theorem arr0_eq : V m c main_arg0 = x0 m c := by
  unfold_abbrev_sides
  after_reads_simp

/-- What the call finds. -/
theorem arr1_eq : V m c main_arg2 = x2 m c := by
  unfold_abbrev_sides
  after_reads_simp

/-- An entry of the call's result: a sum over 4096 products. -/
theorem result_apply (r : Fin 4096) (s : Fin 1024) : ((dats m 0 c).arrAt 2 cfg0.N : Vec Ideal S4096x1024 .f32) (ix2 r s) =
    ∑ n : Fin 4096, HMul.hMul (α := EReal) (β := EReal) (γ := EReal) (Relu.square (x0 m c (ix2 n r))) (x2 m c (ix2 n s)) := by
  rw [result_array]
  change ∑ n : Fin 4096, term m c r s n = _
  exact Finset.sum_congr rfl fun n _ => congrArg₂ (fun u v : EReal => Relu.square (u) * v) (congrFun (arr0_eq m c) _) (congrFun (arr1_eq m c) _)

end Cert.Kernel6Ideal.Product

namespace Cert.DownW

open Idealize.ShloMosaic Idealize.ShloMosaic.TcCoe Idealize.ShloMosaic.Tactic Idealize.SL.Sem

/-- An entry of the reference's result: the same sum. -/
theorem reference_apply (y0 : FVec Ideal Cert.Kernel6Ideal.S4096x4096 .f32) (y2 : FVec Ideal Cert.Kernel6Ideal.S4096x1024 .f32) (r : Fin 4096) (s : Fin 1024) :
    Cert.Reference6Ideal.Read.val_main_v9 (F := Ideal) y0 y2 (ix2 r s) =
      ∑ n : Fin 4096, HMul.hMul (α := EReal) (β := EReal) (γ := EReal) (Relu.square (y0 (ix2 n r))) (y2 (ix2 n s)) := by
  unfold Cert.Reference6Ideal.Read.val_main_v9 Cert.Reference6Ideal.Read.val_main_v8 Cert.Reference6Ideal.Read.val_main_v4 Cert.Reference6Ideal.Read.val_main_v0 Cert.Reference6Ideal.Read.val_main_call0_v0 Cert.Reference6Ideal.Read.val_main_call0_cst
  pointwise [Relu.square]
  exact Finset.sum_congr rfl fun n _ => mul_comm _ _

set_option maxRecDepth 100000 in
theorem main_eq : Cert.Kernel6.main (F := Bits) = Cert.Kernel6Ideal.main (F := Bits) := by sl_kernel_rfl

set_option maxRecDepth 100000 in
theorem defs_eq : Cert.Kernel6.defs (F := Bits) = Cert.Kernel6Ideal.defs (F := Bits) := by sl_kernel_rfl

/-- The kernel's frame: the idealization has its text, so it is the idealization's frame over float words. -/
theorem frame_kernel : Cert.quiescent_Kernel6 := fun m ρ _ => by
  have h := Cert.Kernel6Ideal.Gen.frame (F := Bits) m ρ
  rw [← main_eq, ← defs_eq] at h
  exact h

/-- The frame of the kernel over the extended reals. -/
theorem frame_ideal : Cert.quiescent_Kernel6Ideal := fun m ρ _ => Cert.Kernel6Ideal.Gen.frame (F := Ideal) m ρ

/-- The reference's frame: it declares no semaphore. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The idealization changes nothing. -/
theorem preserves : Cert.preserves_Kernel6_Kernel6Ideal := trivial

/-- The kernel and the reference compute the same function. -/
theorem algebraic : Cert.algebraic_Kernel6Ideal_Reference6Ideal := by
  intro m g m' g' _ hagree
  refine ⟨fun c => (Cert.Kernel6Ideal.Gen.dats m 0 c).arrAt 2 Cert.Kernel6Ideal.cfg0.N, Cert.Kernel6Ideal.Value.run_blocks m g, ?_⟩
  refine (θ_run (Cert.Reference6Ideal.defs (F := Ideal)) _ _).mono (fun r h c => ⟨(h c).1.trans ?_, (h c).2⟩)
    (Cert.Reference6Ideal.Value.run (F := Ideal) m' g')
  rw [Cert.Reference6Ideal.Read.val_main_v9_eq]
  obtain ⟨a0, -, a2⟩ := hagree c
  rw [a0, a2]
  funext y
  obtain ⟨r, s, rfl⟩ : ∃ (r : Fin 4096) (s : Fin 1024), y = ix2 r s := ⟨y 0, y 1, eq_ix2 y⟩
  exact (reference_apply _ _ r s).trans (Cert.Kernel6Ideal.Product.result_apply m c r s).symm

end Cert.DownW

end
-- ==== Proof.UpX.lean ====
/-
  The gradient of the MLP's input: the product of the hidden row's gradient and the first weights, transposed. The call
  computes it, and the kernel and the reference compute the same function over the extended reals, whatever their
  arguments.

  A point of the grid adds the product of one block of 1024 hidden columns to the accumulator, the last of the four
  points of a group stores it.
-/
module

public import proofs.«01_k».proof.Defs
public import proofs.«01_k».proof.Proof.Gen.Kernel7Ideal.Value
public import proofs.«01_k».proof.Proof.Gen.Kernel7
public import proofs.«01_k».proof.Proof.Gen.Reference7Ideal
public import proofs.«01_k».proof.Proof.Gen.Reference7Ideal.Run
public import proofs.«01_k».proof.Proof.Gen.Reference7Ideal.Read
public import proofs.«01_k».proof.Proof.Relu
public import proofs.«01_k».proof.Proof.Tiles
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel7Ideal.Product

open Cert.Kernel7Ideal Cert.Kernel7Ideal.Gen
open Idealize.ShloMosaic Idealize.ShloMosaic.TcCoe Idealize.ShloMosaic.Tactic

section payloads

variable (x0 : Vec Ideal S1024x1024 .bf16) (x1 : Vec Ideal S1024x1024 .bf16) (z : Vec Ideal S1024x1024 .f32) (a b : Fin 1024)

/-- One block's product. -/
theorem pay1_apply : k0_pay1 (F := Ideal) x0 x1 (ix2 a b) = ∑ k : Fin 1024, x0 (ix2 a k) * x1 (ix2 b k) := by
  unfold k0_pay1
  pointwise

/-- The first block's product, as it is stored. -/
theorem pay2_apply : k0_pay2 (F := Ideal) x0 x1 (ix2 a b) = ∑ k : Fin 1024, x0 (ix2 a k) * x1 (ix2 b k) := by
  rw [← pay1_apply]
  unfold k0_pay2
  pointwise

/-- A later block's product, added to what is stored. -/
theorem pay3_apply : k0_pay3 (F := Ideal) x0 x1 z (ix2 a b) = z (ix2 a b) + ∑ k : Fin 1024, x0 (ix2 a k) * x1 (ix2 b k) := by
  rw [← pay1_apply]
  unfold k0_pay3
  pointwise

end payloads

variable (m : (ℓ : Loc nD τ sig) → Buf (Elt Ideal) ℓ) (c : Dev nD)

/-- The first factor, as the call finds it. -/
abbrev arr0 : Vec Ideal S4096x4096 .bf16 := V m c (Pipeline.arrRef spec0 0)
/-- The second factor, as the call finds it. -/
abbrev arr1 : Vec Ideal S1024x4096 .bf16 := V m c (Pipeline.arrRef spec0 1)

/-- The blocks of a point. -/
theorem index_all : ∀ t : Fin cfg0.N, (cfg0.win 0).index t 0 = t.val / 4 ∧ (cfg0.win 0).index t 1 = t.val % 4
    ∧ (cfg0.win 1).index t 0 = 0 ∧ (cfg0.win 1).index t 1 = t.val % 4
    ∧ (cfg0.win 2).index t 0 = t.val / 4 ∧ (cfg0.win 2).index t 1 = 0 := by
  decide +kernel

/-- Entry `a` of a group's block. -/
def row (n : ℕ) (hn : n < 16) (a : Fin 1024) : Fin 4096 := ⟨1024 * (n / 4) + a.val, by omega⟩
/-- Entry `k` of a point's block of summands. -/
def col (n : ℕ) (k : Fin 1024) : Fin 4096 := ⟨1024 * (n % 4) + k.val, by omega⟩

/-- The first factor's block. -/
theorem block0 (t : Fin cfg0.N) (a k : Fin 1024) :
    (iblk m c 0 t : Vec Ideal S1024x1024 .bf16) (ix2 a k) = arr0 m c (ix2 (row t.val t.isLt a) (col t.val k)) := by
  obtain ⟨e0, e1, -⟩ := index_all t
  blk_ext [iblk, e0, e1, row, col]

/-- The second factor's block. -/
theorem block1 (t : Fin cfg0.N) (b k : Fin 1024) :
    (iblk m c 1 t : Vec Ideal S1024x1024 .bf16) (ix2 b k) = arr1 m c (ix2 b (col t.val k)) := by
  obtain ⟨-, -, e0, e1, -⟩ := index_all t
  blk_ext [iblk, e0, e1, row, col]

/-- The place of a result block's entry. -/
theorem emb (t : Fin cfg0.N) (a b : Fin 1024) : ((cfg0.win 2).blk t).view.emb (ix2 a b) = ix2 (row t.val t.isLt a) b := by
  obtain ⟨-, -, -, -, e0, e1⟩ := index_all t
  blk_ext [e0, e1, row]

/-- The summand of an entry of the product. -/
def term (r : Fin 4096) (s : Fin 1024) (n : Fin 4096) : EReal :=
  HMul.hMul (α := EReal) (β := EReal) (γ := EReal) (arr0 m c (ix2 r n)) (arr1 m c (ix2 s n))

/-- A group's summands. -/
def group (a s : Fin 1024) (q : ℕ) : Fin 4096 → EReal := if h : q < 4 then term m c ⟨1024 * q + a.val, by omega⟩ s else fun _ => 0

/-- The group of a point. -/
theorem group_eq (a s : Fin 1024) (n : ℕ) (hn : n < 16) : group m c a s (n / 4) = term m c (row n hn a) s := dif_pos (by omega)

/-- A point's product is the sum of its block of summands. -/
theorem block_term (t : Fin cfg0.N) (a b k : Fin 1024) :
    HMul.hMul (α := EReal) (β := EReal) (γ := EReal) ((iblk m c 0 t : Vec Ideal S1024x1024 .bf16) (ix2 a k)) ((iblk m c 1 t : Vec Ideal S1024x1024 .bf16) (ix2 b k)) =
      Tiles.extend (group m c a b (t.val / 4)) (1024 * (t.val % 4) + k.val) := by
  rw [block0, block1, group_eq m c a b t.val t.isLt]
  exact (Tiles.extend_of_lt (term m c (row t.val t.isLt a) b) _ (col t.val k).isLt).symm

/-- After the first point of a group: its product. -/
theorem carried_first (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  frame_out

/-- After a later point: its product added. -/
theorem carried_next (t : Fin cfg0.N) (h0 : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    frame_out
    exact congrArg (k0_pay3 _ _) (read_unread_whole _ _ _)
  · rw [outsAt0_B m c t h0 (by omega) h2]
    dsimp only
    unfold sout0_B_0
    frame_out
    exact congrArg (k0_pay3 _ _) (read_unread_whole _ _ _)

/-- The result block after the last point. -/
theorem stored (t : Fin cfg0.N) (h2 : t.val % 4 = 3) :
    (outsAt0 m c t.val t.isLt).1 = (outsAt0 m c t.val t.isLt).2 := by
  rw [carried_next m c t (by omega), outsAt0_C m c t (by omega) (by omega) h2]
  dsimp only
  unfold out0_C_2
  frame_out
  exact congrArg (k0_pay3 _ _) (read_unread_whole _ _ _)

/-- What the accumulator holds after every point: the sum over the blocks met so far. -/
theorem scratch_at (a b : Fin 1024) (n : ℕ) (hn : n < cfg0.N) :
    (outsAt0 m c n hn).2 (ix2 a b) = Tiles.upTo 1024 (group m c a b (n / 4)) (n % 4 + 1) := by
  refine Tiles.four (M := cfg0.N) (group m c a b) (fun n hn => (outsAt0 m c n hn).2 (ix2 a b)) _
    (fun n hn k => block_term m c ⟨n, hn⟩ a b k) (fun n hn h0 => ?_) (fun n hn h0 => ?_) n hn
  · exact (congrFun (carried_first m c ⟨n, hn⟩ h0) _).trans (pay2_apply _ _ a b)
  · exact (congrFun (carried_next m c ⟨n, hn⟩ h0) _).trans (pay3_apply _ _ _ a b)

/-- The accumulator after the last point of a group: the sum over all summands. -/
theorem last_at (t : Fin cfg0.N) (h2 : t.val % 4 = 3) (a b : Fin 1024) :
    (outsAt0 m c t.val t.isLt).2 (ix2 a b) = ∑ n : Fin 4096, term m c (row t.val t.isLt a) b n := by
  rw [scratch_at m c a b t.val t.isLt, h2, group_eq m c a b t.val t.isLt]
  exact Tiles.upTo_all 1024 _ 4 rfl

/-- The call's result. -/
def product : Vec Ideal S4096x1024 .f32 := fun y => ∑ n : Fin 4096, term m c (y 0) (y 1) n

/-- The call's result is the product of the two arrays. -/
theorem result_array : (dats m 0 c).arrAt 2 cfg0.N = product m c := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  have h2 := (flush0_2 t).mp hf
  refine (congrFun (stored m c t h2) _).trans ?_
  refine (last_at m c t h2 a b).trans ?_
  exact (congrArg (product m c) (emb t a b)).symm

/-- Argument 2 of the program. -/
abbrev x2 : FVec Ideal S4096x4096 .f32 := m (c.tc.loc main_arg2)
/-- Argument 1 of the program. -/
abbrev x1 : FVec Ideal S1024x4096 .f32 := m (c.tc.loc main_arg1)

/-- What the call finds. -/
theorem arr0_eq : V m c main_v0 = truncf (F := Ideal) .bf16 (x2 m c) bitsLt_bf16_f32 := by
  unfold_abbrev_sides
  after_reads_simp

/-- What the call finds. -/
theorem arr1_eq : V m c main_v1 = truncf (F := Ideal) .bf16 (x1 m c) bitsLt_bf16_f32 := by
  unfold_abbrev_sides
  after_reads_simp

/-- An entry of the call's result: a sum over 4096 products. -/
theorem result_apply (r : Fin 4096) (s : Fin 1024) : ((dats m 0 c).arrAt 2 cfg0.N : Vec Ideal S4096x1024 .f32) (ix2 r s) =
    ∑ n : Fin 4096, HMul.hMul (α := EReal) (β := EReal) (γ := EReal) (x2 m c (ix2 r n)) (x1 m c (ix2 s n)) := by
  rw [result_array]
  change ∑ n : Fin 4096, term m c r s n = _
  exact Finset.sum_congr rfl fun n _ => congrArg₂ (fun u v : EReal => u * v) (congrFun (arr0_eq m c) _) (congrFun (arr1_eq m c) _)

end Cert.Kernel7Ideal.Product

namespace Cert.UpX

open Idealize.ShloMosaic Idealize.ShloMosaic.TcCoe Idealize.ShloMosaic.Tactic Idealize.SL.Sem

/-- An entry of the reference's result: the same sum. -/
theorem reference_apply (y1 : FVec Ideal Cert.Kernel7Ideal.S1024x4096 .f32) (y2 : FVec Ideal Cert.Kernel7Ideal.S4096x4096 .f32) (r : Fin 4096) (s : Fin 1024) :
    Cert.Reference7Ideal.Read.val_main_v3 (F := Ideal) y1 y2 (ix2 r s) =
      ∑ n : Fin 4096, HMul.hMul (α := EReal) (β := EReal) (γ := EReal) (y2 (ix2 r n)) (y1 (ix2 s n)) := by
  unfold Cert.Reference7Ideal.Read.val_main_v3
  pointwise

set_option maxRecDepth 100000 in
theorem main_eq : Cert.Kernel7.main (F := Bits) = Cert.Kernel7Ideal.main (F := Bits) := by sl_kernel_rfl

set_option maxRecDepth 100000 in
theorem defs_eq : Cert.Kernel7.defs (F := Bits) = Cert.Kernel7Ideal.defs (F := Bits) := by sl_kernel_rfl

/-- The kernel's frame: the idealization has its text, so it is the idealization's frame over float words. -/
theorem frame_kernel : Cert.quiescent_Kernel7 := fun m ρ _ => by
  have h := Cert.Kernel7Ideal.Gen.frame (F := Bits) m ρ
  rw [← main_eq, ← defs_eq] at h
  exact h

/-- The frame of the kernel over the extended reals. -/
theorem frame_ideal : Cert.quiescent_Kernel7Ideal := fun m ρ _ => Cert.Kernel7Ideal.Gen.frame (F := Ideal) m ρ

/-- The reference's frame: it declares no semaphore. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The idealization changes nothing. -/
theorem preserves : Cert.preserves_Kernel7_Kernel7Ideal := trivial

/-- The kernel and the reference compute the same function. -/
theorem algebraic : Cert.algebraic_Kernel7Ideal_Reference7Ideal := by
  intro m g m' g' _ hagree
  refine ⟨fun c => (Cert.Kernel7Ideal.Gen.dats m 0 c).arrAt 2 Cert.Kernel7Ideal.cfg0.N, Cert.Kernel7Ideal.Value.run_blocks m g, ?_⟩
  refine (θ_run (Cert.Reference7Ideal.defs (F := Ideal)) _ _).mono (fun r h c => ⟨(h c).1.trans ?_, (h c).2⟩)
    (Cert.Reference7Ideal.Value.run (F := Ideal) m' g')
  rw [Cert.Reference7Ideal.Read.val_main_v3_eq]
  obtain ⟨-, a1, a2⟩ := hagree c
  rw [a1, a2]
  funext y
  obtain ⟨r, s, rfl⟩ : ∃ (r : Fin 4096) (s : Fin 1024), y = ix2 r s := ⟨y 0, y 1, eq_ix2 y⟩
  exact (reference_apply _ _ r s).trans (Cert.Kernel7Ideal.Product.result_apply m c r s).symm

end Cert.UpX

end
-- ==== Proof.UpW.lean ====
/-
  The gradient of the MLP's first weights: the product of the MLP's input, transposed, and the hidden row's gradient. The
  call computes it, and the kernel and the reference compute the same function over the extended reals, whatever their
  arguments.

  A point of the grid adds the product of one block of 1024 rows to the accumulator, the last of the four points of a
  group stores it.
-/
module

public import proofs.«01_k».proof.Defs
public import proofs.«01_k».proof.Proof.Gen.Kernel8Ideal.Value
public import proofs.«01_k».proof.Proof.Gen.Kernel8
public import proofs.«01_k».proof.Proof.Gen.Reference8Ideal
public import proofs.«01_k».proof.Proof.Gen.Reference8Ideal.Run
public import proofs.«01_k».proof.Proof.Gen.Reference8Ideal.Read
public import proofs.«01_k».proof.Proof.Relu
public import proofs.«01_k».proof.Proof.Tiles
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel8Ideal.Product

open Cert.Kernel8Ideal Cert.Kernel8Ideal.Gen
open Idealize.ShloMosaic Idealize.ShloMosaic.TcCoe Idealize.ShloMosaic.Tactic

section payloads

variable (x0 : Vec Ideal S1024x1024 .bf16) (x1 : Vec Ideal S1024x1024 .bf16) (z : Vec Ideal S1024x1024 .f32) (a b : Fin 1024)

/-- One block's product. -/
theorem pay1_apply : k0_pay1 (F := Ideal) x0 x1 (ix2 a b) = ∑ k : Fin 1024, x0 (ix2 k a) * x1 (ix2 k b) := by
  unfold k0_pay1
  pointwise

/-- The first block's product, as it is stored. -/
theorem pay2_apply : k0_pay2 (F := Ideal) x0 x1 (ix2 a b) = ∑ k : Fin 1024, x0 (ix2 k a) * x1 (ix2 k b) := by
  rw [← pay1_apply]
  unfold k0_pay2
  pointwise

/-- A later block's product, added to what is stored. -/
theorem pay3_apply : k0_pay3 (F := Ideal) x0 x1 z (ix2 a b) = z (ix2 a b) + ∑ k : Fin 1024, x0 (ix2 k a) * x1 (ix2 k b) := by
  rw [← pay1_apply]
  unfold k0_pay3
  pointwise

end payloads

variable (m : (ℓ : Loc nD τ sig) → Buf (Elt Ideal) ℓ) (c : Dev nD)

/-- The first factor, as the call finds it. -/
abbrev arr0 : Vec Ideal S4096x1024 .bf16 := V m c (Pipeline.arrRef spec0 0)
/-- The second factor, as the call finds it. -/
abbrev arr1 : Vec Ideal S4096x4096 .bf16 := V m c (Pipeline.arrRef spec0 1)

/-- The blocks of a point. -/
theorem index_all : ∀ t : Fin cfg0.N, (cfg0.win 0).index t 0 = t.val % 4 ∧ (cfg0.win 0).index t 1 = 0
    ∧ (cfg0.win 1).index t 0 = t.val % 4 ∧ (cfg0.win 1).index t 1 = t.val / 4
    ∧ (cfg0.win 2).index t 0 = 0 ∧ (cfg0.win 2).index t 1 = t.val / 4 := by
  decide +kernel

/-- Entry `a` of a group's block. -/
def row (n : ℕ) (hn : n < 16) (a : Fin 1024) : Fin 4096 := ⟨1024 * (n / 4) + a.val, by omega⟩
/-- Entry `k` of a point's block of summands. -/
def col (n : ℕ) (k : Fin 1024) : Fin 4096 := ⟨1024 * (n % 4) + k.val, by omega⟩

/-- The first factor's block. -/
theorem block0 (t : Fin cfg0.N) (k a : Fin 1024) :
    (iblk m c 0 t : Vec Ideal S1024x1024 .bf16) (ix2 k a) = arr0 m c (ix2 (col t.val k) a) := by
  obtain ⟨e0, e1, -⟩ := index_all t
  blk_ext [iblk, e0, e1, row, col]

/-- The second factor's block. -/
theorem block1 (t : Fin cfg0.N) (k b : Fin 1024) :
    (iblk m c 1 t : Vec Ideal S1024x1024 .bf16) (ix2 k b) = arr1 m c (ix2 (col t.val k) (row t.val t.isLt b)) := by
  obtain ⟨-, -, e0, e1, -⟩ := index_all t
  blk_ext [iblk, e0, e1, row, col]

/-- The place of a result block's entry. -/
theorem emb (t : Fin cfg0.N) (a b : Fin 1024) : ((cfg0.win 2).blk t).view.emb (ix2 a b) = ix2 a (row t.val t.isLt b) := by
  obtain ⟨-, -, -, -, e0, e1⟩ := index_all t
  blk_ext [e0, e1, row]

/-- The summand of an entry of the product. -/
def term (r : Fin 4096) (s : Fin 1024) (n : Fin 4096) : EReal :=
  HMul.hMul (α := EReal) (β := EReal) (γ := EReal) (arr0 m c (ix2 n s)) (arr1 m c (ix2 n r))

/-- A group's summands. -/
def group (a s : Fin 1024) (q : ℕ) : Fin 4096 → EReal := if h : q < 4 then term m c ⟨1024 * q + a.val, by omega⟩ s else fun _ => 0

/-- The group of a point. -/
theorem group_eq (a s : Fin 1024) (n : ℕ) (hn : n < 16) : group m c a s (n / 4) = term m c (row n hn a) s := dif_pos (by omega)

/-- A point's product is the sum of its block of summands. -/
theorem block_term (t : Fin cfg0.N) (a b k : Fin 1024) :
    HMul.hMul (α := EReal) (β := EReal) (γ := EReal) ((iblk m c 0 t : Vec Ideal S1024x1024 .bf16) (ix2 k a)) ((iblk m c 1 t : Vec Ideal S1024x1024 .bf16) (ix2 k b)) =
      Tiles.extend (group m c b a (t.val / 4)) (1024 * (t.val % 4) + k.val) := by
  rw [block0, block1, group_eq m c b a t.val t.isLt]
  exact (Tiles.extend_of_lt (term m c (row t.val t.isLt b) a) _ (col t.val k).isLt).symm

/-- After the first point of a group: its product. -/
theorem carried_first (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  frame_out

/-- After a later point: its product added. -/
theorem carried_next (t : Fin cfg0.N) (h0 : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    frame_out
    exact congrArg (k0_pay3 _ _) (read_unread_whole _ _ _)
  · rw [outsAt0_B m c t h0 (by omega) h2]
    dsimp only
    unfold sout0_B_0
    frame_out
    exact congrArg (k0_pay3 _ _) (read_unread_whole _ _ _)

/-- The result block after the last point. -/
theorem stored (t : Fin cfg0.N) (h2 : t.val % 4 = 3) :
    (outsAt0 m c t.val t.isLt).1 = (outsAt0 m c t.val t.isLt).2 := by
  rw [carried_next m c t (by omega), outsAt0_C m c t (by omega) (by omega) h2]
  dsimp only
  unfold out0_C_2
  frame_out
  exact congrArg (k0_pay3 _ _) (read_unread_whole _ _ _)

/-- What the accumulator holds after every point: the sum over the blocks met so far. -/
theorem scratch_at (a b : Fin 1024) (n : ℕ) (hn : n < cfg0.N) :
    (outsAt0 m c n hn).2 (ix2 a b) = Tiles.upTo 1024 (group m c b a (n / 4)) (n % 4 + 1) := by
  refine Tiles.four (M := cfg0.N) (group m c b a) (fun n hn => (outsAt0 m c n hn).2 (ix2 a b)) _
    (fun n hn k => block_term m c ⟨n, hn⟩ a b k) (fun n hn h0 => ?_) (fun n hn h0 => ?_) n hn
  · exact (congrFun (carried_first m c ⟨n, hn⟩ h0) _).trans (pay2_apply _ _ a b)
  · exact (congrFun (carried_next m c ⟨n, hn⟩ h0) _).trans (pay3_apply _ _ _ a b)

/-- The accumulator after the last point of a group: the sum over all summands. -/
theorem last_at (t : Fin cfg0.N) (h2 : t.val % 4 = 3) (a b : Fin 1024) :
    (outsAt0 m c t.val t.isLt).2 (ix2 a b) = ∑ n : Fin 4096, term m c (row t.val t.isLt b) a n := by
  rw [scratch_at m c a b t.val t.isLt, h2, group_eq m c b a t.val t.isLt]
  exact Tiles.upTo_all 1024 _ 4 rfl

/-- The call's result. -/
def product : Vec Ideal S1024x4096 .f32 := fun y => ∑ n : Fin 4096, term m c (y 1) (y 0) n

/-- The call's result is the product of the two arrays. -/
theorem result_array : (dats m 0 c).arrAt 2 cfg0.N = product m c := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  have h2 := (flush0_2 t).mp hf
  refine (congrFun (stored m c t h2) _).trans ?_
  refine (last_at m c t h2 a b).trans ?_
  exact (congrArg (product m c) (emb t a b)).symm

/-- Argument 0 of the program. -/
abbrev x0 : FVec Ideal S4096x1024 .f32 := m (c.tc.loc main_arg0)
/-- Argument 2 of the program. -/
abbrev x2 : FVec Ideal S4096x4096 .f32 := m (c.tc.loc main_arg2)

/-- What the call finds. -/
theorem arr0_eq : V m c main_v0 = truncf (F := Ideal) .bf16 (x0 m c) bitsLt_bf16_f32 := by
  unfold_abbrev_sides
  after_reads_simp

/-- What the call finds. -/
theorem arr1_eq : V m c main_v1 = truncf (F := Ideal) .bf16 (x2 m c) bitsLt_bf16_f32 := by
  unfold_abbrev_sides
  after_reads_simp

/-- An entry of the call's result: a sum over 4096 products. -/
theorem result_apply (r : Fin 4096) (s : Fin 1024) : ((dats m 0 c).arrAt 2 cfg0.N : Vec Ideal S1024x4096 .f32) (ix2 s r) =
    ∑ n : Fin 4096, HMul.hMul (α := EReal) (β := EReal) (γ := EReal) (x0 m c (ix2 n s)) (x2 m c (ix2 n r)) := by
  rw [result_array]
  change ∑ n : Fin 4096, term m c r s n = _
  exact Finset.sum_congr rfl fun n _ => congrArg₂ (fun u v : EReal => u * v) (congrFun (arr0_eq m c) _) (congrFun (arr1_eq m c) _)

end Cert.Kernel8Ideal.Product

namespace Cert.UpW

open Idealize.ShloMosaic Idealize.ShloMosaic.TcCoe Idealize.ShloMosaic.Tactic Idealize.SL.Sem

/-- An entry of the reference's result: the same sum. -/
theorem reference_apply (y0 : FVec Ideal Cert.Kernel8Ideal.S4096x1024 .f32) (y2 : FVec Ideal Cert.Kernel8Ideal.S4096x4096 .f32) (r : Fin 4096) (s : Fin 1024) :
    Cert.Reference8Ideal.Read.val_main_v2 (F := Ideal) y0 y2 (ix2 s r) =
      ∑ n : Fin 4096, HMul.hMul (α := EReal) (β := EReal) (γ := EReal) (y0 (ix2 n s)) (y2 (ix2 n r)) := by
  unfold Cert.Reference8Ideal.Read.val_main_v2 Cert.Reference8Ideal.Read.val_main_v1
  pointwise
  exact Finset.sum_congr rfl fun n _ => mul_comm _ _

set_option maxRecDepth 100000 in
theorem main_eq : Cert.Kernel8.main (F := Bits) = Cert.Kernel8Ideal.main (F := Bits) := by sl_kernel_rfl

set_option maxRecDepth 100000 in
theorem defs_eq : Cert.Kernel8.defs (F := Bits) = Cert.Kernel8Ideal.defs (F := Bits) := by sl_kernel_rfl

/-- The kernel's frame: the idealization has its text, so it is the idealization's frame over float words. -/
theorem frame_kernel : Cert.quiescent_Kernel8 := fun m ρ _ => by
  have h := Cert.Kernel8Ideal.Gen.frame (F := Bits) m ρ
  rw [← main_eq, ← defs_eq] at h
  exact h

/-- The frame of the kernel over the extended reals. -/
theorem frame_ideal : Cert.quiescent_Kernel8Ideal := fun m ρ _ => Cert.Kernel8Ideal.Gen.frame (F := Ideal) m ρ

/-- The reference's frame: it declares no semaphore. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The idealization changes nothing. -/
theorem preserves : Cert.preserves_Kernel8_Kernel8Ideal := trivial

/-- The kernel and the reference compute the same function. -/
theorem algebraic : Cert.algebraic_Kernel8Ideal_Reference8Ideal := by
  intro m g m' g' _ hagree
  refine ⟨fun c => (Cert.Kernel8Ideal.Gen.dats m 0 c).arrAt 2 Cert.Kernel8Ideal.cfg0.N, Cert.Kernel8Ideal.Value.run_blocks m g, ?_⟩
  refine (θ_run (Cert.Reference8Ideal.defs (F := Ideal)) _ _).mono (fun r h c => ⟨(h c).1.trans ?_, (h c).2⟩)
    (Cert.Reference8Ideal.Value.run (F := Ideal) m' g')
  rw [Cert.Reference8Ideal.Read.val_main_v2_eq]
  obtain ⟨a0, -, a2⟩ := hagree c
  rw [a0, a2]
  funext y
  obtain ⟨s, r, rfl⟩ : ∃ (s : Fin 1024) (r : Fin 4096), y = ix2 s r := ⟨y 0, y 1, eq_ix2 y⟩
  exact (reference_apply _ _ r s).trans (Cert.Kernel8Ideal.Product.result_apply m c r s).symm

end Cert.UpW

end
-- ==== Proof.In.lean ====
/-
  The input projection: the product of the projection's input and the weights. The call computes it on the weights with
  their columns in the kernel's order, the lines after it bring the columns back into the problem's order; the kernel
  and the reference compute the same function over the extended reals, whatever their arguments.

  The contracted axis has one block, so every point of the grid stores its block of the result.
-/
module

public import proofs.«01_k».proof.Defs
public import proofs.«01_k».proof.Proof.Gen.Kernel9Ideal.Frame
public import proofs.«01_k».proof.Proof.Gen.Kernel9
public import proofs.«01_k».proof.Proof.Gen.Reference9Ideal
public import proofs.«01_k».proof.Proof.Gen.Reference9Ideal.Run
public import proofs.«01_k».proof.Proof.Gen.Reference9Ideal.Read
public import proofs.«01_k».proof.Proof.Columns
public import Idealize.ShloMosaic.Lib.Pointwise
public import Idealize.ShloMosaic.Lib.Pipeline.Value
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel9Ideal.Product

open Cert.Kernel9Ideal Cert.Kernel9Ideal.Gen
open Idealize.ShloMosaic Idealize.ShloMosaic.TcCoe Idealize.ShloMosaic.Tactic

section payloads

variable (x0 : Vec Ideal S1024x1024 .bf16) (x1 : Vec Ideal S1024x1536 .bf16) (a : Fin 1024) (b : Fin 1536)

/-- One block's product. -/
theorem pay1_apply : k0_pay1 (F := Ideal) x0 x1 (ix2 a b) = ∑ k : Fin 1024, x0 (ix2 a k) * x1 (ix2 k b) := by
  unfold k0_pay1
  pointwise

/-- The block's product, as it is stored. -/
theorem pay2_apply : k0_pay2 (F := Ideal) x0 x1 (ix2 a b) = ∑ k : Fin 1024, x0 (ix2 a k) * x1 (ix2 k b) := by
  rw [← pay1_apply]
  unfold k0_pay2
  pointwise

end payloads

variable (m : (ℓ : Loc nD τ sig) → Buf (Elt Ideal) ℓ) (c : Dev nD)

/-- The first factor, as the call finds it. -/
abbrev arr0 : Vec Ideal S4096x1024 .bf16 := V m c (Pipeline.arrRef spec0 0)
/-- The second factor, as the call finds it. -/
abbrev arr1 : Vec Ideal S1024x10752 .bf16 := V m c (Pipeline.arrRef spec0 1)

/-- The blocks of a point. -/
theorem index_all : ∀ t : Fin cfg0.N, (cfg0.win 0).index t 0 = t.val / 7 ∧ (cfg0.win 0).index t 1 = 0
    ∧ (cfg0.win 1).index t 0 = 0 ∧ (cfg0.win 1).index t 1 = t.val % 7
    ∧ (cfg0.win 2).index t 0 = t.val / 7 ∧ (cfg0.win 2).index t 1 = t.val % 7 := by
  decide +kernel

/-- Row `a` of a point's block. -/
def row (n : ℕ) (hn : n < 28) (a : Fin 1024) : Fin 4096 := ⟨1024 * (n / 7) + a.val, by omega⟩
/-- Column `b` of a point's block. -/
def col (n : ℕ) (b : Fin 1536) : Fin 10752 := ⟨1536 * (n % 7) + b.val, by omega⟩

/-- The first factor's block. -/
theorem block0 (t : Fin cfg0.N) (a k : Fin 1024) :
    (iblk m c 0 t : Vec Ideal S1024x1024 .bf16) (ix2 a k) = arr0 m c (ix2 (row t.val t.isLt a) k) := by
  obtain ⟨e0, e1, -⟩ := index_all t
  blk_ext [iblk, e0, e1, row, col]

/-- The second factor's block. -/
theorem block1 (t : Fin cfg0.N) (k : Fin 1024) (b : Fin 1536) :
    (iblk m c 1 t : Vec Ideal S1024x1536 .bf16) (ix2 k b) = arr1 m c (ix2 k (col t.val b)) := by
  obtain ⟨-, -, e0, e1, -⟩ := index_all t
  blk_ext [iblk, e0, e1, row, col]

/-- The place of a result block's entry. -/
theorem emb (t : Fin cfg0.N) (a : Fin 1024) (b : Fin 1536) : ((cfg0.win 2).blk t).view.emb (ix2 a b) = ix2 (row t.val t.isLt a) (col t.val b) := by
  obtain ⟨-, -, -, -, e0, e1⟩ := index_all t
  blk_ext [e0, e1, row, col]

/-- The call's result. -/
def product : Vec Ideal S4096x10752 .f32 := fun y => ∑ k : Fin 1024, HMul.hMul (α := EReal) (β := EReal) (γ := EReal) (arr0 m c (ix2 (y 0) k)) (arr1 m c (ix2 k (y 1)))

/-- What a point stores is its block of the result. -/
theorem stored (t : Fin cfg0.N) (a : Fin 1024) (b : Fin 1536) :
    outsAt0 m c t (ix2 a b) = product m c (ix2 (row t.val t.isLt a) (col t.val b)) := by
  have h : outsAt0 m c t = k0_pay2 (F := Ideal) (iblk m c 0 t) (iblk m c 1 t) := by
    unfold outsAt0 out0_A_2
    frame_out
  rw [h]
  refine (pay2_apply _ _ a b).trans ?_
  exact Finset.sum_congr rfl fun k _ => congrArg₂ (fun u v : EReal => u * v) (block0 m c t a k) (block1 m c t k b)

/-- The result, whole. -/
theorem result_array : (dats m 0 c).arrAt 2 cfg0.N = product m c := by
  refine (dats m 0 c).arrAt_eq_of_covers 2 _ (by decide +kernel) fun t hf y => ?_
  blk_simp
  rw [after0_2]
  obtain ⟨a, b, rfl⟩ : ∃ (a : Fin 1024) (b : Fin 1536), y = ix2 a b := ⟨y 0, y 1, eq_ix2 y⟩
  refine (stored m c t a b).trans ?_
  exact (congrArg (product m c) (emb t a b)).symm

/-- Argument 0 of the program. -/
abbrev x0 : FVec Ideal S4096x1024 .f32 := m (c.tc.loc main_arg0)
/-- Argument 1 of the program. -/
abbrev x1 : FVec Ideal S1024x10656 .f32 := m (c.tc.loc main_arg1)

/-- What the call finds. -/
theorem arr0_eq : V m c main_v0 = truncf (F := Ideal) .bf16 (x0 m c) bitsLt_bf16_f32 := by
  unfold_abbrev_sides
  after_reads_simp

/-- What the call finds. -/
theorem arr1_eq : V m c main_v12 = Columns.weights (x1 m c) := by
  unfold_abbrev_sides
  after_reads_simp
  rfl

/-- The columns in the problem's order. -/
def ordered (x : FVec Ideal S4096x10752 .f32) : FVec Ideal S4096x10656 .f32 :=
  concatenate S4096x10656 1 [⟨S4096x512, extractStridedSlice S4096x512 ![0, 8704] x slices_S4096x10752_S4096x512_0_8704⟩,
      ⟨S4096x128, extractStridedSlice S4096x128 ![0, 10368] x slices_S4096x10752_S4096x128_0_10368⟩,
      ⟨S4096x128, extractStridedSlice S4096x128 ![0, 10496] x slices_S4096x10752_S4096x128_0_10496⟩,
      ⟨S4096x384, extractStridedSlice S4096x384 ![0, 9984] x slices_S4096x10752_S4096x384_0_9984⟩,
      ⟨S4096x256, extractStridedSlice S4096x256 ![0, 9728] x slices_S4096x10752_S4096x256_0_9728⟩,
      ⟨S4096x32, extractStridedSlice S4096x32 ![0, 10624] x slices_S4096x10752_S4096x32_0_10624⟩,
      ⟨S4096x4608, extractStridedSlice S4096x4608 ![0, 4096] x slices_S4096x10752_S4096x4608_0_4096⟩,
      ⟨S4096x512, extractStridedSlice S4096x512 ![0, 9216] x slices_S4096x10752_S4096x512_0_9216⟩,
      ⟨S4096x4096, extractStridedSlice S4096x4096 ![0, 0] x slices_S4096x10752_S4096x4096_0_0⟩]
    concatenates_S4096x512_S4096x128_S4096x128_S4096x384_S4096x256_S4096x32_S4096x4608_S4096x512_S4096x4096_S4096x10656_d1

set_option maxHeartbeats 1000000 in
/-- Every column comes from its place. -/
theorem ordered_apply (x : FVec Ideal S4096x10752 .f32) (a : Fin 4096) (k : Fin 10656) : ordered x (ix2 a k) = x (ix2 a (Columns.place k)) := by
  unfold ordered
  pointwise
  have hp := Columns.placeVal_cases k
  have hv : (Columns.place k).val = Columns.placeVal k := rfl
  rw [← hv] at hp
  generalize Columns.place k = p at hp
  have hk := k.isLt
  rcases hp with h | h | h | h | h | h | h | h | h <;> obtain ⟨h0, h1, h2⟩ := h
  all_goals repeat first | refine (dif_pos (by omega)).trans ?_ | refine (dif_neg (by omega)).trans ?_
  all_goals exact congrArg x (congrArg (ix2 a) (Fin.ext (by dsimp only; omega)))

/-- What the lines after the call leave: the columns of the call's result in the problem's order. -/
theorem lines_eq (W : Valuation τ sig (Elt Ideal)) : StableHlo.after hostOps1 W (Proc.devRef .tc main_v23) = ordered (W (Proc.devRef .tc main_v13)) := by
  unfold_abbrev_sides
  after_reads_simp
  rfl

/-- The program's result: the call's, its columns in the problem's order. -/
theorem tail_eq : Pipeline.afterTail₀ cfgs (dats m) 0 (V0 m) [hostOps1] c main_v23 = ordered ((dats m 0 c).arrAt 2 cfg0.N) := by
  unfold Pipeline.afterTail₀
  simp only [List.flatten_cons, List.flatten_nil, List.append_nil]
  refine (lines_eq _).trans (congrArg ordered ?_)
  exact Pipeline.withArrays_arr spec0 (by decide) c (V0 m c) (fun w => (dats m 0 c).arrAt w cfg0.N) 2

/-- An entry of the program's result: a sum over 1024 products. -/
theorem result_apply (r : Fin 4096) (s : Fin 10656) : ordered ((dats m 0 c).arrAt 2 cfg0.N) (ix2 r s) =
    ∑ k : Fin 1024, HMul.hMul (α := EReal) (β := EReal) (γ := EReal) (x0 m c (ix2 r k)) (x1 m c (ix2 k s)) := by
  rw [ordered_apply, result_array]
  change ∑ k : Fin 1024, HMul.hMul (α := EReal) (β := EReal) (γ := EReal) (arr0 m c (ix2 r k)) (arr1 m c (ix2 k (Columns.place s))) = _
  exact Finset.sum_congr rfl fun k _ => congrArg₂ (fun u v : EReal => u * v) (congrFun (arr0_eq m c) _) ((congrFun (arr1_eq m c) _).trans (Columns.weights_place _ k s))

end Cert.Kernel9Ideal.Product

namespace Cert.In

open Idealize.ShloMosaic Idealize.ShloMosaic.TcCoe Idealize.ShloMosaic.Tactic Idealize.SL.Sem

/-- An entry of the reference's result. -/
theorem reference_apply (y0 : FVec Ideal Cert.Kernel9Ideal.S4096x1024 .f32) (y1 : FVec Ideal Cert.Kernel9Ideal.S1024x10656 .f32) (r : Fin 4096) (s : Fin 10656) :
    Cert.Reference9Ideal.Read.val_main_v0 (F := Ideal) y0 y1 (ix2 r s) =
      ∑ k : Fin 1024, HMul.hMul (α := EReal) (β := EReal) (γ := EReal) (y0 (ix2 r k)) (y1 (ix2 k s)) := by
  unfold Cert.Reference9Ideal.Read.val_main_v0
  pointwise

set_option maxRecDepth 100000 in
theorem main_eq : Cert.Kernel9.main (F := Bits) = Cert.Kernel9Ideal.main (F := Bits) := by sl_kernel_rfl

set_option maxRecDepth 100000 in
theorem defs_eq : Cert.Kernel9.defs (F := Bits) = Cert.Kernel9Ideal.defs (F := Bits) := by sl_kernel_rfl

/-- The kernel's frame: the idealization has its text, so it is the idealization's frame over float words. -/
theorem frame_kernel : Cert.quiescent_Kernel9 := fun m ρ _ => by
  have h := Cert.Kernel9Ideal.Gen.frame (F := Bits) m ρ
  rw [← main_eq, ← defs_eq] at h
  exact h

/-- The frame of the kernel over the extended reals. -/
theorem frame_ideal : Cert.quiescent_Kernel9Ideal := fun m ρ _ => Cert.Kernel9Ideal.Gen.frame (F := Ideal) m ρ

/-- The reference's frame: it declares no semaphore. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The idealization changes nothing. -/
theorem preserves : Cert.preserves_Kernel9_Kernel9Ideal := trivial

/-- The kernel and the reference compute the same function. -/
theorem algebraic : Cert.algebraic_Kernel9Ideal_Reference9Ideal := by
  intro m g m' g' _ hagree
  refine ⟨fun c => Cert.Kernel9Ideal.Product.ordered ((Cert.Kernel9Ideal.Gen.dats m 0 c).arrAt 2 Cert.Kernel9Ideal.cfg0.N), ?_, ?_⟩
  · refine (θ_run (Cert.Kernel9Ideal.defs (F := Ideal)) _ _).mono (fun r h c => ⟨?_, h.2 c⟩)
      (θ_run_and (Cert.Kernel9Ideal.Gen.run_main (F := Ideal) m g) (Cert.Kernel9Ideal.Gen.unchanged (F := Ideal) m g))
    exact ((h.1 c).2 Cert.Kernel9Ideal.main_v23 (Pipeline.mem_restRefs_of Cert.Kernel9Ideal.main_v23 (by decide) (by decide))).trans
      (Cert.Kernel9Ideal.Product.tail_eq m c)
  refine (θ_run (Cert.Reference9Ideal.defs (F := Ideal)) _ _).mono (fun r h c => ⟨(h c).1.trans ?_, (h c).2⟩)
    (Cert.Reference9Ideal.Value.run (F := Ideal) m' g')
  rw [Cert.Reference9Ideal.Read.val_main_v0_eq]
  obtain ⟨a0, a1⟩ := hagree c
  rw [a0, a1]
  funext y
  obtain ⟨r, s, rfl⟩ : ∃ (r : Fin 4096) (s : Fin 10656), y = ix2 r s := ⟨y 0, y 1, eq_ix2 y⟩
  exact (reference_apply _ _ r s).trans (Cert.Kernel9Ideal.Product.result_apply m c r s).symm

end Cert.In

end
-- ==== Proof.Up.lean ====
/-
  The MLP's first half: the product of its input and the first weights. The call computes it, and the kernel and the
  reference compute the same function over the extended reals, whatever their arguments.

  The contracted axis has one block, so every point of the grid stores its block of the result.
-/
module

public import proofs.«01_k».proof.Defs
public import proofs.«01_k».proof.Proof.Gen.Kernel10Ideal.Value
public import proofs.«01_k».proof.Proof.Gen.Kernel10
public import proofs.«01_k».proof.Proof.Gen.Reference10Ideal
public import proofs.«01_k».proof.Proof.Gen.Reference10Ideal.Run
public import proofs.«01_k».proof.Proof.Gen.Reference10Ideal.Read
public import proofs.«01_k».proof.Proof.Relu
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel10Ideal.Product

open Cert.Kernel10Ideal Cert.Kernel10Ideal.Gen
open Idealize.ShloMosaic Idealize.ShloMosaic.TcCoe Idealize.ShloMosaic.Tactic

section payloads

variable (x0 : Vec Ideal S1024x1024 .bf16) (x1 : Vec Ideal S1024x1024 .bf16) (a : Fin 1024) (b : Fin 1024)

/-- One block's product. -/
theorem pay1_apply : k0_pay1 (F := Ideal) x0 x1 (ix2 a b) = ∑ k : Fin 1024, x0 (ix2 a k) * x1 (ix2 k b) := by
  unfold k0_pay1
  pointwise

/-- The block's product, as it is stored. -/
theorem pay2_apply : k0_pay2 (F := Ideal) x0 x1 (ix2 a b) = ∑ k : Fin 1024, x0 (ix2 a k) * x1 (ix2 k b) := by
  rw [← pay1_apply]
  unfold k0_pay2
  pointwise

end payloads

variable (m : (ℓ : Loc nD τ sig) → Buf (Elt Ideal) ℓ) (c : Dev nD)

/-- The first factor, as the call finds it. -/
abbrev arr0 : Vec Ideal S4096x1024 .bf16 := V m c (Pipeline.arrRef spec0 0)
/-- The second factor, as the call finds it. -/
abbrev arr1 : Vec Ideal S1024x4096 .bf16 := V m c (Pipeline.arrRef spec0 1)

/-- The blocks of a point. -/
theorem index_all : ∀ t : Fin cfg0.N, (cfg0.win 0).index t 0 = t.val / 4 ∧ (cfg0.win 0).index t 1 = 0
    ∧ (cfg0.win 1).index t 0 = 0 ∧ (cfg0.win 1).index t 1 = t.val % 4
    ∧ (cfg0.win 2).index t 0 = t.val / 4 ∧ (cfg0.win 2).index t 1 = t.val % 4 := by
  decide +kernel

/-- Row `a` of a point's block. -/
def row (n : ℕ) (hn : n < 16) (a : Fin 1024) : Fin 4096 := ⟨1024 * (n / 4) + a.val, by omega⟩
/-- Column `b` of a point's block. -/
def col (n : ℕ) (b : Fin 1024) : Fin 4096 := ⟨1024 * (n % 4) + b.val, by omega⟩

/-- The first factor's block. -/
theorem block0 (t : Fin cfg0.N) (a k : Fin 1024) :
    (iblk m c 0 t : Vec Ideal S1024x1024 .bf16) (ix2 a k) = arr0 m c (ix2 (row t.val t.isLt a) k) := by
  obtain ⟨e0, e1, -⟩ := index_all t
  blk_ext [iblk, e0, e1, row, col]

/-- The second factor's block. -/
theorem block1 (t : Fin cfg0.N) (k : Fin 1024) (b : Fin 1024) :
    (iblk m c 1 t : Vec Ideal S1024x1024 .bf16) (ix2 k b) = arr1 m c (ix2 k (col t.val b)) := by
  obtain ⟨-, -, e0, e1, -⟩ := index_all t
  blk_ext [iblk, e0, e1, row, col]

/-- The place of a result block's entry. -/
theorem emb (t : Fin cfg0.N) (a : Fin 1024) (b : Fin 1024) : ((cfg0.win 2).blk t).view.emb (ix2 a b) = ix2 (row t.val t.isLt a) (col t.val b) := by
  obtain ⟨-, -, -, -, e0, e1⟩ := index_all t
  blk_ext [e0, e1, row, col]

/-- The call's result. -/
def product : Vec Ideal S4096x4096 .f32 := fun y => ∑ k : Fin 1024, HMul.hMul (α := EReal) (β := EReal) (γ := EReal) (arr0 m c (ix2 (y 0) k)) (arr1 m c (ix2 k (y 1)))

/-- What a point stores is its block of the result. -/
theorem stored (t : Fin cfg0.N) (a : Fin 1024) (b : Fin 1024) :
    outsAt0 m c t (ix2 a b) = product m c (ix2 (row t.val t.isLt a) (col t.val b)) := by
  have h : outsAt0 m c t = k0_pay2 (F := Ideal) (iblk m c 0 t) (iblk m c 1 t) := by
    unfold outsAt0 out0_A_2
    frame_out
  rw [h]
  refine (pay2_apply _ _ a b).trans ?_
  exact Finset.sum_congr rfl fun k _ => congrArg₂ (fun u v : EReal => u * v) (block0 m c t a k) (block1 m c t k b)

/-- The result, whole. -/
theorem result_array : (dats m 0 c).arrAt 2 cfg0.N = product m c := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  refine (stored m c t a b).trans ?_
  exact (congrArg (product m c) (emb t a b)).symm

/-- Argument 0 of the program. -/
abbrev x0 : FVec Ideal S4096x1024 .f32 := m (c.tc.loc main_arg0)
/-- Argument 1 of the program. -/
abbrev x1 : FVec Ideal S1024x4096 .f32 := m (c.tc.loc main_arg1)

/-- What the call finds. -/
theorem arr0_eq : V m c main_v0 = truncf (F := Ideal) .bf16 (x0 m c) bitsLt_bf16_f32 := by
  unfold_abbrev_sides
  after_reads_simp

/-- What the call finds. -/
theorem arr1_eq : V m c main_v1 = truncf (F := Ideal) .bf16 (x1 m c) bitsLt_bf16_f32 := by
  unfold_abbrev_sides
  after_reads_simp

/-- An entry of the call's result: a sum over 1024 products. -/
theorem result_apply (r : Fin 4096) (s : Fin 4096) : ((dats m 0 c).arrAt 2 cfg0.N : Vec Ideal S4096x4096 .f32) (ix2 r s) =
    ∑ k : Fin 1024, HMul.hMul (α := EReal) (β := EReal) (γ := EReal) (x0 m c (ix2 r k)) (x1 m c (ix2 k s)) := by
  rw [result_array]
  change ∑ k : Fin 1024, HMul.hMul (α := EReal) (β := EReal) (γ := EReal) (arr0 m c (ix2 r k)) (arr1 m c (ix2 k s)) = _
  exact Finset.sum_congr rfl fun k _ => congrArg₂ (fun u v : EReal => u * v) (congrFun (arr0_eq m c) _) (congrFun (arr1_eq m c) _)

end Cert.Kernel10Ideal.Product

namespace Cert.Up

open Idealize.ShloMosaic Idealize.ShloMosaic.TcCoe Idealize.ShloMosaic.Tactic Idealize.SL.Sem

/-- An entry of the reference's result. -/
theorem reference_apply (y0 : FVec Ideal Cert.Kernel10Ideal.S4096x1024 .f32) (y1 : FVec Ideal Cert.Kernel10Ideal.S1024x4096 .f32) (r : Fin 4096) (s : Fin 4096) :
    Cert.Reference10Ideal.Read.val_main_v0 (F := Ideal) y0 y1 (ix2 r s) =
      ∑ k : Fin 1024, HMul.hMul (α := EReal) (β := EReal) (γ := EReal) (y0 (ix2 r k)) (y1 (ix2 k s)) := by
  unfold Cert.Reference10Ideal.Read.val_main_v0
  pointwise

set_option maxRecDepth 100000 in
theorem main_eq : Cert.Kernel10.main (F := Bits) = Cert.Kernel10Ideal.main (F := Bits) := by sl_kernel_rfl

set_option maxRecDepth 100000 in
theorem defs_eq : Cert.Kernel10.defs (F := Bits) = Cert.Kernel10Ideal.defs (F := Bits) := by sl_kernel_rfl

/-- The kernel's frame: the idealization has its text, so it is the idealization's frame over float words. -/
theorem frame_kernel : Cert.quiescent_Kernel10 := fun m ρ _ => by
  have h := Cert.Kernel10Ideal.Gen.frame (F := Bits) m ρ
  rw [← main_eq, ← defs_eq] at h
  exact h

/-- The frame of the kernel over the extended reals. -/
theorem frame_ideal : Cert.quiescent_Kernel10Ideal := fun m ρ _ => Cert.Kernel10Ideal.Gen.frame (F := Ideal) m ρ

/-- The reference's frame: it declares no semaphore. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The idealization changes nothing. -/
theorem preserves : Cert.preserves_Kernel10_Kernel10Ideal := trivial

/-- The kernel and the reference compute the same function. -/
theorem algebraic : Cert.algebraic_Kernel10Ideal_Reference10Ideal := by
  intro m g m' g' _ hagree
  refine ⟨fun c => (Cert.Kernel10Ideal.Gen.dats m 0 c).arrAt 2 Cert.Kernel10Ideal.cfg0.N, Cert.Kernel10Ideal.Value.run_blocks m g, ?_⟩
  refine (θ_run (Cert.Reference10Ideal.defs (F := Ideal)) _ _).mono (fun r h c => ⟨(h c).1.trans ?_, (h c).2⟩)
    (Cert.Reference10Ideal.Value.run (F := Ideal) m' g')
  rw [Cert.Reference10Ideal.Read.val_main_v0_eq]
  obtain ⟨a0, a1⟩ := hagree c
  rw [a0, a1]
  funext y
  obtain ⟨r, s, rfl⟩ : ∃ (r : Fin 4096) (s : Fin 4096), y = ix2 r s := ⟨y 0, y 1, eq_ix2 y⟩
  exact (reference_apply _ _ r s).trans (Cert.Kernel10Ideal.Product.result_apply m c r s).symm

end Cert.Up

end
-- ==== Proof.Down.lean ====
/-
  The MLP's second half, with the row that it is added to: the product of the squared ReLU of the hidden row and the
  second weights. The call computes it, and the kernel and the reference compute the same function over the extended
  reals, whatever their arguments.

  A point of the grid adds the product of one block of 1024 hidden columns to the accumulator, the last of the four
  points of a group stores it, the row added.
-/
module

public import proofs.«01_k».proof.Defs
public import proofs.«01_k».proof.Proof.Gen.Kernel11Ideal.Value
public import proofs.«01_k».proof.Proof.Gen.Kernel11
public import proofs.«01_k».proof.Proof.Gen.Reference11Ideal
public import proofs.«01_k».proof.Proof.Gen.Reference11Ideal.Run
public import proofs.«01_k».proof.Proof.Gen.Reference11Ideal.Read
public import proofs.«01_k».proof.Proof.Relu
public import proofs.«01_k».proof.Proof.Tiles
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel11Ideal.Product

open Cert.Kernel11Ideal Cert.Kernel11Ideal.Gen
open Idealize.ShloMosaic Idealize.ShloMosaic.TcCoe Idealize.ShloMosaic.Tactic

section payloads

variable (x0 : Vec Ideal S1024x1024 .f32) (x1 : Vec Ideal S1024x1024 .bf16) (z : Vec Ideal S1024x1024 .f32) (a b : Fin 1024)

/-- One block's product. -/
theorem pay1_apply : k0_pay1 (F := Ideal) x0 x1 (ix2 a b) = ∑ k : Fin 1024, Relu.square (x0 (ix2 a k)) * x1 (ix2 k b) := by
  unfold k0_pay1
  pointwise [Relu.square]

/-- The first block's product, as it is stored. -/
theorem pay2_apply : k0_pay2 (F := Ideal) x0 x1 (ix2 a b) = ∑ k : Fin 1024, Relu.square (x0 (ix2 a k)) * x1 (ix2 k b) := by
  rw [← pay1_apply]
  unfold k0_pay2
  pointwise

/-- A later block's product, added to what is stored. -/
theorem pay3_apply : k0_pay3 (F := Ideal) x0 x1 z (ix2 a b) = z (ix2 a b) + ∑ k : Fin 1024, Relu.square (x0 (ix2 a k)) * x1 (ix2 k b) := by
  rw [← pay1_apply]
  unfold k0_pay3
  pointwise

/-- What the last point of a group stores. -/
theorem pay4_apply (y : Vec Ideal S1024x1024 .f32) : k0_pay4 (F := Ideal) z y (ix2 a b) = z (ix2 a b) + y (ix2 a b) := by
  unfold k0_pay4
  pointwise

end payloads

variable (m : (ℓ : Loc nD τ sig) → Buf (Elt Ideal) ℓ) (c : Dev nD)

/-- The first factor, as the call finds it. -/
abbrev arr0 : Vec Ideal S4096x4096 .f32 := V m c (Pipeline.arrRef spec0 0)
/-- The second factor, as the call finds it. -/
abbrev arr1 : Vec Ideal S4096x1024 .bf16 := V m c (Pipeline.arrRef spec0 1)
/-- The array that is added, as the call finds it. -/
abbrev arr2 : Vec Ideal S4096x1024 .f32 := V m c (Pipeline.arrRef spec0 2)

/-- The blocks of a point. -/
theorem index_all : ∀ t : Fin cfg0.N, (cfg0.win 0).index t 0 = t.val / 4 ∧ (cfg0.win 0).index t 1 = t.val % 4
    ∧ (cfg0.win 1).index t 0 = t.val % 4 ∧ (cfg0.win 1).index t 1 = 0
    ∧ (cfg0.win 2).index t 0 = t.val / 4 ∧ (cfg0.win 2).index t 1 = 0
    ∧ (cfg0.win 3).index t 0 = t.val / 4 ∧ (cfg0.win 3).index t 1 = 0 := by
  decide +kernel

/-- Entry `a` of a group's block. -/
def row (n : ℕ) (hn : n < 16) (a : Fin 1024) : Fin 4096 := ⟨1024 * (n / 4) + a.val, by omega⟩
/-- Entry `k` of a point's block of summands. -/
def col (n : ℕ) (k : Fin 1024) : Fin 4096 := ⟨1024 * (n % 4) + k.val, by omega⟩

/-- The first factor's block. -/
theorem block0 (t : Fin cfg0.N) (a k : Fin 1024) :
    (iblk m c 0 t : Vec Ideal S1024x1024 .f32) (ix2 a k) = arr0 m c (ix2 (row t.val t.isLt a) (col t.val k)) := by
  obtain ⟨e0, e1, -⟩ := index_all t
  blk_ext [iblk, e0, e1, row, col]

/-- The second factor's block. -/
theorem block1 (t : Fin cfg0.N) (k b : Fin 1024) :
    (iblk m c 1 t : Vec Ideal S1024x1024 .bf16) (ix2 k b) = arr1 m c (ix2 (col t.val k) b) := by
  obtain ⟨-, -, e0, e1, -⟩ := index_all t
  blk_ext [iblk, e0, e1, row, col]

/-- The added array's block. -/
theorem block2 (t : Fin cfg0.N) (a b : Fin 1024) :
    (iblk m c 2 t : Vec Ideal S1024x1024 .f32) (ix2 a b) = arr2 m c (ix2 (row t.val t.isLt a) b) := by
  obtain ⟨-, -, -, -, e0, e1, -⟩ := index_all t
  blk_ext [iblk, e0, e1, row, col]

/-- The place of a result block's entry. -/
theorem emb (t : Fin cfg0.N) (a b : Fin 1024) : ((cfg0.win 3).blk t).view.emb (ix2 a b) = ix2 (row t.val t.isLt a) b := by
  obtain ⟨-, -, -, -, -, -, e0, e1⟩ := index_all t
  blk_ext [e0, e1, row]

/-- The summand of an entry of the product. -/
def term (r : Fin 4096) (s : Fin 1024) (n : Fin 4096) : EReal :=
  HMul.hMul (α := EReal) (β := EReal) (γ := EReal) (Relu.square (arr0 m c (ix2 r n))) (arr1 m c (ix2 n s))

/-- A group's summands. -/
def group (a s : Fin 1024) (q : ℕ) : Fin 4096 → EReal := if h : q < 4 then term m c ⟨1024 * q + a.val, by omega⟩ s else fun _ => 0

/-- The group of a point. -/
theorem group_eq (a s : Fin 1024) (n : ℕ) (hn : n < 16) : group m c a s (n / 4) = term m c (row n hn a) s := dif_pos (by omega)

/-- A point's product is the sum of its block of summands. -/
theorem block_term (t : Fin cfg0.N) (a b k : Fin 1024) :
    HMul.hMul (α := EReal) (β := EReal) (γ := EReal) (Relu.square ((iblk m c 0 t : Vec Ideal S1024x1024 .f32) (ix2 a k))) ((iblk m c 1 t : Vec Ideal S1024x1024 .bf16) (ix2 k b)) =
      Tiles.extend (group m c a b (t.val / 4)) (1024 * (t.val % 4) + k.val) := by
  rw [block0, block1, group_eq m c a b t.val t.isLt]
  exact (Tiles.extend_of_lt (term m c (row t.val t.isLt a) b) _ (col t.val k).isLt).symm

/-- After the first point of a group: its product. -/
theorem carried_first (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only
  unfold sout0_A_0
  frame_out

/-- After a later point: its product added. -/
theorem carried_next (t : Fin cfg0.N) (h0 : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    frame_out
    exact congrArg (k0_pay3 _ _) (read_unread_whole _ _ _)
  · rw [outsAt0_B m c t h0 (by omega) h2]
    dsimp only
    unfold sout0_B_0
    frame_out
    exact congrArg (k0_pay3 _ _) (read_unread_whole _ _ _)

/-- The result block after the last point. -/
theorem stored (t : Fin cfg0.N) (h2 : t.val % 4 = 3) :
    (outsAt0 m c t.val t.isLt).1 = k0_pay4 (F := Ideal) (outsAt0 m c t.val t.isLt).2 (iblk m c 2 t) := by
  rw [carried_next m c t (by omega), outsAt0_C m c t (by omega) (by omega) h2]
  dsimp only
  unfold out0_C_3
  frame_out
  exact congrArg (fun z => k0_pay4 (k0_pay3 _ _ z) _) (read_unread_whole _ _ _)

/-- What the accumulator holds after every point: the sum over the blocks met so far. -/
theorem scratch_at (a b : Fin 1024) (n : ℕ) (hn : n < cfg0.N) :
    (outsAt0 m c n hn).2 (ix2 a b) = Tiles.upTo 1024 (group m c a b (n / 4)) (n % 4 + 1) := by
  refine Tiles.four (M := cfg0.N) (group m c a b) (fun n hn => (outsAt0 m c n hn).2 (ix2 a b)) _
    (fun n hn k => block_term m c ⟨n, hn⟩ a b k) (fun n hn h0 => ?_) (fun n hn h0 => ?_) n hn
  · exact (congrFun (carried_first m c ⟨n, hn⟩ h0) _).trans (pay2_apply _ _ a b)
  · exact (congrFun (carried_next m c ⟨n, hn⟩ h0) _).trans (pay3_apply _ _ _ a b)

/-- The accumulator after the last point of a group: the sum over all summands. -/
theorem last_at (t : Fin cfg0.N) (h2 : t.val % 4 = 3) (a b : Fin 1024) :
    (outsAt0 m c t.val t.isLt).2 (ix2 a b) = ∑ n : Fin 4096, term m c (row t.val t.isLt a) b n := by
  rw [scratch_at m c a b t.val t.isLt, h2, group_eq m c a b t.val t.isLt]
  exact Tiles.upTo_all 1024 _ 4 rfl

/-- The call's result. -/
def product : Vec Ideal S4096x1024 .f32 := fun y => HAdd.hAdd (α := EReal) (β := EReal) (γ := EReal) (∑ n : Fin 4096, term m c (y 0) (y 1) n) (arr2 m c (ix2 (y 0) (y 1)))

/-- The call's result is the product and the array that is added. -/
theorem result_array : (dats m 0 c).arrAt 3 cfg0.N = product m c := by
  refine (dats m 0 c).arrAt_eq_of_covers 3 _ (by decide +kernel) fun t hf y => ?_
  blk_simp
  rw [after0_3]
  obtain ⟨a, b, rfl⟩ : ∃ (a : Fin 1024) (b : Fin 1024), y = ix2 a b := ⟨y 0, y 1, eq_ix2 y⟩
  have h2 := (flush0_3 t).mp hf
  refine (congrFun (stored m c t h2) _).trans ?_
  refine (pay4_apply _ a b _).trans ?_
  rw [last_at m c t h2 a b, block2]
  exact (congrArg (product m c) (emb t a b)).symm

/-- Argument 0 of the program. -/
abbrev x0 : FVec Ideal S4096x4096 .f32 := m (c.tc.loc main_arg0)
/-- Argument 1 of the program. -/
abbrev x1 : FVec Ideal S4096x1024 .f32 := m (c.tc.loc main_arg1)
/-- Argument 2 of the program. -/
abbrev x2 : FVec Ideal S4096x1024 .f32 := m (c.tc.loc main_arg2)

/-- What the call finds. -/
theorem arr0_eq : V m c main_arg0 = x0 m c := by
  unfold_abbrev_sides
  after_reads_simp

/-- What the call finds. -/
theorem arr1_eq : V m c main_v0 = truncf (F := Ideal) .bf16 (x1 m c) bitsLt_bf16_f32 := by
  unfold_abbrev_sides
  after_reads_simp

/-- What the call finds. -/
theorem arr2_eq : V m c main_arg2 = x2 m c := by
  unfold_abbrev_sides
  after_reads_simp

/-- An entry of the call's result: a sum over 4096 products. -/
theorem result_apply (r : Fin 4096) (s : Fin 1024) : ((dats m 0 c).arrAt 3 cfg0.N : Vec Ideal S4096x1024 .f32) (ix2 r s) =
    HAdd.hAdd (α := EReal) (β := EReal) (γ := EReal) (∑ n : Fin 4096, HMul.hMul (α := EReal) (β := EReal) (γ := EReal) (Relu.square (x0 m c (ix2 r n))) (x1 m c (ix2 n s))) (x2 m c (ix2 r s)) := by
  rw [result_array]
  change HAdd.hAdd (α := EReal) (β := EReal) (γ := EReal) (∑ n : Fin 4096, term m c r s n) (arr2 m c (ix2 r s)) = _
  exact congrArg₂ (fun u v : EReal => u + v) (Finset.sum_congr rfl fun n _ => congrArg₂ (fun u v : EReal => Relu.square (u) * v) (congrFun (arr0_eq m c) _) (congrFun (arr1_eq m c) _)) (congrFun (arr2_eq m c) _)

end Cert.Kernel11Ideal.Product

namespace Cert.Down

open Idealize.ShloMosaic Idealize.ShloMosaic.TcCoe Idealize.ShloMosaic.Tactic Idealize.SL.Sem

/-- An entry of the reference's result: the same sum. -/
theorem reference_apply (y0 : FVec Ideal Cert.Kernel11Ideal.S4096x4096 .f32) (y1 : FVec Ideal Cert.Kernel11Ideal.S4096x1024 .f32) (y2 : FVec Ideal Cert.Kernel11Ideal.S4096x1024 .f32) (r : Fin 4096) (s : Fin 1024) :
    Cert.Reference11Ideal.Read.val_main_v3 (F := Ideal) y0 y1 y2 (ix2 r s) =
      HAdd.hAdd (α := EReal) (β := EReal) (γ := EReal) (∑ n : Fin 4096, HMul.hMul (α := EReal) (β := EReal) (γ := EReal) (Relu.square (y0 (ix2 r n))) (y1 (ix2 n s))) (y2 (ix2 r s)) := by
  unfold Cert.Reference11Ideal.Read.val_main_v3 Cert.Reference11Ideal.Read.val_main_v2 Cert.Reference11Ideal.Read.val_main_v1 Cert.Reference11Ideal.Read.val_main_v0 Cert.Reference11Ideal.Read.val_main_call0_v0 Cert.Reference11Ideal.Read.val_main_call0_cst
  pointwise [Relu.square]
  exact add_comm _ _

set_option maxRecDepth 100000 in
theorem main_eq : Cert.Kernel11.main (F := Bits) = Cert.Kernel11Ideal.main (F := Bits) := by sl_kernel_rfl

set_option maxRecDepth 100000 in
theorem defs_eq : Cert.Kernel11.defs (F := Bits) = Cert.Kernel11Ideal.defs (F := Bits) := by sl_kernel_rfl

/-- The kernel's frame: the idealization has its text, so it is the idealization's frame over float words. -/
theorem frame_kernel : Cert.quiescent_Kernel11 := fun m ρ _ => by
  have h := Cert.Kernel11Ideal.Gen.frame (F := Bits) m ρ
  rw [← main_eq, ← defs_eq] at h
  exact h

/-- The frame of the kernel over the extended reals. -/
theorem frame_ideal : Cert.quiescent_Kernel11Ideal := fun m ρ _ => Cert.Kernel11Ideal.Gen.frame (F := Ideal) m ρ

/-- The reference's frame: it declares no semaphore. -/
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The idealization changes nothing. -/
theorem preserves : Cert.preserves_Kernel11_Kernel11Ideal := trivial

/-- The kernel and the reference compute the same function. -/
theorem algebraic : Cert.algebraic_Kernel11Ideal_Reference11Ideal := by
  intro m g m' g' _ hagree
  refine ⟨fun c => (Cert.Kernel11Ideal.Gen.dats m 0 c).arrAt 3 Cert.Kernel11Ideal.cfg0.N, Cert.Kernel11Ideal.Value.run_blocks m g, ?_⟩
  refine (θ_run (Cert.Reference11Ideal.defs (F := Ideal)) _ _).mono (fun r h c => ⟨(h c).1.trans ?_, (h c).2⟩)
    (Cert.Reference11Ideal.Value.run (F := Ideal) m' g')
  rw [Cert.Reference11Ideal.Read.val_main_v3_eq]
  obtain ⟨a0, a1, a2⟩ := hagree c
  rw [a0, a1, a2]
  funext y
  obtain ⟨r, s, rfl⟩ : ∃ (r : Fin 4096) (s : Fin 1024), y = ix2 r s := ⟨y 0, y 1, eq_ix2 y⟩
  exact (reference_apply _ _ _ r s).trans (Cert.Kernel11Ideal.Product.result_apply m c r s).symm

end Cert.Down

end
-- ==== Proof.Out.lean ====
/-
  The output projection: the product of the gated sum of the branches and the weights, added to the row that entered
  the layer. The call computes it, and the kernel and the reference
  compute the same function over the extended reals, whatever their arguments.

  The contracted axis has one block, so every point of the grid stores its block of rows of the result.
-/
module

public import proofs.«01_k».proof.Defs
public import proofs.«01_k».proof.Proof.Gen.Kernel12Ideal.Value
public import proofs.«01_k».proof.Proof.Gen.Kernel12
public import proofs.«01_k».proof.Proof.Gen.Reference12Ideal
public import proofs.«01_k».proof.Proof.Gen.Reference12Ideal.Run
public import proofs.«01_k».proof.Proof.Gen.Reference12Ideal.Read
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel12Ideal.Product

open Cert.Kernel12Ideal Cert.Kernel12Ideal.Gen
open Idealize.ShloMosaic Idealize.ShloMosaic.TcCoe Idealize.ShloMosaic.Tactic

/-- The product of two blocks. -/
theorem pay2_apply (x0 : Vec Ideal S1024x1024 .bf16) (x1 : Vec Ideal S1024x1024 .bf16) (a : Fin 1024) (b : Fin 1024) :
    k0_pay2 (F := Ideal) x0 x1 (ix2 a b) = ∑ k : Fin 1024, x0 (ix2 a k) * x1 (ix2 k b) := by
  unfold k0_pay2 k0_pay1
  pointwise

/-- The product and the block that is added. -/
theorem pay4_apply (z y : Vec Ideal S1024x1024 .f32) (a : Fin 1024) (b : Fin 1024) :
    k0_pay4 (F := Ideal) z y (ix2 a b) = z (ix2 a b) + y (ix2 a b) := by
  unfold k0_pay4
  pointwise

variable (m : (ℓ : Loc nD τ sig) → Buf (Elt Ideal) ℓ) (c : Dev nD)

/-- The first factor, as the call finds it. -/
abbrev arr0 : Vec Ideal S4096x1024 .bf16 := V m c (Pipeline.arrRef spec0 0)
/-- The second factor, as the call finds it. -/
abbrev arr1 : Vec Ideal S1024x1024 .bf16 := V m c (Pipeline.arrRef spec0 1)
/-- The array that is added, as the call finds it. -/
abbrev arr2 : Vec Ideal S4096x1024 .f32 := V m c (Pipeline.arrRef spec0 2)

/-- The blocks of a point. -/
theorem index_all : ∀ t : Fin cfg0.N, (cfg0.win 0).index t 0 = t.val ∧ (cfg0.win 0).index t 1 = 0
    ∧ (cfg0.win 1).index t 0 = 0 ∧ (cfg0.win 1).index t 1 = 0
    ∧ (cfg0.win 2).index t 0 = t.val ∧ (cfg0.win 2).index t 1 = 0
    ∧ (cfg0.win 3).index t 0 = t.val ∧ (cfg0.win 3).index t 1 = 0 := by
  decide +kernel

/-- Row `a` of a point's block. -/
def row (n : ℕ) (hn : n < 4) (a : Fin 1024) : Fin 4096 := ⟨1024 * n + a.val, by omega⟩

/-- The first factor's block. -/
theorem block0 (t : Fin cfg0.N) (a : Fin 1024) (k : Fin 1024) :
    (iblk m c 0 t : Vec Ideal S1024x1024 .bf16) (ix2 a k) = arr0 m c (ix2 (row t.val t.isLt a) k) := by
  obtain ⟨e0, e1, -⟩ := index_all t
  blk_ext [iblk, e0, e1, row]

/-- The second factor's block is the whole array. -/
theorem block1 (t : Fin cfg0.N) (k : Fin 1024) (b : Fin 1024) :
    (iblk m c 1 t : Vec Ideal S1024x1024 .bf16) (ix2 k b) = arr1 m c (ix2 k b) := by
  obtain ⟨-, -, e0, e1, -⟩ := index_all t
  blk_ext [iblk, e0, e1]

/-- The added array's block. -/
theorem block2 (t : Fin cfg0.N) (a : Fin 1024) (b : Fin 1024) :
    (iblk m c 2 t : Vec Ideal S1024x1024 .f32) (ix2 a b) = arr2 m c (ix2 (row t.val t.isLt a) b) := by
  obtain ⟨-, -, -, -, e0, e1, -⟩ := index_all t
  blk_ext [iblk, e0, e1, row]

/-- The place of a result block's entry. -/
theorem emb (t : Fin cfg0.N) (a : Fin 1024) (b : Fin 1024) : ((cfg0.win 3).blk t).view.emb (ix2 a b) = ix2 (row t.val t.isLt a) b := by
  obtain ⟨-, -, -, -, -, -, e0, e1⟩ := index_all t
  blk_ext [e0, e1, row]

/-- The call's result. -/
def product : Vec Ideal S4096x1024 .f32 := fun y => HAdd.hAdd (α := EReal) (β := EReal) (γ := EReal) (∑ k : Fin 1024, HMul.hMul (α := EReal) (β := EReal) (γ := EReal) (arr0 m c (ix2 (y 0) k)) (arr1 m c (ix2 k (y 1)))) (arr2 m c (ix2 (y 0) (y 1)))

/-- What a point stores is its block of the result. -/
theorem stored (t : Fin cfg0.N) (a : Fin 1024) (b : Fin 1024) : outsAt0 m c t (ix2 a b) = product m c (ix2 (row t.val t.isLt a) b) := by
  have h : outsAt0 m c t = k0_pay4 (F := Ideal) (k0_pay2 (F := Ideal) (iblk m c 0 t) (iblk m c 1 t)) (iblk m c 2 t) := by
    unfold outsAt0 out0_A_3
    frame_out
  rw [h]
  refine (pay4_apply _ _ a b).trans ?_
  exact congrArg₂ (fun u v : EReal => u + v) ((pay2_apply _ _ a b).trans (Finset.sum_congr rfl fun k _ => congrArg₂ (fun u v : EReal => u * v) (block0 m c t a k) (block1 m c t k b)))
    (block2 m c t a b)

/-- The result, whole. -/
theorem result_array : (dats m 0 c).arrAt 3 cfg0.N = product m c := by
  refine (dats m 0 c).arrAt_eq_of_covers 3 _ (by decide +kernel) fun t hf y => ?_
  blk_simp
  rw [after0_3]
  obtain ⟨a, b, rfl⟩ : ∃ (a : Fin 1024) (b : Fin 1024), y = ix2 a b := ⟨y 0, y 1, eq_ix2 y⟩
  exact (stored m c t a b).trans (congrArg (product m c) (emb t a b)).symm

/-- Argument 0 of the program. -/
abbrev x0 : FVec Ideal S4096x1024 .f32 := m (c.tc.loc main_arg0)
/-- Argument 1 of the program. -/
abbrev x1 : FVec Ideal S1024x1024 .f32 := m (c.tc.loc main_arg1)
/-- Argument 2 of the program. -/
abbrev x2 : FVec Ideal S4096x1024 .f32 := m (c.tc.loc main_arg2)

/-- What the call finds. -/
theorem arr0_eq : V m c main_v0 = truncf (F := Ideal) .bf16 (x0 m c) bitsLt_bf16_f32 := by
  unfold_abbrev_sides
  after_reads_simp

/-- What the call finds. -/
theorem arr1_eq : V m c main_v1 = truncf (F := Ideal) .bf16 (x1 m c) bitsLt_bf16_f32 := by
  unfold_abbrev_sides
  after_reads_simp

/-- What the call finds. -/
theorem arr2_eq : V m c main_arg2 = x2 m c := by
  unfold_abbrev_sides
  after_reads_simp

/-- An entry of the call's result. -/
theorem result_apply (r : Fin 4096) (s : Fin 1024) : ((dats m 0 c).arrAt 3 cfg0.N : Vec Ideal S4096x1024 .f32) (ix2 r s) =
    HAdd.hAdd (α := EReal) (β := EReal) (γ := EReal) (∑ k : Fin 1024, HMul.hMul (α := EReal) (β := EReal) (γ := EReal) (x0 m c (ix2 r k)) (x1 m c (ix2 k s))) (x2 m c (ix2 r s)) := by
  rw [result_array]
  change HAdd.hAdd (α := EReal) (β := EReal) (γ := EReal) (∑ k : Fin 1024, HMul.hMul (α := EReal) (β := EReal) (γ := EReal) (arr0 m c (ix2 r k)) (arr1 m c (ix2 k s))) (arr2 m c (ix2 r s)) = _
  exact congrArg₂ (fun u v : EReal => u + v) (Finset.sum_congr rfl fun k _ => congrArg₂ (fun u v : EReal => u * v) (congrFun (arr0_eq m c) _) (congrFun (arr1_eq m c) _)) (congrFun (arr2_eq m c) _)

end Cert.Kernel12Ideal.Product

namespace Cert.Out

open Idealize.ShloMosaic Idealize.ShloMosaic.TcCoe Idealize.ShloMosaic.Tactic Idealize.SL.Sem

/-- An entry of the reference's result. -/
theorem reference_apply (y0 : FVec Ideal Cert.Kernel12Ideal.S4096x1024 .f32) (y1 : FVec Ideal Cert.Kernel12Ideal.S1024x1024 .f32) (y2 : FVec Ideal Cert.Kernel12Ideal.S4096x1024 .f32) (r : Fin 4096) (s : Fin 1024) :
    Cert.Reference12Ideal.Read.val_main_v1 (F := Ideal) y0 y1 y2 (ix2 r s) =
      HAdd.hAdd (α := EReal) (β := EReal) (γ := EReal) (∑ k : Fin 1024, HMul.hMul (α := EReal) (β := EReal) (γ := EReal) (y0 (ix2 r k)) (y1 (ix2 k s))) (y2 (ix2 r s)) := by
  unfold Cert.Reference12Ideal.Read.val_main_v1 Cert.Reference12Ideal.Read.val_main_v0
  pointwise
  exact add_comm _ _

set_option maxRecDepth 100000 in
theorem main_eq : Cert.Kernel12.main (F := Bits) = Cert.Kernel12Ideal.main (F := Bits) := by sl_kernel_rfl

set_option maxRecDepth 100000 in
theorem defs_eq : Cert.Kernel12.defs (F := Bits) = Cert.Kernel12Ideal.defs (F := Bits) := by sl_kernel_rfl

/-- The kernel's frame: the idealization has its text, so it is the idealization's frame over float words. -/
theorem frame_kernel : Cert.quiescent_Kernel12 := fun m ρ _ => by
  have h := Cert.Kernel12Ideal.Gen.frame (F := Bits) m ρ
  rw [← main_eq, ← defs_eq] at h
  exact h

/-- The frame of the kernel over the extended reals. -/
theorem frame_ideal : Cert.quiescent_Kernel12Ideal := fun m ρ _ => Cert.Kernel12Ideal.Gen.frame (F := Ideal) m ρ

/-- The reference's frame: it declares no semaphore. -/
theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The idealization changes nothing. -/
theorem preserves : Cert.preserves_Kernel12_Kernel12Ideal := trivial

/-- The kernel and the reference compute the same function. -/
theorem algebraic : Cert.algebraic_Kernel12Ideal_Reference12Ideal := by
  intro m g m' g' _ hagree
  refine ⟨fun c => (Cert.Kernel12Ideal.Gen.dats m 0 c).arrAt 3 Cert.Kernel12Ideal.cfg0.N, Cert.Kernel12Ideal.Value.run_blocks m g, ?_⟩
  refine (θ_run (Cert.Reference12Ideal.defs (F := Ideal)) _ _).mono (fun r h c => ⟨(h c).1.trans ?_, (h c).2⟩)
    (Cert.Reference12Ideal.Value.run (F := Ideal) m' g')
  rw [Cert.Reference12Ideal.Read.val_main_v1_eq]
  obtain ⟨a0, a1, a2⟩ := hagree c
  rw [a0, a1, a2]
  funext y
  obtain ⟨r, s, rfl⟩ : ∃ (r : Fin 4096) (s : Fin 1024), y = ix2 r s := ⟨y 0, y 1, eq_ix2 y⟩
  exact (reference_apply _ _ _ r s).trans (Cert.Kernel12Ideal.Product.result_apply m c r s).symm

end Cert.Out

end
-- ==== Proof.OutX.lean ====
/-
  The gradient of the output projection's input: the product of the gradient of its result and the weights, transposed.
  The call computes it, and the kernel and the reference
  compute the same function over the extended reals, whatever their arguments.

  The contracted axis has one block, so every point of the grid stores its block of rows of the result.
-/
module

public import proofs.«01_k».proof.Defs
public import proofs.«01_k».proof.Proof.Gen.Kernel13Ideal.Value
public import proofs.«01_k».proof.Proof.Gen.Kernel13
public import proofs.«01_k».proof.Proof.Gen.Reference13Ideal
public import proofs.«01_k».proof.Proof.Gen.Reference13Ideal.Run
public import proofs.«01_k».proof.Proof.Gen.Reference13Ideal.Read
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel13Ideal.Product

open Cert.Kernel13Ideal Cert.Kernel13Ideal.Gen
open Idealize.ShloMosaic Idealize.ShloMosaic.TcCoe Idealize.ShloMosaic.Tactic

/-- The product of two blocks. -/
theorem pay2_apply (x0 : Vec Ideal S1024x1024 .f32) (x1 : Vec Ideal S1024x1024 .bf16) (a : Fin 1024) (b : Fin 1024) :
    k0_pay2 (F := Ideal) x0 x1 (ix2 a b) = ∑ k : Fin 1024, x0 (ix2 a k) * x1 (ix2 b k) := by
  unfold k0_pay2 k0_pay1
  pointwise

variable (m : (ℓ : Loc nD τ sig) → Buf (Elt Ideal) ℓ) (c : Dev nD)

/-- The first factor, as the call finds it. -/
abbrev arr0 : Vec Ideal S4096x1024 .f32 := V m c (Pipeline.arrRef spec0 0)
/-- The second factor, as the call finds it. -/
abbrev arr1 : Vec Ideal S1024x1024 .bf16 := V m c (Pipeline.arrRef spec0 1)

/-- The blocks of a point. -/
theorem index_all : ∀ t : Fin cfg0.N, (cfg0.win 0).index t 0 = t.val ∧ (cfg0.win 0).index t 1 = 0
    ∧ (cfg0.win 1).index t 0 = 0 ∧ (cfg0.win 1).index t 1 = 0
    ∧ (cfg0.win 2).index t 0 = t.val ∧ (cfg0.win 2).index t 1 = 0 := by
  decide +kernel

/-- Row `a` of a point's block. -/
def row (n : ℕ) (hn : n < 4) (a : Fin 1024) : Fin 4096 := ⟨1024 * n + a.val, by omega⟩

/-- The first factor's block. -/
theorem block0 (t : Fin cfg0.N) (a : Fin 1024) (k : Fin 1024) :
    (iblk m c 0 t : Vec Ideal S1024x1024 .f32) (ix2 a k) = arr0 m c (ix2 (row t.val t.isLt a) k) := by
  obtain ⟨e0, e1, -⟩ := index_all t
  blk_ext [iblk, e0, e1, row]

/-- The second factor's block is the whole array. -/
theorem block1 (t : Fin cfg0.N) (k : Fin 1024) (b : Fin 1024) :
    (iblk m c 1 t : Vec Ideal S1024x1024 .bf16) (ix2 b k) = arr1 m c (ix2 b k) := by
  obtain ⟨-, -, e0, e1, -⟩ := index_all t
  blk_ext [iblk, e0, e1]

/-- The place of a result block's entry. -/
theorem emb (t : Fin cfg0.N) (a : Fin 1024) (b : Fin 1024) : ((cfg0.win 2).blk t).view.emb (ix2 a b) = ix2 (row t.val t.isLt a) b := by
  obtain ⟨-, -, -, -, e0, e1⟩ := index_all t
  blk_ext [e0, e1, row]

/-- The call's result. -/
def product : Vec Ideal S4096x1024 .f32 := fun y => ∑ k : Fin 1024, HMul.hMul (α := EReal) (β := EReal) (γ := EReal) (arr0 m c (ix2 (y 0) k)) (arr1 m c (ix2 (y 1) k))

/-- What a point stores is its block of the result. -/
theorem stored (t : Fin cfg0.N) (a : Fin 1024) (b : Fin 1024) : outsAt0 m c t (ix2 a b) = product m c (ix2 (row t.val t.isLt a) b) := by
  have h : outsAt0 m c t = k0_pay2 (F := Ideal) (iblk m c 0 t) (iblk m c 1 t) := by
    unfold outsAt0 out0_A_2
    frame_out
  rw [h]
  refine (pay2_apply _ _ a b).trans ?_
  exact Finset.sum_congr rfl fun k _ => congrArg₂ (fun u v : EReal => u * v) (block0 m c t a k) (block1 m c t k b)

/-- The result, whole. -/
theorem result_array : (dats m 0 c).arrAt 2 cfg0.N = product m c := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  exact (stored m c t a b).trans (congrArg (product m c) (emb t a b)).symm

/-- Argument 2 of the program. -/
abbrev x2 : FVec Ideal S4096x1024 .f32 := m (c.tc.loc main_arg2)
/-- Argument 1 of the program. -/
abbrev x1 : FVec Ideal S1024x1024 .f32 := m (c.tc.loc main_arg1)

/-- What the call finds. -/
theorem arr0_eq : V m c main_arg2 = x2 m c := by
  unfold_abbrev_sides
  after_reads_simp

/-- What the call finds. -/
theorem arr1_eq : V m c main_v0 = truncf (F := Ideal) .bf16 (x1 m c) bitsLt_bf16_f32 := by
  unfold_abbrev_sides
  after_reads_simp

/-- An entry of the call's result. -/
theorem result_apply (r : Fin 4096) (s : Fin 1024) : ((dats m 0 c).arrAt 2 cfg0.N : Vec Ideal S4096x1024 .f32) (ix2 r s) =
    ∑ k : Fin 1024, HMul.hMul (α := EReal) (β := EReal) (γ := EReal) (x2 m c (ix2 r k)) (x1 m c (ix2 s k)) := by
  rw [result_array]
  change ∑ k : Fin 1024, HMul.hMul (α := EReal) (β := EReal) (γ := EReal) (arr0 m c (ix2 r k)) (arr1 m c (ix2 s k)) = _
  exact Finset.sum_congr rfl fun k _ => congrArg₂ (fun u v : EReal => u * v) (congrFun (arr0_eq m c) _) (congrFun (arr1_eq m c) _)

end Cert.Kernel13Ideal.Product

namespace Cert.OutX

open Idealize.ShloMosaic Idealize.ShloMosaic.TcCoe Idealize.ShloMosaic.Tactic Idealize.SL.Sem

/-- An entry of the reference's result. -/
theorem reference_apply (y1 : FVec Ideal Cert.Kernel13Ideal.S1024x1024 .f32) (y2 : FVec Ideal Cert.Kernel13Ideal.S4096x1024 .f32) (r : Fin 4096) (s : Fin 1024) :
    Cert.Reference13Ideal.Read.val_main_v3 (F := Ideal) y1 y2 (ix2 r s) =
      ∑ k : Fin 1024, HMul.hMul (α := EReal) (β := EReal) (γ := EReal) (y2 (ix2 r k)) (y1 (ix2 s k)) := by
  unfold Cert.Reference13Ideal.Read.val_main_v3
  pointwise

set_option maxRecDepth 100000 in
theorem main_eq : Cert.Kernel13.main (F := Bits) = Cert.Kernel13Ideal.main (F := Bits) := by sl_kernel_rfl

set_option maxRecDepth 100000 in
theorem defs_eq : Cert.Kernel13.defs (F := Bits) = Cert.Kernel13Ideal.defs (F := Bits) := by sl_kernel_rfl

/-- The kernel's frame: the idealization has its text, so it is the idealization's frame over float words. -/
theorem frame_kernel : Cert.quiescent_Kernel13 := fun m ρ _ => by
  have h := Cert.Kernel13Ideal.Gen.frame (F := Bits) m ρ
  rw [← main_eq, ← defs_eq] at h
  exact h

/-- The frame of the kernel over the extended reals. -/
theorem frame_ideal : Cert.quiescent_Kernel13Ideal := fun m ρ _ => Cert.Kernel13Ideal.Gen.frame (F := Ideal) m ρ

/-- The reference's frame: it declares no semaphore. -/
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The idealization changes nothing. -/
theorem preserves : Cert.preserves_Kernel13_Kernel13Ideal := trivial

/-- The kernel and the reference compute the same function. -/
theorem algebraic : Cert.algebraic_Kernel13Ideal_Reference13Ideal := by
  intro m g m' g' _ hagree
  refine ⟨fun c => (Cert.Kernel13Ideal.Gen.dats m 0 c).arrAt 2 Cert.Kernel13Ideal.cfg0.N, Cert.Kernel13Ideal.Value.run_blocks m g, ?_⟩
  refine (θ_run (Cert.Reference13Ideal.defs (F := Ideal)) _ _).mono (fun r h c => ⟨(h c).1.trans ?_, (h c).2⟩)
    (Cert.Reference13Ideal.Value.run (F := Ideal) m' g')
  rw [Cert.Reference13Ideal.Read.val_main_v3_eq]
  obtain ⟨-, a1, a2⟩ := hagree c
  rw [a1, a2]
  funext y
  obtain ⟨r, s, rfl⟩ : ∃ (r : Fin 4096) (s : Fin 1024), y = ix2 r s := ⟨y 0, y 1, eq_ix2 y⟩
  exact (reference_apply _ _ r s).trans (Cert.Kernel13Ideal.Product.result_apply m c r s).symm

end Cert.OutX

end
-- ==== Proof.OutW.lean ====
/-
  The gradient of the output projection's weights: the product of its input, transposed, and the gradient of its
  result. The call computes it, and the kernel and the reference
  compute the same function over the extended reals, whatever their arguments.

  Each of the four points of the grid adds the product of one block of 1024 rows to the accumulator, the last stores it.
-/
module

public import proofs.«01_k».proof.Defs
public import proofs.«01_k».proof.Proof.Gen.Kernel14Ideal.Value
public import proofs.«01_k».proof.Proof.Gen.Kernel14
public import proofs.«01_k».proof.Proof.Gen.Reference14Ideal
public import proofs.«01_k».proof.Proof.Gen.Reference14Ideal.Run
public import proofs.«01_k».proof.Proof.Gen.Reference14Ideal.Read
public import proofs.«01_k».proof.Proof.Tiles
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel14Ideal.Product

open Cert.Kernel14Ideal Cert.Kernel14Ideal.Gen
open Idealize.ShloMosaic Idealize.ShloMosaic.TcCoe Idealize.ShloMosaic.Tactic

section payloads

variable (x0 : Vec Ideal S1024x1024 .bf16) (x1 : Vec Ideal S1024x1024 .f32) (z : Vec Ideal S1024x1024 .f32) (a : Fin 1024) (b : Fin 1024)

/-- The first block's product. -/
theorem pay2_apply : k0_pay2 (F := Ideal) x0 x1 (ix2 a b) = ∑ k : Fin 1024, x0 (ix2 k a) * x1 (ix2 k b) := by
  unfold k0_pay2 k0_pay1
  pointwise

/-- A later block's product, added to what is stored. -/
theorem pay3_apply : k0_pay3 (F := Ideal) x0 x1 z (ix2 a b) = z (ix2 a b) + ∑ k : Fin 1024, x0 (ix2 k a) * x1 (ix2 k b) := by
  unfold k0_pay3 k0_pay1
  pointwise

end payloads

variable (m : (ℓ : Loc nD τ sig) → Buf (Elt Ideal) ℓ) (c : Dev nD)

/-- The first factor, as the call finds it. -/
abbrev arr0 : Vec Ideal S4096x1024 .bf16 := V m c (Pipeline.arrRef spec0 0)
/-- The second factor, as the call finds it. -/
abbrev arr1 : Vec Ideal S4096x1024 .f32 := V m c (Pipeline.arrRef spec0 1)

/-- The blocks of a point. -/
theorem index_all : ∀ t : Fin cfg0.N, (cfg0.win 0).index t 0 = t.val ∧ (cfg0.win 0).index t 1 = 0
    ∧ (cfg0.win 1).index t 0 = t.val ∧ (cfg0.win 1).index t 1 = 0
    ∧ (cfg0.win 2).index t 0 = 0 ∧ (cfg0.win 2).index t 1 = 0 := by
  decide +kernel

/-- Row `k` of a point's blocks. -/
def row (n : ℕ) (hn : n < 4) (k : Fin 1024) : Fin 4096 := ⟨1024 * n + k.val, by omega⟩

/-- The first factor's block. -/
theorem block0 (t : Fin cfg0.N) (k : Fin 1024) (a : Fin 1024) :
    (iblk m c 0 t : Vec Ideal S1024x1024 .bf16) (ix2 k a) = arr0 m c (ix2 (row t.val t.isLt k) a) := by
  obtain ⟨e0, e1, -⟩ := index_all t
  blk_ext [iblk, e0, e1, row]

/-- The second factor's block. -/
theorem block1 (t : Fin cfg0.N) (k b : Fin 1024) :
    (iblk m c 1 t : Vec Ideal S1024x1024 .f32) (ix2 k b) = arr1 m c (ix2 (row t.val t.isLt k) b) := by
  obtain ⟨-, -, e0, e1, -⟩ := index_all t
  blk_ext [iblk, e0, e1, row]

/-- The place of a result block's entry: the block is the whole result. -/
theorem emb (t : Fin cfg0.N) (a : Fin 1024) (b : Fin 1024) : ((cfg0.win 2).blk t).view.emb (ix2 a b) = ix2 a b := by
  obtain ⟨-, -, -, -, e0, e1⟩ := index_all t
  blk_ext [e0, e1]

/-- The summand of an entry of the product. -/
def term (a : Fin 1024) (b : Fin 1024) (n : Fin 4096) : EReal :=
  HMul.hMul (α := EReal) (β := EReal) (γ := EReal) (arr0 m c (ix2 n a)) (arr1 m c (ix2 n b))

/-- A point's product is the sum of its block of summands. -/
theorem block_term (t : Fin cfg0.N) (a : Fin 1024) (b k : Fin 1024) :
    HMul.hMul (α := EReal) (β := EReal) (γ := EReal) ((iblk m c 0 t : Vec Ideal S1024x1024 .bf16) (ix2 k a)) ((iblk m c 1 t : Vec Ideal S1024x1024 .f32) (ix2 k b)) =
      Tiles.extend (term m c a b) (1024 * (t.val % 4) + k.val) := by
  have e : t.val % 4 = t.val := Nat.mod_eq_of_lt t.isLt
  rw [block0, block1, e]
  exact (Tiles.extend_of_lt (term m c a b) _ (row t.val t.isLt k).isLt).symm

/-- After the first point: its product. -/
theorem carried_first (t : Fin cfg0.N) (h0 : t.val % 4 = 0) :
    (outsAt0 m c t.val t.isLt).2 = k0_pay2 (F := Ideal) (iblk m c 0 t) (iblk m c 1 t) := by
  have ht : t.val < 4 := t.isLt
  rw [outsAt0_A m c t h0 (by omega) (by omega)]
  dsimp only
  unfold sout0_A_0
  frame_out

/-- After a later point: its product added. -/
theorem carried_next (t : Fin cfg0.N) (h0 : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    frame_out
    exact congrArg (k0_pay3 _ _) (read_unread_whole _ _ _)
  · rw [outsAt0_B m c t h0 (by omega) h2]
    dsimp only
    unfold sout0_B_0
    frame_out
    exact congrArg (k0_pay3 _ _) (read_unread_whole _ _ _)

/-- The result block after the last point. -/
theorem stored (t : Fin cfg0.N) (h2 : t.val % 4 = 3) :
    (outsAt0 m c t.val t.isLt).1 = (outsAt0 m c t.val t.isLt).2 := by
  rw [carried_next m c t (by omega), outsAt0_C m c t (by omega) (by omega) h2]
  dsimp only
  unfold out0_C_2
  frame_out
  exact congrArg (k0_pay3 _ _) (read_unread_whole _ _ _)

/-- What the accumulator holds after every point: the sum over the blocks met so far. -/
theorem scratch_at (a : Fin 1024) (b : Fin 1024) (n : ℕ) (hn : n < cfg0.N) :
    (outsAt0 m c n hn).2 (ix2 a b) = Tiles.upTo 1024 (term m c a b) (n % 4 + 1) := by
  refine Tiles.four (M := cfg0.N) (fun _ => term m c a b) (fun n hn => (outsAt0 m c n hn).2 (ix2 a b)) _
    (fun n hn k => block_term m c ⟨n, hn⟩ a b k) (fun n hn h0 => ?_) (fun n hn h0 => ?_) n hn
  · exact (congrFun (carried_first m c ⟨n, hn⟩ h0) _).trans (pay2_apply _ _ a b)
  · exact (congrFun (carried_next m c ⟨n, hn⟩ h0) _).trans (pay3_apply _ _ _ a b)

/-- The call's result. -/
def product : Vec Ideal S1024x1024 .f32 := fun y => ∑ n : Fin 4096, term m c (y 0) (y 1) n

/-- The result, whole. -/
theorem result_array : (dats m 0 c).arrAt 2 cfg0.N = product m c := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  have h2 := (flush0_2 t).mp hf
  refine (congrFun (stored m c t h2) _).trans ?_
  refine Eq.trans ?_ (congrArg (product m c) (emb t a b)).symm
  rw [scratch_at m c a b t.val t.isLt, h2]
  exact Tiles.upTo_all 1024 _ 4 rfl

/-- Argument 0 of the program. -/
abbrev x0 : FVec Ideal S4096x1024 .f32 := m (c.tc.loc main_arg0)
/-- Argument 2 of the program. -/
abbrev x2 : FVec Ideal S4096x1024 .f32 := m (c.tc.loc main_arg2)

/-- What the call finds. -/
theorem arr0_eq : V m c main_v0 = truncf (F := Ideal) .bf16 (x0 m c) bitsLt_bf16_f32 := by
  unfold_abbrev_sides
  after_reads_simp

/-- What the call finds. -/
theorem arr1_eq : V m c main_arg2 = x2 m c := by
  unfold_abbrev_sides
  after_reads_simp

/-- An entry of the call's result: a sum over 4096 products. -/
theorem result_apply (r : Fin 1024) (s : Fin 1024) : ((dats m 0 c).arrAt 2 cfg0.N : Vec Ideal S1024x1024 .f32) (ix2 r s) =
    ∑ n : Fin 4096, HMul.hMul (α := EReal) (β := EReal) (γ := EReal) (x0 m c (ix2 n r)) (x2 m c (ix2 n s)) := by
  rw [result_array]
  change ∑ n : Fin 4096, term m c r s n = _
  exact Finset.sum_congr rfl fun n _ => congrArg₂ (fun u v : EReal => u * v) (congrFun (arr0_eq m c) _) (congrFun (arr1_eq m c) _)

end Cert.Kernel14Ideal.Product

namespace Cert.OutW

open Idealize.ShloMosaic Idealize.ShloMosaic.TcCoe Idealize.ShloMosaic.Tactic Idealize.SL.Sem

/-- An entry of the reference's result. -/
theorem reference_apply (y0 : FVec Ideal Cert.Kernel14Ideal.S4096x1024 .f32) (y2 : FVec Ideal Cert.Kernel14Ideal.S4096x1024 .f32) (r : Fin 1024) (s : Fin 1024) :
    Cert.Reference14Ideal.Read.val_main_v2 (F := Ideal) y0 y2 (ix2 r s) =
      ∑ n : Fin 4096, HMul.hMul (α := EReal) (β := EReal) (γ := EReal) (y0 (ix2 n r)) (y2 (ix2 n s)) := by
  unfold Cert.Reference14Ideal.Read.val_main_v2 Cert.Reference14Ideal.Read.val_main_v1
  pointwise
  exact Finset.sum_congr rfl fun n _ => mul_comm _ _

set_option maxRecDepth 100000 in
theorem main_eq : Cert.Kernel14.main (F := Bits) = Cert.Kernel14Ideal.main (F := Bits) := by sl_kernel_rfl

set_option maxRecDepth 100000 in
theorem defs_eq : Cert.Kernel14.defs (F := Bits) = Cert.Kernel14Ideal.defs (F := Bits) := by sl_kernel_rfl

/-- The kernel's frame: the idealization has its text, so it is the idealization's frame over float words. -/
theorem frame_kernel : Cert.quiescent_Kernel14 := fun m ρ _ => by
  have h := Cert.Kernel14Ideal.Gen.frame (F := Bits) m ρ
  rw [← main_eq, ← defs_eq] at h
  exact h

/-- The frame of the kernel over the extended reals. -/
theorem frame_ideal : Cert.quiescent_Kernel14Ideal := fun m ρ _ => Cert.Kernel14Ideal.Gen.frame (F := Ideal) m ρ

/-- The reference's frame: it declares no semaphore. -/
theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The idealization changes nothing. -/
theorem preserves : Cert.preserves_Kernel14_Kernel14Ideal := trivial

/-- The kernel and the reference compute the same function. -/
theorem algebraic : Cert.algebraic_Kernel14Ideal_Reference14Ideal := by
  intro m g m' g' _ hagree
  refine ⟨fun c => (Cert.Kernel14Ideal.Gen.dats m 0 c).arrAt 2 Cert.Kernel14Ideal.cfg0.N, Cert.Kernel14Ideal.Value.run_blocks m g, ?_⟩
  refine (θ_run (Cert.Reference14Ideal.defs (F := Ideal)) _ _).mono (fun r h c => ⟨(h c).1.trans ?_, (h c).2⟩)
    (Cert.Reference14Ideal.Value.run (F := Ideal) m' g')
  rw [Cert.Reference14Ideal.Read.val_main_v2_eq]
  obtain ⟨a0, -, a2⟩ := hagree c
  rw [a0, a2]
  funext y
  obtain ⟨r, s, rfl⟩ : ∃ (r : Fin 1024) (s : Fin 1024), y = ix2 r s := ⟨y 0, y 1, eq_ix2 y⟩
  exact (reference_apply _ _ r s).trans (Cert.Kernel14Ideal.Product.result_apply m c r s).symm

end Cert.OutW

end
-- ==== Proof.Branch.lean ====
/-
  A branch's projection to the model's width: the product of the branch's output and its weights. The call computes it, and the kernel and the reference
  compute the same function over the extended reals, whatever their arguments.

  The contracted axis has one block, so every point of the grid stores its block of rows of the result.
-/
module

public import proofs.«01_k».proof.Defs
public import proofs.«01_k».proof.Proof.Gen.Kernel15Ideal.Value
public import proofs.«01_k».proof.Proof.Gen.Kernel15
public import proofs.«01_k».proof.Proof.Gen.Reference15Ideal
public import proofs.«01_k».proof.Proof.Gen.Reference15Ideal.Run
public import proofs.«01_k».proof.Proof.Gen.Reference15Ideal.Read
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel15Ideal.Product

open Cert.Kernel15Ideal Cert.Kernel15Ideal.Gen
open Idealize.ShloMosaic Idealize.ShloMosaic.TcCoe Idealize.ShloMosaic.Tactic

/-- The product of two blocks. -/
theorem pay2_apply (x0 : Vec Ideal S1024x512 .f32) (x1 : Vec Ideal S512x1024 .bf16) (a : Fin 1024) (b : Fin 1024) :
    k0_pay2 (F := Ideal) x0 x1 (ix2 a b) = ∑ k : Fin 512, x0 (ix2 a k) * x1 (ix2 k b) := by
  unfold k0_pay2 k0_pay1
  pointwise

variable (m : (ℓ : Loc nD τ sig) → Buf (Elt Ideal) ℓ) (c : Dev nD)

/-- The first factor, as the call finds it. -/
abbrev arr0 : Vec Ideal S4096x512 .f32 := V m c (Pipeline.arrRef spec0 0)
/-- The second factor, as the call finds it. -/
abbrev arr1 : Vec Ideal S512x1024 .bf16 := V m c (Pipeline.arrRef spec0 1)

/-- The blocks of a point. -/
theorem index_all : ∀ t : Fin cfg0.N, (cfg0.win 0).index t 0 = t.val ∧ (cfg0.win 0).index t 1 = 0
    ∧ (cfg0.win 1).index t 0 = 0 ∧ (cfg0.win 1).index t 1 = 0
    ∧ (cfg0.win 2).index t 0 = t.val ∧ (cfg0.win 2).index t 1 = 0 := by
  decide +kernel

/-- Row `a` of a point's block. -/
def row (n : ℕ) (hn : n < 4) (a : Fin 1024) : Fin 4096 := ⟨1024 * n + a.val, by omega⟩

/-- The first factor's block. -/
theorem block0 (t : Fin cfg0.N) (a : Fin 1024) (k : Fin 512) :
    (iblk m c 0 t : Vec Ideal S1024x512 .f32) (ix2 a k) = arr0 m c (ix2 (row t.val t.isLt a) k) := by
  obtain ⟨e0, e1, -⟩ := index_all t
  blk_ext [iblk, e0, e1, row]

/-- The second factor's block is the whole array. -/
theorem block1 (t : Fin cfg0.N) (k : Fin 512) (b : Fin 1024) :
    (iblk m c 1 t : Vec Ideal S512x1024 .bf16) (ix2 k b) = arr1 m c (ix2 k b) := by
  obtain ⟨-, -, e0, e1, -⟩ := index_all t
  blk_ext [iblk, e0, e1]

/-- The place of a result block's entry. -/
theorem emb (t : Fin cfg0.N) (a : Fin 1024) (b : Fin 1024) : ((cfg0.win 2).blk t).view.emb (ix2 a b) = ix2 (row t.val t.isLt a) b := by
  obtain ⟨-, -, -, -, e0, e1⟩ := index_all t
  blk_ext [e0, e1, row]

/-- The call's result. -/
def product : Vec Ideal S4096x1024 .f32 := fun y => ∑ k : Fin 512, HMul.hMul (α := EReal) (β := EReal) (γ := EReal) (arr0 m c (ix2 (y 0) k)) (arr1 m c (ix2 k (y 1)))

/-- What a point stores is its block of the result. -/
theorem stored (t : Fin cfg0.N) (a : Fin 1024) (b : Fin 1024) : outsAt0 m c t (ix2 a b) = product m c (ix2 (row t.val t.isLt a) b) := by
  have h : outsAt0 m c t = k0_pay2 (F := Ideal) (iblk m c 0 t) (iblk m c 1 t) := by
    unfold outsAt0 out0_A_2
    frame_out
  rw [h]
  refine (pay2_apply _ _ a b).trans ?_
  exact Finset.sum_congr rfl fun k _ => congrArg₂ (fun u v : EReal => u * v) (block0 m c t a k) (block1 m c t k b)

/-- The result, whole. -/
theorem result_array : (dats m 0 c).arrAt 2 cfg0.N = product m c := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  exact (stored m c t a b).trans (congrArg (product m c) (emb t a b)).symm

/-- Argument 0 of the program. -/
abbrev x0 : FVec Ideal S4096x512 .f32 := m (c.tc.loc main_arg0)
/-- Argument 1 of the program. -/
abbrev x1 : FVec Ideal S512x1024 .f32 := m (c.tc.loc main_arg1)

/-- What the call finds. -/
theorem arr0_eq : V m c main_arg0 = x0 m c := by
  unfold_abbrev_sides
  after_reads_simp

/-- What the call finds. -/
theorem arr1_eq : V m c main_v0 = truncf (F := Ideal) .bf16 (x1 m c) bitsLt_bf16_f32 := by
  unfold_abbrev_sides
  after_reads_simp

/-- An entry of the call's result. -/
theorem result_apply (r : Fin 4096) (s : Fin 1024) : ((dats m 0 c).arrAt 2 cfg0.N : Vec Ideal S4096x1024 .f32) (ix2 r s) =
    ∑ k : Fin 512, HMul.hMul (α := EReal) (β := EReal) (γ := EReal) (x0 m c (ix2 r k)) (x1 m c (ix2 k s)) := by
  rw [result_array]
  change ∑ k : Fin 512, HMul.hMul (α := EReal) (β := EReal) (γ := EReal) (arr0 m c (ix2 r k)) (arr1 m c (ix2 k s)) = _
  exact Finset.sum_congr rfl fun k _ => congrArg₂ (fun u v : EReal => u * v) (congrFun (arr0_eq m c) _) (congrFun (arr1_eq m c) _)

end Cert.Kernel15Ideal.Product

namespace Cert.Branch

open Idealize.ShloMosaic Idealize.ShloMosaic.TcCoe Idealize.ShloMosaic.Tactic Idealize.SL.Sem

/-- An entry of the reference's result. -/
theorem reference_apply (y0 : FVec Ideal Cert.Kernel15Ideal.S4096x512 .f32) (y1 : FVec Ideal Cert.Kernel15Ideal.S512x1024 .f32) (r : Fin 4096) (s : Fin 1024) :
    Cert.Reference15Ideal.Read.val_main_v0 (F := Ideal) y0 y1 (ix2 r s) =
      ∑ k : Fin 512, HMul.hMul (α := EReal) (β := EReal) (γ := EReal) (y0 (ix2 r k)) (y1 (ix2 k s)) := by
  unfold Cert.Reference15Ideal.Read.val_main_v0
  pointwise

set_option maxRecDepth 100000 in
theorem main_eq : Cert.Kernel15.main (F := Bits) = Cert.Kernel15Ideal.main (F := Bits) := by sl_kernel_rfl

set_option maxRecDepth 100000 in
theorem defs_eq : Cert.Kernel15.defs (F := Bits) = Cert.Kernel15Ideal.defs (F := Bits) := by sl_kernel_rfl

/-- The kernel's frame: the idealization has its text, so it is the idealization's frame over float words. -/
theorem frame_kernel : Cert.quiescent_Kernel15 := fun m ρ _ => by
  have h := Cert.Kernel15Ideal.Gen.frame (F := Bits) m ρ
  rw [← main_eq, ← defs_eq] at h
  exact h

/-- The frame of the kernel over the extended reals. -/
theorem frame_ideal : Cert.quiescent_Kernel15Ideal := fun m ρ _ => Cert.Kernel15Ideal.Gen.frame (F := Ideal) m ρ

/-- The reference's frame: it declares no semaphore. -/
theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The idealization changes nothing. -/
theorem preserves : Cert.preserves_Kernel15_Kernel15Ideal := trivial

/-- The kernel and the reference compute the same function. -/
theorem algebraic : Cert.algebraic_Kernel15Ideal_Reference15Ideal := by
  intro m g m' g' _ hagree
  refine ⟨fun c => (Cert.Kernel15Ideal.Gen.dats m 0 c).arrAt 2 Cert.Kernel15Ideal.cfg0.N, Cert.Kernel15Ideal.Value.run_blocks m g, ?_⟩
  refine (θ_run (Cert.Reference15Ideal.defs (F := Ideal)) _ _).mono (fun r h c => ⟨(h c).1.trans ?_, (h c).2⟩)
    (Cert.Reference15Ideal.Value.run (F := Ideal) m' g')
  rw [Cert.Reference15Ideal.Read.val_main_v0_eq]
  obtain ⟨a0, a1⟩ := hagree c
  rw [a0, a1]
  funext y
  obtain ⟨r, s, rfl⟩ : ∃ (r : Fin 4096) (s : Fin 1024), y = ix2 r s := ⟨y 0, y 1, eq_ix2 y⟩
  exact (reference_apply _ _ r s).trans (Cert.Kernel15Ideal.Product.result_apply m c r s).symm

end Cert.Branch

end
-- ==== Proof.BranchX.lean ====
/-
  The gradient of a branch's output: the product of the gradient of its projection and the projection's weights,
  transposed. The call computes it, and the kernel and the reference
  compute the same function over the extended reals, whatever their arguments.

  The contracted axis has one block, so every point of the grid stores its block of rows of the result.
-/
module

public import proofs.«01_k».proof.Defs
public import proofs.«01_k».proof.Proof.Gen.Kernel16Ideal.Value
public import proofs.«01_k».proof.Proof.Gen.Kernel16
public import proofs.«01_k».proof.Proof.Gen.Reference16Ideal
public import proofs.«01_k».proof.Proof.Gen.Reference16Ideal.Run
public import proofs.«01_k».proof.Proof.Gen.Reference16Ideal.Read
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel16Ideal.Product

open Cert.Kernel16Ideal Cert.Kernel16Ideal.Gen
open Idealize.ShloMosaic Idealize.ShloMosaic.TcCoe Idealize.ShloMosaic.Tactic

/-- The product of two blocks. -/
theorem pay2_apply (x0 : Vec Ideal S1024x1024 .bf16) (x1 : Vec Ideal S512x1024 .bf16) (a : Fin 1024) (b : Fin 512) :
    k0_pay2 (F := Ideal) x0 x1 (ix2 a b) = ∑ k : Fin 1024, x0 (ix2 a k) * x1 (ix2 b k) := by
  unfold k0_pay2 k0_pay1
  pointwise

variable (m : (ℓ : Loc nD τ sig) → Buf (Elt Ideal) ℓ) (c : Dev nD)

/-- The first factor, as the call finds it. -/
abbrev arr0 : Vec Ideal S4096x1024 .bf16 := V m c (Pipeline.arrRef spec0 0)
/-- The second factor, as the call finds it. -/
abbrev arr1 : Vec Ideal S512x1024 .bf16 := V m c (Pipeline.arrRef spec0 1)

/-- The blocks of a point. -/
theorem index_all : ∀ t : Fin cfg0.N, (cfg0.win 0).index t 0 = t.val ∧ (cfg0.win 0).index t 1 = 0
    ∧ (cfg0.win 1).index t 0 = 0 ∧ (cfg0.win 1).index t 1 = 0
    ∧ (cfg0.win 2).index t 0 = t.val ∧ (cfg0.win 2).index t 1 = 0 := by
  decide +kernel

/-- Row `a` of a point's block. -/
def row (n : ℕ) (hn : n < 4) (a : Fin 1024) : Fin 4096 := ⟨1024 * n + a.val, by omega⟩

/-- The first factor's block. -/
theorem block0 (t : Fin cfg0.N) (a : Fin 1024) (k : Fin 1024) :
    (iblk m c 0 t : Vec Ideal S1024x1024 .bf16) (ix2 a k) = arr0 m c (ix2 (row t.val t.isLt a) k) := by
  obtain ⟨e0, e1, -⟩ := index_all t
  blk_ext [iblk, e0, e1, row]

/-- The second factor's block is the whole array. -/
theorem block1 (t : Fin cfg0.N) (k : Fin 1024) (b : Fin 512) :
    (iblk m c 1 t : Vec Ideal S512x1024 .bf16) (ix2 b k) = arr1 m c (ix2 b k) := by
  obtain ⟨-, -, e0, e1, -⟩ := index_all t
  blk_ext [iblk, e0, e1]

/-- The place of a result block's entry. -/
theorem emb (t : Fin cfg0.N) (a : Fin 1024) (b : Fin 512) : ((cfg0.win 2).blk t).view.emb (ix2 a b) = ix2 (row t.val t.isLt a) b := by
  obtain ⟨-, -, -, -, e0, e1⟩ := index_all t
  blk_ext [e0, e1, row]

/-- The call's result. -/
def product : Vec Ideal S4096x512 .f32 := fun y => ∑ k : Fin 1024, HMul.hMul (α := EReal) (β := EReal) (γ := EReal) (arr0 m c (ix2 (y 0) k)) (arr1 m c (ix2 (y 1) k))

/-- What a point stores is its block of the result. -/
theorem stored (t : Fin cfg0.N) (a : Fin 1024) (b : Fin 512) : outsAt0 m c t (ix2 a b) = product m c (ix2 (row t.val t.isLt a) b) := by
  have h : outsAt0 m c t = k0_pay2 (F := Ideal) (iblk m c 0 t) (iblk m c 1 t) := by
    unfold outsAt0 out0_A_2
    frame_out
  rw [h]
  refine (pay2_apply _ _ a b).trans ?_
  exact Finset.sum_congr rfl fun k _ => congrArg₂ (fun u v : EReal => u * v) (block0 m c t a k) (block1 m c t k b)

/-- The result, whole. -/
theorem result_array : (dats m 0 c).arrAt 2 cfg0.N = product m c := by
  refine (dats m 0 c).arrAt_eq_of_covers 2 _ (by decide +kernel) fun t hf y => ?_
  blk_simp
  rw [after0_2]
  obtain ⟨a, b, rfl⟩ : ∃ (a : Fin 1024) (b : Fin 512), y = ix2 a b := ⟨y 0, y 1, eq_ix2 y⟩
  exact (stored m c t a b).trans (congrArg (product m c) (emb t a b)).symm

/-- Argument 2 of the program. -/
abbrev x2 : FVec Ideal S4096x1024 .f32 := m (c.tc.loc main_arg2)
/-- Argument 1 of the program. -/
abbrev x1 : FVec Ideal S512x1024 .f32 := m (c.tc.loc main_arg1)

/-- What the call finds. -/
theorem arr0_eq : V m c main_v0 = truncf (F := Ideal) .bf16 (x2 m c) bitsLt_bf16_f32 := by
  unfold_abbrev_sides
  after_reads_simp

/-- What the call finds. -/
theorem arr1_eq : V m c main_v1 = truncf (F := Ideal) .bf16 (x1 m c) bitsLt_bf16_f32 := by
  unfold_abbrev_sides
  after_reads_simp

/-- An entry of the call's result. -/
theorem result_apply (r : Fin 4096) (s : Fin 512) : ((dats m 0 c).arrAt 2 cfg0.N : Vec Ideal S4096x512 .f32) (ix2 r s) =
    ∑ k : Fin 1024, HMul.hMul (α := EReal) (β := EReal) (γ := EReal) (x2 m c (ix2 r k)) (x1 m c (ix2 s k)) := by
  rw [result_array]
  change ∑ k : Fin 1024, HMul.hMul (α := EReal) (β := EReal) (γ := EReal) (arr0 m c (ix2 r k)) (arr1 m c (ix2 s k)) = _
  exact Finset.sum_congr rfl fun k _ => congrArg₂ (fun u v : EReal => u * v) (congrFun (arr0_eq m c) _) (congrFun (arr1_eq m c) _)

end Cert.Kernel16Ideal.Product

namespace Cert.BranchX

open Idealize.ShloMosaic Idealize.ShloMosaic.TcCoe Idealize.ShloMosaic.Tactic Idealize.SL.Sem

/-- An entry of the reference's result. -/
theorem reference_apply (y1 : FVec Ideal Cert.Kernel16Ideal.S512x1024 .f32) (y2 : FVec Ideal Cert.Kernel16Ideal.S4096x1024 .f32) (r : Fin 4096) (s : Fin 512) :
    Cert.Reference16Ideal.Read.val_main_v3 (F := Ideal) y1 y2 (ix2 r s) =
      ∑ k : Fin 1024, HMul.hMul (α := EReal) (β := EReal) (γ := EReal) (y2 (ix2 r k)) (y1 (ix2 s k)) := by
  unfold Cert.Reference16Ideal.Read.val_main_v3
  pointwise

set_option maxRecDepth 100000 in
theorem main_eq : Cert.Kernel16.main (F := Bits) = Cert.Kernel16Ideal.main (F := Bits) := by sl_kernel_rfl

set_option maxRecDepth 100000 in
theorem defs_eq : Cert.Kernel16.defs (F := Bits) = Cert.Kernel16Ideal.defs (F := Bits) := by sl_kernel_rfl

/-- The kernel's frame: the idealization has its text, so it is the idealization's frame over float words. -/
theorem frame_kernel : Cert.quiescent_Kernel16 := fun m ρ _ => by
  have h := Cert.Kernel16Ideal.Gen.frame (F := Bits) m ρ
  rw [← main_eq, ← defs_eq] at h
  exact h

/-- The frame of the kernel over the extended reals. -/
theorem frame_ideal : Cert.quiescent_Kernel16Ideal := fun m ρ _ => Cert.Kernel16Ideal.Gen.frame (F := Ideal) m ρ

/-- The reference's frame: it declares no semaphore. -/
theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The idealization changes nothing. -/
theorem preserves : Cert.preserves_Kernel16_Kernel16Ideal := trivial

/-- The kernel and the reference compute the same function. -/
theorem algebraic : Cert.algebraic_Kernel16Ideal_Reference16Ideal := by
  intro m g m' g' _ hagree
  refine ⟨fun c => (Cert.Kernel16Ideal.Gen.dats m 0 c).arrAt 2 Cert.Kernel16Ideal.cfg0.N, Cert.Kernel16Ideal.Value.run_blocks m g, ?_⟩
  refine (θ_run (Cert.Reference16Ideal.defs (F := Ideal)) _ _).mono (fun r h c => ⟨(h c).1.trans ?_, (h c).2⟩)
    (Cert.Reference16Ideal.Value.run (F := Ideal) m' g')
  rw [Cert.Reference16Ideal.Read.val_main_v3_eq]
  obtain ⟨-, a1, a2⟩ := hagree c
  rw [a1, a2]
  funext y
  obtain ⟨r, s, rfl⟩ : ∃ (r : Fin 4096) (s : Fin 512), y = ix2 r s := ⟨y 0, y 1, eq_ix2 y⟩
  exact (reference_apply _ _ r s).trans (Cert.Kernel16Ideal.Product.result_apply m c r s).symm

end Cert.BranchX

end
-- ==== Proof.BranchW.lean ====
/-
  The gradient of the weights of a branch's projection: the product of the branch's output, transposed, and the
  gradient of its projection. The call computes it, and the kernel and the reference
  compute the same function over the extended reals, whatever their arguments.

  Each of the four points of the grid adds the product of one block of 1024 rows to the accumulator, the last stores it.
-/
module

public import proofs.«01_k».proof.Defs
public import proofs.«01_k».proof.Proof.Gen.Kernel17Ideal.Value
public import proofs.«01_k».proof.Proof.Gen.Kernel17
public import proofs.«01_k».proof.Proof.Gen.Reference17Ideal
public import proofs.«01_k».proof.Proof.Gen.Reference17Ideal.Run
public import proofs.«01_k».proof.Proof.Gen.Reference17Ideal.Read
public import proofs.«01_k».proof.Proof.Tiles
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel17Ideal.Product

open Cert.Kernel17Ideal Cert.Kernel17Ideal.Gen
open Idealize.ShloMosaic Idealize.ShloMosaic.TcCoe Idealize.ShloMosaic.Tactic

section payloads

variable (x0 : Vec Ideal S1024x512 .f32) (x1 : Vec Ideal S1024x1024 .bf16) (z : Vec Ideal S512x1024 .f32) (a : Fin 512) (b : Fin 1024)

/-- The first block's product. -/
theorem pay2_apply : k0_pay2 (F := Ideal) x0 x1 (ix2 a b) = ∑ k : Fin 1024, x0 (ix2 k a) * x1 (ix2 k b) := by
  unfold k0_pay2 k0_pay1
  pointwise

/-- A later block's product, added to what is stored. -/
theorem pay3_apply : k0_pay3 (F := Ideal) x0 x1 z (ix2 a b) = z (ix2 a b) + ∑ k : Fin 1024, x0 (ix2 k a) * x1 (ix2 k b) := by
  unfold k0_pay3 k0_pay1
  pointwise

end payloads

variable (m : (ℓ : Loc nD τ sig) → Buf (Elt Ideal) ℓ) (c : Dev nD)

/-- The first factor, as the call finds it. -/
abbrev arr0 : Vec Ideal S4096x512 .f32 := V m c (Pipeline.arrRef spec0 0)
/-- The second factor, as the call finds it. -/
abbrev arr1 : Vec Ideal S4096x1024 .bf16 := V m c (Pipeline.arrRef spec0 1)

/-- The blocks of a point. -/
theorem index_all : ∀ t : Fin cfg0.N, (cfg0.win 0).index t 0 = t.val ∧ (cfg0.win 0).index t 1 = 0
    ∧ (cfg0.win 1).index t 0 = t.val ∧ (cfg0.win 1).index t 1 = 0
    ∧ (cfg0.win 2).index t 0 = 0 ∧ (cfg0.win 2).index t 1 = 0 := by
  decide +kernel

/-- Row `k` of a point's blocks. -/
def row (n : ℕ) (hn : n < 4) (k : Fin 1024) : Fin 4096 := ⟨1024 * n + k.val, by omega⟩

/-- The first factor's block. -/
theorem block0 (t : Fin cfg0.N) (k : Fin 1024) (a : Fin 512) :
    (iblk m c 0 t : Vec Ideal S1024x512 .f32) (ix2 k a) = arr0 m c (ix2 (row t.val t.isLt k) a) := by
  obtain ⟨e0, e1, -⟩ := index_all t
  blk_ext [iblk, e0, e1, row]

/-- The second factor's block. -/
theorem block1 (t : Fin cfg0.N) (k b : Fin 1024) :
    (iblk m c 1 t : Vec Ideal S1024x1024 .bf16) (ix2 k b) = arr1 m c (ix2 (row t.val t.isLt k) b) := by
  obtain ⟨-, -, e0, e1, -⟩ := index_all t
  blk_ext [iblk, e0, e1, row]

/-- The place of a result block's entry: the block is the whole result. -/
theorem emb (t : Fin cfg0.N) (a : Fin 512) (b : Fin 1024) : ((cfg0.win 2).blk t).view.emb (ix2 a b) = ix2 a b := by
  obtain ⟨-, -, -, -, e0, e1⟩ := index_all t
  blk_ext [e0, e1]

/-- The summand of an entry of the product. -/
def term (a : Fin 512) (b : Fin 1024) (n : Fin 4096) : EReal :=
  HMul.hMul (α := EReal) (β := EReal) (γ := EReal) (arr0 m c (ix2 n a)) (arr1 m c (ix2 n b))

/-- A point's product is the sum of its block of summands. -/
theorem block_term (t : Fin cfg0.N) (a : Fin 512) (b k : Fin 1024) :
    HMul.hMul (α := EReal) (β := EReal) (γ := EReal) ((iblk m c 0 t : Vec Ideal S1024x512 .f32) (ix2 k a)) ((iblk m c 1 t : Vec Ideal S1024x1024 .bf16) (ix2 k b)) =
      Tiles.extend (term m c a b) (1024 * (t.val % 4) + k.val) := by
  have e : t.val % 4 = t.val := Nat.mod_eq_of_lt t.isLt
  rw [block0, block1, e]
  exact (Tiles.extend_of_lt (term m c a b) _ (row t.val t.isLt k).isLt).symm

/-- After the first point: its product. -/
theorem carried_first (t : Fin cfg0.N) (h0 : t.val % 4 = 0) :
    (outsAt0 m c t.val t.isLt).2 = k0_pay2 (F := Ideal) (iblk m c 0 t) (iblk m c 1 t) := by
  have ht : t.val < 4 := t.isLt
  rw [outsAt0_A m c t h0 (by omega) (by omega)]
  dsimp only
  unfold sout0_A_0
  frame_out

/-- After a later point: its product added. -/
theorem carried_next (t : Fin cfg0.N) (h0 : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    frame_out
    exact congrArg (k0_pay3 _ _) (read_unread_whole _ _ _)
  · rw [outsAt0_B m c t h0 (by omega) h2]
    dsimp only
    unfold sout0_B_0
    frame_out
    exact congrArg (k0_pay3 _ _) (read_unread_whole _ _ _)

/-- The result block after the last point. -/
theorem stored (t : Fin cfg0.N) (h2 : t.val % 4 = 3) :
    (outsAt0 m c t.val t.isLt).1 = (outsAt0 m c t.val t.isLt).2 := by
  rw [carried_next m c t (by omega), outsAt0_C m c t (by omega) (by omega) h2]
  dsimp only
  unfold out0_C_2
  frame_out
  exact congrArg (k0_pay3 _ _) (read_unread_whole _ _ _)

/-- What the accumulator holds after every point: the sum over the blocks met so far. -/
theorem scratch_at (a : Fin 512) (b : Fin 1024) (n : ℕ) (hn : n < cfg0.N) :
    (outsAt0 m c n hn).2 (ix2 a b) = Tiles.upTo 1024 (term m c a b) (n % 4 + 1) := by
  refine Tiles.four (M := cfg0.N) (fun _ => term m c a b) (fun n hn => (outsAt0 m c n hn).2 (ix2 a b)) _
    (fun n hn k => block_term m c ⟨n, hn⟩ a b k) (fun n hn h0 => ?_) (fun n hn h0 => ?_) n hn
  · exact (congrFun (carried_first m c ⟨n, hn⟩ h0) _).trans (pay2_apply _ _ a b)
  · exact (congrFun (carried_next m c ⟨n, hn⟩ h0) _).trans (pay3_apply _ _ _ a b)

/-- The call's result. -/
def product : Vec Ideal S512x1024 .f32 := fun y => ∑ n : Fin 4096, term m c (y 0) (y 1) n

/-- The result, whole. -/
theorem result_array : (dats m 0 c).arrAt 2 cfg0.N = product m c := by
  refine (dats m 0 c).arrAt_eq_of_covers 2 _ (by decide +kernel) fun t hf y => ?_
  blk_simp
  rw [after0_2]
  obtain ⟨a, b, rfl⟩ : ∃ (a : Fin 512) (b : Fin 1024), y = ix2 a b := ⟨y 0, y 1, eq_ix2 y⟩
  have h2 := (flush0_2 t).mp hf
  refine (congrFun (stored m c t h2) _).trans ?_
  refine Eq.trans ?_ (congrArg (product m c) (emb t a b)).symm
  rw [scratch_at m c a b t.val t.isLt, h2]
  exact Tiles.upTo_all 1024 _ 4 rfl

/-- Argument 0 of the program. -/
abbrev x0 : FVec Ideal S4096x512 .f32 := m (c.tc.loc main_arg0)
/-- Argument 2 of the program. -/
abbrev x2 : FVec Ideal S4096x1024 .f32 := m (c.tc.loc main_arg2)

/-- What the call finds. -/
theorem arr0_eq : V m c main_arg0 = x0 m c := by
  unfold_abbrev_sides
  after_reads_simp

/-- What the call finds. -/
theorem arr1_eq : V m c main_v0 = truncf (F := Ideal) .bf16 (x2 m c) bitsLt_bf16_f32 := by
  unfold_abbrev_sides
  after_reads_simp

/-- An entry of the call's result: a sum over 4096 products. -/
theorem result_apply (r : Fin 512) (s : Fin 1024) : ((dats m 0 c).arrAt 2 cfg0.N : Vec Ideal S512x1024 .f32) (ix2 r s) =
    ∑ n : Fin 4096, HMul.hMul (α := EReal) (β := EReal) (γ := EReal) (x0 m c (ix2 n r)) (x2 m c (ix2 n s)) := by
  rw [result_array]
  change ∑ n : Fin 4096, term m c r s n = _
  exact Finset.sum_congr rfl fun n _ => congrArg₂ (fun u v : EReal => u * v) (congrFun (arr0_eq m c) _) (congrFun (arr1_eq m c) _)

end Cert.Kernel17Ideal.Product

namespace Cert.BranchW

open Idealize.ShloMosaic Idealize.ShloMosaic.TcCoe Idealize.ShloMosaic.Tactic Idealize.SL.Sem

/-- An entry of the reference's result. -/
theorem reference_apply (y0 : FVec Ideal Cert.Kernel17Ideal.S4096x512 .f32) (y2 : FVec Ideal Cert.Kernel17Ideal.S4096x1024 .f32) (r : Fin 512) (s : Fin 1024) :
    Cert.Reference17Ideal.Read.val_main_v2 (F := Ideal) y0 y2 (ix2 r s) =
      ∑ n : Fin 4096, HMul.hMul (α := EReal) (β := EReal) (γ := EReal) (y0 (ix2 n r)) (y2 (ix2 n s)) := by
  unfold Cert.Reference17Ideal.Read.val_main_v2 Cert.Reference17Ideal.Read.val_main_v1
  pointwise
  exact Finset.sum_congr rfl fun n _ => mul_comm _ _

set_option maxRecDepth 100000 in
theorem main_eq : Cert.Kernel17.main (F := Bits) = Cert.Kernel17Ideal.main (F := Bits) := by sl_kernel_rfl

set_option maxRecDepth 100000 in
theorem defs_eq : Cert.Kernel17.defs (F := Bits) = Cert.Kernel17Ideal.defs (F := Bits) := by sl_kernel_rfl

/-- The kernel's frame: the idealization has its text, so it is the idealization's frame over float words. -/
theorem frame_kernel : Cert.quiescent_Kernel17 := fun m ρ _ => by
  have h := Cert.Kernel17Ideal.Gen.frame (F := Bits) m ρ
  rw [← main_eq, ← defs_eq] at h
  exact h

/-- The frame of the kernel over the extended reals. -/
theorem frame_ideal : Cert.quiescent_Kernel17Ideal := fun m ρ _ => Cert.Kernel17Ideal.Gen.frame (F := Ideal) m ρ

/-- The reference's frame: it declares no semaphore. -/
theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The idealization changes nothing. -/
theorem preserves : Cert.preserves_Kernel17_Kernel17Ideal := trivial

/-- The kernel and the reference compute the same function. -/
theorem algebraic : Cert.algebraic_Kernel17Ideal_Reference17Ideal := by
  intro m g m' g' _ hagree
  refine ⟨fun c => (Cert.Kernel17Ideal.Gen.dats m 0 c).arrAt 2 Cert.Kernel17Ideal.cfg0.N, Cert.Kernel17Ideal.Value.run_blocks m g, ?_⟩
  refine (θ_run (Cert.Reference17Ideal.defs (F := Ideal)) _ _).mono (fun r h c => ⟨(h c).1.trans ?_, (h c).2⟩)
    (Cert.Reference17Ideal.Value.run (F := Ideal) m' g')
  rw [Cert.Reference17Ideal.Read.val_main_v2_eq]
  obtain ⟨a0, -, a2⟩ := hagree c
  rw [a0, a2]
  funext y
  obtain ⟨r, s, rfl⟩ : ∃ (r : Fin 512) (s : Fin 1024), y = ix2 r s := ⟨y 0, y 1, eq_ix2 y⟩
  exact (reference_apply _ _ r s).trans (Cert.Kernel17Ideal.Product.result_apply m c r s).symm

end Cert.BranchW

end
-- ==== Proof.BranchCast.lean ====
/-
  A branch's projection to the model's width, the branch's output in bfloat16: the product of the output and the
  weights. The call computes it, and the kernel and the reference
  compute the same function over the extended reals, whatever their arguments.

  The contracted axis has one block, so every point of the grid stores its block of rows of the result.
-/
module

public import proofs.«01_k».proof.Defs
public import proofs.«01_k».proof.Proof.Gen.Kernel18Ideal.Value
public import proofs.«01_k».proof.Proof.Gen.Kernel18
public import proofs.«01_k».proof.Proof.Gen.Reference18Ideal
public import proofs.«01_k».proof.Proof.Gen.Reference18Ideal.Run
public import proofs.«01_k».proof.Proof.Gen.Reference18Ideal.Read
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel18Ideal.Product

open Cert.Kernel18Ideal Cert.Kernel18Ideal.Gen
open Idealize.ShloMosaic Idealize.ShloMosaic.TcCoe Idealize.ShloMosaic.Tactic

/-- The product of two blocks. -/
theorem pay2_apply (x0 : Vec Ideal S1024x512 .bf16) (x1 : Vec Ideal S512x1024 .bf16) (a : Fin 1024) (b : Fin 1024) :
    k0_pay2 (F := Ideal) x0 x1 (ix2 a b) = ∑ k : Fin 512, x0 (ix2 a k) * x1 (ix2 k b) := by
  unfold k0_pay2 k0_pay1
  pointwise

variable (m : (ℓ : Loc nD τ sig) → Buf (Elt Ideal) ℓ) (c : Dev nD)

/-- The first factor, as the call finds it. -/
abbrev arr0 : Vec Ideal S4096x512 .bf16 := V m c (Pipeline.arrRef spec0 0)
/-- The second factor, as the call finds it. -/
abbrev arr1 : Vec Ideal S512x1024 .bf16 := V m c (Pipeline.arrRef spec0 1)

/-- The blocks of a point. -/
theorem index_all : ∀ t : Fin cfg0.N, (cfg0.win 0).index t 0 = t.val ∧ (cfg0.win 0).index t 1 = 0
    ∧ (cfg0.win 1).index t 0 = 0 ∧ (cfg0.win 1).index t 1 = 0
    ∧ (cfg0.win 2).index t 0 = t.val ∧ (cfg0.win 2).index t 1 = 0 := by
  decide +kernel

/-- Row `a` of a point's block. -/
def row (n : ℕ) (hn : n < 4) (a : Fin 1024) : Fin 4096 := ⟨1024 * n + a.val, by omega⟩

/-- The first factor's block. -/
theorem block0 (t : Fin cfg0.N) (a : Fin 1024) (k : Fin 512) :
    (iblk m c 0 t : Vec Ideal S1024x512 .bf16) (ix2 a k) = arr0 m c (ix2 (row t.val t.isLt a) k) := by
  obtain ⟨e0, e1, -⟩ := index_all t
  blk_ext [iblk, e0, e1, row]

/-- The second factor's block is the whole array. -/
theorem block1 (t : Fin cfg0.N) (k : Fin 512) (b : Fin 1024) :
    (iblk m c 1 t : Vec Ideal S512x1024 .bf16) (ix2 k b) = arr1 m c (ix2 k b) := by
  obtain ⟨-, -, e0, e1, -⟩ := index_all t
  blk_ext [iblk, e0, e1]

/-- The place of a result block's entry. -/
theorem emb (t : Fin cfg0.N) (a : Fin 1024) (b : Fin 1024) : ((cfg0.win 2).blk t).view.emb (ix2 a b) = ix2 (row t.val t.isLt a) b := by
  obtain ⟨-, -, -, -, e0, e1⟩ := index_all t
  blk_ext [e0, e1, row]

/-- The call's result. -/
def product : Vec Ideal S4096x1024 .f32 := fun y => ∑ k : Fin 512, HMul.hMul (α := EReal) (β := EReal) (γ := EReal) (arr0 m c (ix2 (y 0) k)) (arr1 m c (ix2 k (y 1)))

/-- What a point stores is its block of the result. -/
theorem stored (t : Fin cfg0.N) (a : Fin 1024) (b : Fin 1024) : outsAt0 m c t (ix2 a b) = product m c (ix2 (row t.val t.isLt a) b) := by
  have h : outsAt0 m c t = k0_pay2 (F := Ideal) (iblk m c 0 t) (iblk m c 1 t) := by
    unfold outsAt0 out0_A_2
    frame_out
  rw [h]
  refine (pay2_apply _ _ a b).trans ?_
  exact Finset.sum_congr rfl fun k _ => congrArg₂ (fun u v : EReal => u * v) (block0 m c t a k) (block1 m c t k b)

/-- The result, whole. -/
theorem result_array : (dats m 0 c).arrAt 2 cfg0.N = product m c := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  exact (stored m c t a b).trans (congrArg (product m c) (emb t a b)).symm

/-- Argument 0 of the program. -/
abbrev x0 : FVec Ideal S4096x512 .f32 := m (c.tc.loc main_arg0)
/-- Argument 1 of the program. -/
abbrev x1 : FVec Ideal S512x1024 .f32 := m (c.tc.loc main_arg1)

/-- What the call finds. -/
theorem arr0_eq : V m c main_v0 = truncf (F := Ideal) .bf16 (x0 m c) bitsLt_bf16_f32 := by
  unfold_abbrev_sides
  after_reads_simp

/-- What the call finds. -/
theorem arr1_eq : V m c main_v1 = truncf (F := Ideal) .bf16 (x1 m c) bitsLt_bf16_f32 := by
  unfold_abbrev_sides
  after_reads_simp

/-- An entry of the call's result. -/
theorem result_apply (r : Fin 4096) (s : Fin 1024) : ((dats m 0 c).arrAt 2 cfg0.N : Vec Ideal S4096x1024 .f32) (ix2 r s) =
    ∑ k : Fin 512, HMul.hMul (α := EReal) (β := EReal) (γ := EReal) (x0 m c (ix2 r k)) (x1 m c (ix2 k s)) := by
  rw [result_array]
  change ∑ k : Fin 512, HMul.hMul (α := EReal) (β := EReal) (γ := EReal) (arr0 m c (ix2 r k)) (arr1 m c (ix2 k s)) = _
  exact Finset.sum_congr rfl fun k _ => congrArg₂ (fun u v : EReal => u * v) (congrFun (arr0_eq m c) _) (congrFun (arr1_eq m c) _)

end Cert.Kernel18Ideal.Product

namespace Cert.BranchCast

open Idealize.ShloMosaic Idealize.ShloMosaic.TcCoe Idealize.ShloMosaic.Tactic Idealize.SL.Sem

/-- An entry of the reference's result. -/
theorem reference_apply (y0 : FVec Ideal Cert.Kernel18Ideal.S4096x512 .f32) (y1 : FVec Ideal Cert.Kernel18Ideal.S512x1024 .f32) (r : Fin 4096) (s : Fin 1024) :
    Cert.Reference18Ideal.Read.val_main_v0 (F := Ideal) y0 y1 (ix2 r s) =
      ∑ k : Fin 512, HMul.hMul (α := EReal) (β := EReal) (γ := EReal) (y0 (ix2 r k)) (y1 (ix2 k s)) := by
  unfold Cert.Reference18Ideal.Read.val_main_v0
  pointwise

set_option maxRecDepth 100000 in
theorem main_eq : Cert.Kernel18.main (F := Bits) = Cert.Kernel18Ideal.main (F := Bits) := by sl_kernel_rfl

set_option maxRecDepth 100000 in
theorem defs_eq : Cert.Kernel18.defs (F := Bits) = Cert.Kernel18Ideal.defs (F := Bits) := by sl_kernel_rfl

/-- The kernel's frame: the idealization has its text, so it is the idealization's frame over float words. -/
theorem frame_kernel : Cert.quiescent_Kernel18 := fun m ρ _ => by
  have h := Cert.Kernel18Ideal.Gen.frame (F := Bits) m ρ
  rw [← main_eq, ← defs_eq] at h
  exact h

/-- The frame of the kernel over the extended reals. -/
theorem frame_ideal : Cert.quiescent_Kernel18Ideal := fun m ρ _ => Cert.Kernel18Ideal.Gen.frame (F := Ideal) m ρ

/-- The reference's frame: it declares no semaphore. -/
theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- The idealization changes nothing. -/
theorem preserves : Cert.preserves_Kernel18_Kernel18Ideal := trivial

/-- The kernel and the reference compute the same function. -/
theorem algebraic : Cert.algebraic_Kernel18Ideal_Reference18Ideal := by
  intro m g m' g' _ hagree
  refine ⟨fun c => (Cert.Kernel18Ideal.Gen.dats m 0 c).arrAt 2 Cert.Kernel18Ideal.cfg0.N, Cert.Kernel18Ideal.Value.run_blocks m g, ?_⟩
  refine (θ_run (Cert.Reference18Ideal.defs (F := Ideal)) _ _).mono (fun r h c => ⟨(h c).1.trans ?_, (h c).2⟩)
    (Cert.Reference18Ideal.Value.run (F := Ideal) m' g')
  rw [Cert.Reference18Ideal.Read.val_main_v0_eq]
  obtain ⟨a0, a1⟩ := hagree c
  rw [a0, a1]
  funext y
  obtain ⟨r, s, rfl⟩ : ∃ (r : Fin 4096) (s : Fin 1024), y = ix2 r s := ⟨y 0, y 1, eq_ix2 y⟩
  exact (reference_apply _ _ r s).trans (Cert.Kernel18Ideal.Product.result_apply m c r s).symm

end Cert.BranchCast

end
-- ==== Proof.BranchCastW.lean ====
/-
  The gradient of the weights of a branch's projection, the branch's output in bfloat16: the product of the output,
  transposed, and the gradient of the projection. The call computes it, and the kernel and the reference
  compute the same function over the extended reals, whatever their arguments.

  Each of the four points of the grid adds the product of one block of 1024 rows to the accumulator, the last stores it.
-/
module

public import proofs.«01_k».proof.Defs
public import proofs.«01_k».proof.Proof.Gen.Kernel19Ideal.Value
public import proofs.«01_k».proof.Proof.Gen.Kernel19
public import proofs.«01_k».proof.Proof.Gen.Reference19Ideal
public import proofs.«01_k».proof.Proof.Gen.Reference19Ideal.Run
public import proofs.«01_k».proof.Proof.Gen.Reference19Ideal.Read
public import proofs.«01_k».proof.Proof.Tiles
public import Idealize.ShloMosaic.Lib.Pointwise
public import Idealize.ShloMosaic.Lib.Pipeline.ValueKit.Geometry
public import Idealize.ShloMosaic.Lib.Pipeline.ReadBack
public import Idealize.ShloMosaic.Lib.Pipeline.ValueKit.Acc
public import Idealize.ShloMosaic.Lib.StableHlo.RunRead
public import Idealize.ShloMosaic.Lib.Claim

@[expose] public section

set_option maxRecDepth 16384

noncomputable section

namespace Cert.Kernel19Ideal.Product

open Cert.Kernel19Ideal Cert.Kernel19Ideal.Gen
open Idealize.ShloMosaic Idealize.ShloMosaic.TcCoe Idealize.ShloMosaic.Tactic

section payloads

variable (x0 : Vec Ideal S1024x512 .bf16) (x1 : Vec Ideal S1024x1024 .bf16) (z : Vec Ideal S512x1024 .f32) (a : Fin 512) (b : Fin 1024)

/-- The first block's product. -/
theorem pay2_apply : k0_pay2 (F := Ideal) x0 x1 (ix2 a b) = ∑ k : Fin 1024, x0 (ix2 k a) * x1 (ix2 k b) := by
  unfold k0_pay2 k0_pay1
  pointwise

/-- A later block's product, added to what is stored. -/
theorem pay3_apply : k0_pay3 (F := Ideal) x0 x1 z (ix2 a b) = z (ix2 a b) + ∑ k : Fin 1024, x0 (ix2 k a) * x1 (ix2 k b) := by
  unfold k0_pay3 k0_pay1
  pointwise

end payloads

variable (m : (ℓ : Loc nD τ sig) → Buf (Elt Ideal) ℓ) (c : Dev nD)

/-- The first factor, as the call finds it. -/
abbrev arr0 : Vec Ideal S4096x512 .bf16 := V m c (Pipeline.arrRef spec0 0)
/-- The second factor, as the call finds it. -/
abbrev arr1 : Vec Ideal S4096x1024 .bf16 := V m c (Pipeline.arrRef spec0 1)

/-- The blocks of a point. -/
theorem index_all : ∀ t : Fin cfg0.N, (cfg0.win 0).index t 0 = t.val ∧ (cfg0.win 0).index t 1 = 0
    ∧ (cfg0.win 1).index t 0 = t.val ∧ (cfg0.win 1).index t 1 = 0
    ∧ (cfg0.win 2).index t 0 = 0 ∧ (cfg0.win 2).index t 1 = 0 := by
  decide +kernel

/-- Row `k` of a point's blocks. -/
def row (n : ℕ) (hn : n < 4) (k : Fin 1024) : Fin 4096 := ⟨1024 * n + k.val, by omega⟩

/-- The first factor's block. -/
theorem block0 (t : Fin cfg0.N) (k : Fin 1024) (a : Fin 512) :
    (iblk m c 0 t : Vec Ideal S1024x512 .bf16) (ix2 k a) = arr0 m c (ix2 (row t.val t.isLt k) a) := by
  obtain ⟨e0, e1, -⟩ := index_all t
  blk_ext [iblk, e0, e1, row]

/-- The second factor's block. -/
theorem block1 (t : Fin cfg0.N) (k b : Fin 1024) :
    (iblk m c 1 t : Vec Ideal S1024x1024 .bf16) (ix2 k b) = arr1 m c (ix2 (row t.val t.isLt k) b) := by
  obtain ⟨-, -, e0, e1, -⟩ := index_all t
  blk_ext [iblk, e0, e1, row]

/-- The place of a result block's entry: the block is the whole result. -/
theorem emb (t : Fin cfg0.N) (a : Fin 512) (b : Fin 1024) : ((cfg0.win 2).blk t).view.emb (ix2 a b) = ix2 a b := by
  obtain ⟨-, -, -, -, e0, e1⟩ := index_all t
  blk_ext [e0, e1]

/-- The summand of an entry of the product. -/
def term (a : Fin 512) (b : Fin 1024) (n : Fin 4096) : EReal :=
  HMul.hMul (α := EReal) (β := EReal) (γ := EReal) (arr0 m c (ix2 n a)) (arr1 m c (ix2 n b))

/-- A point's product is the sum of its block of summands. -/
theorem block_term (t : Fin cfg0.N) (a : Fin 512) (b k : Fin 1024) :
    HMul.hMul (α := EReal) (β := EReal) (γ := EReal) ((iblk m c 0 t : Vec Ideal S1024x512 .bf16) (ix2 k a)) ((iblk m c 1 t : Vec Ideal S1024x1024 .bf16) (ix2 k b)) =
      Tiles.extend (term m c a b) (1024 * (t.val % 4) + k.val) := by
  have e : t.val % 4 = t.val := Nat.mod_eq_of_lt t.isLt
  rw [block0, block1, e]
  exact (Tiles.extend_of_lt (term m c a b) _ (row t.val t.isLt k).isLt).symm

/-- After the first point: its product. -/
theorem carried_first (t : Fin cfg0.N) (h0 : t.val % 4 = 0) :
    (outsAt0 m c t.val t.isLt).2 = k0_pay2 (F := Ideal) (iblk m c 0 t) (iblk m c 1 t) := by
  have ht : t.val < 4 := t.isLt
  rw [outsAt0_A m c t h0 (by omega) (by omega)]
  dsimp only
  unfold sout0_A_0
  frame_out

/-- After a later point: its product added. -/
theorem carried_next (t : Fin cfg0.N) (h0 : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    dsimp only
    unfold sout0_C_0
    frame_out
    exact congrArg (k0_pay3 _ _) (read_unread_whole _ _ _)
  · rw [outsAt0_B m c t h0 (by omega) h2]
    dsimp only
    unfold sout0_B_0
    frame_out
    exact congrArg (k0_pay3 _ _) (read_unread_whole _ _ _)

/-- The result block after the last point. -/
theorem stored (t : Fin cfg0.N) (h2 : t.val % 4 = 3) :
    (outsAt0 m c t.val t.isLt).1 = (outsAt0 m c t.val t.isLt).2 := by
  rw [carried_next m c t (by omega), outsAt0_C m c t (by omega) (by omega) h2]
  dsimp only
  unfold out0_C_2
  frame_out
  exact congrArg (k0_pay3 _ _) (read_unread_whole _ _ _)

/-- What the accumulator holds after every point: the sum over the blocks met so far. -/
theorem scratch_at (a : Fin 512) (b : Fin 1024) (n : ℕ) (hn : n < cfg0.N) :
    (outsAt0 m c n hn).2 (ix2 a b) = Tiles.upTo 1024 (term m c a b) (n % 4 + 1) := by
  refine Tiles.four (M := cfg0.N) (fun _ => term m c a b) (fun n hn => (outsAt0 m c n hn).2 (ix2 a b)) _
    (fun n hn k => block_term m c ⟨n, hn⟩ a b k) (fun n hn h0 => ?_) (fun n hn h0 => ?_) n hn
  · exact (congrFun (carried_first m c ⟨n, hn⟩ h0) _).trans (pay2_apply _ _ a b)
  · exact (congrFun (carried_next m c ⟨n, hn⟩ h0) _).trans (pay3_apply _ _ _ a b)

/-- The call's result. -/
def product : Vec Ideal S512x1024 .f32 := fun y => ∑ n : Fin 4096, term m c (y 0) (y 1) n

/-- The result, whole. -/
theorem result_array : (dats m 0 c).arrAt 2 cfg0.N = product m c := by
  refine (dats m 0 c).arrAt_eq_of_covers 2 _ (by decide +kernel) fun t hf y => ?_
  blk_simp
  rw [after0_2]
  obtain ⟨a, b, rfl⟩ : ∃ (a : Fin 512) (b : Fin 1024), y = ix2 a b := ⟨y 0, y 1, eq_ix2 y⟩
  have h2 := (flush0_2 t).mp hf
  refine (congrFun (stored m c t h2) _).trans ?_
  refine Eq.trans ?_ (congrArg (product m c) (emb t a b)).symm
  rw [scratch_at m c a b t.val t.isLt, h2]
  exact Tiles.upTo_all 1024 _ 4 rfl

/-- Argument 0 of the program. -/
abbrev x0 : FVec Ideal S4096x512 .f32 := m (c.tc.loc main_arg0)
/-- Argument 2 of the program. -/
abbrev x2 : FVec Ideal S4096x1024 .f32 := m (c.tc.loc main_arg2)

/-- What the call finds. -/
theorem arr0_eq : V m c main_v0 = truncf (F := Ideal) .bf16 (x0 m c) bitsLt_bf16_f32 := by
  unfold_abbrev_sides
  after_reads_simp

/-- What the call finds. -/
theorem arr1_eq : V m c main_v1 = truncf (F := Ideal) .bf16 (x2 m c) bitsLt_bf16_f32 := by
  unfold_abbrev_sides
  after_reads_simp

/-- An entry of the call's result: a sum over 4096 products. -/
theorem result_apply (r : Fin 512) (s : Fin 1024) : ((dats m 0 c).arrAt 2 cfg0.N : Vec Ideal S512x1024 .f32) (ix2 r s) =
    ∑ n : Fin 4096, HMul.hMul (α := EReal) (β := EReal) (γ := EReal) (x0 m c (ix2 n r)) (x2 m c (ix2 n s)) := by
  rw [result_array]
  change ∑ n : Fin 4096, term m c r s n = _
  exact Finset.sum_congr rfl fun n _ => congrArg₂ (fun u v : EReal => u * v) (congrFun (arr0_eq m c) _) (congrFun (arr1_eq m c) _)

end Cert.Kernel19Ideal.Product

namespace Cert.BranchCastW

open Idealize.ShloMosaic Idealize.ShloMosaic.TcCoe Idealize.ShloMosaic.Tactic Idealize.SL.Sem

/-- An entry of the reference's result. -/
theorem reference_apply (y0 : FVec Ideal Cert.Kernel19Ideal.S4096x512 .f32) (y2 : FVec Ideal Cert.Kernel19Ideal.S4096x1024 .f32) (r : Fin 512) (s : Fin 1024) :
    Cert.Reference19Ideal.Read.val_main_v2 (F := Ideal) y0 y2 (ix2 r s) =
      ∑ n : Fin 4096, HMul.hMul (α := EReal) (β := EReal) (γ := EReal) (y0 (ix2 n r)) (y2 (ix2 n s)) := by
  unfold Cert.Reference19Ideal.Read.val_main_v2 Cert.Reference19Ideal.Read.val_main_v1
  pointwise
  exact Finset.sum_congr rfl fun n _ => mul_comm _ _

set_option maxRecDepth 100000 in
theorem main_eq : Cert.Kernel19.main (F := Bits) = Cert.Kernel19Ideal.main (F := Bits) := by sl_kernel_rfl

set_option maxRecDepth 100000 in
theorem defs_eq : Cert.Kernel19.defs (F := Bits) = Cert.Kernel19Ideal.defs (F := Bits) := by sl_kernel_rfl

/-- The kernel's frame: the idealization has its text, so it is the idealization's frame over float words. -/
theorem frame_kernel : Cert.quiescent_Kernel19 := fun m ρ _ => by
  have h := Cert.Kernel19Ideal.Gen.frame (F := Bits) m ρ
  rw [← main_eq, ← defs_eq] at h
  exact h

/-- The frame of the kernel over the extended reals. -/
theorem frame_ideal : Cert.quiescent_Kernel19Ideal := fun m ρ _ => Cert.Kernel19Ideal.Gen.frame (F := Ideal) m ρ

/-- The reference's frame: it declares no semaphore. -/
theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

/-- The idealization changes nothing. -/
theorem preserves : Cert.preserves_Kernel19_Kernel19Ideal := trivial

/-- The kernel and the reference compute the same function. -/
theorem algebraic : Cert.algebraic_Kernel19Ideal_Reference19Ideal := by
  intro m g m' g' _ hagree
  refine ⟨fun c => (Cert.Kernel19Ideal.Gen.dats m 0 c).arrAt 2 Cert.Kernel19Ideal.cfg0.N, Cert.Kernel19Ideal.Value.run_blocks m g, ?_⟩
  refine (θ_run (Cert.Reference19Ideal.defs (F := Ideal)) _ _).mono (fun r h c => ⟨(h c).1.trans ?_, (h c).2⟩)
    (Cert.Reference19Ideal.Value.run (F := Ideal) m' g')
  rw [Cert.Reference19Ideal.Read.val_main_v2_eq]
  obtain ⟨a0, -, a2⟩ := hagree c
  rw [a0, a2]
  funext y
  obtain ⟨r, s, rfl⟩ : ∃ (r : Fin 512) (s : Fin 1024), y = ix2 r s := ⟨y 0, y 1, eq_ix2 y⟩
  exact (reference_apply _ _ r s).trans (Cert.Kernel19Ideal.Product.result_apply m c r s).symm

end Cert.BranchCastW

end
-- ==== Proof.lean ====
/-
  The proof of `Cert.Claim`: the frames of the kernels and of their references, the named constants of the
  idealizations, and that each kernel computes its reference.

  Two kernels are the backward calls of the causal attention, the queries' gradient and the keys' and values' (the
  modules Proof/Dq* and Proof/Dkv*). Three are the input projection's product and the two products of its backward pass
  (Proof/In.lean, Proof/InW* and Proof/InX*), six the MLP's two products and the four of its backward pass (Proof/Up*
  and Proof/Down*), three the output projection's (Proof/Out*), and five those of a branch's projection (Proof/Branch*).
  The reference of a backward call is the derivative of the forward lines.
-/
module

public import proofs.«01_k».proof.Defs
public import proofs.«01_k».proof.Proof.DqClaims
public import proofs.«01_k».proof.Proof.DkvClaims
public import proofs.«01_k».proof.Proof.DqValue
public import proofs.«01_k».proof.Proof.DkvValue
public import proofs.«01_k».proof.Proof.InWClaims
public import proofs.«01_k».proof.Proof.InXClaims
public import proofs.«01_k».proof.Proof.DownX
public import proofs.«01_k».proof.Proof.DownW
public import proofs.«01_k».proof.Proof.UpX
public import proofs.«01_k».proof.Proof.UpW
public import proofs.«01_k».proof.Proof.In
public import proofs.«01_k».proof.Proof.Up
public import proofs.«01_k».proof.Proof.Down
public import proofs.«01_k».proof.Proof.Out
public import proofs.«01_k».proof.Proof.OutX
public import proofs.«01_k».proof.Proof.OutW
public import proofs.«01_k».proof.Proof.Branch
public import proofs.«01_k».proof.Proof.BranchX
public import proofs.«01_k».proof.Proof.BranchW
public import proofs.«01_k».proof.Proof.BranchCast
public import proofs.«01_k».proof.Proof.BranchCastW
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Kernel19
public import proofs.«01_k».proof.Proof.Gen.Kernel19Ideal
public import proofs.«01_k».proof.Proof.Gen.Reference19Ideal
public import proofs.«01_k».proof.Proof.Gen.Pre_finite
public import Idealize.ShloMosaic.Adequacy
public import Idealize.ShloMosaic.Init

@[expose] public section

noncomputable section

namespace Cert.Proof

open Idealize.ShloMosaic Idealize.SL.Sem

/-- The claims of the statement. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts, Cert.Kernel4.Gen.facts,
    Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Pre_finite.Gen.facts,
    Cert.DqClaims.frame_kernel, Cert.DqClaims.frame_ideal, Cert.DqClaims.frame_ideal_finite,
    Cert.DqClaims.frame_reference, Cert.DqClaims.frame_reference_finite,
    Cert.DkvClaims.frame_kernel, Cert.DkvClaims.frame_ideal, Cert.DkvClaims.frame_ideal_finite,
    Cert.DkvClaims.frame_reference, Cert.DkvClaims.frame_reference_finite,
    Cert.InWClaims.frame_kernel, Cert.InWClaims.frame_ideal, Cert.InWClaims.frame_reference,
    Cert.InXClaims.frame_kernel, Cert.InXClaims.frame_ideal, Cert.InXClaims.frame_reference,
    Cert.DownX.frame_kernel, Cert.DownX.frame_ideal, Cert.DownX.frame_reference,
    Cert.DownW.frame_kernel, Cert.DownW.frame_ideal, Cert.DownW.frame_reference,
    Cert.UpX.frame_kernel, Cert.UpX.frame_ideal, Cert.UpX.frame_reference,
    Cert.UpW.frame_kernel, Cert.UpW.frame_ideal, Cert.UpW.frame_reference,
    Cert.In.frame_kernel, Cert.In.frame_ideal, Cert.In.frame_reference,
    Cert.Up.frame_kernel, Cert.Up.frame_ideal, Cert.Up.frame_reference,
    Cert.Down.frame_kernel, Cert.Down.frame_ideal, Cert.Down.frame_reference,
    Cert.Out.frame_kernel, Cert.Out.frame_ideal, Cert.Out.frame_reference,
    Cert.OutX.frame_kernel, Cert.OutX.frame_ideal, Cert.OutX.frame_reference,
    Cert.OutW.frame_kernel, Cert.OutW.frame_ideal, Cert.OutW.frame_reference,
    Cert.Branch.frame_kernel, Cert.Branch.frame_ideal, Cert.Branch.frame_reference,
    Cert.BranchX.frame_kernel, Cert.BranchX.frame_ideal, Cert.BranchX.frame_reference,
    Cert.BranchW.frame_kernel, Cert.BranchW.frame_ideal, Cert.BranchW.frame_reference,
    Cert.BranchCast.frame_kernel, Cert.BranchCast.frame_ideal, Cert.BranchCast.frame_reference,
    Cert.BranchCastW.frame_kernel, Cert.BranchCastW.frame_ideal, Cert.BranchCastW.frame_reference,
    Cert.DqClaims.preserves, Cert.DqClaims.algebraic, Cert.DkvClaims.preserves, Cert.DkvClaims.algebraic,
    Cert.InWClaims.preserves, Cert.InWClaims.algebraic, Cert.InXClaims.preserves, Cert.InXClaims.algebraic,
    Cert.DownX.preserves, Cert.DownX.algebraic,
    Cert.DownW.preserves, Cert.DownW.algebraic,
    Cert.UpX.preserves, Cert.UpX.algebraic,
    Cert.UpW.preserves, Cert.UpW.algebraic,
    Cert.In.preserves, Cert.In.algebraic,
    Cert.Up.preserves, Cert.Up.algebraic,
    Cert.Down.preserves, Cert.Down.algebraic,
    Cert.Out.preserves, Cert.Out.algebraic,
    Cert.OutX.preserves, Cert.OutX.algebraic,
    Cert.OutW.preserves, Cert.OutW.algebraic,
    Cert.Branch.preserves, Cert.Branch.algebraic,
    Cert.BranchX.preserves, Cert.BranchX.algebraic,
    Cert.BranchW.preserves, Cert.BranchW.algebraic,
    Cert.BranchCast.preserves, Cert.BranchCast.algebraic,
    Cert.BranchCastW.preserves, Cert.BranchCastW.algebraic⟩

end Cert.Proof

end
